-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryRefIdeal (m : (ℓ : Loc Cert.EntryRefIdeal.nD Cert.EntryRefIdeal.τ Cert.EntryRefIdeal.sig) → Buf (Elt Ideal) ℓ) : Prop :=
  True

def Pre_Lift (m : (ℓ : Loc Cert.Lift.nD Cert.Lift.τ Cert.Lift.sig) → Buf (Elt Bits) ℓ) : Prop :=
  True

def Pre_LiftIdeal (m : (ℓ : Loc Cert.LiftIdeal.nD Cert.LiftIdeal.τ Cert.LiftIdeal.sig) → Buf (Elt Ideal) ℓ) : Prop :=
  True

def Pre_LiftRefIdeal (m : (ℓ : Loc Cert.LiftRefIdeal.nD Cert.LiftRefIdeal.τ Cert.LiftRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3)
      ∧ r.2.mem ((c.tc : Thread Cert.Memory.nD Cert.Memory.τ).loc Cert.Memory.main_arg4) = m ((c.tc : Thread Cert.Memory.nD Cert.Memory.τ).loc Cert.Memory.main_arg4)
      ∧ r.2.mem ((c.tc : Thread Cert.Memory.nD Cert.Memory.τ).loc Cert.Memory.main_arg5) = m ((c.tc : Thread Cert.Memory.nD Cert.Memory.τ).loc Cert.Memory.main_arg5)
      ∧ r.2.mem ((c.tc : Thread Cert.Memory.nD Cert.Memory.τ).loc Cert.Memory.main_arg6) = m ((c.tc : Thread Cert.Memory.nD Cert.Memory.τ).loc Cert.Memory.main_arg6))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
      ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
      ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5)
      ∧ r.2.mem ((c.tc : Thread Cert.MemoryIdeal.nD Cert.MemoryIdeal.τ).loc Cert.MemoryIdeal.main_arg6) = m ((c.tc : Thread Cert.MemoryIdeal.nD Cert.MemoryIdeal.τ).loc Cert.MemoryIdeal.main_arg6))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3)
      ∧ r.2.mem ((c.tc : Thread Cert.MemoryRefIdeal.nD Cert.MemoryRefIdeal.τ).loc Cert.MemoryRefIdeal.main_arg4) = m ((c.tc : Thread Cert.MemoryRefIdeal.nD Cert.MemoryRefIdeal.τ).loc Cert.MemoryRefIdeal.main_arg4)
      ∧ r.2.mem ((c.tc : Thread Cert.MemoryRefIdeal.nD Cert.MemoryRefIdeal.τ).loc Cert.MemoryRefIdeal.main_arg5) = m ((c.tc : Thread Cert.MemoryRefIdeal.nD Cert.MemoryRefIdeal.τ).loc Cert.MemoryRefIdeal.main_arg5)
      ∧ r.2.mem ((c.tc : Thread Cert.MemoryRefIdeal.nD Cert.MemoryRefIdeal.τ).loc Cert.MemoryRefIdeal.main_arg6) = m ((c.tc : Thread Cert.MemoryRefIdeal.nD Cert.MemoryRefIdeal.τ).loc Cert.MemoryRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2)
      ∧ r.2.mem ((c.tc : Thread Cert.Entry.nD Cert.Entry.τ).loc Cert.Entry.main_arg3) = m ((c.tc : Thread Cert.Entry.nD Cert.Entry.τ).loc Cert.Entry.main_arg3))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
      ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3))
      ∧ r.2.sem = fun _ => 0)

def quiescent_EntryRefIdeal [hEntryRefIdeal : Cert.EntryRefIdeal.Facts] : Prop :=
  ∀ (m : (ℓ : Loc Cert.EntryRefIdeal.nD Cert.EntryRefIdeal.τ Cert.EntryRefIdeal.sig) → Buf (Elt Ideal) ℓ) (g : Dev Cert.EntryRefIdeal.nD → PrngReg), Pre_EntryRefIdeal m →
    θ_run (Cert.EntryRefIdeal.defs (F := Ideal)) (onTc (τ := Cert.EntryRefIdeal.τ) (Cert.EntryRefIdeal.main (F := Ideal))) ⟨m, fun _ => 0, g⟩ (fun r => (∀ c : Dev Cert.EntryRefIdeal.nD,
      r.2.mem ((c.tc : Thread Cert.EntryRefIdeal.nD Cert.EntryRefIdeal.τ).loc Cert.EntryRefIdeal.main_arg0) = m ((c.tc : Thread Cert.EntryRefIdeal.nD Cert.EntryRefIdeal.τ).loc Cert.EntryRefIdeal.main_arg0)
      ∧ r.2.mem ((c.tc : Thread Cert.EntryRefIdeal.nD Cert.EntryRefIdeal.τ).loc Cert.EntryRefIdeal.main_arg1) = m ((c.tc : Thread Cert.EntryRefIdeal.nD Cert.EntryRefIdeal.τ).loc Cert.EntryRefIdeal.main_arg1)
      ∧ r.2.mem ((c.tc : Thread Cert.EntryRefIdeal.nD Cert.EntryRefIdeal.τ).loc Cert.EntryRefIdeal.main_arg2) = m ((c.tc : Thread Cert.EntryRefIdeal.nD Cert.EntryRefIdeal.τ).loc Cert.EntryRefIdeal.main_arg2)
      ∧ r.2.mem ((c.tc : Thread Cert.EntryRefIdeal.nD Cert.EntryRefIdeal.τ).loc Cert.EntryRefIdeal.main_arg3) = m ((c.tc : Thread Cert.EntryRefIdeal.nD Cert.EntryRefIdeal.τ).loc Cert.EntryRefIdeal.main_arg3))
      ∧ r.2.sem = fun _ => 0)

def quiescent_Lift [hLift : Cert.Lift.Facts] : Prop :=
  ∀ (m : (ℓ : Loc Cert.Lift.nD Cert.Lift.τ Cert.Lift.sig) → Buf (Elt Bits) ℓ) (g : Dev Cert.Lift.nD → PrngReg), Pre_Lift m →
    θ_run (Cert.Lift.defs (F := Bits)) (onTc (τ := Cert.Lift.τ) (Cert.Lift.main (F := Bits))) ⟨m, fun _ => 0, g⟩ (fun r => (∀ c : Dev Cert.Lift.nD,
      r.2.mem ((c.tc : Thread Cert.Lift.nD Cert.Lift.τ).loc Cert.Lift.main_arg0) = m ((c.tc : Thread Cert.Lift.nD Cert.Lift.τ).loc Cert.Lift.main_arg0)
      ∧ r.2.mem ((c.tc : Thread Cert.Lift.nD Cert.Lift.τ).loc Cert.Lift.main_arg1) = m ((c.tc : Thread Cert.Lift.nD Cert.Lift.τ).loc Cert.Lift.main_arg1)
      ∧ r.2.mem ((c.tc : Thread Cert.Lift.nD Cert.Lift.τ).loc Cert.Lift.main_arg2) = m ((c.tc : Thread Cert.Lift.nD Cert.Lift.τ).loc Cert.Lift.main_arg2)
      ∧ r.2.mem ((c.tc : Thread Cert.Lift.nD Cert.Lift.τ).loc Cert.Lift.main_arg3) = m ((c.tc : Thread Cert.Lift.nD Cert.Lift.τ).loc Cert.Lift.main_arg3)
      ∧ r.2.mem ((c.tc : Thread Cert.Lift.nD Cert.Lift.τ).loc Cert.Lift.main_arg4) = m ((c.tc : Thread Cert.Lift.nD Cert.Lift.τ).loc Cert.Lift.main_arg4)
      ∧ r.2.mem ((c.tc : Thread Cert.Lift.nD Cert.Lift.τ).loc Cert.Lift.main_arg5) = m ((c.tc : Thread Cert.Lift.nD Cert.Lift.τ).loc Cert.Lift.main_arg5)
      ∧ r.2.mem ((c.tc : Thread Cert.Lift.nD Cert.Lift.τ).loc Cert.Lift.main_arg6) = m ((c.tc : Thread Cert.Lift.nD Cert.Lift.τ).loc Cert.Lift.main_arg6))
      ∧ r.2.sem = fun _ => 0)

def quiescent_LiftIdeal [hLiftIdeal : Cert.LiftIdeal.Facts] : Prop :=
  ∀ (m : (ℓ : Loc Cert.LiftIdeal.nD Cert.LiftIdeal.τ Cert.LiftIdeal.sig) → Buf (Elt Ideal) ℓ) (g : Dev Cert.LiftIdeal.nD → PrngReg), Pre_LiftIdeal m →
    θ_run (Cert.LiftIdeal.defs (F := Ideal)) (onTc (τ := Cert.LiftIdeal.τ) (Cert.LiftIdeal.main (F := Ideal))) ⟨m, fun _ => 0, g⟩ (fun r => (∀ c : Dev Cert.LiftIdeal.nD,
      r.2.mem ((c.tc : Thread Cert.LiftIdeal.nD Cert.LiftIdeal.τ).loc Cert.LiftIdeal.main_arg0) = m ((c.tc : Thread Cert.LiftIdeal.nD Cert.LiftIdeal.τ).loc Cert.LiftIdeal.main_arg0)
      ∧ r.2.mem ((c.tc : Thread Cert.LiftIdeal.nD Cert.LiftIdeal.τ).loc Cert.LiftIdeal.main_arg1) = m ((c.tc : Thread Cert.LiftIdeal.nD Cert.LiftIdeal.τ).loc Cert.LiftIdeal.main_arg1)
      ∧ r.2.mem ((c.tc : Thread Cert.LiftIdeal.nD Cert.LiftIdeal.τ).loc Cert.LiftIdeal.main_arg2) = m ((c.tc : Thread Cert.LiftIdeal.nD Cert.LiftIdeal.τ).loc Cert.LiftIdeal.main_arg2)
      ∧ r.2.mem ((c.tc : Thread Cert.LiftIdeal.nD Cert.LiftIdeal.τ).loc Cert.LiftIdeal.main_arg3) = m ((c.tc : Thread Cert.LiftIdeal.nD Cert.LiftIdeal.τ).loc Cert.LiftIdeal.main_arg3)
      ∧ r.2.mem ((c.tc : Thread Cert.LiftIdeal.nD Cert.LiftIdeal.τ).loc Cert.LiftIdeal.main_arg4) = m ((c.tc : Thread Cert.LiftIdeal.nD Cert.LiftIdeal.τ).loc Cert.LiftIdeal.main_arg4)
      ∧ r.2.mem ((c.tc : Thread Cert.LiftIdeal.nD Cert.LiftIdeal.τ).loc Cert.LiftIdeal.main_arg5) = m ((c.tc : Thread Cert.LiftIdeal.nD Cert.LiftIdeal.τ).loc Cert.LiftIdeal.main_arg5)
      ∧ r.2.mem ((c.tc : Thread Cert.LiftIdeal.nD Cert.LiftIdeal.τ).loc Cert.LiftIdeal.main_arg6) = m ((c.tc : Thread Cert.LiftIdeal.nD Cert.LiftIdeal.τ).loc Cert.LiftIdeal.main_arg6))
      ∧ r.2.sem = fun _ => 0)

def quiescent_LiftRefIdeal [hLiftRefIdeal : Cert.LiftRefIdeal.Facts] : Prop :=
  ∀ (m : (ℓ : Loc Cert.LiftRefIdeal.nD Cert.LiftRefIdeal.τ Cert.LiftRefIdeal.sig) → Buf (Elt Ideal) ℓ) (g : Dev Cert.LiftRefIdeal.nD → PrngReg), Pre_LiftRefIdeal m →
    θ_run (Cert.LiftRefIdeal.defs (F := Ideal)) (onTc (τ := Cert.LiftRefIdeal.τ) (Cert.LiftRefIdeal.main (F := Ideal))) ⟨m, fun _ => 0, g⟩ (fun r => (∀ c : Dev Cert.LiftRefIdeal.nD,
      r.2.mem ((c.tc : Thread Cert.LiftRefIdeal.nD Cert.LiftRefIdeal.τ).loc Cert.LiftRefIdeal.main_arg0) = m ((c.tc : Thread Cert.LiftRefIdeal.nD Cert.LiftRefIdeal.τ).loc Cert.LiftRefIdeal.main_arg0)
      ∧ r.2.mem ((c.tc : Thread Cert.LiftRefIdeal.nD Cert.LiftRefIdeal.τ).loc Cert.LiftRefIdeal.main_arg1) = m ((c.tc : Thread Cert.LiftRefIdeal.nD Cert.LiftRefIdeal.τ).loc Cert.LiftRefIdeal.main_arg1)
      ∧ r.2.mem ((c.tc : Thread Cert.LiftRefIdeal.nD Cert.LiftRefIdeal.τ).loc Cert.LiftRefIdeal.main_arg2) = m ((c.tc : Thread Cert.LiftRefIdeal.nD Cert.LiftRefIdeal.τ).loc Cert.LiftRefIdeal.main_arg2)
      ∧ r.2.mem ((c.tc : Thread Cert.LiftRefIdeal.nD Cert.LiftRefIdeal.τ).loc Cert.LiftRefIdeal.main_arg3) = m ((c.tc : Thread Cert.LiftRefIdeal.nD Cert.LiftRefIdeal.τ).loc Cert.LiftRefIdeal.main_arg3)
      ∧ r.2.mem ((c.tc : Thread Cert.LiftRefIdeal.nD Cert.LiftRefIdeal.τ).loc Cert.LiftRefIdeal.main_arg4) = m ((c.tc : Thread Cert.LiftRefIdeal.nD Cert.LiftRefIdeal.τ).loc Cert.LiftRefIdeal.main_arg4)
      ∧ r.2.mem ((c.tc : Thread Cert.LiftRefIdeal.nD Cert.LiftRefIdeal.τ).loc Cert.LiftRefIdeal.main_arg5) = m ((c.tc : Thread Cert.LiftRefIdeal.nD Cert.LiftRefIdeal.τ).loc Cert.LiftRefIdeal.main_arg5)
      ∧ r.2.mem ((c.tc : Thread Cert.LiftRefIdeal.nD Cert.LiftRefIdeal.τ).loc Cert.LiftRefIdeal.main_arg6) = m ((c.tc : Thread Cert.LiftRefIdeal.nD Cert.LiftRefIdeal.τ).loc Cert.LiftRefIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v39) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)
      ∧ m' ((c.tc : Thread Cert.MemoryRefIdeal.nD Cert.MemoryRefIdeal.τ).loc Cert.MemoryRefIdeal.main_arg4) = m ((c.tc : Thread Cert.MemoryIdeal.nD Cert.MemoryIdeal.τ).loc Cert.MemoryIdeal.main_arg4)
      ∧ m' ((c.tc : Thread Cert.MemoryRefIdeal.nD Cert.MemoryRefIdeal.τ).loc Cert.MemoryRefIdeal.main_arg5) = m ((c.tc : Thread Cert.MemoryIdeal.nD Cert.MemoryIdeal.τ).loc Cert.MemoryIdeal.main_arg5)
      ∧ m' ((c.tc : Thread Cert.MemoryRefIdeal.nD Cert.MemoryRefIdeal.τ).loc Cert.MemoryRefIdeal.main_arg6) = m ((c.tc : Thread Cert.MemoryIdeal.nD Cert.MemoryIdeal.τ).loc Cert.MemoryIdeal.main_arg6)) →
    ∃ (v0 : (c : Dev Cert.MemoryIdeal.nD) → Buf (Elt Ideal) ((c.tc : Thread Cert.MemoryIdeal.nD Cert.MemoryIdeal.τ).loc Cert.MemoryIdeal.main_v16)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v16) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
          ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
          ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5)
          ∧ r.2.mem ((c.tc : Thread Cert.MemoryIdeal.nD Cert.MemoryIdeal.τ).loc Cert.MemoryIdeal.main_arg6) = m ((c.tc : Thread Cert.MemoryIdeal.nD Cert.MemoryIdeal.τ).loc Cert.MemoryIdeal.main_arg6))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v63) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3)
          ∧ r.2.mem ((c.tc : Thread Cert.MemoryRefIdeal.nD Cert.MemoryRefIdeal.τ).loc Cert.MemoryRefIdeal.main_arg4) = m' ((c.tc : Thread Cert.MemoryRefIdeal.nD Cert.MemoryRefIdeal.τ).loc Cert.MemoryRefIdeal.main_arg4)
          ∧ r.2.mem ((c.tc : Thread Cert.MemoryRefIdeal.nD Cert.MemoryRefIdeal.τ).loc Cert.MemoryRefIdeal.main_arg5) = m' ((c.tc : Thread Cert.MemoryRefIdeal.nD Cert.MemoryRefIdeal.τ).loc Cert.MemoryRefIdeal.main_arg5)
          ∧ r.2.mem ((c.tc : Thread Cert.MemoryRefIdeal.nD Cert.MemoryRefIdeal.τ).loc Cert.MemoryRefIdeal.main_arg6) = m' ((c.tc : Thread Cert.MemoryRefIdeal.nD Cert.MemoryRefIdeal.τ).loc Cert.MemoryRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v14)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v14) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v35) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Entry_EntryIdeal : Prop :=
  True

def algebraic_EntryIdeal_EntryRefIdeal [hEntryIdeal : Cert.EntryIdeal.Facts] [hEntryRefIdeal : Cert.EntryRefIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryRefIdeal.nD Cert.EntryRefIdeal.τ Cert.EntryRefIdeal.sig) → Buf (Elt Ideal) ℓ) (g' : Dev Cert.EntryRefIdeal.nD → PrngReg), Pre_EntryIdeal m →
    (∀ c : Dev Cert.EntryIdeal.nD,
      m' ((c.tc : Thread Cert.EntryRefIdeal.nD Cert.EntryRefIdeal.τ).loc Cert.EntryRefIdeal.main_arg0) = m ((c.tc : Thread Cert.EntryIdeal.nD Cert.EntryIdeal.τ).loc Cert.EntryIdeal.main_arg0)
      ∧ m' ((c.tc : Thread Cert.EntryRefIdeal.nD Cert.EntryRefIdeal.τ).loc Cert.EntryRefIdeal.main_arg1) = m ((c.tc : Thread Cert.EntryIdeal.nD Cert.EntryIdeal.τ).loc Cert.EntryIdeal.main_arg1)
      ∧ m' ((c.tc : Thread Cert.EntryRefIdeal.nD Cert.EntryRefIdeal.τ).loc Cert.EntryRefIdeal.main_arg2) = m ((c.tc : Thread Cert.EntryIdeal.nD Cert.EntryIdeal.τ).loc Cert.EntryIdeal.main_arg2)
      ∧ m' ((c.tc : Thread Cert.EntryRefIdeal.nD Cert.EntryRefIdeal.τ).loc Cert.EntryRefIdeal.main_arg3) = m ((c.tc : Thread Cert.EntryIdeal.nD Cert.EntryIdeal.τ).loc Cert.EntryIdeal.main_arg3)) →
    ∃ (v0 : (c : Dev Cert.EntryIdeal.nD) → Buf (Elt Ideal) ((c.tc : Thread Cert.EntryIdeal.nD Cert.EntryIdeal.τ).loc Cert.EntryIdeal.main_v22)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v22) = v0 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
          ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3))
      ∧ θ_run (Cert.EntryRefIdeal.defs (F := Ideal)) (onTc (τ := Cert.EntryRefIdeal.τ) (Cert.EntryRefIdeal.main (F := Ideal))) ⟨m', fun _ => 0, g'⟩ (fun r => ∀ c : Dev Cert.EntryRefIdeal.nD,
          r.2.mem ((c.tc : Thread Cert.EntryRefIdeal.nD Cert.EntryRefIdeal.τ).loc Cert.EntryRefIdeal.main_v26) = v0 c
          ∧ r.2.mem ((c.tc : Thread Cert.EntryRefIdeal.nD Cert.EntryRefIdeal.τ).loc Cert.EntryRefIdeal.main_arg0) = m' ((c.tc : Thread Cert.EntryRefIdeal.nD Cert.EntryRefIdeal.τ).loc Cert.EntryRefIdeal.main_arg0)
          ∧ r.2.mem ((c.tc : Thread Cert.EntryRefIdeal.nD Cert.EntryRefIdeal.τ).loc Cert.EntryRefIdeal.main_arg1) = m' ((c.tc : Thread Cert.EntryRefIdeal.nD Cert.EntryRefIdeal.τ).loc Cert.EntryRefIdeal.main_arg1)
          ∧ r.2.mem ((c.tc : Thread Cert.EntryRefIdeal.nD Cert.EntryRefIdeal.τ).loc Cert.EntryRefIdeal.main_arg2) = m' ((c.tc : Thread Cert.EntryRefIdeal.nD Cert.EntryRefIdeal.τ).loc Cert.EntryRefIdeal.main_arg2)
          ∧ r.2.mem ((c.tc : Thread Cert.EntryRefIdeal.nD Cert.EntryRefIdeal.τ).loc Cert.EntryRefIdeal.main_arg3) = m' ((c.tc : Thread Cert.EntryRefIdeal.nD Cert.EntryRefIdeal.τ).loc Cert.EntryRefIdeal.main_arg3))

def preserves_Lift_LiftIdeal : Prop :=
  True

def algebraic_LiftIdeal_LiftRefIdeal [hLiftIdeal : Cert.LiftIdeal.Facts] [hLiftRefIdeal : Cert.LiftRefIdeal.Facts] : Prop :=
  ∀ (m : (ℓ : Loc Cert.LiftIdeal.nD Cert.LiftIdeal.τ Cert.LiftIdeal.sig) → Buf (Elt Ideal) ℓ) (g : Dev Cert.LiftIdeal.nD → PrngReg)
    (m' : (ℓ : Loc Cert.LiftRefIdeal.nD Cert.LiftRefIdeal.τ Cert.LiftRefIdeal.sig) → Buf (Elt Ideal) ℓ) (g' : Dev Cert.LiftRefIdeal.nD → PrngReg), Pre_LiftIdeal m →
    (∀ c : Dev Cert.LiftIdeal.nD,
      m' ((c.tc : Thread Cert.LiftRefIdeal.nD Cert.LiftRefIdeal.τ).loc Cert.LiftRefIdeal.main_arg0) = m ((c.tc : Thread Cert.LiftIdeal.nD Cert.LiftIdeal.τ).loc Cert.LiftIdeal.main_arg0)
      ∧ m' ((c.tc : Thread Cert.LiftRefIdeal.nD Cert.LiftRefIdeal.τ).loc Cert.LiftRefIdeal.main_arg1) = m ((c.tc : Thread Cert.LiftIdeal.nD Cert.LiftIdeal.τ).loc Cert.LiftIdeal.main_arg1)
      ∧ m' ((c.tc : Thread Cert.LiftRefIdeal.nD Cert.LiftRefIdeal.τ).loc Cert.LiftRefIdeal.main_arg2) = m ((c.tc : Thread Cert.LiftIdeal.nD Cert.LiftIdeal.τ).loc Cert.LiftIdeal.main_arg2)
      ∧ m' ((c.tc : Thread Cert.LiftRefIdeal.nD Cert.LiftRefIdeal.τ).loc Cert.LiftRefIdeal.main_arg3) = m ((c.tc : Thread Cert.LiftIdeal.nD Cert.LiftIdeal.τ).loc Cert.LiftIdeal.main_arg3)
      ∧ m' ((c.tc : Thread Cert.LiftRefIdeal.nD Cert.LiftRefIdeal.τ).loc Cert.LiftRefIdeal.main_arg4) = m ((c.tc : Thread Cert.LiftIdeal.nD Cert.LiftIdeal.τ).loc Cert.LiftIdeal.main_arg4)
      ∧ m' ((c.tc : Thread Cert.LiftRefIdeal.nD Cert.LiftRefIdeal.τ).loc Cert.LiftRefIdeal.main_arg5) = m ((c.tc : Thread Cert.LiftIdeal.nD Cert.LiftIdeal.τ).loc Cert.LiftIdeal.main_arg5)
      ∧ m' ((c.tc : Thread Cert.LiftRefIdeal.nD Cert.LiftRefIdeal.τ).loc Cert.LiftRefIdeal.main_arg6) = m ((c.tc : Thread Cert.LiftIdeal.nD Cert.LiftIdeal.τ).loc Cert.LiftIdeal.main_arg6)) →
    ∃ (v0 : (c : Dev Cert.LiftIdeal.nD) → Buf (Elt Ideal) ((c.tc : Thread Cert.LiftIdeal.nD Cert.LiftIdeal.τ).loc Cert.LiftIdeal.main_v46)) (v1 : (c : Dev Cert.LiftIdeal.nD) → Buf (Elt Ideal) ((c.tc : Thread Cert.LiftIdeal.nD Cert.LiftIdeal.τ).loc Cert.LiftIdeal.main_v49)) (v2 : (c : Dev Cert.LiftIdeal.nD) → Buf (Elt Ideal) ((c.tc : Thread Cert.LiftIdeal.nD Cert.LiftIdeal.τ).loc Cert.LiftIdeal.main_v52)),
      θ_run (Cert.LiftIdeal.defs (F := Ideal)) (onTc (τ := Cert.LiftIdeal.τ) (Cert.LiftIdeal.main (F := Ideal))) ⟨m, fun _ => 0, g⟩ (fun r => ∀ c : Dev Cert.LiftIdeal.nD,
          r.2.mem ((c.tc : Thread Cert.LiftIdeal.nD Cert.LiftIdeal.τ).loc Cert.LiftIdeal.main_v46) = v0 c
          ∧ r.2.mem ((c.tc : Thread Cert.LiftIdeal.nD Cert.LiftIdeal.τ).loc Cert.LiftIdeal.main_v49) = v1 c
          ∧ r.2.mem ((c.tc : Thread Cert.LiftIdeal.nD Cert.LiftIdeal.τ).loc Cert.LiftIdeal.main_v52) = v2 c
          ∧ r.2.mem ((c.tc : Thread Cert.LiftIdeal.nD Cert.LiftIdeal.τ).loc Cert.LiftIdeal.main_arg0) = m ((c.tc : Thread Cert.LiftIdeal.nD Cert.LiftIdeal.τ).loc Cert.LiftIdeal.main_arg0)
          ∧ r.2.mem ((c.tc : Thread Cert.LiftIdeal.nD Cert.LiftIdeal.τ).loc Cert.LiftIdeal.main_arg1) = m ((c.tc : Thread Cert.LiftIdeal.nD Cert.LiftIdeal.τ).loc Cert.LiftIdeal.main_arg1)
          ∧ r.2.mem ((c.tc : Thread Cert.LiftIdeal.nD Cert.LiftIdeal.τ).loc Cert.LiftIdeal.main_arg2) = m ((c.tc : Thread Cert.LiftIdeal.nD Cert.LiftIdeal.τ).loc Cert.LiftIdeal.main_arg2)
          ∧ r.2.mem ((c.tc : Thread Cert.LiftIdeal.nD Cert.LiftIdeal.τ).loc Cert.LiftIdeal.main_arg3) = m ((c.tc : Thread Cert.LiftIdeal.nD Cert.LiftIdeal.τ).loc Cert.LiftIdeal.main_arg3)
          ∧ r.2.mem ((c.tc : Thread Cert.LiftIdeal.nD Cert.LiftIdeal.τ).loc Cert.LiftIdeal.main_arg4) = m ((c.tc : Thread Cert.LiftIdeal.nD Cert.LiftIdeal.τ).loc Cert.LiftIdeal.main_arg4)
          ∧ r.2.mem ((c.tc : Thread Cert.LiftIdeal.nD Cert.LiftIdeal.τ).loc Cert.LiftIdeal.main_arg5) = m ((c.tc : Thread Cert.LiftIdeal.nD Cert.LiftIdeal.τ).loc Cert.LiftIdeal.main_arg5)
          ∧ r.2.mem ((c.tc : Thread Cert.LiftIdeal.nD Cert.LiftIdeal.τ).loc Cert.LiftIdeal.main_arg6) = m ((c.tc : Thread Cert.LiftIdeal.nD Cert.LiftIdeal.τ).loc Cert.LiftIdeal.main_arg6))
      ∧ θ_run (Cert.LiftRefIdeal.defs (F := Ideal)) (onTc (τ := Cert.LiftRefIdeal.τ) (Cert.LiftRefIdeal.main (F := Ideal))) ⟨m', fun _ => 0, g'⟩ (fun r => ∀ c : Dev Cert.LiftRefIdeal.nD,
          r.2.mem ((c.tc : Thread Cert.LiftRefIdeal.nD Cert.LiftRefIdeal.τ).loc Cert.LiftRefIdeal.main_v50) = v0 c
          ∧ r.2.mem ((c.tc : Thread Cert.LiftRefIdeal.nD Cert.LiftRefIdeal.τ).loc Cert.LiftRefIdeal.main_v84) = v1 c
          ∧ r.2.mem ((c.tc : Thread Cert.LiftRefIdeal.nD Cert.LiftRefIdeal.τ).loc Cert.LiftRefIdeal.main_v85) = v2 c
          ∧ r.2.mem ((c.tc : Thread Cert.LiftRefIdeal.nD Cert.LiftRefIdeal.τ).loc Cert.LiftRefIdeal.main_arg0) = m' ((c.tc : Thread Cert.LiftRefIdeal.nD Cert.LiftRefIdeal.τ).loc Cert.LiftRefIdeal.main_arg0)
          ∧ r.2.mem ((c.tc : Thread Cert.LiftRefIdeal.nD Cert.LiftRefIdeal.τ).loc Cert.LiftRefIdeal.main_arg1) = m' ((c.tc : Thread Cert.LiftRefIdeal.nD Cert.LiftRefIdeal.τ).loc Cert.LiftRefIdeal.main_arg1)
          ∧ r.2.mem ((c.tc : Thread Cert.LiftRefIdeal.nD Cert.LiftRefIdeal.τ).loc Cert.LiftRefIdeal.main_arg2) = m' ((c.tc : Thread Cert.LiftRefIdeal.nD Cert.LiftRefIdeal.τ).loc Cert.LiftRefIdeal.main_arg2)
          ∧ r.2.mem ((c.tc : Thread Cert.LiftRefIdeal.nD Cert.LiftRefIdeal.τ).loc Cert.LiftRefIdeal.main_arg3) = m' ((c.tc : Thread Cert.LiftRefIdeal.nD Cert.LiftRefIdeal.τ).loc Cert.LiftRefIdeal.main_arg3)
          ∧ r.2.mem ((c.tc : Thread Cert.LiftRefIdeal.nD Cert.LiftRefIdeal.τ).loc Cert.LiftRefIdeal.main_arg4) = m' ((c.tc : Thread Cert.LiftRefIdeal.nD Cert.LiftRefIdeal.τ).loc Cert.LiftRefIdeal.main_arg4)
          ∧ r.2.mem ((c.tc : Thread Cert.LiftRefIdeal.nD Cert.LiftRefIdeal.τ).loc Cert.LiftRefIdeal.main_arg5) = m' ((c.tc : Thread Cert.LiftRefIdeal.nD Cert.LiftRefIdeal.τ).loc Cert.LiftRefIdeal.main_arg5)
          ∧ r.2.mem ((c.tc : Thread Cert.LiftRefIdeal.nD Cert.LiftRefIdeal.τ).loc Cert.LiftRefIdeal.main_arg6) = m' ((c.tc : Thread Cert.LiftRefIdeal.nD Cert.LiftRefIdeal.τ).loc Cert.LiftRefIdeal.main_arg6))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hMemory : Cert.Memory.Facts) (hMemoryIdeal : Cert.MemoryIdeal.Facts) (hMemoryRefIdeal : Cert.MemoryRefIdeal.Facts) (hMix : Cert.Mix.Facts) (hMixIdeal : Cert.MixIdeal.Facts) (hMixRefIdeal : Cert.MixRefIdeal.Facts) (hEntry : Cert.Entry.Facts) (hEntryIdeal : Cert.EntryIdeal.Facts) (hEntryRefIdeal : Cert.EntryRefIdeal.Facts) (hLift : Cert.Lift.Facts) (hLiftIdeal : Cert.LiftIdeal.Facts) (hLiftRefIdeal : Cert.LiftRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Mlp (hMlp := hMlp)
    ∧ quiescent_MlpIdeal (hMlpIdeal := hMlpIdeal)
    ∧ quiescent_MlpRefIdeal (hMlpRefIdeal := hMlpRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Mix (hMix := hMix)
    ∧ quiescent_MixIdeal (hMixIdeal := hMixIdeal)
    ∧ quiescent_MixRefIdeal (hMixRefIdeal := hMixRefIdeal)
    ∧ quiescent_Entry (hEntry := hEntry)
    ∧ quiescent_EntryIdeal (hEntryIdeal := hEntryIdeal)
    ∧ quiescent_EntryRefIdeal (hEntryRefIdeal := hEntryRefIdeal)
    ∧ quiescent_Lift (hLift := hLift)
    ∧ quiescent_LiftIdeal (hLiftIdeal := hLiftIdeal)
    ∧ quiescent_LiftRefIdeal (hLiftRefIdeal := hLiftRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Mlp_MlpIdeal
    ∧ algebraic_MlpIdeal_MlpRefIdeal (hMlpIdeal := hMlpIdeal) (hMlpRefIdeal := hMlpRefIdeal)
    ∧ preserves_Memory_MemoryIdeal
    ∧ algebraic_MemoryIdeal_MemoryRefIdeal (hMemoryIdeal := hMemoryIdeal) (hMemoryRefIdeal := hMemoryRefIdeal)
    ∧ preserves_Mix_MixIdeal
    ∧ algebraic_MixIdeal_MixRefIdeal (hMixIdeal := hMixIdeal) (hMixRefIdeal := hMixRefIdeal)
    ∧ preserves_Entry_EntryIdeal
    ∧ algebraic_EntryIdeal_EntryRefIdeal (hEntryIdeal := hEntryIdeal) (hEntryRefIdeal := hEntryRefIdeal)
    ∧ preserves_Lift_LiftIdeal
    ∧ algebraic_LiftIdeal_LiftRefIdeal (hLiftIdeal := hLiftIdeal) (hLiftRefIdeal := hLiftRefIdeal)
-- ==== Pre_finite_scores.lean ====
abbrev S8x2048x8x192 : Shape := ⟨4, ![8, 2048, 8, 192]⟩
abbrev S8x2048x8x128 : Shape := ⟨4, ![8, 2048, 8, 128]⟩
abbrev S_ : Shape := ⟨0, ![]⟩

class Facts : Prop where
  bcast_S_S8x2048x8x192 : S_.BroadcastsInDim S8x2048x8x192 (![] : Fin 0 → Fin S8x2048x8x192.rank)
  reducesTo_S8x2048x8x192_S_d0_1_2_3 : S8x2048x8x192.ReducesTo [0, 1, 2, 3] S_
  h_S_ : 0 < S_.numel

variable [Facts]

def fn {F : FTy → Type} [FloatOps F] (main_arg0 : FVec F S8x2048x8x192 .f32) (main_arg1 : FVec F S8x2048x8x192 .f32) (main_arg2 : FVec F S8x2048x8x128 .f32) : IVec S_ 1 :=
  let main_v0 : FVec F S8x2048x8x192 .f32 := Host.absf main_arg0
  let main_cst : FVec F S_ .f32 := constant S_ .f32 0x7F800000#32
  let main_v1 : FVec F S8x2048x8x192 .f32 := broadcastInDim S8x2048x8x192 ![] bcast_S_S8x2048x8x192 main_cst
  let main_v2 : IVec S8x2048x8x192 1 := cmpf .olt main_v0 main_v1
  let main_c : IVec S_ 1 := constantI S_ 1 1#1
  let main_v3 : IVec S_ 1 := (fun x v => Host.reduce IntOp.andi x v reducesTo_S8x2048x8x192_S_d0_1_2_3 h_S_) main_v2 main_c
  let main_v4 : FVec F S8x2048x8x192 .f32 := Host.absf main_arg1
  let main_cst_0 : FVec F S_ .f32 := constant S_ .f32 0x7F800000#32
  let main_v5 : FVec F S8x2048x8x192 .f32 := broadcastInDim S8x2048x8x192 ![] bcast_S_S8x2048x8x192 main_cst_0
  let main_v6 : IVec S8x2048x8x192 1 := cmpf .olt main_v4 main_v5
  let main_c_1 : IVec S_ 1 := constantI S_ 1 1#1
  let main_v7 : IVec S_ 1 := (fun x v => Host.reduce IntOp.andi x v reducesTo_S8x2048x8x192_S_d0_1_2_3 h_S_) main_v6 main_c_1
  let main_v8 : IVec S_ 1 := andi main_v3 main_v7
  main_v8
-- ==== Kernel.lean ====
abbrev S8x2048x8x192 : Shape := ⟨4, ![8, 2048, 8, 192]⟩
abbrev S8x2048x8x128 : Shape := ⟨4, ![8, 2048, 8, 128]⟩
abbrev S_ : Shape := ⟨0, ![]⟩
abbrev S8x8x2048x192 : Shape := ⟨4, ![8, 8, 2048, 192]⟩
abbrev S8x8x2048x256 : Shape := ⟨4, ![8, 8, 2048, 256]⟩
abbrev S8x8x2048x128 : Shape := ⟨4, ![8, 8, 2048, 128]⟩
abbrev S8x2048x1024 : Shape := ⟨3, ![8, 2048, 1024]⟩
abbrev S1x4x512x256 : Shape := ⟨4, ![1, 4, 512, 256]⟩
abbrev S1x4x2048x256 : Shape := ⟨4, ![1, 4, 2048, 256]⟩
abbrev S1x512x512 : Shape := ⟨3, ![1, 512, 512]⟩
abbrev S8x256x256 : Shape := ⟨3, ![8, 256, 256]⟩
abbrev S512x512 : Shape := ⟨2, ![512, 512]⟩
abbrev S1x1x256x256 : Shape := ⟨4, ![1, 1, 256, 256]⟩
abbrev S256x256 : Shape := ⟨2, ![256, 256]⟩
abbrev S1x1x512x256 : Shape := ⟨4, ![1, 1, 512, 256]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S1x256x256 : Shape := ⟨3, ![1, 256, 256]⟩
abbrev S256x128 : Shape := ⟨2, ![256, 128]⟩
abbrev S1x256x128 : Shape := ⟨3, ![1, 256, 128]⟩

abbrev nBuf : Space → Nat
  | .hbm => 22
  | .vmem => 9
  | .smem => 0
  | _ => 0

abbrev bufTy : (tb : Table) → Fin (tcTables nBuf tb) → BufTy
  | .hbm, ⟨0, _⟩ => ⟨S8x2048x8x192, .f32⟩
  | .hbm, ⟨1, _⟩ => ⟨S8x2048x8x192, .f32⟩
  | .hbm, ⟨2, _⟩ => ⟨S8x2048x8x128, .f32⟩
  | .hbm, ⟨3, _⟩ => ⟨S_, .f32⟩
  | .hbm, ⟨4, _⟩ => ⟨S8x2048x8x192, .f32⟩
  | .hbm, ⟨5, _⟩ => ⟨S8x2048x8x192, .f32⟩
  | .hbm, ⟨6, _⟩ => ⟨S8x8x2048x192, .f32⟩
  | .hbm, ⟨7, _⟩ => ⟨S_, .i32⟩
  | .hbm, ⟨8, _⟩ => ⟨S_, .f32⟩
  | .hbm, ⟨9, _⟩ => ⟨S8x8x2048x256, .f32⟩
  | .hbm, ⟨10, _⟩ => ⟨S8x8x2048x256, .bf16⟩
  | .hbm, ⟨11, _⟩ => ⟨S8x8x2048x192, .f32⟩
  | .hbm, ⟨12, _⟩ => ⟨S_, .i32⟩
  | .hbm, ⟨13, _⟩ => ⟨S_, .f32⟩
  | .hbm, ⟨14, _⟩ => ⟨S8x8x2048x256, .f32⟩
  | .hbm, ⟨15, _⟩ => ⟨S8x8x2048x256, .bf16⟩
  | .hbm, ⟨16, _⟩ => ⟨S8x8x2048x128, .f32⟩
  | .hbm, ⟨17, _⟩ => ⟨S_, .f32⟩
  | .hbm, ⟨18, _⟩ => ⟨S8x8x2048x128, .f32⟩
  | .hbm, ⟨19, _⟩ => ⟨S8x8x2048x256, .f32⟩
  | .hbm, ⟨20, _⟩ => ⟨S8x8x2048x256, .bf16⟩
  | .hbm, ⟨21, _⟩ => ⟨S8x2048x1024, .bf16⟩
  | .local _ .vmem, ⟨0, _⟩ => ⟨S1x4x512x256, .bf16⟩
  | .local _ .vmem, ⟨1, _⟩ => ⟨S1x4x512x256, .bf16⟩
  | .local _ .vmem, ⟨2, _⟩ => ⟨S1x4x2048x256, .bf16⟩
  | .local _ .vmem, ⟨3, _⟩ => ⟨S1x4x2048x256, .bf16⟩
  | .local _ .vmem, ⟨4, _⟩ => ⟨S1x4x2048x256, .bf16⟩
  | .local _ .vmem, ⟨5, _⟩ => ⟨S1x4x2048x256, .bf16⟩
  | .local _ .vmem, ⟨6, _⟩ => ⟨S1x512x512, .bf16⟩
  | .local _ .vmem, ⟨7, _⟩ => ⟨S1x512x512, .bf16⟩
  | .local _ .vmem, ⟨8, _⟩ => ⟨S8x256x256, .f32⟩
  | _, _ => ⟨S8x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c512_i32 : BitVec 32 := 512#32
  let v3 : BitVec 32 := Scalar.muli arg2 c512_i32
  v3
def k0_off1 (i : grid0.Coords) : Fin 4 → Nat :=
  let c0_3 : Index := 0#32
  let c0_4 : Index := 0#32
  let arg2 : BitVec 32 := BitVec.ofNat 32 (i 2).val
  let c512_i32 : BitVec 32 := 512#32
  let v3 : BitVec 32 := Scalar.muli arg2 c512_i32
  let v4 : BitVec 32 := v3
  let v7 : Index := Scalar.indexCast v4
  let c0_5 : Index := 0#32
  ![0, 0, v7.toNat, 0]
def k0_mult2 (i : grid0.Coords) : BitVec 32 :=
  let arg2 : BitVec 32 := BitVec.ofNat 32 (i 2).val
  let c512_i32_7 : BitVec 32 := 512#32
  let v14 : BitVec 32 := Scalar.muli arg2 c512_i32_7
  v14
def k0_off2 (i : grid0.Coords) : Fin 4 → Nat :=
  let c0_11 : Index := 0#32
  let c0_12 : Index := 0#32
  let arg2 : BitVec 32 := BitVec.ofNat 32 (i 2).val
  let c512_i32_7 : BitVec 32 := 512#32
  let v14 : BitVec 32 := Scalar.muli arg2 c512_i32_7
  let v15 : BitVec 32 := v14
  let v18 : Index := Scalar.indexCast v15
  let c0_13 : Index := 0#32
  ![0, 0, v18.toNat, 0]
def k0_mult3 (i : grid0.Coords) : BitVec 32 :=
  let arg2 : BitVec 32 := BitVec.ofNat 32 (i 2).val
  let c512_i32_16 : BitVec 32 := 512#32
  let v25 : BitVec 32 := Scalar.muli arg2 c512_i32_16
  v25
def k0_mult4 (i : grid0.Coords) : BitVec 32 :=
  let arg2 : BitVec 32 := BitVec.ofNat 32 (i 2).val
  let c512_i32_25 : BitVec 32 := 512#32
  let v40 : BitVec 32 := Scalar.muli arg2 c512_i32_25
  v40
def k0_off3 (i : grid0.Coords) : Fin 4 → Nat :=
  let c0_29 : Index := 0#32
  let c1_30 : Index := 1#32
  let arg2 : BitVec 32 := BitVec.ofNat 32 (i 2).val
  let c512_i32_25 : BitVec 32 := 512#32
  let v40 : BitVec 32 := Scalar.muli arg2 c512_i32_25
  let v41 : BitVec 32 := v40
  let v44 : Index := Scalar.indexCast v41
  let c0_31 : Index := 0#32
  ![0, 1, v44.toNat, 0]
def k0_mult5 (i : grid0.Coords) : BitVec 32 :=
  let arg2 : BitVec 32 := BitVec.ofNat 32 (i 2).val
  let c512_i32_34 : BitVec 32 := 512#32
  let v51 : BitVec 32 := Scalar.muli arg2 c512_i32_34
  v51
def k0_mult6 (i : grid0.Coords) : BitVec 32 :=
  let arg2 : BitVec 32 := BitVec.ofNat 32 (i 2).val
  let c512_i32_43 : BitVec 32 := 512#32
  let v66 : BitVec 32 := Scalar.muli arg2 c512_i32_43
  v66
def k0_off4 (i : grid0.Coords) : Fin 4 → Nat :=
  let c0_48 : Index := 0#32
  let c1_49 : Index := 1#32
  let arg2 : BitVec 32 := BitVec.ofNat 32 (i 2).val
  let c512_i32_43 : BitVec 32 := 512#32
  let v66 : BitVec 32 := Scalar.muli arg2 c512_i32_43
  let v67 : BitVec 32 := v66
  let v70 : Index := Scalar.indexCast v67
  let c0_50 : Index := 0#32
  ![0, 1, v70.toNat, 0]
def k0_mult7 (i : grid0.Coords) : BitVec 32 :=
  let arg2 : BitVec 32 := BitVec.ofNat 32 (i 2).val
  let c512_i32_53 : BitVec 32 := 512#32
  let v77 : BitVec 32 := Scalar.muli arg2 c512_i32_53
  v77
def k0_mult8 (i : grid0.Coords) : BitVec 32 :=
  let arg2 : BitVec 32 := BitVec.ofNat 32 (i 2).val
  let c512_i32_61 : BitVec 32 := 512#32
  let v92 : BitVec 32 := Scalar.muli arg2 c512_i32_61
  v92
def k0_off5 (i : grid0.Coords) : Fin 4 → Nat :=
  let c0_66 : Index := 0#32
  let c2_67 : Index := 2#32
  let arg2 : BitVec 32 := BitVec.ofNat 32 (i 2).val
  let c512_i32_61 : BitVec 32 := 512#32
  let v92 : BitVec 32 := Scalar.muli arg2 c512_i32_61
  let v93 : BitVec 32 := v92
  let v96 : Index := Scalar.indexCast v93
  let c0_68 : Index := 0#32
  ![0, 2, v96.toNat, 0]
def k0_mult9 (i : grid0.Coords) : BitVec 32 :=
  let arg2 : BitVec 32 := BitVec.ofNat 32 (i 2).val
  let c512_i32_71 : BitVec 32 := 512#32
  let v103 : BitVec 32 := Scalar.muli arg2 c512_i32_71
  v103
def k0_mult10 (i : grid0.Coords) : BitVec 32 :=
  let arg2 : BitVec 32 := BitVec.ofNat 32 (i 2).val
  let c512_i32_79 : BitVec 32 := 512#32
  let v118 : BitVec 32 := Scalar.muli arg2 c512_i32_79
  v118
def k0_off6 (i : grid0.Coords) : Fin 4 → Nat :=
  let c0_84 : Index := 0#32
  let c2_85 : Index := 2#32
  let arg2 : BitVec 32 := BitVec.ofNat 32 (i 2).val
  let c512_i32_79 : BitVec 32 := 512#32
  let v118 : BitVec 32 := Scalar.muli arg2 c512_i32_79
  let v119 : BitVec 32 := v118
  let v122 : Index := Scalar.indexCast v119
  let c0_86 : Index := 0#32
  ![0, 2, v122.toNat, 0]
def k0_mult11 (i : grid0.Coords) : BitVec 32 :=
  let arg2 : BitVec 32 := BitVec.ofNat 32 (i 2).val
  let c512_i32_89 : BitVec 32 := 512#32
  let v129 : BitVec 32 := Scalar.muli arg2 c512_i32_89
  v129
def k0_mult12 (i : grid0.Coords) : BitVec 32 :=
  let arg2 : BitVec 32 := BitVec.ofNat 32 (i 2).val
  let c512_i32_97 : BitVec 32 := 512#32
  let v144 : BitVec 32 := Scalar.muli arg2 c512_i32_97
  v144
def k0_off7 (i : grid0.Coords) : Fin 4 → Nat :=
  let c0_102 : Index := 0#32
  let c3_103 : Index := 3#32
  let arg2 : BitVec 32 := BitVec.ofNat 32 (i 2).val
  let c512_i32_97 : BitVec 32 := 512#32
  let v144 : BitVec 32 := Scalar.muli arg2 c512_i32_97
  let v145 : BitVec 32 := v144
  let v148 : Index := Scalar.indexCast v145
  let c0_104 : Index := 0#32
  ![0, 3, v148.toNat, 0]
def k0_mult13 (i : grid0.Coords) : BitVec 32 :=
  let arg2 : BitVec 32 := BitVec.ofNat 32 (i 2).val
  let c512_i32_107 : BitVec 32 := 512#32
  let v155 : BitVec 32 := Scalar.muli arg2 c512_i32_107
  v155
def k0_mult14 (i : grid0.Coords) : BitVec 32 :=
  let arg2 : BitVec 32 := BitVec.ofNat 32 (i 2).val
  let c512_i32_115 : BitVec 32 := 512#32
  let v170 : BitVec 32 := Scalar.muli arg2 c512_i32_115
  v170
def k0_off8 (i : grid0.Coords) : Fin 4 → Nat :=
  let c0_120 : Index := 0#32
  let c3_121 : Index := 3#32
  let arg2 : BitVec 32 := BitVec.ofNat 32 (i 2).val
  let c512_i32_115 : BitVec 32 := 512#32
  let v170 : BitVec 32 := Scalar.muli arg2 c512_i32_115
  let v171 : BitVec 32 := v170
  let v174 : Index := Scalar.indexCast v171
  let c0_122 : Index := 0#32
  ![0, 3, v174.toNat, 0]
def k0_mult15 (i : grid0.Coords) : BitVec 32 :=
  let arg2 : BitVec 32 := BitVec.ofNat 32 (i 2).val
  let c512_i32_125 : BitVec 32 := 512#32
  let v181 : BitVec 32 := Scalar.muli arg2 c512_i32_125
  v181
def k0_mult16 (i : grid0.Coords) : BitVec 32 :=
  let arg2 : BitVec 32 := BitVec.ofNat 32 (i 2).val
  let c512_i32_133 : BitVec 32 := 512#32
  let v196 : BitVec 32 := Scalar.muli arg2 c512_i32_133
  v196
@[reducible] def k0_t1_loop (i : grid0.Coords) : Scf.Loop 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_141 : BitVec 32 := 1#32
  ⟨c0_i32, v215, c1_i32_141⟩
def k0_mult17 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_189 : BitVec 32 := 512#32
  let v290 : BitVec 32 := Scalar.muli arg8 c512_i32_189
  v290
def k0_off9 (i : grid0.Coords) (k0_t1 : Fin (k0_t1_loop i).trips) : Fin 4 → Nat :=
  let c0_194 : Index := 0#32
  let c0_195 : Index := 0#32
  let c0_i32 : BitVec 32 := 0#32
  let c1_i32_141 : BitVec 32 := 1#32
  let arg8 : BitVec 32 := Scf.iv c0_i32 c1_i32_141 k0_t1
  let c512_i32_189 : BitVec 32 := 512#32
  let v290 : BitVec 32 := Scalar.muli arg8 c512_i32_189
  let v291 : BitVec 32 := v290
  let v294 : Index := Scalar.indexCast v291
  let c0_196 : Index := 0#32
  ![0, 0, v294.toNat, 0]
def k0_mult18 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_198 : BitVec 32 := 512#32
  let v298 : BitVec 32 := Scalar.muli arg8 c512_i32_198
  v298
def k0_mult19 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_210 : BitVec 32 := 512#32
  let v308 : BitVec 32 := Scalar.muli arg8 c512_i32_210
  v308
def k0_mult20 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_219 : BitVec 32 := 512#32
  let v329 : BitVec 32 := Scalar.muli arg8 c512_i32_219
  v329
def k0_off10 (i : grid0.Coords) (k0_t1 : Fin (k0_t1_loop i).trips) : Fin 4 → Nat :=
  let c0_224 : Index := 0#32
  let c1_225 : Index := 1#32
  let c0_i32 : BitVec 32 := 0#32
  let c1_i32_141 : BitVec 32 := 1#32
  let arg8 : BitVec 32 := Scf.iv c0_i32 c1_i32_141 k0_t1
  let c512_i32_219 : BitVec 32 := 512#32
  let v329 : BitVec 32 := Scalar.muli arg8 c512_i32_219
  let v330 : BitVec 32 := v329
  let v333 : Index := Scalar.indexCast v330
  let c0_226 : Index := 0#32
  ![0, 1, v333.toNat, 0]
def k0_mult21 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_231 : BitVec 32 := 512#32
  let v339 : BitVec 32 := Scalar.muli arg8 c512_i32_231
  v339
def k0_mult22 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_240 : BitVec 32 := 512#32
  let v360 : BitVec 32 := Scalar.muli arg8 c512_i32_240
  v360
def k0_mult23 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_252 : BitVec 32 := 512#32
  let v370 : BitVec 32 := Scalar.muli arg8 c512_i32_252
  v370
def k0_mult24 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_261 : BitVec 32 := 512#32
  let v391 : BitVec 32 := Scalar.muli arg8 c512_i32_261
  v391
def k0_off11 (i : grid0.Coords) (k0_t1 : Fin (k0_t1_loop i).trips) : Fin 4 → Nat :=
  let c0_266 : Index := 0#32
  let c2_267 : Index := 2#32
  let c0_i32 : BitVec 32 := 0#32
  let c1_i32_141 : BitVec 32 := 1#32
  let arg8 : BitVec 32 := Scf.iv c0_i32 c1_i32_141 k0_t1
  let c512_i32_261 : BitVec 32 := 512#32
  let v391 : BitVec 32 := Scalar.muli arg8 c512_i32_261
  let v392 : BitVec 32 := v391
  let v395 : Index := Scalar.indexCast v392
  let c0_268 : Index := 0#32
  ![0, 2, v395.toNat, 0]
def k0_mult25 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_273 : BitVec 32 := 512#32
  let v401 : BitVec 32 := Scalar.muli arg8 c512_i32_273
  v401
def k0_mult26 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_282 : BitVec 32 := 512#32
  let v422 : BitVec 32 := Scalar.muli arg8 c512_i32_282
  v422
def k0_mult27 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_294 : BitVec 32 := 512#32
  let v432 : BitVec 32 := Scalar.muli arg8 c512_i32_294
  v432
def k0_mult28 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_303 : BitVec 32 := 512#32
  let v453 : BitVec 32 := Scalar.muli arg8 c512_i32_303
  v453
def k0_off12 (i : grid0.Coords) (k0_t1 : Fin (k0_t1_loop i).trips) : Fin 4 → Nat :=
  let c0_308 : Index := 0#32
  let c3_309 : Index := 3#32
  let c0_i32 : BitVec 32 := 0#32
  let c1_i32_141 : BitVec 32 := 1#32
  let arg8 : BitVec 32 := Scf.iv c0_i32 c1_i32_141 k0_t1
  let c512_i32_303 : BitVec 32 := 512#32
  let v453 : BitVec 32 := Scalar.muli arg8 c512_i32_303
  let v454 : BitVec 32 := v453
  let v457 : Index := Scalar.indexCast v454
  let c0_310 : Index := 0#32
  ![0, 3, v457.toNat, 0]
def k0_mult29 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_315 : BitVec 32 := 512#32
  let v463 : BitVec 32 := Scalar.muli arg8 c512_i32_315
  v463
def k0_mult30 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_324 : BitVec 32 := 512#32
  let v484 : BitVec 32 := Scalar.muli arg8 c512_i32_324
  v484
def k0_mult31 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_336 : BitVec 32 := 512#32
  let v494 : BitVec 32 := Scalar.muli arg8 c512_i32_336
  v494
def k0_mult32 (i : grid0.Coords) (k0_t1 : Fin (k0_t1_loop i).trips) : BitVec 32 :=
  let c0_i32 : BitVec 32 := 0#32
  let c1_i32_141 : BitVec 32 := 1#32
  let arg8 : BitVec 32 := Scf.iv c0_i32 c1_i32_141 k0_t1
  let c512_i32_348 : BitVec 32 := 512#32
  let v517 : BitVec 32 := Scalar.muli arg8 c512_i32_348
  v517
@[reducible] def k0_t2_loop (i : grid0.Coords) : Scf.Loop 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let v212 : BitVec 32 := Scalar.addi c0_i32 v211
  let c1_i32_142 : BitVec 32 := 1#32
  ⟨v215, v212, c1_i32_142⟩
def k0_mult33 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_189 : BitVec 32 := 512#32
  let v290 : BitVec 32 := Scalar.muli arg8 c512_i32_189
  v290
def k0_off13 (i : grid0.Coords) (k0_t2 : Fin (k0_t2_loop i).trips) : Fin 4 → Nat :=
  let c0_194 : Index := 0#32
  let c0_195 : Index := 0#32
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_189 : BitVec 32 := 512#32
  let v290 : BitVec 32 := Scalar.muli arg8 c512_i32_189
  let v291 : BitVec 32 := v290
  let v294 : Index := Scalar.indexCast v291
  let c0_196 : Index := 0#32
  ![0, 0, v294.toNat, 0]
def k0_mult34 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_198 : BitVec 32 := 512#32
  let v298 : BitVec 32 := Scalar.muli arg8 c512_i32_198
  v298
def k0_mult35 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_210 : BitVec 32 := 512#32
  let v308 : BitVec 32 := Scalar.muli arg8 c512_i32_210
  v308
def k0_mult36 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_219 : BitVec 32 := 512#32
  let v329 : BitVec 32 := Scalar.muli arg8 c512_i32_219
  v329
def k0_off14 (i : grid0.Coords) (k0_t2 : Fin (k0_t2_loop i).trips) : Fin 4 → Nat :=
  let c0_224 : Index := 0#32
  let c1_225 : Index := 1#32
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_219 : BitVec 32 := 512#32
  let v329 : BitVec 32 := Scalar.muli arg8 c512_i32_219
  let v330 : BitVec 32 := v329
  let v333 : Index := Scalar.indexCast v330
  let c0_226 : Index := 0#32
  ![0, 1, v333.toNat, 0]
def k0_mult37 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_231 : BitVec 32 := 512#32
  let v339 : BitVec 32 := Scalar.muli arg8 c512_i32_231
  v339
def k0_mult38 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_240 : BitVec 32 := 512#32
  let v360 : BitVec 32 := Scalar.muli arg8 c512_i32_240
  v360
def k0_mult39 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_252 : BitVec 32 := 512#32
  let v370 : BitVec 32 := Scalar.muli arg8 c512_i32_252
  v370
def k0_mult40 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_261 : BitVec 32 := 512#32
  let v391 : BitVec 32 := Scalar.muli arg8 c512_i32_261
  v391
def k0_off15 (i : grid0.Coords) (k0_t2 : Fin (k0_t2_loop i).trips) : Fin 4 → Nat :=
  let c0_266 : Index := 0#32
  let c2_267 : Index := 2#32
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_261 : BitVec 32 := 512#32
  let v391 : BitVec 32 := Scalar.muli arg8 c512_i32_261
  let v392 : BitVec 32 := v391
  let v395 : Index := Scalar.indexCast v392
  let c0_268 : Index := 0#32
  ![0, 2, v395.toNat, 0]
def k0_mult41 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_273 : BitVec 32 := 512#32
  let v401 : BitVec 32 := Scalar.muli arg8 c512_i32_273
  v401
def k0_mult42 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_282 : BitVec 32 := 512#32
  let v422 : BitVec 32 := Scalar.muli arg8 c512_i32_282
  v422
def k0_mult43 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_294 : BitVec 32 := 512#32
  let v432 : BitVec 32 := Scalar.muli arg8 c512_i32_294
  v432
def k0_mult44 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_303 : BitVec 32 := 512#32
  let v453 : BitVec 32 := Scalar.muli arg8 c512_i32_303
  v453
def k0_off16 (i : grid0.Coords) (k0_t2 : Fin (k0_t2_loop i).trips) : Fin 4 → Nat :=
  let c0_308 : Index := 0#32
  let c3_309 : Index := 3#32
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_303 : BitVec 32 := 512#32
  let v453 : BitVec 32 := Scalar.muli arg8 c512_i32_303
  let v454 : BitVec 32 := v453
  let v457 : Index := Scalar.indexCast v454
  let c0_310 : Index := 0#32
  ![0, 3, v457.toNat, 0]
def k0_mult45 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_315 : BitVec 32 := 512#32
  let v463 : BitVec 32 := Scalar.muli arg8 c512_i32_315
  v463
def k0_mult46 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_324 : BitVec 32 := 512#32
  let v484 : BitVec 32 := Scalar.muli arg8 c512_i32_324
  v484
def k0_mult47 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_336 : BitVec 32 := 512#32
  let v494 : BitVec 32 := Scalar.muli arg8 c512_i32_336
  v494
def k0_mult48 (i : grid0.Coords) (k0_t2 : Fin (k0_t2_loop i).trips) : BitVec 32 :=
  let c0_i32 : BitVec 32 := 0#32
  let arg2 : BitVec 32 := BitVec.ofNat 32 (i 2).val
  let v211 : BitVec 32 := Scalar.subi arg2 c0_i32
  let c1_i32 : BitVec 32 := 1#32
  let v213 : BitVec 32 := Scalar.divsi v211 c1_i32
  let v214 : BitVec 32 := Scalar.muli v213 c1_i32
  let v215 : BitVec 32 := Scalar.addi c0_i32 v214
  let c1_i32_142 : BitVec 32 := 1#32
  let arg8 : BitVec 32 := Scf.iv v215 c1_i32_142 k0_t2
  let c512_i32_348 : BitVec 32 := 512#32
  let v517 : BitVec 32 := Scalar.muli arg8 c512_i32_348
  v517
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x2048x8x192 : Shape := ⟨4, ![8, 2048, 8, 192]⟩
abbrev S8x2048x8x128 : Shape := ⟨4, ![8, 2048, 8, 128]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩
abbrev S8x2048x1024 : Shape := ⟨3, ![8, 2048, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x8x192, .f32⟩
  | .hbm, ⟨1, _⟩ => ⟨S8x2048x8x192, .f32⟩
  | .hbm, ⟨2, _⟩ => ⟨S8x2048x8x128, .f32⟩
  | .hbm, ⟨3, _⟩ => ⟨S8x8x2048x2048, .f32⟩
  | .hbm, ⟨4, _⟩ => ⟨S_, .f32⟩
  | .hbm, ⟨5, _⟩ => ⟨S8x8x2048x2048, .f32⟩
  | .hbm, ⟨6, _⟩ => ⟨S8x8x2048x2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S_, .f32⟩
  | .hbm, ⟨14, _⟩ => ⟨S_, .f32⟩
  | .hbm, ⟨15, _⟩ => ⟨S8x8x2048x2048, .i1⟩
  | .hbm, ⟨16, _⟩ => ⟨S8x8x2048x2048, .f32⟩
  | .hbm, ⟨17, _⟩ => ⟨S8x8x2048x2048, .f32⟩
  | .hbm, ⟨18, _⟩ => ⟨S_, .f32⟩
  | .hbm, ⟨19, _⟩ => ⟨S8x8x2048, .f32⟩
  | .hbm, ⟨20, _⟩ => ⟨S8x8x2048x1, .f32⟩
  | .hbm, ⟨21, _⟩ => ⟨S8x8x2048x1, .f32⟩
  | .hbm, ⟨22, _⟩ => ⟨S_, .f32⟩
  | .hbm, ⟨23, _⟩ => ⟨S8x8x2048x1, .f32⟩
  | .hbm, ⟨24, _⟩ => ⟨S8x8x2048x1, .i1⟩
  | .hbm, ⟨25, _⟩ => ⟨S_, .f32⟩
  | .hbm, ⟨26, _⟩ => ⟨S_, .f32⟩
  | .hbm, ⟨27, _⟩ => ⟨S8x8x2048x1, .f32⟩
  | .hbm, ⟨28, _⟩ => ⟨S8x8x2048x1, .f32⟩
  | .hbm, ⟨29, _⟩ => ⟨S8x8x2048x2048, .f32⟩
  | .hbm, ⟨30, _⟩ => ⟨S8x8x2048x2048, .f32⟩
  | .hbm, ⟨31, _⟩ => ⟨S8x8x2048x2048, .f32⟩
  | .hbm, ⟨32, _⟩ => ⟨S_, .f32⟩
  | .hbm, ⟨33, _⟩ => ⟨S8x8x2048, .f32⟩
  | .hbm, ⟨34, _⟩ => ⟨S8x8x2048x1, .f32⟩
  | .hbm, ⟨35, _⟩ => ⟨S_, .f32⟩
  | .hbm, ⟨36, _⟩ => ⟨S8x8x2048x1, .f32⟩
  | .hbm, ⟨37, _⟩ => ⟨S8x8x2048x1, .f32⟩
  | .hbm, ⟨38, _⟩ => ⟨S8x8x2048x2048, .f32⟩
  | .hbm, ⟨39, _⟩ => ⟨S8x8x2048x2048, .f32⟩
  | .hbm, ⟨40, _⟩ => ⟨S8x8x128x2048, .f32⟩
  | .hbm, ⟨41, _⟩ => ⟨S8x2048x8x128, .f32⟩
  | .hbm, ⟨42, _⟩ => ⟨S8x2048x1024, .f32⟩
  | .hbm, ⟨43, _⟩ => ⟨S8x2048x1024, .bf16⟩
  | _, _ => ⟨S8x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Mlp.lean ====
abbrev S8x2048x2048 : Shape := ⟨3, ![8, 2048, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S16384x2048 : Shape := ⟨2, ![16384, 2048]⟩
abbrev S1x2048 : Shape := ⟨2, ![1, 2048]⟩
abbrev S2048 : Shape := ⟨1, ![2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S16384x2048, .f32⟩
  | .hbm, ⟨6, _⟩ => ⟨S2x2048x8192, .bf16⟩
  | .hbm, ⟨7, _⟩ => ⟨S2x8192x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S8x2048x2048 : Shape := ⟨3, ![8, 2048, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S_ : Shape := ⟨0, ![]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S8x2048x8192 : Shape := ⟨3, ![8, 2048, 8192]⟩
abbrev S1x2048 : Shape := ⟨2, ![1, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048x8192, .f32⟩
  | .hbm, ⟨2, _⟩ => ⟨S2x8192x2048, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S1x2048x8192, .f32⟩
  | .hbm, ⟨9, _⟩ => ⟨S2048x8192, .f32⟩
  | .hbm, ⟨10, _⟩ => ⟨S1x8192x2048, .f32⟩
  | .hbm, ⟨11, _⟩ => ⟨S8192x2048, .f32⟩
  | .hbm, ⟨12, _⟩ => ⟨S8x2048x8192, .f32⟩
  | .hbm, ⟨13, _⟩ => ⟨S_, .f32⟩
  | .hbm, ⟨14, _⟩ => ⟨S8x2048x8192, .f32⟩
  | .hbm, ⟨15, _⟩ => ⟨S8x2048x8192, .f32⟩
  | .hbm, ⟨16, _⟩ => ⟨S8x2048x8192, .f32⟩
  | .hbm, ⟨17, _⟩ => ⟨S8x2048x2048, .f32⟩
  | .hbm, ⟨18, _⟩ => ⟨S8x2048x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S1x1x2048, .f32⟩
  | .hbm, ⟨47, _⟩ => ⟨S8x2048x2048, .f32⟩
  | .hbm, ⟨48, _⟩ => ⟨S8x2048x2048, .f32⟩
  | .hbm, ⟨49, _⟩ => ⟨S1x1x2048, .f32⟩
  | .hbm, ⟨50, _⟩ => ⟨S8x2048x2048, .f32⟩
  | .hbm, ⟨51, _⟩ => ⟨S8x2048x2048, .f32⟩
  | .hbm, ⟨52, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Memory.lean ====
abbrev S8x2048x2048 : Shape := ⟨3, ![8, 2048, 2048]⟩
abbrev S8x256x2048 : Shape := ⟨3, ![8, 256, 2048]⟩
abbrev S2x2048x2048 : Shape := ⟨3, ![2, 2048, 2048]⟩
abbrev S2x2048x4096 : Shape := ⟨3, ![2, 2048, 4096]⟩
abbrev S2x2048 : Shape := ⟨2, ![2, 2048]⟩
abbrev S16384x2048 : Shape := ⟨2, ![16384, 2048]⟩
abbrev S2048x2048 : Shape := ⟨2, ![2048, 2048]⟩
abbrev S_ : Shape := ⟨0, ![]⟩
abbrev S1024x2048 : Shape := ⟨2, ![1024, 2048]⟩
abbrev S1x2048x2048 : Shape := ⟨3, ![1, 2048, 2048]⟩
abbrev S2048x4096 : Shape := ⟨2, ![2048, 4096]⟩
abbrev S1x2048 : Shape := ⟨2, ![1, 2048]⟩
abbrev S2048 : Shape := ⟨1, ![2048]⟩
abbrev S8x256x4096 : Shape := ⟨3, ![8, 256, 4096]⟩
abbrev S512x2048 : Shape := ⟨2, ![512, 2048]⟩
abbrev S1x256x4096 : Shape := ⟨3, ![1, 256, 4096]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩
abbrev S128x2048 : Shape := ⟨2, ![128, 2048]⟩
abbrev S128 : Shape := ⟨1, ![128]⟩
abbrev S128x1 : Shape := ⟨2, ![128, 1]⟩

abbrev nBuf : Space → Nat
  | .hbm => 25
  | .vmem => 22
  | .smem => 0
  | _ => 0

abbrev bufTy : (tb : Table) → Fin (tcTables nBuf tb) → BufTy
  | .hbm, ⟨0, _⟩ => ⟨S8x2048x2048, .f32⟩
  | .hbm, ⟨1, _⟩ => ⟨S8x256x2048, .f32⟩
  | .hbm, ⟨2, _⟩ => ⟨S2x2048x2048, .f32⟩
  | .hbm, ⟨3, _⟩ => ⟨S2x2048x4096, .f32⟩
  | .hbm, ⟨4, _⟩ => ⟨S2x2048x2048, .f32⟩
  | .hbm, ⟨5, _⟩ => ⟨S2x2048, .f32⟩
  | .hbm, ⟨6, _⟩ => ⟨S2x2048, .f32⟩
  | .hbm, ⟨7, _⟩ => ⟨S16384x2048, .f32⟩
  | .hbm, ⟨8, _⟩ => ⟨S2048x2048, .f32⟩
  | .hbm, ⟨9, _⟩ => ⟨S_, .f32⟩
  | .hbm, ⟨10, _⟩ => ⟨S2x2048x2048, .f32⟩
  | .hbm, ⟨11, _⟩ => ⟨S2x2048x2048, .f32⟩
  | .hbm, ⟨12, _⟩ => ⟨S2x2048x2048, .bf16⟩
  | .hbm, ⟨13, _⟩ => ⟨S16384x2048, .bf16⟩
  | .hbm, ⟨14, _⟩ => ⟨S2x2048x4096, .bf16⟩
  | .hbm, ⟨15, _⟩ => ⟨S2048x4096, .bf16⟩
  | .hbm, ⟨16, _⟩ => ⟨S2x2048x2048, .bf16⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S8x256x4096, .bf16⟩
  | .hbm, ⟨22, _⟩ => ⟨S1x2048, .f32⟩
  | .hbm, ⟨23, _⟩ => ⟨S1x2048, .f32⟩
  | .hbm, ⟨24, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | .local _ .vmem, ⟨6, _⟩ => ⟨S1024x2048, .f32⟩
  | .local _ .vmem, ⟨7, _⟩ => ⟨S1x2048x2048, .bf16⟩
  | .local _ .vmem, ⟨8, _⟩ => ⟨S1x2048x2048, .bf16⟩
  | .local _ .vmem, ⟨9, _⟩ => ⟨S1024x2048, .bf16⟩
  | .local _ .vmem, ⟨10, _⟩ => ⟨S1024x2048, .bf16⟩
  | .local _ .vmem, ⟨11, _⟩ => ⟨S512x2048, .bf16⟩
  | .local _ .vmem, ⟨12, _⟩ => ⟨S512x2048, .bf16⟩
  | .local _ .vmem, ⟨13, _⟩ => ⟨S1x256x4096, .bf16⟩
  | .local _ .vmem, ⟨14, _⟩ => ⟨S1x256x4096, .bf16⟩
  | .local _ .vmem, ⟨15, _⟩ => ⟨S1x2048x2048, .bf16⟩
  | .local _ .vmem, ⟨16, _⟩ => ⟨S512x2048, .f32⟩
  | .local _ .vmem, ⟨17, _⟩ => ⟨S512x2048, .f32⟩
  | .local _ .vmem, ⟨18, _⟩ => ⟨S1x2048, .f32⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem6_0 : DmaSem sig := 20
abbrev cc2_sem6_1 : DmaSem sig := 21

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1x2048x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== MemoryRefIdeal.lean ====
abbrev S8x2048x2048 : Shape := ⟨3, ![8, 2048, 2048]⟩
abbrev S8x256x2048 : Shape := ⟨3, ![8, 256, 2048]⟩
abbrev S2x2048x2048 : Shape := ⟨3, ![2, 2048, 2048]⟩
abbrev S2x2048x4096 : Shape := ⟨3, ![2, 2048, 4096]⟩
abbrev S2x2048 : Shape := ⟨2, ![2, 2048]⟩
abbrev S_ : Shape := ⟨0, ![]⟩
abbrev S1x2048x2048 : Shape := ⟨3, ![1, 2048, 2048]⟩
abbrev S2048x2048 : Shape := ⟨2, ![2048, 2048]⟩
abbrev S1x2048x4096 : Shape := ⟨3, ![1, 2048, 4096]⟩
abbrev S2048x4096 : Shape := ⟨2, ![2048, 4096]⟩
abbrev S8x2048x4x512 : Shape := ⟨4, ![8, 2048, 4, 512]⟩
abbrev S8x256x4096 : Shape := ⟨3, ![8, 256, 4096]⟩
abbrev S8x256x2x4x512 : Shape := ⟨5, ![8, 256, 2, 4, 512]⟩
abbrev S8x256x1x4x512 : Shape := ⟨5, ![8, 256, 1, 4, 512]⟩
abbrev S8x256x4x512 : Shape := ⟨4, ![8, 256, 4, 512]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x512x2048 : Shape := ⟨4, ![8, 4, 512, 2048]⟩
abbrev S1x2048 : Shape := ⟨2, ![1, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x256x2048, .f32⟩
  | .hbm, ⟨2, _⟩ => ⟨S2x2048x2048, .f32⟩
  | .hbm, ⟨3, _⟩ => ⟨S2x2048x4096, .f32⟩
  | .hbm, ⟨4, _⟩ => ⟨S2x2048x2048, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S1x2048x2048, .f32⟩
  | .hbm, ⟨11, _⟩ => ⟨S2048x2048, .f32⟩
  | .hbm, ⟨12, _⟩ => ⟨S1x2048x4096, .f32⟩
  | .hbm, ⟨13, _⟩ => ⟨S2048x4096, .f32⟩
  | .hbm, ⟨14, _⟩ => ⟨S1x2048x2048, .f32⟩
  | .hbm, ⟨15, _⟩ => ⟨S2048x2048, .f32⟩
  | .hbm, ⟨16, _⟩ => ⟨S8x2048x2048, .f32⟩
  | .hbm, ⟨17, _⟩ => ⟨S8x2048x4x512, .f32⟩
  | .hbm, ⟨18, _⟩ => ⟨S8x256x4096, .f32⟩
  | .hbm, ⟨19, _⟩ => ⟨S8x256x2x4x512, .f32⟩
  | .hbm, ⟨20, _⟩ => ⟨S8x256x1x4x512, .f32⟩
  | .hbm, ⟨21, _⟩ => ⟨S8x256x4x512, .f32⟩
  | .hbm, ⟨22, _⟩ => ⟨S8x4x2048x256, .f32⟩
  | .hbm, ⟨23, _⟩ => ⟨S_, .f32⟩
  | .hbm, ⟨24, _⟩ => ⟨S8x4x2048x256, .f32⟩
  | .hbm, ⟨25, _⟩ => ⟨S8x4x2048x256, .f32⟩
  | .hbm, ⟨26, _⟩ => ⟨S_, .f32⟩
  | .hbm, ⟨27, _⟩ => ⟨S8x4x2048, .f32⟩
  | .hbm, ⟨28, _⟩ => ⟨S_, .f32⟩
  | .hbm, ⟨29, _⟩ => ⟨S8x4x2048, .f32⟩
  | .hbm, ⟨30, _⟩ => ⟨S8x4x2048, .f32⟩
  | .hbm, ⟨31, _⟩ => ⟨S8x4x2048x1, .f32⟩
  | .hbm, ⟨32, _⟩ => ⟨S8x4x2048x256, .f32⟩
  | .hbm, ⟨33, _⟩ => ⟨S8x4x2048x256, .f32⟩
  | .hbm, ⟨34, _⟩ => ⟨S8x4x2048x256, .f32⟩
  | .hbm, ⟨35, _⟩ => ⟨S_, .f32⟩
  | .hbm, ⟨36, _⟩ => ⟨S8x4x2048, .f32⟩
  | .hbm, ⟨37, _⟩ => ⟨S8x4x2048x1, .f32⟩
  | .hbm, ⟨38, _⟩ => ⟨S8x4x2048x256, .f32⟩
  | .hbm, ⟨39, _⟩ => ⟨S8x4x2048x256, .f32⟩
  | .hbm, ⟨40, _⟩ => ⟨S8x256x1x4x512, .f32⟩
  | .hbm, ⟨41, _⟩ => ⟨S8x256x4x512, .f32⟩
  | .hbm, ⟨42, _⟩ => ⟨S8x4x512x2048, .f32⟩
  | .hbm, ⟨43, _⟩ => ⟨S8x2048x4x512, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S1x2048, .f32⟩
  | .hbm, ⟨48, _⟩ => ⟨S2048, .f32⟩
  | .hbm, ⟨49, _⟩ => ⟨S1x2048, .f32⟩
  | .hbm, ⟨50, _⟩ => ⟨S2048, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x2048, .f32⟩
  | .hbm, ⟨73, _⟩ => ⟨S8x2048x2048, .f32⟩
  | .hbm, ⟨74, _⟩ => ⟨S1x1x2048, .f32⟩
  | .hbm, ⟨75, _⟩ => ⟨S8x2048x2048, .f32⟩
  | .hbm, ⟨76, _⟩ => ⟨S8x2048x2048, .f32⟩
  | .hbm, ⟨77, _⟩ => ⟨S1x1x2048, .f32⟩
  | .hbm, ⟨78, _⟩ => ⟨S8x2048x2048, .f32⟩
  | .hbm, ⟨79, _⟩ => ⟨S8x2048x2048, .f32⟩
  | .hbm, ⟨80, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Mix.lean ====
abbrev S8x2048x1024 : Shape := ⟨3, ![8, 2048, 1024]⟩
abbrev S8x2048x512 : Shape := ⟨3, ![8, 2048, 512]⟩
abbrev S2x2048x2048 : Shape := ⟨3, ![2, 2048, 2048]⟩
abbrev S8x2048x2048 : Shape := ⟨3, ![8, 2048, 2048]⟩
abbrev S2x2048 : Shape := ⟨2, ![2, 2048]⟩
abbrev S16384x1024 : Shape := ⟨2, ![16384, 1024]⟩
abbrev S16384x512 : Shape := ⟨2, ![16384, 512]⟩
abbrev S16384x2048 : Shape := ⟨2, ![16384, 2048]⟩
abbrev S1x2048 : Shape := ⟨2, ![1, 2048]⟩
abbrev S2048 : Shape := ⟨1, ![2048]⟩
abbrev S512x1024 : Shape := ⟨2, ![512, 1024]⟩
abbrev S512x512 : Shape := ⟨2, ![512, 512]⟩
abbrev S1x2048x2048 : Shape := ⟨3, ![1, 2048, 2048]⟩
abbrev S512x2048 : Shape := ⟨2, ![512, 2048]⟩
abbrev S128x1024 : Shape := ⟨2, ![128, 1024]⟩
abbrev S128x512 : Shape := ⟨2, ![128, 512]⟩
abbrev S128x2048 : Shape := ⟨2, ![128, 2048]⟩
abbrev S2048x2048 : Shape := ⟨2, ![2048, 2048]⟩
abbrev S128 : Shape := ⟨1, ![128]⟩
abbrev S128x1 : Shape := ⟨2, ![128, 1]⟩

abbrev nBuf : Space → Nat
  | .hbm => 22
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S2x2048x2048, .f32⟩
  | .hbm, ⟨4, _⟩ => ⟨S8x2048x2048, .f32⟩
  | .hbm, ⟨5, _⟩ => ⟨S2x2048, .f32⟩
  | .hbm, ⟨6, _⟩ => ⟨S2x2048, .f32⟩
  | .hbm, ⟨7, _⟩ => ⟨S16384x1024, .f32⟩
  | .hbm, ⟨8, _⟩ => ⟨S16384x1024, .bf16⟩
  | .hbm, ⟨9, _⟩ => ⟨S16384x512, .f32⟩
  | .hbm, ⟨10, _⟩ => ⟨S16384x512, .bf16⟩
  | .hbm, ⟨11, _⟩ => ⟨S16384x512, .f32⟩
  | .hbm, ⟨12, _⟩ => ⟨S16384x512, .bf16⟩
  | .hbm, ⟨13, _⟩ => ⟨S2x2048x2048, .bf16⟩
  | .hbm, ⟨14, _⟩ => ⟨S16384x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S1x2048, .f32⟩
  | .hbm, ⟨21, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixRefIdeal.lean ====
abbrev S8x2048x1024 : Shape := ⟨3, ![8, 2048, 1024]⟩
abbrev S8x2048x512 : Shape := ⟨3, ![8, 2048, 512]⟩
abbrev S2x2048x2048 : Shape := ⟨3, ![2, 2048, 2048]⟩
abbrev S8x2048x2048 : Shape := ⟨3, ![8, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S2x2048x2048, .f32⟩
  | .hbm, ⟨4, _⟩ => ⟨S8x2048x2048, .f32⟩
  | .hbm, ⟨5, _⟩ => ⟨S2x2048, .f32⟩
  | .hbm, ⟨6, _⟩ => ⟨S2x2048, .f32⟩
  | .hbm, ⟨7, _⟩ => ⟨S8x2048x2048, .f32⟩
  | .hbm, ⟨8, _⟩ => ⟨S1x2048x2048, .f32⟩
  | .hbm, ⟨9, _⟩ => ⟨S2048x2048, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S1x1x2048, .f32⟩
  | .hbm, ⟨43, _⟩ => ⟨S8x2048x2048, .f32⟩
  | .hbm, ⟨44, _⟩ => ⟨S8x2048x2048, .f32⟩
  | .hbm, ⟨45, _⟩ => ⟨S1x1x2048, .f32⟩
  | .hbm, ⟨46, _⟩ => ⟨S8x2048x2048, .f32⟩
  | .hbm, ⟨47, _⟩ => ⟨S8x2048x2048, .f32⟩
  | .hbm, ⟨48, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Entry.lean ====
abbrev S8x2048x2048 : Shape := ⟨3, ![8, 2048, 2048]⟩
abbrev S2048 : Shape := ⟨1, ![2048]⟩
abbrev S2x2048x3916 : Shape := ⟨3, ![2, 2048, 3916]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2x2048x4096 : Shape := ⟨3, ![2, 2048, 4096]⟩
abbrev S1x256x3916 : Shape := ⟨3, ![1, 256, 3916]⟩
abbrev S1x256x4096 : Shape := ⟨3, ![1, 256, 4096]⟩
abbrev S1x256x512 : Shape := ⟨3, ![1, 256, 512]⟩
abbrev S256x512 : Shape := ⟨2, ![256, 512]⟩
abbrev S1x256x64 : Shape := ⟨3, ![1, 256, 64]⟩
abbrev S256x64 : Shape := ⟨2, ![256, 64]⟩
abbrev S256x128 : Shape := ⟨2, ![256, 128]⟩
abbrev S1x256x128 : Shape := ⟨3, ![1, 256, 128]⟩
abbrev S1x256x12 : Shape := ⟨3, ![1, 256, 12]⟩
abbrev S256x12 : Shape := ⟨2, ![256, 12]⟩
abbrev S256x116 : Shape := ⟨2, ![256, 116]⟩
abbrev S16384x4096 : Shape := ⟨2, ![16384, 4096]⟩
abbrev S1024x2048 : Shape := ⟨2, ![1024, 2048]⟩
abbrev S1x2048x2048 : Shape := ⟨3, ![1, 2048, 2048]⟩
abbrev S2048x2048 : Shape := ⟨2, ![2048, 2048]⟩
abbrev S16384x512 : Shape := ⟨2, ![16384, 512]⟩
abbrev S16384x64 : Shape := ⟨2, ![16384, 64]⟩
abbrev S16384x128 : Shape := ⟨2, ![16384, 128]⟩
abbrev S16384x12 : Shape := ⟨2, ![16384, 12]⟩
abbrev S16384x3916 : Shape := ⟨2, ![16384, 3916]⟩
abbrev S8x2048x3916 : Shape := ⟨3, ![8, 2048, 3916]⟩

abbrev nBuf : Space → Nat
  | .hbm => 27
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048, .f32⟩
  | .hbm, ⟨3, _⟩ => ⟨S2x2048x3916, .f32⟩
  | .hbm, ⟨4, _⟩ => ⟨S16384x2048, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S2x2048x4096, .bf16⟩
  | .hbm, ⟨9, _⟩ => ⟨S16384x4096, .bf16⟩
  | .hbm, ⟨10, _⟩ => ⟨S16384x512, .bf16⟩
  | .hbm, ⟨11, _⟩ => ⟨S16384x512, .bf16⟩
  | .hbm, ⟨12, _⟩ => ⟨S16384x64, .bf16⟩
  | .hbm, ⟨13, _⟩ => ⟨S16384x512, .bf16⟩
  | .hbm, ⟨14, _⟩ => ⟨S16384x128, .bf16⟩
  | .hbm, ⟨15, _⟩ => ⟨S16384x128, .bf16⟩
  | .hbm, ⟨16, _⟩ => ⟨S16384x128, .bf16⟩
  | .hbm, ⟨17, _⟩ => ⟨S16384x128, .bf16⟩
  | .hbm, ⟨18, _⟩ => ⟨S16384x128, .bf16⟩
  | .hbm, ⟨19, _⟩ => ⟨S16384x128, .bf16⟩
  | .hbm, ⟨20, _⟩ => ⟨S16384x12, .bf16⟩
  | .hbm, ⟨21, _⟩ => ⟨S16384x512, .bf16⟩
  | .hbm, ⟨22, _⟩ => ⟨S16384x512, .bf16⟩
  | .hbm, ⟨23, _⟩ => ⟨S16384x512, .bf16⟩
  | .hbm, ⟨24, _⟩ => ⟨S16384x3916, .bf16⟩
  | .hbm, ⟨25, _⟩ => ⟨S16384x3916, .f32⟩
  | .hbm, ⟨26, _⟩ => ⟨S8x2048x3916, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S1x256x3916, .f32⟩
  | .local _ .vmem, ⟨7, _⟩ => ⟨S1x256x3916, .f32⟩
  | .local _ .vmem, ⟨8, _⟩ => ⟨S1x256x4096, .bf16⟩
  | .local _ .vmem, ⟨9, _⟩ => ⟨S1x256x4096, .bf16⟩
  | .local _ .vmem, ⟨10, _⟩ => ⟨S1024x2048, .f32⟩
  | .local _ .vmem, ⟨11, _⟩ => ⟨S1024x2048, .f32⟩
  | .local _ .vmem, ⟨12, _⟩ => ⟨S1x2048x2048, .bf16⟩
  | .local _ .vmem, ⟨13, _⟩ => ⟨S1x2048x2048, .bf16⟩
  | .local _ .vmem, ⟨14, _⟩ => ⟨S1024x2048, .bf16⟩
  | .local _ .vmem, ⟨15, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x3916 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![16, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== EntryRefIdeal.lean ====
abbrev S8x2048x2048 : Shape := ⟨3, ![8, 2048, 2048]⟩
abbrev S2048 : Shape := ⟨1, ![2048]⟩
abbrev S2x2048x3916 : Shape := ⟨3, ![2, 2048, 3916]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S1x2048x3916 : Shape := ⟨3, ![1, 2048, 3916]⟩
abbrev S2048x3916 : Shape := ⟨2, ![2048, 3916]⟩
abbrev S8x2048x3916 : Shape := ⟨3, ![8, 2048, 3916]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048, .f32⟩
  | .hbm, ⟨3, _⟩ => ⟨S2x2048x3916, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S1x1x2048, .f32⟩
  | .hbm, ⟨28, _⟩ => ⟨S8x2048x2048, .f32⟩
  | .hbm, ⟨29, _⟩ => ⟨S8x2048x2048, .f32⟩
  | .hbm, ⟨30, _⟩ => ⟨S1x1x2048, .f32⟩
  | .hbm, ⟨31, _⟩ => ⟨S8x2048x2048, .f32⟩
  | .hbm, ⟨32, _⟩ => ⟨S8x2048x2048, .f32⟩
  | .hbm, ⟨33, _⟩ => ⟨S1x2048x3916, .f32⟩
  | .hbm, ⟨34, _⟩ => ⟨S2048x3916, .f32⟩
  | .hbm, ⟨35, _⟩ => ⟨S8x2048x3916, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Lift.lean ====
abbrev S8x2048x512 : Shape := ⟨3, ![8, 2048, 512]⟩
abbrev S8x2048x64 : Shape := ⟨3, ![8, 2048, 64]⟩
abbrev S512 : Shape := ⟨1, ![512]⟩
abbrev S512x1536 : Shape := ⟨2, ![512, 1536]⟩
abbrev S512x2048 : Shape := ⟨2, ![512, 2048]⟩
abbrev S_ : Shape := ⟨0, ![]⟩
abbrev S8x2048x2048 : Shape := ⟨3, ![8, 2048, 2048]⟩
abbrev S8x2048x960 : Shape := ⟨3, ![8, 2048, 960]⟩
abbrev S8x2048x4096 : Shape := ⟨3, ![8, 2048, 4096]⟩
abbrev S16384x4096 : Shape := ⟨2, ![16384, 4096]⟩
abbrev S512x8x192 : Shape := ⟨3, ![512, 8, 192]⟩
abbrev S512x8x256 : Shape := ⟨3, ![512, 8, 256]⟩
abbrev S512x8x2x128 : Shape := ⟨4, ![512, 8, 2, 128]⟩
abbrev S512x2x8x128 : Shape := ⟨4, ![512, 2, 8, 128]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S2048x96 : Shape := ⟨2, ![2048, 96]⟩
abbrev S1x512 : Shape := ⟨2, ![1, 512]⟩
abbrev S8x8x2048x256 : Shape := ⟨4, ![8, 8, 2048, 256]⟩
abbrev S512x512 : Shape := ⟨2, ![512, 512]⟩
abbrev S512x128 : Shape := ⟨2, ![512, 128]⟩
abbrev S1x8x512x256 : Shape := ⟨4, ![1, 8, 512, 256]⟩
abbrev S512x1 : Shape := ⟨2, ![512, 1]⟩
abbrev S1x1x512x128 : Shape := ⟨4, ![1, 1, 512, 128]⟩
abbrev S8x8x2048x192 : Shape := ⟨4, ![8, 8, 2048, 192]⟩
abbrev S8x2048x8x192 : Shape := ⟨4, ![8, 2048, 8, 192]⟩
abbrev S8x8x2048x128 : Shape := ⟨4, ![8, 8, 2048, 128]⟩
abbrev S8x2048x8x128 : Shape := ⟨4, ![8, 2048, 8, 128]⟩

abbrev nBuf : Space → Nat
  | .hbm => 75
  | .vmem => 22
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x64, .f32⟩
  | .hbm, ⟨3, _⟩ => ⟨S512, .f32⟩
  | .hbm, ⟨4, _⟩ => ⟨S512, .f32⟩
  | .hbm, ⟨5, _⟩ => ⟨S512x1536, .f32⟩
  | .hbm, ⟨6, _⟩ => ⟨S512x2048, .f32⟩
  | .hbm, ⟨7, _⟩ => ⟨S_, .f32⟩
  | .hbm, ⟨8, _⟩ => ⟨S8x2048x2048, .f32⟩
  | .hbm, ⟨9, _⟩ => ⟨S_, .f32⟩
  | .hbm, ⟨10, _⟩ => ⟨S8x2048x960, .f32⟩
  | .hbm, ⟨11, _⟩ => ⟨S8x2048x4096, .f32⟩
  | .hbm, ⟨12, _⟩ => ⟨S16384x4096, .f32⟩
  | .hbm, ⟨13, _⟩ => ⟨S16384x4096, .bf16⟩
  | .hbm, ⟨14, _⟩ => ⟨S512x8x192, .f32⟩
  | .hbm, ⟨15, _⟩ => ⟨S_, .i32⟩
  | .hbm, ⟨16, _⟩ => ⟨S_, .f32⟩
  | .hbm, ⟨17, _⟩ => ⟨S512x8x256, .f32⟩
  | .hbm, ⟨18, _⟩ => ⟨S512x2048, .f32⟩
  | .hbm, ⟨19, _⟩ => ⟨S512x2048, .bf16⟩
  | .hbm, ⟨20, _⟩ => ⟨S512x8x2x128, .f32⟩
  | .hbm, ⟨21, _⟩ => ⟨S512x2x8x128, .f32⟩
  | .hbm, ⟨22, _⟩ => ⟨S512x2048, .f32⟩
  | .hbm, ⟨23, _⟩ => ⟨S512x2048, .bf16⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S2048, .f32⟩
  | .hbm, ⟨39, _⟩ => ⟨S2048x1, .f32⟩
  | .hbm, ⟨40, _⟩ => ⟨S1x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S_, .f32⟩
  | .hbm, ⟨47, _⟩ => ⟨S2048x64, .f32⟩
  | .hbm, ⟨48, _⟩ => ⟨S2048x128, .f32⟩
  | .hbm, ⟨49, _⟩ => ⟨S2048x32, .f32⟩
  | .hbm, ⟨50, _⟩ => ⟨S_, .f32⟩
  | .hbm, ⟨51, _⟩ => ⟨S2048x96, .f32⟩
  | .hbm, ⟨52, _⟩ => ⟨S2048x128, .f32⟩
  | .hbm, ⟨53, _⟩ => ⟨S_, .f32⟩
  | .hbm, ⟨54, _⟩ => ⟨S2048x32, .f32⟩
  | .hbm, ⟨55, _⟩ => ⟨S_, .f32⟩
  | .hbm, ⟨56, _⟩ => ⟨S2048x64, .f32⟩
  | .hbm, ⟨57, _⟩ => ⟨S2048x128, .f32⟩
  | .hbm, ⟨58, _⟩ => ⟨S1x512, .f32⟩
  | .hbm, ⟨59, _⟩ => ⟨S1x512, .f32⟩
  | .hbm, ⟨60, _⟩ => ⟨S8x8x2048x256, .bf16⟩
  | .hbm, ⟨61, _⟩ => ⟨S8x8x2048x256, .bf16⟩
  | .hbm, ⟨62, _⟩ => ⟨S8x8x2048x256, .bf16⟩
  | .hbm, ⟨63, _⟩ => ⟨S8x8x2048x192, .bf16⟩
  | .hbm, ⟨64, _⟩ => ⟨S8x8x2048x192, .f32⟩
  | .hbm, ⟨65, _⟩ => ⟨S8x2048x8x192, .f32⟩
  | .hbm, ⟨66, _⟩ => ⟨S_, .f32⟩
  | .hbm, ⟨67, _⟩ => ⟨S8x2048x8x192, .f32⟩
  | .hbm, ⟨68, _⟩ => ⟨S8x2048x8x192, .f32⟩
  | .hbm, ⟨69, _⟩ => ⟨S8x8x2048x192, .bf16⟩
  | .hbm, ⟨70, _⟩ => ⟨S8x8x2048x192, .f32⟩
  | .hbm, ⟨71, _⟩ => ⟨S8x2048x8x192, .f32⟩
  | .hbm, ⟨72, _⟩ => ⟨S8x8x2048x128, .bf16⟩
  | .hbm, ⟨73, _⟩ => ⟨S8x8x2048x128, .f32⟩
  | .hbm, ⟨74, _⟩ => ⟨S8x2048x8x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S1x512, .f32⟩
  | .local _ .vmem, ⟨7, _⟩ => ⟨S1x512, .f32⟩
  | .local _ .vmem, ⟨8, _⟩ => ⟨S512x2048, .bf16⟩
  | .local _ .vmem, ⟨9, _⟩ => ⟨S512x2048, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x8x512x256, .bf16⟩
  | .local _ .vmem, ⟨17, _⟩ => ⟨S1x8x512x256, .bf16⟩
  | .local _ .vmem, ⟨18, _⟩ => ⟨S1x8x512x256, .bf16⟩
  | .local _ .vmem, ⟨19, _⟩ => ⟨S1x8x512x256, .bf16⟩
  | .local _ .vmem, ⟨20, _⟩ => ⟨S1x8x512x256, .bf16⟩
  | .local _ .vmem, ⟨21, _⟩ => ⟨S1x8x512x256, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v41_2 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c24_i32 : BitVec 32 := 24#32
  let c0_i32 : BitVec 32 := 0#32
  ![v1.toNat, c24_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x8x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== LiftRefIdeal.lean ====
abbrev S8x2048x512 : Shape := ⟨3, ![8, 2048, 512]⟩
abbrev S8x2048x64 : Shape := ⟨3, ![8, 2048, 64]⟩
abbrev S512 : Shape := ⟨1, ![512]⟩
abbrev S512x1536 : Shape := ⟨2, ![512, 1536]⟩
abbrev S512x2048 : Shape := ⟨2, ![512, 2048]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S8x2048 : Shape := ⟨2, ![8, 2048]⟩
abbrev S8x2048x1 : Shape := ⟨3, ![8, 2048, 1]⟩
abbrev S1x1x512 : Shape := ⟨3, ![1, 1, 512]⟩
abbrev S8x2048x1536 : Shape := ⟨3, ![8, 2048, 1536]⟩
abbrev S8x2048x8x192 : Shape := ⟨4, ![8, 2048, 8, 192]⟩
abbrev S8x2048x8x128 : Shape := ⟨4, ![8, 2048, 8, 128]⟩
abbrev S8x2048x8x64 : Shape := ⟨4, ![8, 2048, 8, 64]⟩
abbrev S1x2048x1x32 : Shape := ⟨4, ![1, 2048, 1, 32]⟩
abbrev S8x2048x8x32 : Shape := ⟨4, ![8, 2048, 8, 32]⟩
abbrev S8x2048x2048 : Shape := ⟨3, ![8, 2048, 2048]⟩
abbrev S8x2048x8x256 : Shape := ⟨4, ![8, 2048, 8, 256]⟩
abbrev S8x2048x1x64 : Shape := ⟨4, ![8, 2048, 1, 64]⟩
abbrev S8x2048x1x32 : Shape := ⟨4, ![8, 2048, 1, 32]⟩

abbrev nBuf : Space → Nat
  | .hbm => 103
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x64, .f32⟩
  | .hbm, ⟨3, _⟩ => ⟨S512, .f32⟩
  | .hbm, ⟨4, _⟩ => ⟨S512, .f32⟩
  | .hbm, ⟨5, _⟩ => ⟨S512x1536, .f32⟩
  | .hbm, ⟨6, _⟩ => ⟨S512x2048, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2048, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S8x2048x512, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x512, .f32⟩
  | .hbm, ⟨41, _⟩ => ⟨S8x2048x512, .f32⟩
  | .hbm, ⟨42, _⟩ => ⟨S1x1x512, .f32⟩
  | .hbm, ⟨43, _⟩ => ⟨S8x2048x512, .f32⟩
  | .hbm, ⟨44, _⟩ => ⟨S8x2048x512, .f32⟩
  | .hbm, ⟨45, _⟩ => ⟨S8x2048x1536, .f32⟩
  | .hbm, ⟨46, _⟩ => ⟨S8x2048x8x192, .f32⟩
  | .hbm, ⟨47, _⟩ => ⟨S8x2048x8x128, .f32⟩
  | .hbm, ⟨48, _⟩ => ⟨S8x2048x8x64, .f32⟩
  | .hbm, ⟨49, _⟩ => ⟨S1x2048x1x32, .f32⟩
  | .hbm, ⟨50, _⟩ => ⟨S1x2048x1x32, .f32⟩
  | .hbm, ⟨51, _⟩ => ⟨S8x2048x8x32, .f32⟩
  | .hbm, ⟨52, _⟩ => ⟨S8x2048x8x32, .f32⟩
  | .hbm, ⟨53, _⟩ => ⟨S8x2048x8x32, .f32⟩
  | .hbm, ⟨54, _⟩ => ⟨S8x2048x8x32, .f32⟩
  | .hbm, ⟨55, _⟩ => ⟨S8x2048x8x32, .f32⟩
  | .hbm, ⟨56, _⟩ => ⟨S8x2048x8x32, .f32⟩
  | .hbm, ⟨57, _⟩ => ⟨S8x2048x8x32, .f32⟩
  | .hbm, ⟨58, _⟩ => ⟨S8x2048x8x32, .f32⟩
  | .hbm, ⟨59, _⟩ => ⟨S8x2048x8x32, .f32⟩
  | .hbm, ⟨60, _⟩ => ⟨S8x2048x8x32, .f32⟩
  | .hbm, ⟨61, _⟩ => ⟨S8x2048x8x32, .f32⟩
  | .hbm, ⟨62, _⟩ => ⟨S8x2048x8x32, .f32⟩
  | .hbm, ⟨63, _⟩ => ⟨S8x2048x8x64, .f32⟩
  | .hbm, ⟨64, _⟩ => ⟨S8x2048x8x192, .f32⟩
  | .hbm, ⟨65, _⟩ => ⟨S8x2048x512, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x1, .f32⟩
  | .hbm, ⟨76, _⟩ => ⟨S8x2048x512, .f32⟩
  | .hbm, ⟨77, _⟩ => ⟨S8x2048x512, .f32⟩
  | .hbm, ⟨78, _⟩ => ⟨S1x1x512, .f32⟩
  | .hbm, ⟨79, _⟩ => ⟨S8x2048x512, .f32⟩
  | .hbm, ⟨80, _⟩ => ⟨S8x2048x512, .f32⟩
  | .hbm, ⟨81, _⟩ => ⟨S8x2048x2048, .f32⟩
  | .hbm, ⟨82, _⟩ => ⟨S8x2048x8x256, .f32⟩
  | .hbm, ⟨83, _⟩ => ⟨S8x2048x1x64, .f32⟩
  | .hbm, ⟨84, _⟩ => ⟨S1x2048x1x32, .f32⟩
  | .hbm, ⟨85, _⟩ => ⟨S1x2048x1x32, .f32⟩
  | .hbm, ⟨86, _⟩ => ⟨S8x2048x1x32, .f32⟩
  | .hbm, ⟨87, _⟩ => ⟨S8x2048x1x32, .f32⟩
  | .hbm, ⟨88, _⟩ => ⟨S8x2048x1x32, .f32⟩
  | .hbm, ⟨89, _⟩ => ⟨S8x2048x1x32, .f32⟩
  | .hbm, ⟨90, _⟩ => ⟨S8x2048x1x32, .f32⟩
  | .hbm, ⟨91, _⟩ => ⟨S8x2048x1x32, .f32⟩
  | .hbm, ⟨92, _⟩ => ⟨S8x2048x1x32, .f32⟩
  | .hbm, ⟨93, _⟩ => ⟨S8x2048x1x32, .f32⟩
  | .hbm, ⟨94, _⟩ => ⟨S8x2048x1x32, .f32⟩
  | .hbm, ⟨95, _⟩ => ⟨S8x2048x1x32, .f32⟩
  | .hbm, ⟨96, _⟩ => ⟨S8x2048x1x32, .f32⟩
  | .hbm, ⟨97, _⟩ => ⟨S8x2048x1x32, .f32⟩
  | .hbm, ⟨98, _⟩ => ⟨S8x2048x1x64, .f32⟩
  | .hbm, ⟨99, _⟩ => ⟨S8x2048x8x128, .f32⟩
  | .hbm, ⟨100, _⟩ => ⟨S8x2048x8x64, .f32⟩
  | .hbm, ⟨101, _⟩ => ⟨S8x2048x8x192, .f32⟩
  | .hbm, ⟨102, _⟩ => ⟨S8x2048x8x128, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== Proof.FlashMath.lean ====
/-
  The mathematics of an attention row, free of any program: a softmax accumulated block of keys by block of keys is
  the softmax of the whole row. Scores are extended reals (a masked key scores ⊥), values any extended reals.
-/
module

public import Idealize.ShloMosaic.Lib.Pointwise

@[expose] public section

set_option maxRecDepth 16384

noncomputable section

open Idealize.ShloMosaic

namespace Cert.Attn

theorem blk_inj (a n : ℕ) : Function.Injective fun j : Fin n => a + j.val := fun _ _ h => Fin.ext (Nat.add_left_cancel h)

theorem coe_sum {ι : Type*} (A : Finset ι) (w : ι → ℝ) : ∑ j ∈ A, (w j : EReal) = ((∑ j ∈ A, w j : ℝ) : EReal) := by
  classical
  induction A using Finset.induction_on with
  | empty => simp
  | insert a s ha ih => rw [Finset.sum_insert ha, Finset.sum_insert ha, ih, EReal.coe_add]

/-- The keys `a, a + 1, …, a + n - 1`. -/
def blk (a n : ℕ) : Finset ℕ := (Finset.univ : Finset (Fin n)).map ⟨fun j => a + j.val, blk_inj a n⟩

theorem mem_blk {a n j : ℕ} : j ∈ blk a n ↔ a ≤ j ∧ j < a + n := by
  simp only [blk, Finset.mem_map, Finset.mem_univ, true_and, Function.Embedding.coeFn_mk]
  constructor
  · rintro ⟨i, h⟩; have := i.isLt; have h : a + i.val = j := h; omega
  · rintro ⟨h1, h2⟩; exact ⟨⟨j - a, by omega⟩, show a + (j - a) = j by omega⟩

theorem sum_blk {M : Type*} [AddCommMonoid M] (a n : ℕ) (f : ℕ → M) : ∑ j ∈ blk a n, f j = ∑ j : Fin n, f (a + j.val) := by
  rw [blk, Finset.sum_map]; rfl

theorem sup_blk (a n : ℕ) (S : ℕ → EReal) : (blk a n).sup S = Finset.univ.fold max ⊥ fun j : Fin n => S (a + j.val) := by
  rw [blk, Finset.sup_map]; rfl

/-- A row's state after the keys `A`: the greatest score, and the values' sum weighted by the scores' exponentials
    relative to it. -/
structure Flash (S V : ℕ → EReal) (A : Finset ℕ) (m a : EReal) : Prop where
  top : m = A.sup S
  acc : a = ∑ j ∈ A, Ideal.exp (S j - m) * V j

/-- The keys `A` hold a score that is a real, and no score is ⊤. -/
structure Sound (S : ℕ → EReal) (A : Finset ℕ) : Prop where
  some : ∃ j ∈ A, ∃ r : ℝ, S j = r
  notop : ∀ j, S j ≠ ⊤

theorem Sound.mono {S : ℕ → EReal} {A B : Finset ℕ} (h : Sound S A) (hAB : A ⊆ B) : Sound S B :=
  ⟨let ⟨j, hj, r, e⟩ := h.some; ⟨j, hAB hj, r, e⟩, h.notop⟩

theorem Sound.sup_real {S : ℕ → EReal} {A : Finset ℕ} (h : Sound S A) : ∃ r : ℝ, A.sup S = r := by
  obtain ⟨j, hj, r, e⟩ := h.some
  have h1 : A.sup S ≠ ⊤ := ne_of_lt ((Finset.sup_lt_iff (bot_lt_top)).2 fun b _ => lt_top_iff_ne_top.2 (h.notop b))
  have h2 : A.sup S ≠ ⊥ := by
    intro hb
    have : S j ≤ A.sup S := Finset.le_sup hj
    rw [hb, e] at this
    exact EReal.coe_ne_bot r (le_bot_iff.1 this)
  exact ⟨(A.sup S).toReal, (EReal.coe_toReal h1 h2).symm⟩

theorem exp_nonneg (x : EReal) : 0 ≤ Ideal.exp x := by
  induction x with
  | bot => simp
  | top => simp
  | coe r => simpa using (Real.exp_pos r).le

theorem mul_sum {ι : Type*} (c : EReal) (h0 : 0 ≤ c) (h1 : c ≠ ⊤) (A : Finset ι) (f : ι → EReal) :
    c * ∑ j ∈ A, f j = ∑ j ∈ A, c * f j := by
  classical
  induction A using Finset.induction_on with
  | empty => simp
  | insert a s ha ih => rw [Finset.sum_insert ha, Finset.sum_insert ha, EReal.left_distrib_of_nonneg_of_ne_top h0 h1, ih]

theorem exp_shift (m m' : ℝ) (s : EReal) (hs : s ≠ ⊤) :
    Ideal.exp ((m : EReal) - m') * Ideal.exp (s - m) = Ideal.exp (s - m') := by
  induction s with
  | bot => simp [EReal.bot_sub]
  | top => exact absurd rfl hs
  | coe r =>
    rw [← EReal.coe_sub, ← EReal.coe_sub, ← EReal.coe_sub, Ideal.exp_coe, Ideal.exp_coe, Ideal.exp_coe, ← EReal.coe_mul,
      ← Real.exp_add]
    congr 2; ring

/-- The first block of keys. -/
theorem Flash.first (S V : ℕ → EReal) (A : Finset ℕ) (m : EReal) (hm : m = A.sup S) :
    Flash S V A m (∑ j ∈ A, Ideal.exp (S j - m) * V j) := ⟨hm, rfl⟩

/-- One more block of keys: the greatest score is updated, the sum so far rescaled to it, the block's share added. -/
theorem Flash.step {S V : ℕ → EReal} {A B : Finset ℕ} {m a : EReal} (h : Flash S V A m a) (hs : Sound S A)
    (hd : Disjoint A B) (m' : EReal) (hm : m' = max m (B.sup S)) :
    Flash S V (A ∪ B) m' (Ideal.exp (m - m') * a + ∑ j ∈ B, Ideal.exp (S j - m') * V j) := by
  have e : m' = (A ∪ B).sup S := by rw [hm, h.top, Finset.sup_union]
  refine ⟨e, ?_⟩
  obtain ⟨r, hr⟩ := hs.sup_real
  obtain ⟨r', hr'⟩ := (hs.mono (B := A ∪ B) Finset.subset_union_left).sup_real
  rw [Finset.sum_union hd]
  congr 1
  have hmr : m = r := h.top.trans hr
  have hmr' : m' = r' := e.trans hr'
  rw [h.acc, hmr, hmr', mul_sum _ (exp_nonneg _) (by rw [← EReal.coe_sub, Ideal.exp_coe]; exact EReal.coe_ne_top _)]
  refine Finset.sum_congr rfl fun j _ => ?_
  rw [← mul_assoc, exp_shift _ _ _ (hs.notop j)]

/-- The weights' sum is a real that is at least one. -/
theorem weights_real {S : ℕ → EReal} {A : Finset ℕ} (hs : Sound S A) :
    ∃ L : ℝ, 1 ≤ L ∧ ∑ j ∈ A, Ideal.exp (S j - A.sup S) = L := by
  obtain ⟨r, hr⟩ := hs.sup_real
  have hne : A.Nonempty := let ⟨j, hj, _⟩ := hs.some; ⟨j, hj⟩
  obtain ⟨j0, hj0, e0⟩ := Finset.exists_mem_eq_sup A hne S
  have hreal : ∀ j, ∃ w : ℝ, Ideal.exp (S j - A.sup S) = w := by
    intro j
    have := hs.notop j
    rw [hr]
    generalize S j = s at this
    induction s with
    | bot => exact ⟨0, by simp [EReal.bot_sub]⟩
    | top => exact absurd rfl this
    | coe x => exact ⟨Real.exp (x - r), by rw [← EReal.coe_sub, Ideal.exp_coe]⟩
  choose w hw using hreal
  have hwn : ∀ j, 0 ≤ w j := fun j => by have := exp_nonneg (S j - A.sup S); rw [hw] at this; exact_mod_cast this
  refine ⟨∑ j ∈ A, w j, ?_, ?_⟩
  · have h1 : w j0 = 1 := by
      have := hw j0
      rw [← e0, hr, ← EReal.coe_sub, sub_self, Ideal.exp_coe, Real.exp_zero] at this
      exact_mod_cast this.symm
    calc (1 : ℝ) = w j0 := h1.symm
      _ ≤ _ := Finset.single_le_sum (fun j _ => hwn j) hj0
  · rw [Finset.sum_congr rfl fun j _ => hw j, coe_sum]

/-- The row's softmax, divided at the end, is the textbook's: each weight divided by the weights' sum (kept away from
    zero by `eps`), then summed with the values. The keys outside `A` are masked. -/
theorem Flash.softmax {S V : ℕ → EReal} {A : Finset ℕ} {m a l : EReal} (N : ℕ) (eps : EReal) (heps : eps ≤ 1)
    (h : Flash S V A m a) (hl : Flash S (fun _ => 1) A m l) (hs : Sound S A) (hA : ∀ j ∈ A, j < N)
    (hout : ∀ j < N, j ∉ A → S j = ⊥) :
    Ideal.div a l = ∑ k : Fin N, Ideal.div (Ideal.exp (S k.val - m)) (max (∑ k : Fin N, Ideal.exp (S k.val - m)) eps) * V k.val := by
  obtain ⟨L, hL, eL⟩ := weights_real hs
  have hm := h.top
  have hsum : ∀ f : ℕ → EReal, (∀ j < N, j ∉ A → f j = 0) → ∑ k : Fin N, f k.val = ∑ j ∈ A, f j := by
    intro f hf
    rw [Fin.sum_univ_eq_sum_range (fun k => f k) N]
    exact (Finset.sum_subset (fun j hj => Finset.mem_range.2 (hA j hj)) fun j hj hn => hf j (Finset.mem_range.1 hj) hn).symm
  obtain ⟨r, hr⟩ := hs.sup_real
  have hz : ∀ j < N, j ∉ A → Ideal.exp (S j - m) = 0 := by
    intro j hj hn; rw [hout j hj hn, hm, hr]; simp [EReal.bot_sub]
  rw [hsum (fun k => Ideal.exp (S k - m)) hz, hm, eL, max_eq_left (heps.trans (by exact_mod_cast hL))]
  have hL0 : L ≠ 0 := by linarith
  rw [hsum (fun k => Ideal.div (Ideal.exp (S k - A.sup S)) L * V k) (fun j hj hn => by
    rw [← hm, hz j hj hn, Ideal.div_coe hL0]; simp)]
  have el : l = L := by rw [hl.acc, hm, ← eL]; simp only [mul_one]
  rw [el, Ideal.div_coe hL0, h.acc, hm, mul_comm, mul_sum _ (by positivity) (EReal.coe_ne_top _)]
  refine Finset.sum_congr rfl fun j _ => ?_
  rw [Ideal.div_coe hL0, ← mul_assoc, mul_comm (((1 / L : ℝ)) : EReal)]

end Cert.Attn

end
-- ==== Proof.Rows.lean ====
/-
  The attention's inner step read at one row and one column: the key block's matmul, the running greatest score and the
  rescaled accumulator are one step of the blockwise softmax of FlashMath.
-/
module

public import proofs.«01_k».proof.Proof.Gen.KernelIdeal.Value
public import Idealize.ShloMosaic.Lib.Pointwise
public import proofs.«01_k».proof.Proof.FlashMath

@[expose] public section

set_option maxRecDepth 16384

noncomputable section

open Idealize.ShloMosaic Idealize.ShloMosaic.TcCoe

namespace Cert.KernelIdeal.Hand

open Cert.KernelIdeal Cert.KernelIdeal.Gen Cert.Attn

/-- The pattern the row maximum starts from is −∞. -/
theorem negInf : Ideal.ofBits FTy.f32 4286578688#32 = ⊥ := by simp [Ideal.ofBits, Ideal.ieee]

/-- One block of 512 keys is one step of the blockwise softmax, the greatest score and the accumulator together. -/
theorem block_step {S V : ℕ → EReal} {A : Finset ℕ} {a0 : ℕ} (q : Vec Ideal S1x1x256x256 .bf16)
    (kk vv : Vec Ideal S1x1x512x256 .bf16) (m : Vec Ideal S256x1 .f32) (a : Vec Ideal S1x256x256 .f32) (r d : Fin 256)
    (hk : ∀ j : Fin 512, ∑ e : Fin 256, q (ix4 0 0 r e) * kk (ix4 0 0 j e) = S (a0 + j.val))
    (hv : ∀ j : Fin 512, vv (ix4 0 0 j d) = V (a0 + j.val))
    (hS : Sound S A) (hd : Disjoint A (blk a0 512)) (h : Flash S V A (m (ix2 r 0)) (a (ix3 0 r d))) :
    Flash S V (A ∪ blk a0 512) (k0_pay7 m q kk (ix2 r 0))
      (k0_pay10 (k0_pay5 a) (k0_pay6 vv) (k0_pay8 m q kk) (k0_pay9 m q kk) (ix3 0 r d)) := by
  have e7 : k0_pay7 m q kk (ix2 r 0) = max (m (ix2 r 0)) ((blk a0 512).sup S) := by
    pointwise [k0_pay7, k0_pay3]
    rw [sup_blk, negInf]; simp only [hk]
  have e10 : k0_pay10 (k0_pay5 a) (k0_pay6 vv) (k0_pay8 m q kk) (k0_pay9 m q kk) (ix3 0 r d)
      = Ideal.exp (m (ix2 r 0) - k0_pay7 m q kk (ix2 r 0)) * a (ix3 0 r d)
        + ∑ j ∈ blk a0 512, Ideal.exp (S j - k0_pay7 m q kk (ix2 r 0)) * V j := by
    rw [e7]
    pointwise [k0_pay10, k0_pay5, k0_pay6, k0_pay8, k0_pay9, k0_pay7, k0_pay3]
    rw [sup_blk, sum_blk, negInf]; simp only [hk, hv]
  rw [e10]
  exact h.step hS hd _ e7

/-- The masked score the kernel names is −∞. -/
theorem mask_bot : Named.named (F := Ideal) κ "mask" (φ := .f32) 4048155338#32 = (⊥ : EReal) := rfl

/-- The causal comparison of two small numbers, as a selection. -/
theorem select_le {a b : ℕ} (ha : a < 1024) (hb : b < 1024) (x y : EReal) :
    Scalar.select (IntOp.cmpi CmpIPredicate.sle (BitVec.ofNat 32 a) (BitVec.ofNat 32 b)) x y = if a ≤ b then x else y := by
  have e := WordCmp.cmpi_sle_ofNat_eq_one_iff (w := 32) (a := a) (b := b) (by omega) (by omega)
  by_cases h : a ≤ b
  · rw [if_pos h]; unfold Scalar.select; exact if_pos (e.2 h)
  · rw [if_neg h]; unfold Scalar.select; exact if_neg fun h1 => h (e.1 h1)

/-- The diagonal block of a lower half (256 keys): the first step of the row. -/
theorem diag_low {S V : ℕ → EReal} {a0 : ℕ} (q kk vv : Vec Ideal S1x1x256x256 .bf16) (r d : Fin 256)
    (hk : ∀ j : Fin 256, (if j.val ≤ r.val then ∑ e : Fin 256, q (ix4 0 0 r e) * kk (ix4 0 0 j e) else ⊥) = S (a0 + j.val))
    (hv : ∀ j : Fin 256, vv (ix4 0 0 j d) = V (a0 + j.val)) :
    Flash S V (blk a0 256) (k0_pay69 q kk (ix2 r 0)) (k0_pay70 (k0_pay66 q kk) (k0_pay68 vv) (k0_pay69 q kk) (ix3 0 r d)) := by
  have e7 : k0_pay69 q kk (ix2 r 0) = (blk a0 256).sup S := by
    pointwise [k0_pay69, k0_pay66, k0_pay65]
    rw [sup_blk, negInf, mask_bot]; simp only [Nat.zero_add, select_le (Nat.lt_trans (Fin.isLt _) (by decide : 256 < 1024)) (Nat.lt_trans (Fin.isLt r) (by decide : 256 < 1024)), hk]
  have e10 : k0_pay70 (k0_pay66 q kk) (k0_pay68 vv) (k0_pay69 q kk) (ix3 0 r d)
      = ∑ j ∈ blk a0 256, Ideal.exp (S j - k0_pay69 q kk (ix2 r 0)) * V j := by
    rw [e7]
    pointwise [k0_pay70, k0_pay68, k0_pay69, k0_pay66, k0_pay65]
    rw [sup_blk, sum_blk, negInf, mask_bot]; simp only [select_le (Nat.lt_trans (Fin.isLt _) (by decide : 256 < 1024)) (Nat.lt_trans (Fin.isLt r) (by decide : 256 < 1024)), hk, hv]
  rw [e10]
  exact Flash.first S V _ _ e7

/-- The diagonal block of an upper half (512 keys): the first step of the row. -/
theorem diag_high {S V : ℕ → EReal} {a0 : ℕ} (q : Vec Ideal S1x1x256x256 .bf16) (kk vv : Vec Ideal S1x1x512x256 .bf16) (r d : Fin 256)
    (hk : ∀ j : Fin 512, (if j.val ≤ 256 + r.val then ∑ e : Fin 256, q (ix4 0 0 r e) * kk (ix4 0 0 j e) else ⊥) = S (a0 + j.val))
    (hv : ∀ j : Fin 512, vv (ix4 0 0 j d) = V (a0 + j.val)) :
    Flash S V (blk a0 512) (k0_pay72 (k0_pay67 q kk) (ix2 r 0)) (k0_pay73 (k0_pay67 q kk) vv (ix3 0 r d)) := by
  have hr : 256 + r.val < 1024 := by have := r.isLt; omega
  have e7 : k0_pay72 (k0_pay67 q kk) (ix2 r 0) = (blk a0 512).sup S := by
    pointwise [k0_pay72, k0_pay67, k0_pay65]
    rw [sup_blk, negInf, mask_bot]; simp only [select_le (Nat.lt_trans (Fin.isLt _) (by decide : 512 < 1024)) hr, hk]
  have e10 : k0_pay73 (k0_pay67 q kk) vv (ix3 0 r d)
      = ∑ j ∈ blk a0 512, Ideal.exp (S j - k0_pay72 (k0_pay67 q kk) (ix2 r 0)) * V j := by
    rw [e7]
    pointwise [k0_pay73, k0_pay72, k0_pay67, k0_pay65]
    rw [sup_blk, sum_blk, negInf, mask_bot]; simp only [select_le (Nat.lt_trans (Fin.isLt _) (by decide : 512 < 1024)) hr, hk, hv]
  rw [e10]
  exact Flash.first S V _ _ e7

/-- The quotient the kernel stores, at a row and a column: the accumulator's column over the column of ones' sum. -/
theorem quot_at (a : Vec Ideal S1x256x256 .f32) (r : Fin 256) (d : Fin 128) :
    k0_pay1 a (ix3 0 r d) = Ideal.div (a (ix3 0 r ⟨d.val, by omega⟩)) (a (ix3 0 r ⟨128 + d.val, by omega⟩)) := by
  pointwise [k0_pay1]

end Cert.KernelIdeal.Hand
-- ==== Proof.Loop.lean ====
/-
  One trip of the key loop, all eight chains (four heads, two halves of the query block) at once: the pieces it writes into
  the accumulator and the eight greatest scores it carries, as one function of the chain; and the loop's invariant.
-/
module

public import proofs.«01_k».proof.Proof.Rows

@[expose] public section

set_option maxRecDepth 16384

noncomputable section

open Idealize.ShloMosaic Idealize.ShloMosaic.TcCoe

namespace Cert.KernelIdeal.Hand

open Cert.KernelIdeal Cert.KernelIdeal.Gen Cert.Attn

/-- Chain `c`'s rows of the accumulator. -/
def accBox (c : Fin 8) : Rect S8x256x256 :=
  Rect.unit ![c.val, 0, 0] S1x256x256.size (by
    intro a; have := c.isLt
    match a with
    | 0 => show c.val + 1 ≤ 8; omega
    | 1 => show 0 + 256 ≤ 256; omega
    | 2 => show 0 + 256 ≤ 256; omega)

/-- Chain `c`'s queries: head `c / 2`, half `c % 2` of the block. -/
def qBox (c : Fin 8) : Rect S1x4x512x256 :=
  Rect.unit ![0, c.val / 2, 256 * (c.val % 2), 0] S1x1x256x256.size (by
    intro a; have := c.isLt
    match a with
    | 0 => show 0 + 1 ≤ 1; omega
    | 1 => show c.val / 2 + 1 ≤ 4; omega
    | 2 => show 256 * (c.val % 2) + 256 ≤ 512; omega
    | 3 => show 0 + 256 ≤ 256; omega)

variable (i : grid0.Coords)

/-- Where trip `k` finds chain `c`'s keys. -/
def kOff (k : Fin (k0_t1_loop i).trips) (c : Fin 8) : Fin 4 → ℕ :=
  ![k0_off9 i k, k0_off9 i k, k0_off10 i k, k0_off10 i k, k0_off11 i k, k0_off11 i k, k0_off12 i k, k0_off12 i k] c

theorem kOff_eq (k : Fin (k0_t1_loop i).trips) (c : Fin 8) : kOff i k c = ![0, c.val / 2, 512 * k.val, 0] := by
  fin_cases c
  · exact k0_off9_eq i k
  · exact k0_off9_eq i k
  · exact k0_off10_eq i k
  · exact k0_off10_eq i k
  · exact k0_off11_eq i k
  · exact k0_off11_eq i k
  · exact k0_off12_eq i k
  · exact k0_off12_eq i k

theorem kOff_inb (k : Fin (k0_t1_loop i).trips) (c : Fin 8) :
    ∀ a, kOff i k c a + S1x1x512x256.size a ≤ S1x4x2048x256.size a := by
  fin_cases c
  · exact k0_off9_inb i k
  · exact k0_off9_inb i k
  · exact k0_off10_inb i k
  · exact k0_off10_inb i k
  · exact k0_off11_inb i k
  · exact k0_off11_inb i k
  · exact k0_off12_inb i k
  · exact k0_off12_inb i k

/-- Chain `c`'s keys (and values) at trip `k`. -/
def kBox (k : Fin (k0_t1_loop i).trips) (c : Fin 8) : Rect S1x4x2048x256 :=
  Rect.unit (kOff i k c) S1x1x512x256.size (kOff_inb i k c)

/-- The eight chains' stores into the accumulator, newest first. -/
def pieces (w : Fin 8 → Vec Ideal S1x256x256 .f32) : List (View.Piece (Elt Ideal) S8x256x256 .f32) :=
  [⟨accBox 7, w 7⟩, ⟨accBox 6, w 6⟩, ⟨accBox 5, w 5⟩, ⟨accBox 4, w 4⟩, ⟨accBox 3, w 3⟩, ⟨accBox 2, w 2⟩, ⟨accBox 1, w 1⟩, ⟨accBox 0, w 0⟩]

/-- The eight carried vectors as a function of the chain. -/
def chains (t : FVec Ideal S256x1 .f32 × FVec Ideal S256x1 .f32 × FVec Ideal S256x1 .f32 × FVec Ideal S256x1 .f32 × FVec Ideal S256x1 .f32 × FVec Ideal S256x1 .f32 × FVec Ideal S256x1 .f32 × FVec Ideal S256x1 .f32)
    (c : Fin 8) : Vec Ideal S256x1 .f32 :=
  ![t.1, t.2.1, t.2.2.1, t.2.2.2.1, t.2.2.2.2.1, t.2.2.2.2.2.1, t.2.2.2.2.2.2.1, t.2.2.2.2.2.2.2] c

/-- A read of the accumulator after the eight stores is the chain's payload. -/
theorem read_pieces {κ : Kind} {sp : Space} (v : View sig κ sp S8x256x256 .f32) (f : v.ty.Contents (Elt Ideal))
    (w : Fin 8 → Vec Ideal S1x256x256 .f32) (c : Fin 8) (r d : Fin 256) :
    v.read (Elt Ideal) (v.writes (Elt Ideal) f (pieces w)) (ix3 c r d) = w c (ix3 0 r d) := by
  have hemb : ∀ (c' : Fin 8) (x : S1x256x256.Idx), ((accBox c').emb x : S8x256x256.Idx) = ix3 c' (x 1) (x 2) := by
    intro c' x
    funext a
    apply Fin.ext
    have h0 : (x 0).val < 1 := (x 0).isLt
    match a with
    | 0 => show c'.val + 1 * (x 0).val = c'.val; omega
    | 1 => show 0 + 1 * (x 1).val = (x 1).val; omega
    | 2 => show 0 + 1 * (x 2).val = (x 2).val; omega
  have h := View.read_writes_apply_of_pieces v f (fun y : S8x256x256.Idx => w (y 0) (ix3 0 (y 1) (y 2))) (pieces w) ?_ (ix3 c r d) ?_
  · exact h
  · have key : ∀ (c' : Fin 8) (x : S1x256x256.Idx), w c' x = (fun y : S8x256x256.Idx => w (y 0) (ix3 0 (y 1) (y 2))) ((accBox c').emb x) := by
      intro c' x
      rw [hemb]
      show w c' x = w c' (ix3 0 (x 1) (x 2))
      congr 1
      funext a
      match a with
      | 0 => exact Subsingleton.elim (α := Fin 1) _ _
      | 1 => rfl
      | 2 => rfl
    intro p hp
    simp only [pieces, List.mem_cons, List.not_mem_nil, or_false] at hp
    rcases hp with rfl | rfl | rfl | rfl | rfl | rfl | rfl | rfl <;> exact key _
  · have hm : ∀ c' : Fin 8, (⟨accBox c', w c'⟩ : View.Piece (Elt Ideal) S8x256x256 .f32) ∈ pieces w := by
      intro c'; fin_cases c' <;> simp [pieces]
    refine ⟨_, hm c, ?_⟩
    have h : (accBox c).emb (ix3 (0 : Fin 1) r d : S1x256x256.Idx) ∈ (accBox c).set := by
      rw [← Rect.map_emb_univ]; exact Finset.mem_map_of_mem _ (Finset.mem_univ _)
    rw [hemb] at h
    exact h

variable (c : Dev nD) (arg3 : Memref sig .tc .vmem S1x4x512x256 .bf16) (harg3 : arg3.IsWhole) (arg4 : Memref sig .tc .vmem S1x4x2048x256 .bf16) (harg4 : arg4.IsWhole) (arg5 : Memref sig .tc .vmem S1x4x2048x256 .bf16) (harg5 : arg5.IsWhole) (arg6 : Memref sig .tc .vmem S1x512x512 .bf16) (harg6 : arg6.IsWhole) (arg7 : Memref sig .tc .vmem S8x256x256 .f32) (harg7 : arg7.IsWhole)
  (arg2 : BitVec 32) (v31 v57 v83 v109 v135 v161 : FVec Ideal S256x1 .f32) (v180 : FVec Ideal S256x512 .f32) (v187 : FVec Ideal S256x1 .f32) (v200 : FVec Ideal S512x256 .bf16) (v201 : FVec Ideal S256 .f32)
  (X3 : BufTy.Contents (Elt Ideal) arg3.view.ty) (X4 : BufTy.Contents (Elt Ideal) arg4.view.ty) (X5 : BufTy.Contents (Elt Ideal) arg5.view.ty)

/-- Trip `k`'s stores: each chain's rescaled accumulator. -/
theorem trip_pieces (k : Fin (k0_t1_loop i).trips) (acc) (f7 : BufTy.Contents (Elt Ideal) arg7.view.ty) :
    tripL_k0_t1 Variants.none c none i arg3 harg3 arg4 harg4 arg5 harg5 arg6 harg6 arg7 harg7 arg2 v31 v57 v83 v109 v135 v161 v180 v187 v200 v201 X3 X4 X5 k acc f7
      = pieces fun c => k0_pay10 (k0_pay5 (View.readAt (Elt Ideal) arg7.view (accBox c).toLoadRect f7))
          (k0_pay6 (View.readAt (Elt Ideal) arg5.view (kBox i k c).toLoadRect X5))
          (k0_pay8 (chains acc c) (View.readAt (Elt Ideal) arg3.view (qBox c).toLoadRect X3) (View.readAt (Elt Ideal) arg4.view (kBox i k c).toLoadRect X4))
          (k0_pay9 (chains acc c) (View.readAt (Elt Ideal) arg3.view (qBox c).toLoadRect X3) (View.readAt (Elt Ideal) arg4.view (kBox i k c).toLoadRect X4)) := by
  unfold tripL_k0_t1 trip_k0_t1
  dsimp only
  sl_unfold_run_names
  rfl

/-- The scores trip `k` carries on: each chain's greatest so far. -/
theorem trip_carried (k : Fin (k0_t1_loop i).trips) (acc) (f7 : BufTy.Contents (Elt Ideal) arg7.view.ty) :
    chains (tripR_k0_t1 Variants.none c none i arg3 harg3 arg4 harg4 arg5 harg5 arg6 harg6 arg7 harg7 arg2 v31 v57 v83 v109 v135 v161 v180 v187 v200 v201 X3 X4 X5 k acc f7)
      = fun c => k0_pay7 (chains acc c) (View.readAt (Elt Ideal) arg3.view (qBox c).toLoadRect X3) (View.readAt (Elt Ideal) arg4.view (kBox i k c).toLoadRect X4) := by
  unfold tripR_k0_t1 trip_k0_t1
  dsimp only
  sl_unfold_run_names
  funext c
  fin_cases c <;> rfl

end Cert.KernelIdeal.Hand
-- ==== Proof.RunShape.lean ====
/-
  A grid point's run: the diagonal blocks as the loop's entry, the loop's state, and what the point stores.
-/
module

public import proofs.«01_k».proof.Proof.Loop

@[expose] public section

set_option maxRecDepth 16384

noncomputable section

open Idealize.ShloMosaic Idealize.ShloMosaic.TcCoe

namespace Cert.KernelIdeal.Hand

open Cert.KernelIdeal Cert.KernelIdeal.Gen Cert.Attn

/-- The key loop runs once per earlier block of 512 keys. -/
theorem trips1 : ∀ i : grid0.Coords, Scf.trips (k0_t1_loop i).lb (k0_t1_loop i).ub (k0_t1_loop i).st = (i 2).val := by decide +kernel

/-- The remainder loop runs no trip. -/
theorem trips2 : ∀ i : grid0.Coords, Scf.trips (k0_t2_loop i).lb (k0_t2_loop i).ub (k0_t2_loop i).st = 0 := by decide +kernel

variable (c : Dev nD) (i : grid0.Coords) (arg3 : Memref sig .tc .vmem S1x4x512x256 .bf16) (harg3 : arg3.IsWhole) (arg4 : Memref sig .tc .vmem S1x4x2048x256 .bf16) (harg4 : arg4.IsWhole) (arg5 : Memref sig .tc .vmem S1x4x2048x256 .bf16) (harg5 : arg5.IsWhole) (arg6 : Memref sig .tc .vmem S1x512x512 .bf16) (harg6 : arg6.IsWhole) (arg7 : Memref sig .tc .vmem S8x256x256 .f32) (harg7 : arg7.IsWhole)
  (x0 : Vec Ideal S1x4x512x256 .bf16) (x1 : Vec Ideal S1x4x2048x256 .bf16) (x2 : Vec Ideal S1x4x2048x256 .bf16)

/-- The loop's state before trip `n`: the eight carried maxima and the stores so far. -/
def loopSt (n : ℕ) :=
  st_k0_t1 (F := Ideal) Variants.none c none i arg3 harg3 arg4 harg4 arg5 harg5 arg6 harg6 arg7 harg7 (BitVec.ofNat 32 (i 2).val)
    (kernelRun0_A.sl.r_3 c i arg3 harg3 arg4 harg4 x0 x1)
    (kernelRun0_A.sl.r_5 c i arg3 harg3 arg4 harg4 x0 x1)
    (kernelRun0_A.sl.r_7 c i arg3 harg3 arg4 harg4 x0 x1)
    (kernelRun0_A.sl.r_11 c i arg3 harg3 arg4 harg4 x0 x1)
    (kernelRun0_A.sl.r_14 c i arg3 harg3 arg4 harg4 x0 x1)
    (kernelRun0_A.sl.r_16 c i arg3 harg3 arg4 harg4 x0 x1)
    (kernelRun0_A.sl.r_18 c i arg3 harg3 arg4 harg4 x0 x1)
    (kernelRun0_A.sl.r_19 c i arg3 harg3 arg4 harg4 x0 x1)
    (kernelRun0_A.sl.r_20 c i arg5 harg5 x2)
    (kernelRun0_A.sl.r_21 c i arg3 harg3 arg4 harg4 x0 x1)
    (harg3.unread x0) (harg4.unread x1) (harg5.unread x2)
    (arg7.view.writes (Elt Ideal) arg7.view.junk (kernelRun0_A.sl.HS0_8 c i arg3 harg3 arg4 harg4 arg5 harg5 x0 x1 x2))
    (kernelRun0_A.sl.r_3 c i arg3 harg3 arg4 harg4 x0 x1, kernelRun0_A.sl.r_5 c i arg3 harg3 arg4 harg4 x0 x1, kernelRun0_A.sl.r_7 c i arg3 harg3 arg4 harg4 x0 x1, kernelRun0_A.sl.r_11 c i arg3 harg3 arg4 harg4 x0 x1, kernelRun0_A.sl.r_14 c i arg3 harg3 arg4 harg4 x0 x1, kernelRun0_A.sl.r_16 c i arg3 harg3 arg4 harg4 x0 x1, kernelRun0_A.sl.r_19 c i arg3 harg3 arg4 harg4 x0 x1, k0_pay94 (kernelRun0_A.sl.r_21 c i arg3 harg3 arg4 harg4 x0 x1)) n

/-- Chain `c`'s columns of the output block. -/
def outBox (c : Fin 8) : Rect S1x512x512 :=
  Rect.unit ![0, 256 * (c.val % 2), 128 * (c.val / 2)] ![1, 256, 128] (by
    intro a; have := c.isLt
    match a with
    | 0 => show 0 + 1 ≤ 1; omega
    | 1 => show 256 * (c.val % 2) + 256 ≤ 512; omega
    | 2 => show 128 * (c.val / 2) + 128 ≤ 512; omega)

/-- The point's eight stores into its output block, newest first. -/
def outPieces (w : Fin 8 → Vec Ideal S1x256x128 .bf16) : List (View.Piece (Elt Ideal) S1x512x512 .bf16) :=
  [⟨outBox 7, w 7⟩, ⟨outBox 6, w 6⟩, ⟨outBox 5, w 5⟩, ⟨outBox 4, w 4⟩, ⟨outBox 3, w 3⟩, ⟨outBox 2, w 2⟩, ⟨outBox 1, w 1⟩, ⟨outBox 0, w 0⟩]

/-- The accumulator a point leaves after its loop, read at chain `ch`'s rows. -/
def accAt (ch : Fin 8) : Vec Ideal S1x256x256 .f32 :=
  arg7.view.readCov ((loopSt c i arg3 harg3 arg4 harg4 arg5 harg5 arg6 harg6 arg7 harg7 x0 x1 x2 (i 2).val).2 ++ (kernelRun0_A.sl.HS0_8 c i arg3 harg3 arg4 harg4 arg5 harg5 x0 x1 x2)) (accBox ch).toLoadRect

theorem acc_0 : kernelRun0_A.sl.v218 c i arg3 harg3 arg4 harg4 arg5 harg5 arg6 harg6 arg7 harg7 x0 x1 x2 = accAt c i arg3 harg3 arg4 harg4 arg5 harg5 arg6 harg6 arg7 harg7 x0 x1 x2 0 := by
  unfold kernelRun0_A.sl.v218
  rw [trips1, trips2, st_k0_t2.eq_1, List.nil_append]
  rfl

theorem acc_1 : kernelRun0_A.sl.v227 c i arg3 harg3 arg4 harg4 arg5 harg5 arg6 harg6 arg7 harg7 x0 x1 x2 = accAt c i arg3 harg3 arg4 harg4 arg5 harg5 arg6 harg6 arg7 harg7 x0 x1 x2 1 := by
  unfold kernelRun0_A.sl.v227
  rw [trips1, trips2, st_k0_t2.eq_1, List.nil_append]
  rfl

theorem acc_2 : kernelRun0_A.sl.v236 c i arg3 harg3 arg4 harg4 arg5 harg5 arg6 harg6 arg7 harg7 x0 x1 x2 = accAt c i arg3 harg3 arg4 harg4 arg5 harg5 arg6 harg6 arg7 harg7 x0 x1 x2 2 := by
  unfold kernelRun0_A.sl.v236
  rw [trips1, trips2, st_k0_t2.eq_1, List.nil_append]
  rfl

theorem acc_3 : kernelRun0_A.sl.v245 c i arg3 harg3 arg4 harg4 arg5 harg5 arg6 harg6 arg7 harg7 x0 x1 x2 = accAt c i arg3 harg3 arg4 harg4 arg5 harg5 arg6 harg6 arg7 harg7 x0 x1 x2 3 := by
  unfold kernelRun0_A.sl.v245
  rw [trips1, trips2, st_k0_t2.eq_1, List.nil_append]
  rfl

theorem acc_4 : kernelRun0_A.sl.v254 c i arg3 harg3 arg4 harg4 arg5 harg5 arg6 harg6 arg7 harg7 x0 x1 x2 = accAt c i arg3 harg3 arg4 harg4 arg5 harg5 arg6 harg6 arg7 harg7 x0 x1 x2 4 := by
  unfold kernelRun0_A.sl.v254
  rw [trips1, trips2, st_k0_t2.eq_1, List.nil_append]
  rfl

theorem acc_5 : kernelRun0_A.sl.v263 c i arg3 harg3 arg4 harg4 arg5 harg5 arg6 harg6 arg7 harg7 x0 x1 x2 = accAt c i arg3 harg3 arg4 harg4 arg5 harg5 arg6 harg6 arg7 harg7 x0 x1 x2 5 := by
  unfold kernelRun0_A.sl.v263
  rw [trips1, trips2, st_k0_t2.eq_1, List.nil_append]
  rfl

theorem acc_6 : kernelRun0_A.sl.v272 c i arg3 harg3 arg4 harg4 arg5 harg5 arg6 harg6 arg7 harg7 x0 x1 x2 = accAt c i arg3 harg3 arg4 harg4 arg5 harg5 arg6 harg6 arg7 harg7 x0 x1 x2 6 := by
  unfold kernelRun0_A.sl.v272
  rw [trips1, trips2, st_k0_t2.eq_1, List.nil_append]
  rfl

theorem acc_7 : kernelRun0_A.sl.v281 c i arg3 harg3 arg4 harg4 arg5 harg5 arg6 harg6 arg7 harg7 x0 x1 x2 = accAt c i arg3 harg3 arg4 harg4 arg5 harg5 arg6 harg6 arg7 harg7 x0 x1 x2 7 := by
  unfold kernelRun0_A.sl.v281
  rw [trips1, trips2, st_k0_t2.eq_1, List.nil_append]
  rfl

/-- A grid point stores each chain's quotient of the accumulator the loop left. -/
theorem run_pieces : (kernelRun0_A (F := Ideal) c i arg3 harg3 arg4 harg4 arg5 harg5 arg6 harg6 arg7 harg7 x0 x1 x2).1
    = outPieces fun ch => k0_pay1 (accAt c i arg3 harg3 arg4 harg4 arg5 harg5 arg6 harg6 arg7 harg7 x0 x1 x2 ch) := by
  unfold kernelRun0_A
  dsimp only
  unfold kernelRun0_A.sl.r_22
  rw [acc_0, acc_1, acc_2, acc_3, acc_4, acc_5, acc_6, acc_7]
  rfl

/-- The diagonal keys of chain `ch`, of 256 (a lower half) or 512 (an upper one). -/
def dOff (ch : Fin 8) : Fin 4 → ℕ :=
  ![k0_off1 i, k0_off2 i, k0_off3 i, k0_off4 i, k0_off5 i, k0_off6 i, k0_off7 i, k0_off8 i] ch

theorem dOff_eq (ch : Fin 8) : dOff i ch = ![0, ch.val / 2, 512 * (i 2).val, 0] := by
  fin_cases ch
  · exact k0_off1_eq i
  · exact k0_off2_eq i
  · exact k0_off3_eq i
  · exact k0_off4_eq i
  · exact k0_off5_eq i
  · exact k0_off6_eq i
  · exact k0_off7_eq i
  · exact k0_off8_eq i

theorem dOff_inb (ch : Fin 8) : ∀ a, dOff i ch a + S1x1x512x256.size a ≤ S1x4x2048x256.size a := by
  have h := (i 2).isLt
  have h4 : (i 2).val < 4 := h
  have := ch.isLt
  rw [dOff_eq]
  intro a
  match a with
  | 0 => show 0 + 1 ≤ 1; omega
  | 1 => show ch.val / 2 + 1 ≤ 4; omega
  | 2 => show 512 * (i 2).val + 512 ≤ 2048; omega
  | 3 => show 0 + 256 ≤ 256; omega

/-- The first 256 diagonal keys. -/
def dBoxLow (ch : Fin 8) : Rect S1x4x2048x256 :=
  Rect.unit (dOff i ch) S1x1x256x256.size (fun a => Nat.le_trans (by
    match a with
    | 0 => exact Nat.le_refl _
    | 1 => exact Nat.le_refl _
    | 2 => exact Nat.add_le_add_left (by decide : 256 ≤ 512) _
    | 3 => exact Nat.le_refl _) (dOff_inb i ch a))

/-- All 512 diagonal keys. -/
def dBoxHigh (ch : Fin 8) : Rect S1x4x2048x256 := Rect.unit (dOff i ch) S1x1x512x256.size (dOff_inb i ch)

/-- A lower chain's first accumulator and greatest score. -/
def lowAcc (ch : Fin 8) : Vec Ideal S1x256x256 .f32 :=
  let q := View.readAt (Elt Ideal) arg3.view (qBox ch).toLoadRect (harg3.unread x0)
  let k := View.readAt (Elt Ideal) arg4.view (dBoxLow i ch).toLoadRect (harg4.unread x1)
  k0_pay70 (k0_pay66 q k) (k0_pay68 (View.readAt (Elt Ideal) arg5.view (dBoxLow i ch).toLoadRect (harg5.unread x2))) (k0_pay69 q k)
def lowMax (ch : Fin 8) : Vec Ideal S256x1 .f32 :=
  k0_pay69 (View.readAt (Elt Ideal) arg3.view (qBox ch).toLoadRect (harg3.unread x0)) (View.readAt (Elt Ideal) arg4.view (dBoxLow i ch).toLoadRect (harg4.unread x1))
/-- An upper chain's. -/
def highAcc (ch : Fin 8) : Vec Ideal S1x256x256 .f32 :=
  k0_pay73 (k0_pay67 (View.readAt (Elt Ideal) arg3.view (qBox ch).toLoadRect (harg3.unread x0)) (View.readAt (Elt Ideal) arg4.view (dBoxHigh i ch).toLoadRect (harg4.unread x1)))
    (View.readAt (Elt Ideal) arg5.view (dBoxHigh i ch).toLoadRect (harg5.unread x2))
def highMax (ch : Fin 8) : Vec Ideal S256x1 .f32 :=
  k0_pay72 (k0_pay67 (View.readAt (Elt Ideal) arg3.view (qBox ch).toLoadRect (harg3.unread x0)) (View.readAt (Elt Ideal) arg4.view (dBoxHigh i ch).toLoadRect (harg4.unread x1)))

/-- The accumulator at the loop's entry. -/
def diagAcc (ch : Fin 8) : Vec Ideal S1x256x256 .f32 :=
  if ch.val % 2 = 0 then lowAcc i arg3 harg3 arg4 harg4 arg5 harg5 x0 x1 x2 ch else highAcc i arg3 harg3 arg4 harg4 arg5 harg5 x0 x1 x2 ch
/-- The greatest scores at the loop's entry. -/
def diagMax (ch : Fin 8) : Vec Ideal S256x1 .f32 :=
  if ch.val % 2 = 0 then lowMax i arg3 harg3 arg4 harg4 x0 x1 ch else highMax i arg3 harg3 arg4 harg4 x0 x1 ch

theorem chains_of (w : Fin 8 → Vec Ideal S256x1 .f32) : chains (w 0, w 1, w 2, w 3, w 4, w 5, w 6, w 7) = w := by
  funext ch
  fin_cases ch <;> rfl

/-- The stores before the loop are the diagonal blocks' accumulators. -/
theorem entry_pieces : (kernelRun0_A.sl.HS0_8 c i arg3 harg3 arg4 harg4 arg5 harg5 x0 x1 x2) = pieces (diagAcc i arg3 harg3 arg4 harg4 arg5 harg5 x0 x1 x2) := by
  sl_unfold_run_names
  rfl

theorem max_0 : (kernelRun0_A.sl.r_3 c i arg3 harg3 arg4 harg4 x0 x1) = diagMax i arg3 harg3 arg4 harg4 x0 x1 0 := by
  refine Eq.trans ?_ (if_pos rfl).symm
  sl_unfold_run_names
  rfl

theorem max_1 : (kernelRun0_A.sl.r_5 c i arg3 harg3 arg4 harg4 x0 x1) = diagMax i arg3 harg3 arg4 harg4 x0 x1 1 := by
  refine Eq.trans ?_ (if_neg (by decide)).symm
  sl_unfold_run_names
  rfl

theorem max_2 : (kernelRun0_A.sl.r_7 c i arg3 harg3 arg4 harg4 x0 x1) = diagMax i arg3 harg3 arg4 harg4 x0 x1 2 := by
  refine Eq.trans ?_ (if_pos rfl).symm
  sl_unfold_run_names
  rfl

theorem max_3 : (kernelRun0_A.sl.r_11 c i arg3 harg3 arg4 harg4 x0 x1) = diagMax i arg3 harg3 arg4 harg4 x0 x1 3 := by
  refine Eq.trans ?_ (if_neg (by decide)).symm
  sl_unfold_run_names
  rfl

theorem max_4 : (kernelRun0_A.sl.r_14 c i arg3 harg3 arg4 harg4 x0 x1) = diagMax i arg3 harg3 arg4 harg4 x0 x1 4 := by
  refine Eq.trans ?_ (if_pos rfl).symm
  sl_unfold_run_names
  rfl

theorem max_5 : (kernelRun0_A.sl.r_16 c i arg3 harg3 arg4 harg4 x0 x1) = diagMax i arg3 harg3 arg4 harg4 x0 x1 5 := by
  refine Eq.trans ?_ (if_neg (by decide)).symm
  sl_unfold_run_names
  rfl

theorem max_6 : (kernelRun0_A.sl.r_19 c i arg3 harg3 arg4 harg4 x0 x1) = diagMax i arg3 harg3 arg4 harg4 x0 x1 6 := by
  refine Eq.trans ?_ (if_pos rfl).symm
  sl_unfold_run_names
  rfl

theorem max_7 : k0_pay94 (kernelRun0_A.sl.r_21 c i arg3 harg3 arg4 harg4 x0 x1) = diagMax i arg3 harg3 arg4 harg4 x0 x1 7 := by
  refine Eq.trans ?_ (if_neg (by decide)).symm
  sl_unfold_run_names
  rfl

/-- The maxima carried into the loop are the diagonal blocks'. -/
theorem entry_carried : chains (kernelRun0_A.sl.r_3 c i arg3 harg3 arg4 harg4 x0 x1, kernelRun0_A.sl.r_5 c i arg3 harg3 arg4 harg4 x0 x1, kernelRun0_A.sl.r_7 c i arg3 harg3 arg4 harg4 x0 x1, kernelRun0_A.sl.r_11 c i arg3 harg3 arg4 harg4 x0 x1, kernelRun0_A.sl.r_14 c i arg3 harg3 arg4 harg4 x0 x1, kernelRun0_A.sl.r_16 c i arg3 harg3 arg4 harg4 x0 x1, kernelRun0_A.sl.r_19 c i arg3 harg3 arg4 harg4 x0 x1, k0_pay94 (kernelRun0_A.sl.r_21 c i arg3 harg3 arg4 harg4 x0 x1)) = diagMax i arg3 harg3 arg4 harg4 x0 x1 := by
  rw [max_0, max_1, max_2, max_3, max_4, max_5, max_6, max_7]
  exact chains_of _

end Cert.KernelIdeal.Hand
-- ==== Proof.Chain.lean ====
/-
  A grid point's block of the attention, from the values its input blocks hold: the loop's invariant row by row, and the
  stored quotient as the softmax of the whole masked row.
-/
module

public import proofs.«01_k».proof.Proof.RunShape

@[expose] public section

set_option maxRecDepth 16384

noncomputable section

open Idealize.ShloMosaic Idealize.ShloMosaic.TcCoe

namespace Cert.KernelIdeal.Hand

open Cert.KernelIdeal Cert.KernelIdeal.Gen Cert.Attn

/-- Chain `ch`'s head among the block's four, and its query row `r` among the block's 512. -/
def hd (ch : Fin 8) : Fin 4 := ⟨ch.val / 2, by omega⟩
def row (ch : Fin 8) (r : Fin 256) : Fin 512 := ⟨256 * (ch.val % 2) + r.val, by omega⟩

section Scores
variable (x0 : Vec Ideal S1x4x512x256 .bf16) (x1 : Vec Ideal S1x4x2048x256 .bf16) (x2 : Vec Ideal S1x4x2048x256 .bf16)

/-- The score of query row `R` with key `j`, in head `h`. -/
def score (h : Fin 4) (R : Fin 512) (j : ℕ) : EReal :=
  ∑ e : Fin 256, x0 (ix4 0 h R e) * x1 (ix4 0 h (Fin.ofNat 2048 j) e)

/-- The causal score: −∞ for a key after the query, the block's queries starting at `512 * qi`. -/
def masked (qi : ℕ) (h : Fin 4) (R : Fin 512) (j : ℕ) : EReal := if j ≤ 512 * qi + R.val then score x0 x1 h R j else ⊥

/-- Column `d` of key `j`'s value. -/
def valu (h : Fin 4) (d : Fin 256) (j : ℕ) : EReal := x2 (ix4 0 h (Fin.ofNat 2048 j) d)

/-- The keys chain `ch` has seen before trip `n`: its diagonal block and the first `n` blocks. -/
def keys (qi : ℕ) (ch : Fin 8) (n : ℕ) : Finset ℕ := blk (512 * qi) (256 * (ch.val % 2 + 1)) ∪ blk 0 (512 * n)

theorem keys_succ (qi : ℕ) (ch : Fin 8) (n : ℕ) : keys qi ch (n + 1) = keys qi ch n ∪ blk (512 * n) 512 := by
  ext j
  simp only [keys, Finset.mem_union, mem_blk]
  omega

theorem keys_disjoint {qi n : ℕ} (ch : Fin 8) (h : n < qi) : Disjoint (keys qi ch n) (blk (512 * n) 512) := by
  rw [Finset.disjoint_left]
  intro j
  simp only [keys, Finset.mem_union, mem_blk]
  omega

theorem score_real (h0 : ∀ y, ∃ r : ℝ, x0 y = (r : EReal)) (h1 : ∀ y, ∃ r : ℝ, x1 y = (r : EReal)) (h : Fin 4) (R : Fin 512)
    (j : ℕ) : ∃ r : ℝ, score x0 x1 h R j = r := by
  choose f0 e0 using h0
  choose f1 e1 using h1
  refine ⟨∑ e : Fin 256, f0 (ix4 0 h R e) * f1 (ix4 0 h (Fin.ofNat 2048 j) e), ?_⟩
  rw [← coe_sum]
  unfold score
  refine Finset.sum_congr rfl fun e _ => ?_
  rw [e0, e1, EReal.coe_mul]

/-- With finite queries and keys the diagonal key scores a real and no key scores ⊤. -/
theorem sound (h0 : ∀ y, ∃ r : ℝ, x0 y = (r : EReal)) (h1 : ∀ y, ∃ r : ℝ, x1 y = (r : EReal)) (qi : ℕ) (ch : Fin 8)
    (h : Fin 4) (R : Fin 512) (n : ℕ) : Sound (masked x0 x1 qi h R) (keys qi ch n) := by
  constructor
  · refine ⟨512 * qi, ?_, ?_⟩
    · simp only [keys, Finset.mem_union, mem_blk]; omega
    · unfold masked; rw [if_pos (by omega)]; exact score_real x0 x1 h0 h1 h R _
  · intro j
    unfold masked
    split
    · obtain ⟨r, e⟩ := score_real x0 x1 h0 h1 h R j
      rw [e]; exact EReal.coe_ne_top r
    · exact bot_ne_top

end Scores

variable (c : Dev nD) (i : grid0.Coords) (arg3 : Memref sig .tc .vmem S1x4x512x256 .bf16) (harg3 : arg3.IsWhole) (arg4 : Memref sig .tc .vmem S1x4x2048x256 .bf16) (harg4 : arg4.IsWhole) (arg5 : Memref sig .tc .vmem S1x4x2048x256 .bf16) (harg5 : arg5.IsWhole) (arg6 : Memref sig .tc .vmem S1x512x512 .bf16) (harg6 : arg6.IsWhole) (arg7 : Memref sig .tc .vmem S8x256x256 .f32) (harg7 : arg7.IsWhole)
  (x0 : Vec Ideal S1x4x512x256 .bf16) (x1 : Vec Ideal S1x4x2048x256 .bf16) (x2 : Vec Ideal S1x4x2048x256 .bf16)

theorem load_q (ch : Fin 8) (r e : Fin 256) :
    View.readAt (Elt Ideal) arg3.view (qBox ch).toLoadRect (harg3.unread x0) (ix4 (0 : Fin 1) (0 : Fin 1) r e : S1x1x256x256.Idx)
      = x0 (ix4 0 (hd ch) (row ch r) e) := by
  show arg3.view.read (Elt Ideal) (harg3.unread x0) _ = _
  rw [harg3.read_unread]
  refine congrArg x0 (funext fun a => Fin.ext ?_)
  match a with
  | 0 => rfl
  | 1 => show ch.val / 2 + 1 * 0 = ch.val / 2; omega
  | 2 => show 256 * (ch.val % 2) + 1 * r.val = 256 * (ch.val % 2) + r.val; omega
  | 3 => show 0 + 1 * e.val = e.val; omega

/-- A key (or value) block's load at an index. -/
theorem load_box {n a0 : ℕ} (arg : Memref sig .tc .vmem S1x4x2048x256 .bf16) (harg : arg.IsWhole) (x : Vec Ideal S1x4x2048x256 .bf16)
    (off : Fin 4 → ℕ) (h : Fin 4) (inb : ∀ a, off a + (![1, 1, n, 256] : Fin 4 → ℕ) a ≤ S1x4x2048x256.size a) (ho : off = ![0, h.val, a0, 0])
    (hn : a0 + n ≤ 2048) (j : Fin n) (e : Fin 256) :
    View.readAt (Elt Ideal) arg.view (Rect.unit (s := S1x4x2048x256) off ![1, 1, n, 256] inb).toLoadRect (harg.unread x)
        (ix4 (0 : Fin 1) (0 : Fin 1) j e : (⟨4, ![1, 1, n, 256]⟩ : Shape).Idx)
      = x (ix4 0 h (Fin.ofNat 2048 (a0 + j.val)) e) := by
  subst ho
  rw [View.readAt_apply, harg.read_unread]
  congr 1
  have hj := j.isLt
  funext a
  apply Fin.ext
  match a with
  | 0 => rfl
  | 1 => show h.val + 1 * 0 = h.val; omega
  | 2 => show a0 + 1 * j.val = (a0 + j.val) % 2048; omega
  | 3 => show 0 + 1 * e.val = e.val; omega

/-- The accumulator's load at an index. -/
theorem load_acc (f7 : BufTy.Contents (Elt Ideal) arg7.view.ty) (ch : Fin 8) (r d : Fin 256) :
    View.readAt (Elt Ideal) arg7.view (accBox ch).toLoadRect f7 (ix3 (0 : Fin 1) r d : S1x256x256.Idx) = arg7.view.read (Elt Ideal) f7 (ix3 ch r d) := by
  refine congrArg (arg7.view.read (Elt Ideal) f7) (funext fun a => Fin.ext ?_)
  match a with
  | 0 => show ch.val + 1 * 0 = ch.val; omega
  | 1 => show 0 + 1 * r.val = r.val; omega
  | 2 => show 0 + 1 * d.val = d.val; omega

theorem load_low (arg : Memref sig .tc .vmem S1x4x2048x256 .bf16) (harg : arg.IsWhole) (x : Vec Ideal S1x4x2048x256 .bf16)
    (ch : Fin 8) (j e : Fin 256) :
    View.readAt (Elt Ideal) arg.view (dBoxLow i ch).toLoadRect (harg.unread x) (ix4 (0 : Fin 1) (0 : Fin 1) j e : S1x1x256x256.Idx)
      = x (ix4 0 (hd ch) (Fin.ofNat 2048 (512 * (i 2).val + j.val)) e) :=
  load_box arg harg x _ (hd ch) _ (dOff_eq i ch) (by have : (i 2).val < 4 := (i 2).isLt; omega) j e

theorem load_high (arg : Memref sig .tc .vmem S1x4x2048x256 .bf16) (harg : arg.IsWhole) (x : Vec Ideal S1x4x2048x256 .bf16)
    (ch : Fin 8) (j : Fin 512) (e : Fin 256) :
    View.readAt (Elt Ideal) arg.view (dBoxHigh i ch).toLoadRect (harg.unread x) (ix4 (0 : Fin 1) (0 : Fin 1) j e : S1x1x512x256.Idx)
      = x (ix4 0 (hd ch) (Fin.ofNat 2048 (512 * (i 2).val + j.val)) e) :=
  load_box arg harg x _ (hd ch) _ (dOff_eq i ch) (by have : (i 2).val < 4 := (i 2).isLt; omega) j e

theorem load_k (arg : Memref sig .tc .vmem S1x4x2048x256 .bf16) (harg : arg.IsWhole) (x : Vec Ideal S1x4x2048x256 .bf16)
    (k : Fin (k0_t1_loop i).trips) (ch : Fin 8) (j : Fin 512) (e : Fin 256) :
    View.readAt (Elt Ideal) arg.view (kBox i k ch).toLoadRect (harg.unread x) (ix4 (0 : Fin 1) (0 : Fin 1) j e : S1x1x512x256.Idx)
      = x (ix4 0 (hd ch) (Fin.ofNat 2048 (512 * k.val + j.val)) e) :=
  load_box arg harg x _ (hd ch) _ (kOff_eq i k ch) (by have h1 := k.isLt; have h2 := (k0_t1_abs i).2.1; omega) j e

/-- What holds before trip `n`: each chain's row and column is a blockwise softmax over the keys seen. -/
def Inv (qi n : ℕ) (m : Fin 8 → Vec Ideal S256x1 .f32) (g : Vec Ideal S8x256x256 .f32) : Prop :=
  ∀ (ch : Fin 8) (r d : Fin 256),
    Flash (masked x0 x1 qi (hd ch) (row ch r)) (valu x2 (hd ch) d) (keys qi ch n) (m ch (ix2 r 0)) (g (ix3 ch r d))

theorem coord_lt : (i 2).val < 4 := (i 2).isLt

theorem inv_low (ch : Fin 8) (hc : ch.val % 2 = 0) (r d : Fin 256) :
    Flash (masked x0 x1 (i 2).val (hd ch) (row ch r)) (valu x2 (hd ch) d) (keys (i 2).val ch 0)
      (lowMax i arg3 harg3 arg4 harg4 x0 x1 ch (ix2 r 0)) (lowAcc i arg3 harg3 arg4 harg4 arg5 harg5 x0 x1 x2 ch (ix3 0 r d)) := by
  have hi := coord_lt i
  have hk : keys (i 2).val ch 0 = blk (512 * (i 2).val) 256 := by
    ext j; simp only [keys, Finset.mem_union, mem_blk]; omega
  rw [hk]
  unfold lowMax lowAcc
  dsimp only
  refine diag_low _ _ _ r d (fun j => ?_) (fun j => load_low i arg5 harg5 x2 ch j d)
  have hj := j.isLt
  unfold masked score
  have e1 : (j.val ≤ r.val) = (512 * (i 2).val + j.val ≤ 512 * (i 2).val + (row ch r).val) := by
    apply propext
    show _ ↔ 512 * (i 2).val + j.val ≤ 512 * (i 2).val + (256 * (ch.val % 2) + r.val)
    omega
  simp only [e1]
  congr 1
  refine Finset.sum_congr rfl fun e _ => ?_
  rw [load_q]
  congr 1
  exact load_low i arg4 harg4 x1 ch j e

theorem inv_high (ch : Fin 8) (hc : ch.val % 2 = 1) (r d : Fin 256) :
    Flash (masked x0 x1 (i 2).val (hd ch) (row ch r)) (valu x2 (hd ch) d) (keys (i 2).val ch 0)
      (highMax i arg3 harg3 arg4 harg4 x0 x1 ch (ix2 r 0)) (highAcc i arg3 harg3 arg4 harg4 arg5 harg5 x0 x1 x2 ch (ix3 0 r d)) := by
  have hi := coord_lt i
  have hk : keys (i 2).val ch 0 = blk (512 * (i 2).val) 512 := by
    ext j; simp only [keys, Finset.mem_union, mem_blk]; omega
  rw [hk]
  unfold highMax highAcc
  dsimp only
  refine diag_high _ _ _ r d (fun j => ?_) (fun j => load_high i arg5 harg5 x2 ch j d)
  have hj := j.isLt
  unfold masked score
  have e1 : (j.val ≤ 256 + r.val) = (512 * (i 2).val + j.val ≤ 512 * (i 2).val + (row ch r).val) := by
    apply propext
    show _ ↔ 512 * (i 2).val + j.val ≤ 512 * (i 2).val + (256 * (ch.val % 2) + r.val)
    omega
  simp only [e1]
  congr 1
  refine Finset.sum_congr rfl fun e _ => ?_
  rw [load_q]
  congr 1
  exact load_high i arg4 harg4 x1 ch j e

/-- The diagonal blocks establish the invariant. -/
theorem inv_zero (f : BufTy.Contents (Elt Ideal) arg7.view.ty) :
    Inv x0 x1 x2 (i 2).val 0 (diagMax i arg3 harg3 arg4 harg4 x0 x1)
      (arg7.view.read (Elt Ideal) (arg7.view.writes (Elt Ideal) f (pieces (diagAcc i arg3 harg3 arg4 harg4 arg5 harg5 x0 x1 x2)))) := by
  intro ch r d
  rw [read_pieces]
  by_cases hc : ch.val % 2 = 0
  · unfold diagMax diagAcc
    rw [if_pos hc, if_pos hc]
    exact inv_low i arg3 harg3 arg4 harg4 arg5 harg5 x0 x1 x2 ch hc r d
  · unfold diagMax diagAcc
    rw [if_neg hc, if_neg hc]
    exact inv_high i arg3 harg3 arg4 harg4 arg5 harg5 x0 x1 x2 ch (by omega) r d

/-- A trip keeps it. -/
theorem inv_succ (h0 : ∀ y, ∃ r : ℝ, x0 y = (r : EReal)) (h1 : ∀ y, ∃ r : ℝ, x1 y = (r : EReal))
    (k : Fin (k0_t1_loop i).trips) (m : Fin 8 → Vec Ideal S256x1 .f32) (f7 : BufTy.Contents (Elt Ideal) arg7.view.ty)
    (h : Inv x0 x1 x2 (i 2).val k.val m (arg7.view.read (Elt Ideal) f7)) :
    Inv x0 x1 x2 (i 2).val (k.val + 1)
      (fun ch => k0_pay7 (m ch) (View.readAt (Elt Ideal) arg3.view (qBox ch).toLoadRect (harg3.unread x0)) (View.readAt (Elt Ideal) arg4.view (kBox i k ch).toLoadRect (harg4.unread x1)))
      (arg7.view.read (Elt Ideal) (arg7.view.writes (Elt Ideal) f7 (pieces fun ch =>
        k0_pay10 (k0_pay5 (View.readAt (Elt Ideal) arg7.view (accBox ch).toLoadRect f7))
          (k0_pay6 (View.readAt (Elt Ideal) arg5.view (kBox i k ch).toLoadRect (harg5.unread x2)))
          (k0_pay8 (m ch) (View.readAt (Elt Ideal) arg3.view (qBox ch).toLoadRect (harg3.unread x0)) (View.readAt (Elt Ideal) arg4.view (kBox i k ch).toLoadRect (harg4.unread x1)))
          (k0_pay9 (m ch) (View.readAt (Elt Ideal) arg3.view (qBox ch).toLoadRect (harg3.unread x0)) (View.readAt (Elt Ideal) arg4.view (kBox i k ch).toLoadRect (harg4.unread x1)))))) := by
  have hi := coord_lt i
  have hk : k.val < (i 2).val := by
    have := k.isLt
    have e : (k0_t1_loop i).trips = (i 2).val := trips1 i
    omega
  intro ch r d
  rw [read_pieces, keys_succ]
  refine block_step _ _ _ _ _ r d (fun j => ?_) (fun j => load_k i arg5 harg5 x2 k ch j d)
    (sound x0 x1 h0 h1 _ ch _ _ _) (keys_disjoint ch hk) ?_
  · have hj := j.isLt
    unfold masked score
    rw [if_pos (by omega)]
    refine Finset.sum_congr rfl fun e _ => ?_
    rw [load_q]
    congr 1
    exact load_k i arg4 harg4 x1 k ch j e
  · have h' := h ch r d
    rw [← load_acc arg7 f7 ch r d] at h'
    exact h'

/-- The invariant before every trip. -/
theorem inv_all (h0 : ∀ y, ∃ r : ℝ, x0 y = (r : EReal)) (h1 : ∀ y, ∃ r : ℝ, x1 y = (r : EReal)) (n : ℕ) (hn : n ≤ (i 2).val) :
    Inv x0 x1 x2 (i 2).val n (chains (loopSt c i arg3 harg3 arg4 harg4 arg5 harg5 arg6 harg6 arg7 harg7 x0 x1 x2 n).1)
      (arg7.view.read (Elt Ideal) (arg7.view.writes (Elt Ideal) (arg7.view.writes (Elt Ideal) arg7.view.junk (kernelRun0_A.sl.HS0_8 c i arg3 harg3 arg4 harg4 arg5 harg5 x0 x1 x2))
        (loopSt c i arg3 harg3 arg4 harg4 arg5 harg5 arg6 harg6 arg7 harg7 x0 x1 x2 n).2)) := by
  induction n with
  | zero =>
    have e1 : (loopSt c i arg3 harg3 arg4 harg4 arg5 harg5 arg6 harg6 arg7 harg7 x0 x1 x2 0).1 = (kernelRun0_A.sl.r_3 c i arg3 harg3 arg4 harg4 x0 x1, kernelRun0_A.sl.r_5 c i arg3 harg3 arg4 harg4 x0 x1, kernelRun0_A.sl.r_7 c i arg3 harg3 arg4 harg4 x0 x1, kernelRun0_A.sl.r_11 c i arg3 harg3 arg4 harg4 x0 x1, kernelRun0_A.sl.r_14 c i arg3 harg3 arg4 harg4 x0 x1, kernelRun0_A.sl.r_16 c i arg3 harg3 arg4 harg4 x0 x1, kernelRun0_A.sl.r_19 c i arg3 harg3 arg4 harg4 x0 x1, k0_pay94 (kernelRun0_A.sl.r_21 c i arg3 harg3 arg4 harg4 x0 x1)) := rfl
    have e2 : (loopSt c i arg3 harg3 arg4 harg4 arg5 harg5 arg6 harg6 arg7 harg7 x0 x1 x2 0).2 = [] := rfl
    rw [e1, e2, entry_carried, View.writes_nil, entry_pieces]
    exact inv_zero i arg3 harg3 arg4 harg4 arg5 harg5 arg7 x0 x1 x2 _
  | succ n ih =>
    have e : (k0_t1_loop i).trips = (i 2).val := trips1 i
    have ih := ih (by omega)
    have hs := st_k0_t1_succ (F := Ideal) Variants.none c none i arg3 harg3 arg4 harg4 arg5 harg5 arg6 harg6 arg7 harg7 (BitVec.ofNat 32 (i 2).val)
      (kernelRun0_A.sl.r_3 c i arg3 harg3 arg4 harg4 x0 x1) (kernelRun0_A.sl.r_5 c i arg3 harg3 arg4 harg4 x0 x1) (kernelRun0_A.sl.r_7 c i arg3 harg3 arg4 harg4 x0 x1) (kernelRun0_A.sl.r_11 c i arg3 harg3 arg4 harg4 x0 x1) (kernelRun0_A.sl.r_14 c i arg3 harg3 arg4 harg4 x0 x1) (kernelRun0_A.sl.r_16 c i arg3 harg3 arg4 harg4 x0 x1) (kernelRun0_A.sl.r_18 c i arg3 harg3 arg4 harg4 x0 x1) (kernelRun0_A.sl.r_19 c i arg3 harg3 arg4 harg4 x0 x1) (kernelRun0_A.sl.r_20 c i arg5 harg5 x2) (kernelRun0_A.sl.r_21 c i arg3 harg3 arg4 harg4 x0 x1)
      (harg3.unread x0) (harg4.unread x1) (harg5.unread x2)
      (arg7.view.writes (Elt Ideal) arg7.view.junk (kernelRun0_A.sl.HS0_8 c i arg3 harg3 arg4 harg4 arg5 harg5 x0 x1 x2))
      (kernelRun0_A.sl.r_3 c i arg3 harg3 arg4 harg4 x0 x1, kernelRun0_A.sl.r_5 c i arg3 harg3 arg4 harg4 x0 x1, kernelRun0_A.sl.r_7 c i arg3 harg3 arg4 harg4 x0 x1, kernelRun0_A.sl.r_11 c i arg3 harg3 arg4 harg4 x0 x1, kernelRun0_A.sl.r_14 c i arg3 harg3 arg4 harg4 x0 x1, kernelRun0_A.sl.r_16 c i arg3 harg3 arg4 harg4 x0 x1, kernelRun0_A.sl.r_19 c i arg3 harg3 arg4 harg4 x0 x1, k0_pay94 (kernelRun0_A.sl.r_21 c i arg3 harg3 arg4 harg4 x0 x1)) ⟨n, by omega⟩
    have hs' : loopSt c i arg3 harg3 arg4 harg4 arg5 harg5 arg6 harg6 arg7 harg7 x0 x1 x2 (n + 1) = _ := hs
    rw [hs', View.writes_append, trip_pieces, trip_carried]
    exact inv_succ i arg3 harg3 arg4 harg4 arg5 harg5 arg7 x0 x1 x2 h0 h1 ⟨n, by omega⟩ _ _ ih

/-- The accumulator's read at the end of the loop. -/
theorem accAt_apply (ch : Fin 8) (r d : Fin 256) :
    accAt c i arg3 harg3 arg4 harg4 arg5 harg5 arg6 harg6 arg7 harg7 x0 x1 x2 ch (ix3 0 r d)
      = arg7.view.read (Elt Ideal) (arg7.view.writes (Elt Ideal) (arg7.view.writes (Elt Ideal) arg7.view.junk (kernelRun0_A.sl.HS0_8 c i arg3 harg3 arg4 harg4 arg5 harg5 x0 x1 x2))
        (loopSt c i arg3 harg3 arg4 harg4 arg5 harg5 arg6 harg6 arg7 harg7 x0 x1 x2 (i 2).val).2) (ix3 ch r d) := by
  rw [← View.writes_append]
  exact load_acc arg7 _ ch r d

/-- The softmax of the masked row `S` applied to the values `V`, as the reference writes it. -/
def attend (S V : ℕ → EReal) (eps : EReal) : EReal :=
  let M := Finset.univ.fold max ⊥ fun k : Fin 2048 => S k.val
  ∑ k : Fin 2048, Ideal.div (Ideal.exp (S k.val - M)) (max (∑ k : Fin 2048, Ideal.exp (S k.val - M)) eps) * V k.val

theorem sup_keys (qi : ℕ) (hq : qi < 4) (ch : Fin 8) (h : Fin 4) (r : Fin 256) :
    (keys qi ch qi).sup (masked x0 x1 qi h (row ch r)) = Finset.univ.fold max ⊥ fun k : Fin 2048 => masked x0 x1 qi h (row ch r) k.val := by
  have e := sup_blk 0 2048 (masked x0 x1 qi h (row ch r))
  simp only [Nat.zero_add] at e
  rw [← e]
  apply le_antisymm
  · refine Finset.sup_mono fun j hj => ?_
    simp only [keys, Finset.mem_union, mem_blk] at hj ⊢
    omega
  · refine Finset.sup_le fun j hj => ?_
    by_cases hm : j ∈ keys qi ch qi
    · exact Finset.le_sup (f := masked x0 x1 qi h (row ch r)) hm
    · have : masked x0 x1 qi h (row ch r) j = ⊥ := by
        unfold masked
        refine if_neg fun hle => hm ?_
        have hle : j ≤ 512 * qi + (256 * (ch.val % 2) + r.val) := hle
        simp only [keys, Finset.mem_union, mem_blk]
        omega
      rw [this]; exact bot_le

/-- What a chain stores, at a row and a column: the softmax of the row's causal scores applied to the head's values. -/
theorem stored (h0 : ∀ y, ∃ r : ℝ, x0 y = (r : EReal)) (h1 : ∀ y, ∃ r : ℝ, x1 y = (r : EReal))
    (h2 : ∀ (h : Fin 4) (j : Fin 2048) (d : Fin 128), x2 (ix4 0 h j ⟨128 + d.val, by omega⟩) = (1 : EReal))
    (eps : EReal) (heps : eps ≤ 1) (ch : Fin 8) (r : Fin 256) (d : Fin 128) :
    k0_pay1 (accAt c i arg3 harg3 arg4 harg4 arg5 harg5 arg6 harg6 arg7 harg7 x0 x1 x2 ch) (ix3 0 r d)
      = attend (masked x0 x1 (i 2).val (hd ch) (row ch r)) (valu x2 (hd ch) ⟨d.val, by omega⟩) eps := by
  have hi := coord_lt i
  rw [quot_at, accAt_apply, accAt_apply]
  have inv := inv_all c i arg3 harg3 arg4 harg4 arg5 harg5 arg6 harg6 arg7 harg7 x0 x1 x2 h0 h1 (i 2).val (Nat.le_refl _) ch r
  have a1 := inv ⟨d.val, by omega⟩
  have a2 := inv ⟨128 + d.val, by omega⟩
  have ev : valu x2 (hd ch) ⟨128 + d.val, by omega⟩ = fun _ => 1 := by
    funext j; exact h2 _ _ d
  rw [ev] at a2
  rw [Flash.softmax 2048 eps heps a1 a2 (sound x0 x1 h0 h1 _ ch _ _ _) ?_ ?_]
  · rw [a1.top, sup_keys _ _ _ hi]; rfl
  · intro j hj
    simp only [keys, Finset.mem_union, mem_blk] at hj
    omega
  · intro j _ hm
    unfold masked
    refine if_neg fun hle => hm ?_
    have hle : j ≤ 512 * (i 2).val + (256 * (ch.val % 2) + r.val) := hle
    simp only [keys, Finset.mem_union, mem_blk]
    omega

end Cert.KernelIdeal.Hand
-- ==== Proof.Out.lean ====
/-
  The kernel's result array: each grid point's block at coordinates, and the array from its blocks.
-/
module

public import proofs.«01_k».proof.Proof.Chain
public import Idealize.ShloMosaic.Lib.Pipeline.ValueKit

@[expose] public section

set_option maxRecDepth 16384

noncomputable section

open Idealize.ShloMosaic Idealize.ShloMosaic.TcCoe

namespace Cert.KernelIdeal.Hand

open Cert.KernelIdeal Cert.KernelIdeal.Gen Cert.Attn

/-- The chain that stores a row and a column of the block. -/
def chOf (R D : Fin 512) : Fin 8 := ⟨2 * (D.val / 128) + R.val / 256, by omega⟩

theorem hd_chOf (R D : Fin 512) : hd (chOf R D) = ⟨D.val / 128, by omega⟩ := by
  apply Fin.ext; show (2 * (D.val / 128) + R.val / 256) / 2 = _; have := R.isLt; show _ = D.val / 128; omega

theorem row_chOf (R D : Fin 512) : row (chOf R D) ⟨R.val % 256, by omega⟩ = R := by
  apply Fin.ext; show 256 * ((2 * (D.val / 128) + R.val / 256) % 2) + R.val % 256 = R.val; have := R.isLt; omega

/-- A read of the output block after the eight stores is its chain's payload. -/
theorem read_outPieces {κ : Kind} {sp : Space} {sg : RefSig} (v : View sg κ sp S1x512x512 .bf16) (f : v.ty.Contents (Elt Ideal))
    (w : Fin 8 → Vec Ideal S1x256x128 .bf16) (R D : Fin 512) :
    v.read (Elt Ideal) (v.writes (Elt Ideal) f (outPieces w)) (ix3 0 R D)
      = w (chOf R D) (ix3 0 ⟨R.val % 256, by omega⟩ ⟨D.val % 128, by omega⟩) := by
  have hemb : ∀ (c' : Fin 8) (r : Fin 256) (d : Fin 128), ((outBox c').emb (ix3 (0 : Fin 1) r d : S1x256x128.Idx) : S1x512x512.Idx)
      = ix3 0 ⟨256 * (c'.val % 2) + r.val, by omega⟩ ⟨128 * (c'.val / 2) + d.val, by omega⟩ := by
    intro c' r d
    funext a
    apply Fin.ext
    match a with
    | 0 => rfl
    | 1 => show 256 * (c'.val % 2) + 1 * r.val = 256 * (c'.val % 2) + r.val; omega
    | 2 => show 128 * (c'.val / 2) + 1 * d.val = 128 * (c'.val / 2) + d.val; omega
  let G : S1x512x512.Idx → EReal := fun y =>
    w (chOf (y 1) (y 2)) (ix3 0 ⟨(y 1).val % 256, by omega⟩ ⟨(y 2).val % 128, by omega⟩)
  have h := View.read_writes_apply_of_pieces v f G (outPieces w) ?_ (ix3 0 R D) ?_
  · exact h
  · have key : ∀ (c' : Fin 8) (x : S1x256x128.Idx), w c' x = G ((outBox c').emb x) := by
      intro c' x
      obtain ⟨r, d, rfl⟩ : ∃ (r : Fin 256) (d : Fin 128), x = ix3 (0 : Fin 1) r d := by
        refine ⟨x 1, x 2, funext fun a => ?_⟩
        match a with
        | 0 => exact Subsingleton.elim (α := Fin 1) _ _
        | 1 => rfl
        | 2 => rfl
      rw [hemb]
      have e1 : chOf ⟨256 * (c'.val % 2) + r.val, by omega⟩ ⟨128 * (c'.val / 2) + d.val, by omega⟩ = c' := by
        apply Fin.ext
        show 2 * ((128 * (c'.val / 2) + d.val) / 128) + (256 * (c'.val % 2) + r.val) / 256 = c'.val
        have := r.isLt; have := d.isLt; omega
      have e2 : (⟨(256 * (c'.val % 2) + r.val) % 256, by omega⟩ : Fin 256) = r := by apply Fin.ext; show _ % 256 = r.val; have := r.isLt; omega
      have e3 : (⟨(128 * (c'.val / 2) + d.val) % 128, by omega⟩ : Fin 128) = d := by apply Fin.ext; show _ % 128 = d.val; have := d.isLt; omega
      show w c' (ix3 0 r d) = w (chOf ⟨256 * (c'.val % 2) + r.val, by omega⟩ ⟨128 * (c'.val / 2) + d.val, by omega⟩)
        (ix3 0 ⟨(256 * (c'.val % 2) + r.val) % 256, by omega⟩ ⟨(128 * (c'.val / 2) + d.val) % 128, by omega⟩)
      rw [e1, e2, e3]
    intro p hp
    simp only [outPieces, List.mem_cons, List.not_mem_nil, or_false] at hp
    rcases hp with rfl | rfl | rfl | rfl | rfl | rfl | rfl | rfl <;> exact key _
  · have hm : ∀ c' : Fin 8, (⟨outBox c', w c'⟩ : View.Piece (Elt Ideal) S1x512x512 .bf16) ∈ outPieces w := by
      intro c'; fin_cases c' <;> simp [outPieces]
    refine ⟨_, hm (chOf R D), ?_⟩
    have h : (outBox (chOf R D)).emb (ix3 (0 : Fin 1) (⟨R.val % 256, by omega⟩ : Fin 256) (⟨D.val % 128, by omega⟩ : Fin 128) : S1x256x128.Idx) ∈ (outBox (chOf R D)).set := by
      rw [← Rect.map_emb_univ]; exact Finset.mem_map_of_mem _ (Finset.mem_univ _)
    rw [hemb] at h
    have e1 : (⟨256 * ((chOf R D).val % 2) + R.val % 256, by omega⟩ : Fin 512) = R := row_chOf R D
    have e2 : (⟨128 * ((chOf R D).val / 2) + D.val % 128, by omega⟩ : Fin 512) = D := by
      apply Fin.ext; show 128 * ((2 * (D.val / 128) + R.val / 256) / 2) + D.val % 128 = D.val; have := R.isLt; omega
    have h : ix3 (0 : Fin 1) (⟨256 * ((chOf R D).val % 2) + R.val % 256, by omega⟩ : Fin 512) (⟨128 * ((chOf R D).val / 2) + D.val % 128, by omega⟩ : Fin 512) ∈ (outBox (chOf R D)).set := h
    rw [e1, e2] at h
    exact h

/-- What a grid point leaves in its output block, from its input blocks' values. -/
theorem out_block (c : Dev nD) (i : grid0.Coords) (arg3 : Memref sig .tc .vmem S1x4x512x256 .bf16) (harg3 : arg3.IsWhole) (arg4 : Memref sig .tc .vmem S1x4x2048x256 .bf16) (harg4 : arg4.IsWhole) (arg5 : Memref sig .tc .vmem S1x4x2048x256 .bf16) (harg5 : arg5.IsWhole) (arg6 : Memref sig .tc .vmem S1x512x512 .bf16) (harg6 : arg6.IsWhole) (arg7 : Memref sig .tc .vmem S8x256x256 .f32) (harg7 : arg7.IsWhole)
    (x0 : Vec Ideal S1x4x512x256 .bf16) (x1 : Vec Ideal S1x4x2048x256 .bf16) (x2 : Vec Ideal S1x4x2048x256 .bf16)
    (h0 : ∀ y, ∃ r : ℝ, x0 y = (r : EReal)) (h1 : ∀ y, ∃ r : ℝ, x1 y = (r : EReal))
    (h2 : ∀ (h : Fin 4) (j : Fin 2048) (d : Fin 128), x2 (ix4 0 h j ⟨128 + d.val, by omega⟩) = (1 : EReal))
    (eps : EReal) (heps : eps ≤ 1) (R D : Fin 512) :
    out0_A_3 c i arg3 harg3 arg4 harg4 arg5 harg5 arg6 harg6 arg7 harg7 x0 x1 x2 (ix3 0 R D)
      = attend (masked x0 x1 (i 2).val ⟨D.val / 128, by omega⟩ R) (valu x2 ⟨D.val / 128, by omega⟩ ⟨D.val % 128, by omega⟩) eps := by
  unfold out0_A_3
  rw [run_pieces, read_outPieces, stored c i arg3 harg3 arg4 harg4 arg5 harg5 arg6 harg6 arg7 harg7 x0 x1 x2 h0 h1 h2 eps heps, row_chOf, hd_chOf]

/-- The attention over whole arrays of queries, keys and values, at a batch entry, a query and an output column. -/
def attnAt (Q K W : S8x8x2048x256.Idx → EReal) (eps : EReal) (b : Fin 8) (p : Fin 2048) (C : Fin 1024) : EReal :=
  attend (fun j => if j ≤ p.val then ∑ e : Fin 256, Q (ix4 b ⟨C.val / 128, by omega⟩ p e) * K (ix4 b ⟨C.val / 128, by omega⟩ (Fin.ofNat 2048 j) e) else ⊥)
    (fun j => W (ix4 b ⟨C.val / 128, by omega⟩ (Fin.ofNat 2048 j) ⟨C.val % 128, by omega⟩)) eps

theorem idx0 : ∀ t : Fin cfg0.N, win0_0.index t = ![(grid0.coords t 0).val, (grid0.coords t 1).val, (grid0.coords t 2).val, 0] :=
  (by decide +kernel : ∀ t : Fin grid0.N, win0_0.index t = ![(grid0.coords t 0).val, (grid0.coords t 1).val, (grid0.coords t 2).val, 0])
theorem idx1 : ∀ t : Fin cfg0.N, win0_1.index t = ![(grid0.coords t 0).val, (grid0.coords t 1).val, 0, 0] :=
  (by decide +kernel : ∀ t : Fin grid0.N, win0_1.index t = ![(grid0.coords t 0).val, (grid0.coords t 1).val, 0, 0])
theorem idx2 : ∀ t : Fin cfg0.N, win0_2.index t = ![(grid0.coords t 0).val, (grid0.coords t 1).val, 0, 0] :=
  (by decide +kernel : ∀ t : Fin grid0.N, win0_2.index t = ![(grid0.coords t 0).val, (grid0.coords t 1).val, 0, 0])
theorem idx3 : ∀ t : Fin cfg0.N, win0_3.index t = ![(grid0.coords t 0).val, (grid0.coords t 2).val, (grid0.coords t 1).val] :=
  (by decide +kernel : ∀ t : Fin grid0.N, win0_3.index t = ![(grid0.coords t 0).val, (grid0.coords t 2).val, (grid0.coords t 1).val])

variable (m : (ℓ : Loc nD τ sig) → Buf (Elt Ideal) ℓ)

theorem lt0 (t : Fin cfg0.N) : (grid0.coords t 0).val < 8 := (grid0.coords t 0).isLt
theorem lt1 (t : Fin cfg0.N) : (grid0.coords t 1).val < 2 := (grid0.coords t 1).isLt
theorem lt2 (t : Fin cfg0.N) : (grid0.coords t 2).val < 4 := (grid0.coords t 2).isLt

/-- A point's query block, at coordinates. -/
theorem iblk0 (c : Dev nD) (t : Fin cfg0.N) (h : Fin 4) (R : Fin 512) (e : Fin 256) :
    (iblk m c 0 t : Vec Ideal S1x4x512x256 .bf16) (ix4 0 h R e)
      = (V m c main_v4 : S8x8x2048x256.Idx → EReal) (ix4 (⟨(grid0.coords t 0).val, lt0 t⟩ : Fin 8)
          (⟨4 * (grid0.coords t 1).val + h.val, by have := lt1 t; omega⟩ : Fin 8)
          (⟨512 * (grid0.coords t 2).val + R.val, by have := lt2 t; omega⟩ : Fin 2048) e) := by
  unfold iblk
  rw [View.read_apply]
  show V m c main_v4 _ = V m c main_v4 _
  congr 1
  funext a
  apply Fin.ext
  have hi := idx0 t
  match a with
  | ⟨0, _⟩ => show win0_0.index t 0 * 1 + 1 * 0 = (grid0.coords t 0).val; rw [hi]; show (grid0.coords t 0).val * 1 + 1 * 0 = _; omega
  | ⟨1, _⟩ => show win0_0.index t 1 * 4 + 1 * h.val = 4 * (grid0.coords t 1).val + h.val; rw [hi]; show (grid0.coords t 1).val * 4 + 1 * h.val = _; omega
  | ⟨2, _⟩ => show win0_0.index t 2 * 512 + 1 * R.val = 512 * (grid0.coords t 2).val + R.val; rw [hi]; show (grid0.coords t 2).val * 512 + 1 * R.val = _; omega
  | ⟨3, _⟩ => show win0_0.index t 3 * 256 + 1 * e.val = e.val; rw [hi]; show 0 * 256 + 1 * e.val = e.val; omega

/-- A point's key block. -/
theorem iblk1 (c : Dev nD) (t : Fin cfg0.N) (h : Fin 4) (j : Fin 2048) (e : Fin 256) :
    (iblk m c 1 t : Vec Ideal S1x4x2048x256 .bf16) (ix4 0 h j e)
      = (V m c main_v7 : S8x8x2048x256.Idx → EReal) (ix4 (⟨(grid0.coords t 0).val, lt0 t⟩ : Fin 8)
          (⟨4 * (grid0.coords t 1).val + h.val, by have := lt1 t; omega⟩ : Fin 8) j e) := by
  unfold iblk
  rw [View.read_apply]
  show V m c main_v7 _ = V m c main_v7 _
  congr 1
  funext a
  apply Fin.ext
  have hi := idx1 t
  match a with
  | ⟨0, _⟩ => show win0_1.index t 0 * 1 + 1 * 0 = (grid0.coords t 0).val; rw [hi]; show (grid0.coords t 0).val * 1 + 1 * 0 = _; omega
  | ⟨1, _⟩ => show win0_1.index t 1 * 4 + 1 * h.val = 4 * (grid0.coords t 1).val + h.val; rw [hi]; show (grid0.coords t 1).val * 4 + 1 * h.val = _; omega
  | ⟨2, _⟩ => show win0_1.index t 2 * 2048 + 1 * j.val = j.val; rw [hi]; show 0 * 2048 + 1 * j.val = _; omega
  | ⟨3, _⟩ => show win0_1.index t 3 * 256 + 1 * e.val = e.val; rw [hi]; show 0 * 256 + 1 * e.val = e.val; omega

/-- A point's value block. -/
theorem iblk2 (c : Dev nD) (t : Fin cfg0.N) (h : Fin 4) (j : Fin 2048) (e : Fin 256) :
    (iblk m c 2 t : Vec Ideal S1x4x2048x256 .bf16) (ix4 0 h j e)
      = (V m c main_v11 : S8x8x2048x256.Idx → EReal) (ix4 (⟨(grid0.coords t 0).val, lt0 t⟩ : Fin 8)
          (⟨4 * (grid0.coords t 1).val + h.val, by have := lt1 t; omega⟩ : Fin 8) j e) := by
  unfold iblk
  rw [View.read_apply]
  show V m c main_v11 _ = V m c main_v11 _
  congr 1
  funext a
  apply Fin.ext
  have hi := idx2 t
  match a with
  | ⟨0, _⟩ => show win0_2.index t 0 * 1 + 1 * 0 = (grid0.coords t 0).val; rw [hi]; show (grid0.coords t 0).val * 1 + 1 * 0 = _; omega
  | ⟨1, _⟩ => show win0_2.index t 1 * 4 + 1 * h.val = 4 * (grid0.coords t 1).val + h.val; rw [hi]; show (grid0.coords t 1).val * 4 + 1 * h.val = _; omega
  | ⟨2, _⟩ => show win0_2.index t 2 * 2048 + 1 * j.val = j.val; rw [hi]; show 0 * 2048 + 1 * j.val = _; omega
  | ⟨3, _⟩ => show win0_2.index t 3 * 256 + 1 * e.val = e.val; rw [hi]; show 0 * 256 + 1 * e.val = e.val; omega

theorem ix4_eta {n1 n2 n3 n4 : ℕ} (y : (⟨4, ![n1, n2, n3, n4]⟩ : Shape).Idx) : y = ix4 (y 0) (y 1) (y 2) (y 3) := by
  funext a
  match a with
  | 0 => rfl
  | 1 => rfl
  | 2 => rfl
  | 3 => rfl

/-- THE RESULT ARRAY, from the arrays the call stages. -/
theorem final (c : Dev nD) (eps : EReal) (heps : eps ≤ 1)
    (h0 : ∀ y : S8x8x2048x256.Idx, ∃ r : ℝ, (V m c main_v4 : S8x8x2048x256.Idx → EReal) y = (r : EReal))
    (h1 : ∀ y : S8x8x2048x256.Idx, ∃ r : ℝ, (V m c main_v7 : S8x8x2048x256.Idx → EReal) y = (r : EReal))
    (h2 : ∀ (b h : Fin 8) (j : Fin 2048) (d : Fin 128), (V m c main_v11 : S8x8x2048x256.Idx → EReal) (ix4 b h j ⟨128 + d.val, by omega⟩) = (1 : EReal)) :
    (dats m 0 c).arrAt 3 cfg0.N = fun y : S8x2048x1024.Idx =>
      attnAt (V m c main_v4) (V m c main_v7) (V m c main_v11) eps (y 0) (y 1) (y 2) := by
  refine (dats m 0 c).arrAt_eq_of_covers 3 _ (by decide +kernel) fun t hf y => ?_
  blk_simp
  rw [after0_3]
  unfold outsAt0
  obtain ⟨R, D, rfl⟩ : ∃ (R D : Fin 512), y = (ix3 (0 : Fin 1) R D : S1x512x512.Idx) := by
    refine ⟨y 1, y 2, funext fun a => ?_⟩
    match a with
    | 0 => exact Subsingleton.elim (α := Fin 1) _ _
    | 1 => rfl
    | 2 => rfl
  have hi := idx3 t
  have hb : (win0_3.blk t).view.emb (ix3 (0 : Fin 1) R D : S1x512x512.Idx) 0 = (⟨(grid0.coords t 0).val, lt0 t⟩ : Fin 8) := by
    apply Fin.ext; show win0_3.index t 0 * 1 + 1 * 0 = _; rw [hi]; show (grid0.coords t 0).val * 1 + 1 * 0 = (grid0.coords t 0).val; omega
  have hp : (win0_3.blk t).view.emb (ix3 (0 : Fin 1) R D : S1x512x512.Idx) 1 = (⟨512 * (grid0.coords t 2).val + R.val, by have := lt2 t; omega⟩ : Fin 2048) := by
    apply Fin.ext; show win0_3.index t 1 * 512 + 1 * R.val = _; rw [hi]; show (grid0.coords t 2).val * 512 + 1 * R.val = 512 * (grid0.coords t 2).val + R.val; omega
  have hC : (win0_3.blk t).view.emb (ix3 (0 : Fin 1) R D : S1x512x512.Idx) 2 = (⟨512 * (grid0.coords t 1).val + D.val, by have := lt1 t; omega⟩ : Fin 1024) := by
    apply Fin.ext; show win0_3.index t 2 * 512 + 1 * D.val = _; rw [hi]; show (grid0.coords t 1).val * 512 + 1 * D.val = 512 * (grid0.coords t 1).val + D.val; omega
  rw [hb, hp, hC]
  rw [out_block c (grid0.coords t) (ms0_0 t) (hs0_0 t) (ms0_1 t) (hs0_1 t) (ms0_2 t) (hs0_2 t) (ms0_3 t) (hs0_3 t) scM0_0 (Memref.isWhole_whole _)
    (iblk m c 0 t) (iblk m c 1 t) (iblk m c 2 t) ?_ ?_ ?_ eps heps R D]
  · have hh : (⟨4 * (grid0.coords t 1).val + D.val / 128, by have := lt1 t; omega⟩ : Fin 8) = ⟨(512 * (grid0.coords t 1).val + D.val) / 128, by have := lt1 t; omega⟩ := by
      apply Fin.ext; show 4 * (grid0.coords t 1).val + D.val / 128 = (512 * (grid0.coords t 1).val + D.val) / 128; omega
    have hd : (⟨D.val % 128, by omega⟩ : Fin 256) = ⟨(512 * (grid0.coords t 1).val + D.val) % 128, by omega⟩ := by
      apply Fin.ext; show D.val % 128 = (512 * (grid0.coords t 1).val + D.val) % 128; omega
    unfold attnAt
    congr 1
    · funext j
      unfold masked score
      refine if_congr Iff.rfl (Finset.sum_congr rfl fun e _ => ?_) rfl
      rw [iblk0 m c t, iblk1 m c t, hh]
    · funext j
      unfold valu
      rw [iblk2 m c t, hh, hd]
  · intro y
    obtain ⟨h, R', e, rfl⟩ : ∃ (h : Fin 4) (R' : Fin 512) (e : Fin 256), y = (ix4 (0 : Fin 1) h R' e : S1x4x512x256.Idx) :=
      ⟨y 1, y 2, y 3, (ix4_eta y).trans (congrArg (fun z => ix4 z (y 1) (y 2) (y 3)) (Subsingleton.elim (α := Fin 1) _ _))⟩
    rw [iblk0 m c t]; exact h0 _
  · intro y
    obtain ⟨h, R', e, rfl⟩ : ∃ (h : Fin 4) (R' : Fin 2048) (e : Fin 256), y = (ix4 (0 : Fin 1) h R' e : S1x4x2048x256.Idx) :=
      ⟨y 1, y 2, y 3, (ix4_eta y).trans (congrArg (fun z => ix4 z (y 1) (y 2) (y 3)) (Subsingleton.elim (α := Fin 1) _ _))⟩
    rw [iblk1 m c t]; exact h1 _
  · intro h j d
    rw [iblk2 m c t]; exact h2 _ _ _ _

end Cert.KernelIdeal.Hand
-- ==== Proof.Host.lean ====
/-
  The arrays the call stages, at coordinates: the scaled queries and the keys padded with zeros, the values beside a block of ones.
-/
module

public import proofs.«01_k».proof.Proof.Out
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe Idealize.ShloMosaic.StableHlo

namespace Cert.KernelIdeal.Hand

open Cert.KernelIdeal Cert.KernelIdeal.Gen Cert.Attn

variable (m : (ℓ : Loc nD τ sig) → Buf (Elt Ideal) ℓ)

/-- The staged queries as a term of the arguments. -/
theorem V4 (c : Dev nD) : (V m c main_v4 : S8x8x2048x256.Idx → EReal) =
    truncf (F := Ideal) .bf16 (pad S8x8x2048x256 ![0, 0, 0, 0] ![0, 0, 0, 64] ![0, 0, 0, 0]
      (transpose S8x8x2048x192 [0, 2, 1, 3] (mulf (F := Ideal) (m ((c : Thread nD τ).loc main_arg0) : S8x2048x8x192.Idx → EReal) (broadcastInDim S8x2048x8x192 ![] bcast_S_S8x2048x8x192 (constant (F := Ideal) S_ .f32 0x3D93CD3A#32))) transposes_S8x2048x8x192_S8x8x2048x192_0_2_1_3)
      (sitofp (F := Ideal) .f32 (constantI S_ 32 0#32)) pads_S8x8x2048x192_S8x8x2048x256_000_000_000_0640 h_S_) bitsLt_bf16_f32 := by
  unfold V
  simp only [hostOps0, hostOps0_1, hostOps0_2, hostOps0_3, hostOps0_4, List.flatten_cons, List.flatten_nil, List.append_nil, List.cons_append, List.nil_append, TRef.ternary, TRef.binary, TRef.unary, TRef.toBuf, TRef.ofBuf, cast_eq]
  after_results_simp <;> rfl

theorem V7 (c : Dev nD) : (V m c main_v7 : S8x8x2048x256.Idx → EReal) =
    truncf (F := Ideal) .bf16 (pad S8x8x2048x256 ![0, 0, 0, 0] ![0, 0, 0, 64] ![0, 0, 0, 0]
      (transpose S8x8x2048x192 [0, 2, 1, 3] (m ((c : Thread nD τ).loc main_arg1) : S8x2048x8x192.Idx → EReal) transposes_S8x2048x8x192_S8x8x2048x192_0_2_1_3)
      (sitofp (F := Ideal) .f32 (constantI S_ 32 0#32)) pads_S8x8x2048x192_S8x8x2048x256_000_000_000_0640 h_S_) bitsLt_bf16_f32 := by
  unfold V
  simp only [hostOps0, hostOps0_1, hostOps0_2, hostOps0_3, hostOps0_4, List.flatten_cons, List.flatten_nil, List.append_nil, List.cons_append, List.nil_append, TRef.ternary, TRef.binary, TRef.unary, TRef.toBuf, TRef.ofBuf, cast_eq]
  after_results_simp <;> rfl

theorem V11 (c : Dev nD) : (V m c main_v11 : S8x8x2048x256.Idx → EReal) =
    truncf (F := Ideal) .bf16 (concatenate S8x8x2048x256 3 [⟨S8x8x2048x128, (transpose S8x8x2048x128 [0, 2, 1, 3] (m ((c : Thread nD τ).loc main_arg2) : S8x2048x8x128.Idx → EReal) transposes_S8x2048x8x128_S8x8x2048x128_0_2_1_3 : S8x8x2048x128.Idx → EReal)⟩,
      ⟨S8x8x2048x128, (broadcastInDim S8x8x2048x128 ![] bcast_S_S8x8x2048x128 (constant (F := Ideal) S_ .f32 0x3F800000#32) : S8x8x2048x128.Idx → EReal)⟩] concatenates_S8x8x2048x128_S8x8x2048x128_S8x8x2048x256_d3) bitsLt_bf16_f32 := by
  unfold V
  simp only [hostOps0, hostOps0_1, hostOps0_2, hostOps0_3, hostOps0_4, List.flatten_cons, List.flatten_nil, List.append_nil, List.cons_append, List.nil_append, TRef.ternary, TRef.binary, TRef.unary, TRef.toBuf, TRef.ofBuf, cast_eq]
  after_results_simp <;> rfl

/-- The scale of the scores. -/
def scl : EReal := Ideal.ofBits .f32 1033096506#32

theorem scl_real : ∃ r : ℝ, scl = (r : EReal) := by
  unfold scl
  simp [Ideal.ofBits, Ideal.ieee, -EReal.coe_mul]

theorem zero_conv : (FloatOps.sitofp (F := Ideal) FTy.f32 (0#32) : EReal) = 0 := by
  show ((((0#32 : BitVec 32).toInt : ℝ)) : EReal) = 0
  simp

/-- The queries the program is given. -/
abbrev argQ (c : Dev nD) : S8x2048x8x192.Idx → EReal := m ((c : Thread nD τ).loc main_arg0)

theorem v4_at (c : Dev nD) (b h : Fin 8) (p : Fin 2048) (e : Fin 256) :
    (V m c main_v4 : S8x8x2048x256.Idx → EReal) (ix4 b h p e)
      = if he : e.val < 192 then argQ m c (ix4 b p h ⟨e.val, he⟩) * scl else (0 : EReal) := by
  rw [V4]
  pointwise
  rw [zero_conv]; rfl

theorem v7_at (c : Dev nD) (b h : Fin 8) (p : Fin 2048) (e : Fin 256) :
    (V m c main_v7 : S8x8x2048x256.Idx → EReal) (ix4 b h p e)
      = if he : e.val < 192 then (m ((c : Thread nD τ).loc main_arg1) : S8x2048x8x192.Idx → EReal) (ix4 b p h ⟨e.val, he⟩) else (0 : EReal) := by
  rw [V7]
  pointwise
  rw [zero_conv]

theorem v11_at (c : Dev nD) (b h : Fin 8) (p : Fin 2048) (e : Fin 256) :
    (V m c main_v11 : S8x8x2048x256.Idx → EReal) (ix4 b h p e)
      = if he : e.val < 128 then (m ((c : Thread nD τ).loc main_arg2) : S8x2048x8x128.Idx → EReal) (ix4 b p h ⟨e.val, he⟩) else (1 : EReal) := by
  rw [V11]
  pointwise

/-- A score over the padded axis, of scaled queries, is the scaled score over the problem's axis. -/
theorem padded_score (q k : Fin 192 → EReal) (s : EReal) (hq : ∀ e, ∃ r : ℝ, q e = (r : EReal)) (hk : ∀ e, ∃ r : ℝ, k e = (r : EReal)) (hs : ∃ r : ℝ, s = (r : EReal)) :
    (∑ e : Fin 256, (if he : e.val < 192 then q ⟨e.val, he⟩ * s else (0 : EReal)) * (if he : e.val < 192 then k ⟨e.val, he⟩ else (0 : EReal)))
      = (∑ e : Fin 192, q e * k e) * s := by
  choose q' hq' using hq
  choose k' hk' using hk
  obtain ⟨s', rfl⟩ := hs
  rw [Fin.sum_univ_add (a := 192) (b := 64)]
  have h2 : ∀ e : Fin 64, (if he : (Fin.natAdd 192 e).val < 192 then q ⟨(Fin.natAdd 192 e).val, he⟩ * (s' : EReal) else (0 : EReal)) * (if he : (Fin.natAdd 192 e).val < 192 then k ⟨(Fin.natAdd 192 e).val, he⟩ else (0 : EReal)) = 0 := by
    intro e
    have : ¬ (Fin.natAdd 192 e).val < 192 := by simp
    rw [dif_neg this, zero_mul]
  have h1 : ∀ e : Fin 192, (if he : (Fin.castAdd 64 e).val < 192 then q ⟨(Fin.castAdd 64 e).val, he⟩ * (s' : EReal) else (0 : EReal)) * (if he : (Fin.castAdd 64 e).val < 192 then k ⟨(Fin.castAdd 64 e).val, he⟩ else (0 : EReal)) = ((q' e * s' * k' e : ℝ) : EReal) := by
    intro e
    have : (Fin.castAdd 64 e).val < 192 := e.isLt
    rw [dif_pos this, dif_pos this]
    show q e * s' * k e = _
    rw [hq', hk']; push_cast; rfl
  rw [Finset.sum_congr rfl fun e _ => h1 e, Finset.sum_congr rfl fun e _ => h2 e, Finset.sum_const_zero, add_zero,
    Finset.sum_congr rfl fun e _ => show q e * k e = ((q' e * k' e : ℝ) : EReal) by rw [hq', hk', EReal.coe_mul],
    coe_sum, coe_sum, ← EReal.coe_mul]
  congr 1
  rw [Finset.sum_mul]
  exact Finset.sum_congr rfl fun e _ => by ring

/-- The problem's causal attention at a batch entry, a query and an output column: the masked scaled scores, and the values' column. -/
def attnOf (q k : S8x2048x8x192.Idx → EReal) (v : S8x2048x8x128.Idx → EReal) (eps : EReal) (b : Fin 8) (p : Fin 2048) (C : Fin 1024) : EReal :=
  attend (fun j => if j ≤ p.val then (∑ e : Fin 192, q (ix4 b p ⟨C.val / 128, by omega⟩ e) * k (ix4 b (Fin.ofNat 2048 j) ⟨C.val / 128, by omega⟩ e)) * scl else ⊥)
    (fun j => v (ix4 b (Fin.ofNat 2048 j) ⟨C.val / 128, by omega⟩ ⟨C.val % 128, by omega⟩)) eps

/-- The attention over staged arrays is the problem's attention. -/
theorem attnAt_eq (q k : S8x2048x8x192.Idx → EReal) (v : S8x2048x8x128.Idx → EReal) (Q K W : S8x8x2048x256.Idx → EReal) (eps : EReal)
    (hq : ∀ y, ∃ r : ℝ, q y = (r : EReal)) (hk : ∀ y, ∃ r : ℝ, k y = (r : EReal))
    (hQ : ∀ (b h : Fin 8) (p : Fin 2048) (e : Fin 256), Q (ix4 b h p e) = if he : e.val < 192 then q (ix4 b p h ⟨e.val, he⟩) * scl else (0 : EReal))
    (hK : ∀ (b h : Fin 8) (p : Fin 2048) (e : Fin 256), K (ix4 b h p e) = if he : e.val < 192 then k (ix4 b p h ⟨e.val, he⟩) else (0 : EReal))
    (hW : ∀ (b h : Fin 8) (p : Fin 2048) (e : Fin 256), W (ix4 b h p e) = if he : e.val < 128 then v (ix4 b p h ⟨e.val, he⟩) else (1 : EReal))
    (b : Fin 8) (p : Fin 2048) (C : Fin 1024) : attnAt Q K W eps b p C = attnOf q k v eps b p C := by
  unfold attnAt attnOf
  congr 1
  · funext j
    refine if_congr Iff.rfl ?_ rfl
    simp only [hQ, hK]
    exact padded_score _ _ _ (fun e => hq _) (fun e => hk _) scl_real
  · funext j
    rw [hW, dif_pos (show C.val % 128 < 128 from Nat.mod_lt _ (by decide))]

theorem all_ix4 {n1 n2 n3 n4 : ℕ} (P : (⟨4, ![n1, n2, n3, n4]⟩ : Shape).Idx → Prop) (h : ∀ a b c d, P (ix4 a b c d)) : ∀ y, P y := by
  intro y; rw [ix4_eta y]; exact h _ _ _ _

/-- THE KERNEL'S RESULT, from the arguments. -/
theorem result (c : Dev nD) (eps : EReal) (heps : eps ≤ 1)
    (hq : ∀ y : S8x2048x8x192.Idx, ∃ r : ℝ, (m ((c : Thread nD τ).loc main_arg0) : S8x2048x8x192.Idx → EReal) y = (r : EReal))
    (hk : ∀ y : S8x2048x8x192.Idx, ∃ r : ℝ, (m ((c : Thread nD τ).loc main_arg1) : S8x2048x8x192.Idx → EReal) y = (r : EReal)) :
    (dats m 0 c).arrAt 3 cfg0.N = fun y : S8x2048x1024.Idx =>
      attnOf (m ((c : Thread nD τ).loc main_arg0)) (m ((c : Thread nD τ).loc main_arg1)) (m ((c : Thread nD τ).loc main_arg2)) eps (y 0) (y 1) (y 2) := by
  rw [final m c eps heps ?_ ?_ ?_]
  · funext y
    exact attnAt_eq _ _ _ _ _ _ eps hq hk (v4_at m c) (v7_at m c) (v11_at m c) _ _ _
  · refine all_ix4 _ fun b h p e => ?_
    refine (v4_at m c b h p e).symm ▸ ?_
    split
    · rename_i he
      obtain ⟨a, ha⟩ := hq (ix4 b p h ⟨e.val, he⟩)
      obtain ⟨s, hs⟩ := scl_real
      exact ⟨a * s, by rw [hs, EReal.coe_mul, ← ha]⟩
    · exact ⟨0, rfl⟩
  · refine all_ix4 _ fun b h p e => ?_
    refine (v7_at m c b h p e).symm ▸ ?_
    split
    · exact hk _
    · exact ⟨0, rfl⟩
  · intro b h j d
    exact (v11_at m c b h j _).trans (dif_neg (by show ¬ 128 + d.val < 128; omega))

end Cert.KernelIdeal.Hand
-- ==== Proof.Ref.lean ====
/-
  The reference's result at coordinates: the problem's causal attention.
-/
module

public import proofs.«01_k».proof.Proof.Host
public import proofs.«01_k».proof.Proof.Gen.ReferenceIdeal.Run
public import Idealize.ShloMosaic.Lib.Pointwise
public import Idealize.ShloMosaic.Lib.IdealHost

@[expose] public section

set_option maxRecDepth 16384

noncomputable section

open Idealize.ShloMosaic Idealize.ShloMosaic.TcCoe Idealize.ShloMosaic.StableHlo

namespace Cert.ReferenceIdeal.Hand

open Cert.ReferenceIdeal Cert.ReferenceIdeal.Gen Cert.Attn
open Cert.KernelIdeal.Hand (attend attnOf scl scl_real)

variable (m : (ℓ : Loc nD τ sig) → Buf (Elt Ideal) ℓ)

/-- The reference's masked scores. -/
def rS (q k : FVec Ideal S8x2048x8x192 .f32) : FVec Ideal S8x8x2048x2048 .f32 :=
  select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S8x2048x8x192_S8x2048x8x192_S8x8x2048x2048_3_3_1_1_02_02 none q k) (broadcastInDim S8x8x2048x2048 ![] bcast_S_S8x8x2048x2048 (constant S_ .f32 0x3D93CD3A#32))) (broadcastInDim S8x8x2048x2048 ![] bcast_S_S8x8x2048x2048 (id (constant S_ .f32 0xFF800000#32)))

/-- Each row's maximum. -/
def rM (S : FVec Ideal S8x8x2048x2048 .f32) : FVec Ideal S8x8x2048x1 .f32 :=
  broadcastInDim S8x8x2048x1 ![0, 1, 2] bcast_S8x8x2048_S8x8x2048x1_0_1_2 (Host.reduce FloatOps.maximumf S (constant S_ .f32 0xFF800000#32) reducesTo_S8x8x2048x2048_S8x8x2048_d3 h_S_)

/-- The maximum where it is finite, else zero. -/
def rG (M : FVec Ideal S8x8x2048x1 .f32) : FVec Ideal S8x8x2048x1 .f32 :=
  select (cmpf .olt (Host.absf M) (broadcastInDim S8x8x2048x1 ![] bcast_S_S8x8x2048x1 (constant S_ .f32 0x7F800000#32))) M (broadcastInDim S8x8x2048x1 ![] bcast_S_S8x8x2048x1 (id (constant S_ .f32 0x00000000#32)))

/-- The exponentials. -/
def rE (S : FVec Ideal S8x8x2048x2048 .f32) (G : FVec Ideal S8x8x2048x1 .f32) : FVec Ideal S8x8x2048x2048 .f32 :=
  Host.exp (subf S (broadcastInDim S8x8x2048x2048 ![0, 1, 2, 3] bcast_S8x8x2048x1_S8x8x2048x2048_0_1_2_3 G))

/-- The weighted values, laid out as the result. -/
def rO (v : FVec Ideal S8x2048x8x128 .f32) (E : FVec Ideal S8x8x2048x2048 .f32) : FVec Ideal S8x2048x1024 .bf16 :=
  truncf .bf16 (shapeCast _ (transpose S8x2048x8x128 [0, 3, 1, 2] (Host.dotGeneral dot_S8x2048x8x128_S8x8x2048x2048_S8x8x128x2048_1_3_3_2_02_01 none v (Host.divf E (broadcastInDim S8x8x2048x2048 ![0, 1, 2, 3] bcast_S8x8x2048x1_S8x8x2048x2048_0_1_2_3 (maximumf (broadcastInDim S8x8x2048x1 ![0, 1, 2] bcast_S8x8x2048_S8x8x2048x1_0_1_2 (Host.reduceAdd E (constant S_ .f32 0x00000000#32) reducesTo_S8x8x2048x2048_S8x8x2048_d3 h_S_)) (broadcastInDim S8x8x2048x1 ![] bcast_S_S8x8x2048x1 (constant S_ .f32 0x0DA24260#32)))))) transposes_S8x8x128x2048_S8x2048x8x128_0_3_1_2) shapeCasts_S8x2048x8x128_S8x2048x1024) bitsLt_bf16_f32

theorem res_eq (c : Dev nD) : Cert.ReferenceIdeal.Value.res_main_v28 m c =
    rO (m ((c.tc : Thread nD τ).loc main_arg2)) (rE (rS (m ((c.tc : Thread nD τ).loc main_arg0)) (m ((c.tc : Thread nD τ).loc main_arg1))) (rG (rM (rS (m ((c.tc : Thread nD τ).loc main_arg0)) (m ((c.tc : Thread nD τ).loc main_arg1)))))) := by
  unfold Cert.ReferenceIdeal.Value.res_main_v28 rO rE rG rM rS
  rfl

/-- A comparison of positions as words. -/
theorem causal_select (j p : Fin 2048) (x y : EReal) :
    Scalar.select (IntOp.cmpi CmpIPredicate.sle (BitVec.ofNat 32 j.val) (BitVec.ofNat 32 p.val)) x y = if j.val ≤ p.val then x else y := by
  have e := WordCmp.cmpi_sle_ofNat_eq_one_iff (w := 32) (a := j.val) (b := p.val) (by omega) (by omega)
  by_cases h : j.val ≤ p.val
  · rw [if_pos h]; unfold Scalar.select; exact if_pos (e.2 h)
  · rw [if_neg h]; unfold Scalar.select; exact if_neg fun h1 => h (e.1 h1)

theorem neg_inf : (Ideal.ofBits FTy.f32 4286578688#32 : EReal) = ⊥ := by simp [Ideal.ofBits, Ideal.ieee]
theorem pos_inf : (Ideal.ofBits FTy.f32 2139095040#32 : EReal) = ⊤ := by simp [Ideal.ofBits, Ideal.ieee]
theorem eps_le : (Ideal.ofBits FTy.f32 228737632#32 : EReal) ≤ 1 := by
  rw [show (1 : EReal) = ((1 : ℝ) : EReal) by norm_cast]
  simp [Ideal.ofBits, Ideal.ieee, -EReal.coe_mul]
  rw [show (1 : Ideal FTy.f32) = ((1 : ℝ) : EReal) from rfl]
  exact EReal.coe_le_coe_iff.2 (by norm_num)

theorem rS_at (q k : FVec Ideal S8x2048x8x192 .f32) (b h : Fin 8) (p j : Fin 2048) :
    (rS q k : S8x8x2048x2048.Idx → EReal) (ix4 b h p j) = if j.val ≤ p.val then (∑ e : Fin 192, (q (ix4 b p h e) : EReal) * (k (ix4 b j h e) : EReal)) * scl else (⊥ : EReal) := by
  unfold rS
  pointwise
  rw [causal_select]
  refine if_congr Iff.rfl rfl neg_inf

theorem rM_at (S : FVec Ideal S8x8x2048x2048 .f32) (b h : Fin 8) (p : Fin 2048) :
    (rM S : S8x8x2048x1.Idx → EReal) (ix4 b h p 0) = Finset.univ.fold max (⊥ : EReal) fun j : Fin 2048 => (S (ix4 b h p j) : EReal) := by
  unfold rM
  pointwise
  rw [neg_inf]

theorem abs_lt_top (r : ℝ) : (FloatOps.absf (F := Ideal) (φ := .f32) (r : EReal) : EReal) < ⊤ := by
  show max (r : EReal) (-(r : EReal)) < ⊤
  rw [max_lt_iff]
  exact ⟨EReal.coe_lt_top r, by rw [← EReal.coe_neg]; exact EReal.coe_lt_top _⟩

/-- A number whose absolute value is below infinity is real. -/
theorem real_of_abs_lt (x : EReal) (h : (FloatOps.absf (F := Ideal) (φ := .f32) x : EReal) < ⊤) : ∃ r : ℝ, x = (r : EReal) := by
  have h : max x (-x) < ⊤ := h
  rw [max_lt_iff] at h
  refine ⟨x.toReal, (EReal.coe_toReal h.1.ne fun hb => ?_).symm⟩
  rw [hb] at h; simp at h

theorem rG_at (M : FVec Ideal S8x8x2048x1 .f32) (b h : Fin 8) (p : Fin 2048) (hM : ∃ r : ℝ, (M (ix4 b h p 0) : EReal) = (r : EReal)) :
    (rG M : S8x8x2048x1.Idx → EReal) (ix4 b h p 0) = (M (ix4 b h p 0) : EReal) := by
  unfold rG
  pointwise
  rw [pos_inf]
  obtain ⟨r, hr⟩ := hM
  refine if_pos ?_
  rw [hr]
  exact abs_lt_top r

theorem rE_at (S : FVec Ideal S8x8x2048x2048 .f32) (G : FVec Ideal S8x8x2048x1 .f32) (b h : Fin 8) (p j : Fin 2048) :
    (rE S G : S8x8x2048x2048.Idx → EReal) (ix4 b h p j) = Ideal.exp ((S (ix4 b h p j) : EReal) - (G (ix4 b h p 0) : EReal)) := by
  unfold rE
  pointwise

theorem rO_at (v : FVec Ideal S8x2048x8x128 .f32) (E : FVec Ideal S8x8x2048x2048 .f32) (b : Fin 8) (p : Fin 2048) (C : Fin 1024) :
    (rO v E : S8x2048x1024.Idx → EReal) (ix3 b p C) = ∑ j : Fin 2048, Ideal.div (E (ix4 b ⟨C.val / 128, by omega⟩ p j) : EReal)
        (max (∑ k : Fin 2048, (E (ix4 b ⟨C.val / 128, by omega⟩ p k) : EReal)) (Ideal.ofBits FTy.f32 228737632#32)) * (v (ix4 b j ⟨C.val / 128, by omega⟩ ⟨C.val % 128, by omega⟩) : EReal) := by
  unfold rO
  pointwise
  exact Finset.sum_congr rfl fun j _ => mul_comm _ _

/-- The maximum of a row with one real score, whose other scores are real or minus infinity, is real. -/
theorem max_real (S : Fin 2048 → EReal) (h : ∀ j, S j ≠ ⊤) (h0 : S 0 ≠ ⊥) : ∃ r : ℝ, Finset.univ.fold max (⊥ : EReal) S = (r : EReal) := by
  have e : Finset.univ.fold max (⊥ : EReal) S = Finset.univ.sup S := rfl
  rw [e]
  have ht : Finset.univ.sup S ≠ ⊤ := ((Finset.sup_lt_iff bot_lt_top).2 fun j _ => lt_top_iff_ne_top.2 (h j)).ne
  have hb : Finset.univ.sup S ≠ ⊥ := ((bot_lt_iff_ne_bot.2 h0).trans_le (Finset.le_sup (Finset.mem_univ 0))).ne'
  exact ⟨_, (EReal.coe_toReal ht hb).symm⟩

/-- THE REFERENCE'S RESULT: the problem's causal attention, where the queries and the keys are real. -/
theorem ref_at (q k : FVec Ideal S8x2048x8x192 .f32) (v : FVec Ideal S8x2048x8x128 .f32)
    (hq : ∀ y, ∃ r : ℝ, (q y : EReal) = (r : EReal)) (hk : ∀ y, ∃ r : ℝ, (k y : EReal) = (r : EReal))
    (b : Fin 8) (p : Fin 2048) (C : Fin 1024) :
    (rO v (rE (rS q k) (rG (rM (rS q k)))) : S8x2048x1024.Idx → EReal) (ix3 b p C) = attnOf q k v (Ideal.ofBits FTy.f32 228737632#32) b p C := by
  have hs : ∀ (h : Fin 8) (j : Fin 2048), ∃ r : ℝ, (∑ e : Fin 192, (q (ix4 b p h e) : EReal) * (k (ix4 b j h e) : EReal)) * scl = (r : EReal) := by
    intro h j
    obtain ⟨s, hs⟩ := scl_real
    choose q' hq' using fun e => hq (ix4 b p h e)
    choose k' hk' using fun e => hk (ix4 b j h e)
    refine ⟨(∑ e, q' e * k' e) * s, ?_⟩
    rw [hs, EReal.coe_mul, ← coe_sum]
    congr 1
    exact Finset.sum_congr rfl fun e _ => by rw [hq', hk', EReal.coe_mul]
  have hM : ∀ h : Fin 8, ∃ r : ℝ, (rM (rS q k) (ix4 b h p 0) : EReal) = (r : EReal) := by
    intro h
    rw [rM_at]
    refine max_real _ (fun j => ?_) ?_
    · rw [rS_at]
      split
      · obtain ⟨r, hr⟩ := hs h j; rw [hr]; exact EReal.coe_ne_top r
      · exact bot_ne_top
    · rw [rS_at, if_pos (show (0 : Fin 2048).val ≤ p.val from Nat.zero_le _)]
      obtain ⟨r, hr⟩ := hs h 0; rw [hr]; exact EReal.coe_ne_bot r
  rw [rO_at]
  simp only [rE_at, rG_at _ b _ p (hM _), rM_at, rS_at]
  unfold attnOf attend
  have ho : ∀ j : Fin 2048, Fin.ofNat 2048 j.val = j := fun j => Fin.ext (Nat.mod_eq_of_lt j.isLt)
  simp only [ho]

end Cert.ReferenceIdeal.Hand
-- ==== Proof.Attention.lean ====
/-
  The claims about the latent attention: the three frames, the named constant, and the value.
-/
module

public import proofs.«01_k».proof.Defs
public import proofs.«01_k».proof.Proof.Ref
public import proofs.«01_k».proof.Proof.Gen.Kernel.Frame
public import proofs.«01_k».proof.Proof.Gen.KernelIdeal.Value
public import Idealize.ShloMosaic.Lib.ReduceAll
public import Idealize.ShloMosaic.Lib.Decide
public import Idealize.ShloMosaic.Lib.ShapeFacts

@[expose] public section

noncomputable section

namespace Cert.Attention

open Idealize.ShloMosaic Idealize.ShloMosaic.TcCoe Idealize.SL.Sem

/-- The side conditions of the printed precondition. -/
theorem preFacts : Cert.Pre_finite_scores.Facts where
  bcast_S_S8x2048x8x192 := by decide
  reducesTo_S8x2048x8x192_S_d0_1_2_3 := by decide
  h_S_ := by decide

/-- The kernel runs, its arguments unchanged and its counters at zero. -/
theorem frameP : Cert.quiescent_Kernel (hKernel := Cert.Kernel.Gen.facts) := fun m g _ => Cert.Kernel.Gen.frame m g

/-- So does its idealization. -/
theorem framePI : Cert.quiescent_KernelIdeal (hKernelIdeal := Cert.KernelIdeal.Gen.facts) := fun m g _ => Cert.KernelIdeal.Gen.frame m g

/-- So does the reference, which declares no counter. -/
theorem frameRI : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run m g)

/-- The mask's constant is what the table names. -/
theorem preserved : Cert.preserves_Kernel_KernelIdeal :=
  IdealRules.named_const.statement Cert.KernelIdeal.κ "mask" .f32 0xF149F2CA#32 ⊥ rfl

/-- An entry whose absolute value compares below infinity is real. -/
theorem real_entry (x : FVec Ideal Cert.Pre_finite_scores.S8x2048x8x192 .f32) (y : Cert.Pre_finite_scores.S8x2048x8x192.Idx)
    (h : haveI := preFacts; cmpf (F := Ideal) CmpFPredicate.olt (Host.absf x) (broadcastInDim Cert.Pre_finite_scores.S8x2048x8x192 ![] Cert.Pre_finite_scores.Facts.bcast_S_S8x2048x8x192 (constant (F := Ideal) Cert.Pre_finite_scores.S_ .f32 2139095040#32)) y = 1#1) :
    ∃ r : ℝ, (x y : EReal) = (r : EReal) := by
  refine Cert.ReferenceIdeal.Hand.real_of_abs_lt _ ?_
  rw [← Cert.ReferenceIdeal.Hand.pos_inf]
  have h : BitVec.ofBool (decide ((FloatOps.absf (F := Ideal) (φ := .f32) (x y) : EReal) < Ideal.ofBits FTy.f32 2139095040#32)) = 1#1 := h
  by_contra hn
  rw [decide_eq_false hn] at h
  exact absurd h (by decide)

/-- The precondition says that every query and every key is real. -/
theorem real_args (q k : FVec Ideal Cert.Pre_finite_scores.S8x2048x8x192 .f32) (v : FVec Ideal Cert.Pre_finite_scores.S8x2048x8x128 .f32)
    (h : haveI := preFacts; Cert.Pre_finite_scores.fn (F := Ideal) q k v = fun _ => 1#1) :
    (∀ y, ∃ r : ℝ, (q y : EReal) = (r : EReal)) ∧ (∀ y, ∃ r : ℝ, (k y : EReal) = (r : EReal)) := by
  have h1 := congrFun h ix0
  unfold Cert.Pre_finite_scores.fn at h1
  dsimp only at h1
  obtain ⟨hq, hk⟩ := IntOp.andi_eq_one.1 h1
  haveI : Subsingleton Cert.Pre_finite_scores.S_.Idx := ⟨fun a b => funext fun x => x.elim0⟩
  exact ⟨fun y => real_entry q y (Host.reduce_andi_all _ _ _ _ ix0 hq y), fun y => real_entry k y (Host.reduce_andi_all _ _ _ _ ix0 hk y)⟩

/-- THE VALUE: from equal arguments whose queries and keys are real, the kernel and the reference end with equal results. -/
theorem value : Cert.algebraic_KernelIdeal_ReferenceIdeal_pre_finite_scores (hKernelIdeal := Cert.KernelIdeal.Gen.facts) (hReferenceIdeal := Cert.ReferenceIdeal.Gen.facts) (hPre_finite_scores := preFacts) := by
  intro m g m' g' hpre hargs
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun _ h c => ⟨(h c).1.trans ?_, (h c).2⟩) (Cert.ReferenceIdeal.Value.run m' g')
  obtain ⟨hq, hk⟩ := real_args _ _ _ (hpre c)
  obtain ⟨a0, a1, a2⟩ := hargs c
  rw [Cert.ReferenceIdeal.Hand.res_eq, a0, a1, a2]
  refine Eq.trans ?_ (Cert.KernelIdeal.Hand.result m c _ Cert.ReferenceIdeal.Hand.eps_le hq hk).symm
  funext y
  have ey : y = ix3 (y 0) (y 1) (y 2) := funext fun a => match a with
    | 0 => rfl
    | 1 => rfl
    | 2 => rfl
  rw [ey]
  exact Cert.ReferenceIdeal.Hand.ref_at _ _ _ hq hk (y 0) (y 1) (y 2)

end Cert.Attention
-- ==== Proof.LayerNorm.lean ====
/-
  The layer norm of one row of 2048 entries over the extended reals, as the kernels and the reference write it.
-/
module

public import Idealize.ShloMosaic.PureOps.Ideal
public import Idealize.ShloMosaic.Lib.Pointwise

@[expose] public section

noncomputable section

open Idealize.ShloMosaic

namespace Cert.Norm

/-- The mean of a row. -/
def mean (y : Fin 2048 → EReal) : EReal := FloatOps.divf (F := Ideal) (φ := .f32) (∑ k, y k) (Ideal.ofBits .f32 0x45000000#32)

/-- The normed row at one entry. -/
def normAt (y : Fin 2048 → EReal) (g b : EReal) (j : Fin 2048) : EReal :=
  (y j - mean y) * FloatOps.rsqrt (F := Ideal) (φ := .f32) (mean (fun k => (y k - mean y) * (y k - mean y)) + Ideal.ofBits .f32 0x3727C5AC#32) * g + b

/-- The factor of the residual. -/
def alpha : EReal := Ideal.ofBits .f32 0x3FB504F3#32

end Cert.Norm
-- ==== Proof.MlpBody.lean ====
/-
  The feed-forward kernel's three cases as values: what each leaves in the accumulator and in the output block.
-/
module

public import proofs.«01_k».proof.Proof.Gen.MlpIdeal.Value
public import proofs.«01_k».proof.Proof.LayerNorm
public import Idealize.ShloMosaic.Lib.Pointwise
public import Idealize.ShloMosaic.Lib.KernelVsHost
public import Idealize.ShloMosaic.Lib.IdealHost

@[expose] public section

set_option maxRecDepth 16384

noncomputable section

open Idealize.ShloMosaic Idealize.ShloMosaic.TcCoe

namespace Cert.MlpIdeal.Hand

open Cert.MlpIdeal Cert.MlpIdeal.Gen

theorem hz : (![0, 0] : Fin 2 → Nat) = fun _ => 0 := funext fun a => by fin_cases a <;> rfl
theorem hz3 : (![0, 0, 0] : Fin 3 → Nat) = fun _ => 0 := funext fun a => by fin_cases a <;> rfl

section Cases

variable (c : Dev nD) (i : grid0.Coords) (a2 : Memref sig .tc .vmem S512x2048 .f32) (h2 : a2.IsWhole) (a3 : Memref sig .tc .vmem S1x2048x1024 .bf16) (h3 : a3.IsWhole)
  (a4 : Memref sig .tc .vmem S1x1024x2048 .bf16) (h4 : a4.IsWhole) (a5 : Memref sig .tc .vmem S1x2048 .f32) (h5 : a5.IsWhole) (a6 : Memref sig .tc .vmem S1x2048 .f32) (h6 : a6.IsWhole)
  (a7 : Memref sig .tc .vmem S512x2048 .f32) (h7 : a7.IsWhole) (a8 : Memref sig .tc .vmem S512x2048 .f32) (h8 : a8.IsWhole)
  (x0 : Vec Ideal S512x2048 .f32) (x1 : Vec Ideal S1x2048x1024 .bf16) (x2 : Vec Ideal S1x1024x2048 .bf16) (x3 x4 : Vec Ideal S1x2048 .f32) (xs : Vec Ideal S512x2048 .f32)

/-- The first step of a row block leaves its product over zeros. -/
theorem acc_A (hc0 : cond0_0 i) (hc1 : ¬cond0_1 i) :
    sout0_A_0 c i a2 h2 a3 h3 a4 h4 a5 h5 a6 h6 a7 h7 a8 h8 hc0 hc1 x0 x1 x2 x3 x4 = k0_pay2 x0 x1 (k0_pay1 (F := Ideal)) x2 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S512x2048) hz, View.readCov_unit_zero (S := S512x2048) _ hz]
  simp only [View.readAt_eq_ld, h2.read_unread, h3.read_unread, h4.read_unread, View.ld_unit_zero (S := S512x2048) hz, View.ld_unit_zero (S := S1x2048x1024) hz3, View.ld_unit_zero (S := S1x1024x2048) hz3]

/-- A middle step adds its product. -/
theorem acc_B (hc0 : ¬cond0_0 i) (hc1 : ¬cond0_1 i) :
    sout0_B_0 c i a2 h2 a3 h3 a4 h4 a5 h5 a6 h6 a7 h7 a8 h8 hc0 hc1 x0 x1 x2 x3 x4 xs = k0_pay2 x0 x1 xs x2 := by
  unfold sout0_B_0
  rw [View.read_writes_eq_canon _ _ _ (scover0_B_0 c i a2 h2 a3 h3 a4 h4 a5 h5 a6 h6 a7 h7 a8 h8 hc0 hc1 x0 x1 x2 x3 x4 xs)]
  unfold kernelRun0_B
  dsimp only
  rw [View.canon_unit_zero (S := S512x2048) hz]
  simp only [View.readAt_eq_ld, h2.read_unread, h3.read_unread, h4.read_unread, h8.read_unread, View.ld_unit_zero (S := S512x2048) hz, View.ld_unit_zero (S := S1x2048x1024) hz3, View.ld_unit_zero (S := S1x1024x2048) hz3]

/-- The last step adds its product too, -/
theorem acc_C (hc0 : ¬cond0_0 i) (hc1 : cond0_1 i) :
    sout0_C_0 c i a2 h2 a3 h3 a4 h4 a5 h5 a6 h6 a7 h7 a8 h8 hc0 hc1 x0 x1 x2 x3 x4 xs = k0_pay2 x0 x1 xs x2 := by
  unfold sout0_C_0
  rw [View.read_writes_eq_canon _ _ _ (scover0_C_0 c i a2 h2 a3 h3 a4 h4 a5 h5 a6 h6 a7 h7 a8 h8 hc0 hc1 x0 x1 x2 x3 x4 xs)]
  unfold kernelRun0_C
  dsimp only
  sl_unfold_words
  rw [View.canon_unit_zero (S := S512x2048) hz]
  simp only [View.readAt_eq_ld, h2.read_unread, h3.read_unread, h4.read_unread, h8.read_unread, View.ld_unit_zero (S := S512x2048) hz, View.ld_unit_zero (S := S1x2048x1024) hz3, View.ld_unit_zero (S := S1x1024x2048) hz3]

/-- and writes the normed sum of the residual and the accumulator. -/
theorem out_C (hc0 : ¬cond0_0 i) (hc1 : cond0_1 i) :
    out0_C_5 c i a2 h2 a3 h3 a4 h4 a5 h5 a6 h6 a7 h7 a8 h8 hc0 hc1 x0 x1 x2 x3 x4 xs = k0_pay3 x0 (k0_pay2 x0 x1 xs x2) x3 x4 := by
  unfold out0_C_5
  rw [View.read_writes_eq_canon _ _ _ (cover0_C_5 c i a2 h2 a3 h3 a4 h4 a5 h5 a6 h6 a7 h7 a8 h8 hc0 hc1 x0 x1 x2 x3 x4 xs)]
  unfold kernelRun0_C
  dsimp only
  sl_unfold_words
  rw [View.canon_unit_zero (S := S512x2048) hz, View.readCov_unit_zero (S := S512x2048) _ hz]
  simp only [View.readAt_eq_ld, h2.read_unread, h3.read_unread, h4.read_unread, h5.read_unread, h6.read_unread, h8.read_unread, View.ld_unit_zero (S := S512x2048) hz, View.ld_unit_zero (S := S1x2048x1024) hz3, View.ld_unit_zero (S := S1x1024x2048) hz3, View.ld_unit_zero (S := S1x2048) hz]

end Cases

/-- A row of the hidden layer, squared after its relu, at one entry. -/
def hid (x : Fin 2048 → EReal) (w : Fin 2048 → EReal) : EReal := max (∑ d, x d * w d) 0 * max (∑ d, x d * w d) 0

/-- One step's accumulator at an entry. -/
theorem pay2_at (x0 : Vec Ideal S512x2048 .f32) (x1 : Vec Ideal S1x2048x1024 .bf16) (acc : Vec Ideal S512x2048 .f32) (x2 : Vec Ideal S1x1024x2048 .bf16) (r : Fin 512) (j : Fin 2048) :
    k0_pay2 x0 x1 acc x2 (ix2 r j) = acc (ix2 r j) + ∑ e : Fin 1024, hid (fun d => x0 (ix2 r d)) (fun d => x1 (ix3 0 d e)) * x2 (ix3 0 e j) := by
  unfold hid
  pointwise [k0_pay2]

theorem pay1_at (r : Fin 512) (j : Fin 2048) : (k0_pay1 (F := Ideal)) (ix2 r j) = (0 : EReal) := by
  pointwise [k0_pay1]

/-- The stored row is the layer norm of the residual and the accumulator. -/
theorem pay3_at (x0 acc : Vec Ideal S512x2048 .f32) (g b : Vec Ideal S1x2048 .f32) (r : Fin 512) (j : Fin 2048) :
    k0_pay3 x0 acc g b (ix2 r j) = Cert.Norm.normAt (fun k => Cert.Norm.alpha * x0 (ix2 r k) + acc (ix2 r k)) (g (ix2 0 j)) (b (ix2 0 j)) j := by
  unfold Cert.Norm.normAt Cert.Norm.mean Cert.Norm.alpha
  pointwise [k0_pay3]

end Cert.MlpIdeal.Hand
-- ==== Proof.MlpValue.lean ====
/-
  The feed-forward kernel's result array at coordinates: the accumulator over the eight blocks of hidden columns, then the norm.
-/
module

public import proofs.«01_k».proof.Proof.MlpBody
public import Idealize.ShloMosaic.Lib.Pipeline.ValueKit

@[expose] public section

set_option maxRecDepth 16384

noncomputable section

open Idealize.ShloMosaic Idealize.ShloMosaic.TcCoe Idealize.ShloMosaic.StableHlo

namespace Cert.MlpIdeal.Hand

open Cert.MlpIdeal Cert.MlpIdeal.Gen

/-- A column of the hidden layer by its number. -/
abbrev col (n : ℕ) : Fin 8192 := ⟨n % 8192, Nat.mod_lt _ (by decide)⟩

/-- What step `s` adds to the accumulator at a row and a column. -/
def stepAt (H : S16384x2048.Idx → EReal) (W1 : S2x2048x8192.Idx → EReal) (W2 : S2x8192x2048.Idx → EReal) (R : Fin 16384) (s : ℕ) (j : Fin 2048) : EReal :=
  ∑ e : Fin 1024, hid (fun d => H (ix2 R d)) (fun d => W1 (ix3 1 d (col (1024 * s + e.val)))) * W2 (ix3 1 (col (1024 * s + e.val)) j)

/-- The two products of a row, whole. -/
def ffAt (H : S16384x2048.Idx → EReal) (W1 : S2x2048x8192.Idx → EReal) (W2 : S2x8192x2048.Idx → EReal) (R : Fin 16384) (j : Fin 2048) : EReal :=
  ∑ k : Fin 8192, hid (fun d => H (ix2 R d)) (fun d => W1 (ix3 1 d k)) * W2 (ix3 1 k j)

/-- A sum in eight blocks of 1024 is the sum. -/
theorem blocked_sum (f : Fin 8192 → EReal) : ∑ s ∈ Finset.range 8, ∑ e : Fin 1024, f (col (1024 * s + e.val)) = ∑ k : Fin 8192, f k := by
  rw [Finset.sum_range, ← Fintype.sum_prod_type']
  refine Fintype.sum_equiv (finProdFinEquiv (m := 8) (n := 1024)) _ _ fun p => ?_
  congr 1
  apply Fin.ext
  show (1024 * p.1.val + p.2.val) % 8192 = p.2.val + 1024 * p.1.val
  omega

theorem steps_eq (H : S16384x2048.Idx → EReal) (W1 : S2x2048x8192.Idx → EReal) (W2 : S2x8192x2048.Idx → EReal) (R : Fin 16384) (j : Fin 2048) :
    ∑ s ∈ Finset.range 8, stepAt H W1 W2 R s j = ffAt H W1 W2 R j :=
  blocked_sum fun k => hid (fun d => H (ix2 R d)) (fun d => W1 (ix3 1 d k)) * W2 (ix3 1 k j)

variable (m : (ℓ : Loc nD τ sig) → Buf (Elt Ideal) ℓ)

theorem N256 (t : Fin cfg0.N) : t.val < 256 := lt_of_lt_of_eq t.isLt N_0

theorem idx0 : ∀ t : Fin cfg0.N, win0_0.index t = ![t.val / 8, 0] := (by decide +kernel : ∀ t : Fin grid0.N, win0_0.index t = ![t.val / 8, 0])
theorem idx1 : ∀ t : Fin cfg0.N, win0_1.index t = ![1, 0, t.val % 8] := (by decide +kernel : ∀ t : Fin grid0.N, win0_1.index t = ![1, 0, t.val % 8])
theorem idx2 : ∀ t : Fin cfg0.N, win0_2.index t = ![1, t.val % 8, 0] := (by decide +kernel : ∀ t : Fin grid0.N, win0_2.index t = ![1, t.val % 8, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val / 8, 0] := (by decide +kernel : ∀ t : Fin grid0.N, win0_5.index t = ![t.val / 8, 0])

/-- The row of the array that a block's row is. -/
abbrev rowOf (t : Fin cfg0.N) (r : Fin 512) : Fin 16384 := ⟨512 * (t.val / 8) + r.val, by have := N256 t; omega⟩

theorem iblk0 (c : Dev nD) (t : Fin cfg0.N) (r : Fin 512) (d : Fin 2048) :
    (iblk m c 0 t : S512x2048.Idx → EReal) (ix2 r d) = (V m c main_v0 : S16384x2048.Idx → EReal) (ix2 (rowOf t r) d) := by
  unfold iblk; rw [View.read_apply]
  show V m c main_v0 _ = V m c main_v0 _
  congr 1; funext a; apply Fin.ext
  have hi := idx0 t
  match a with
  | ⟨0, _⟩ => show win0_0.index t 0 * 512 + 1 * r.val = 512 * (t.val / 8) + r.val; rw [hi]; show (t.val / 8) * 512 + 1 * r.val = _; omega
  | ⟨1, _⟩ => show win0_0.index t 1 * 2048 + 1 * d.val = d.val; rw [hi]; show 0 * 2048 + 1 * d.val = _; omega

theorem iblk1 (c : Dev nD) (t : Fin cfg0.N) (d : Fin 2048) (e : Fin 1024) :
    (iblk m c 1 t : S1x2048x1024.Idx → EReal) (ix3 0 d e) = (V m c main_v1 : S2x2048x8192.Idx → EReal) (ix3 1 d (col (1024 * (t.val % 8) + e.val))) := by
  unfold iblk; rw [View.read_apply]
  show V m c main_v1 _ = V m c main_v1 _
  congr 1; funext a; apply Fin.ext
  have hi := idx1 t
  match a with
  | ⟨0, _⟩ => show win0_1.index t 0 * 1 + 1 * 0 = 1; rw [hi]; rfl
  | ⟨1, _⟩ => show win0_1.index t 1 * 2048 + 1 * d.val = d.val; rw [hi]; show 0 * 2048 + 1 * d.val = _; omega
  | ⟨2, _⟩ => show win0_1.index t 2 * 1024 + 1 * e.val = (1024 * (t.val % 8) + e.val) % 8192; rw [hi]; show (t.val % 8) * 1024 + 1 * e.val = _; omega

theorem iblk2 (c : Dev nD) (t : Fin cfg0.N) (e : Fin 1024) (j : Fin 2048) :
    (iblk m c 2 t : S1x1024x2048.Idx → EReal) (ix3 0 e j) = (V m c main_v2 : S2x8192x2048.Idx → EReal) (ix3 1 (col (1024 * (t.val % 8) + e.val)) j) := by
  unfold iblk; rw [View.read_apply]
  show V m c main_v2 _ = V m c main_v2 _
  congr 1; funext a; apply Fin.ext
  have hi := idx2 t
  match a with
  | ⟨0, _⟩ => show win0_2.index t 0 * 1 + 1 * 0 = 1; rw [hi]; rfl
  | ⟨1, _⟩ => show win0_2.index t 1 * 1024 + 1 * e.val = (1024 * (t.val % 8) + e.val) % 8192; rw [hi]; show (t.val % 8) * 1024 + 1 * e.val = _; omega
  | ⟨2, _⟩ => show win0_2.index t 2 * 2048 + 1 * j.val = j.val; rw [hi]; show 0 * 2048 + 1 * j.val = _; omega

theorem iblk3 (c : Dev nD) (t : Fin cfg0.N) (j : Fin 2048) :
    (iblk m c 3 t : S1x2048.Idx → EReal) (ix2 0 j) = (V m c main_v7 : S1x2048.Idx → EReal) (ix2 0 j) := by
  unfold iblk; rw [View.read_apply]
  show V m c main_v7 _ = V m c main_v7 _
  congr 1; funext a; apply Fin.ext
  have hi := idx3 t
  match a with
  | ⟨0, _⟩ => show win0_3.index t 0 * 1 + 1 * 0 = 0; rw [hi]; rfl
  | ⟨1, _⟩ => show win0_3.index t 1 * 2048 + 1 * j.val = j.val; rw [hi]; show 0 * 2048 + 1 * j.val = _; omega

theorem iblk4 (c : Dev nD) (t : Fin cfg0.N) (j : Fin 2048) :
    (iblk m c 4 t : S1x2048.Idx → EReal) (ix2 0 j) = (V m c main_v8 : S1x2048.Idx → EReal) (ix2 0 j) := by
  unfold iblk; rw [View.read_apply]
  show V m c main_v8 _ = V m c main_v8 _
  congr 1; funext a; apply Fin.ext
  have hi := idx4 t
  match a with
  | ⟨0, _⟩ => show win0_4.index t 0 * 1 + 1 * 0 = 0; rw [hi]; rfl
  | ⟨1, _⟩ => show win0_4.index t 1 * 2048 + 1 * j.val = j.val; rw [hi]; show 0 * 2048 + 1 * j.val = _; omega

/-- One step's accumulator at an entry, from where the blocks lie in the staged arrays. -/
theorem pay2_of (x0 : Vec Ideal S512x2048 .f32) (x1 : Vec Ideal S1x2048x1024 .bf16) (acc : Vec Ideal S512x2048 .f32) (x2 : Vec Ideal S1x1024x2048 .bf16)
    (H : S16384x2048.Idx → EReal) (W1 : S2x2048x8192.Idx → EReal) (W2 : S2x8192x2048.Idx → EReal) (R : Fin 16384) (s : ℕ) (r : Fin 512) (j : Fin 2048)
    (h0 : ∀ d : Fin 2048, x0 (ix2 r d) = H (ix2 R d)) (h1 : ∀ (d : Fin 2048) (e : Fin 1024), x1 (ix3 0 d e) = W1 (ix3 1 d (col (1024 * s + e.val))))
    (h2 : ∀ (e : Fin 1024), x2 (ix3 0 e j) = W2 (ix3 1 (col (1024 * s + e.val)) j)) :
    k0_pay2 x0 x1 acc x2 (ix2 r j) = acc (ix2 r j) + stepAt H W1 W2 R s j := by
  rw [pay2_at]
  unfold stepAt
  simp only [h0, h1, h2]

/-- One step's accumulator over the staged arrays. -/
theorem pay2_blk (c : Dev nD) (t : Fin cfg0.N) (acc : Vec Ideal S512x2048 .f32) (r : Fin 512) (j : Fin 2048) :
    k0_pay2 (iblk m c 0 t) (iblk m c 1 t) acc (iblk m c 2 t) (ix2 r j)
      = acc (ix2 r j) + stepAt (V m c main_v0) (V m c main_v1) (V m c main_v2) (rowOf t r) (t.val % 8) j :=
  pay2_of _ _ _ _ _ _ _ _ _ r j (fun d => iblk0 m c t r d) (fun d e => iblk1 m c t d e) (fun e => iblk2 m c t e j)

/-- The accumulator after a step: the steps of its row block so far. -/
theorem acc_at (c : Dev nD) : ∀ (n : ℕ) (h : n < cfg0.N) (r : Fin 512) (j : Fin 2048),
    (outsAt0 m c n h).2 (ix2 r j)
      = ∑ s ∈ Finset.range (n % 8 + 1), stepAt (V m c main_v0) (V m c main_v1) (V m c main_v2) (rowOf ⟨n, h⟩ r) s j := by
  intro n
  induction n with
  | zero =>
    intro h r j
    rw [outsAt0_A m c ⟨0, h⟩ rfl (by dsimp only; omega)]
    dsimp only
    rw [acc_A, pay2_blk, pay1_at, zero_add]
    exact (Finset.sum_range_one (fun s => stepAt (V m c main_v0) (V m c main_v1) (V m c main_v2) (rowOf ⟨0, h⟩ r) s j)).symm
  | succ k ih =>
    intro h r j
    have hN : k + 1 < 256 := lt_of_lt_of_eq h N_0
    by_cases h0 : (k + 1) % 8 = 0
    · rw [outsAt0_A m c ⟨k + 1, h⟩ h0 (by dsimp only; omega)]
      dsimp only
      rw [acc_A, pay2_blk, pay1_at, zero_add]
      dsimp only
      rw [h0]
      exact (Finset.sum_range_one (fun s => stepAt (V m c main_v0) (V m c main_v1) (V m c main_v2) (rowOf ⟨k + 1, h⟩ r) s j)).symm
    · have hrow : rowOf ⟨k + 1, h⟩ r = rowOf ⟨k, Nat.lt_of_succ_lt h⟩ r := by
        apply Fin.ext; show 512 * ((k + 1) / 8) + r.val = 512 * (k / 8) + r.val; omega
      have hmod : (k + 1) % 8 = k % 8 + 1 := by omega
      by_cases h1 : (k + 1) % 8 = 7
      · rw [outsAt0_C m c ⟨k + 1, h⟩ h0 h1]
        dsimp only
        rw [acc_C, pay2_blk]
        dsimp only
        rw [hmod, Finset.sum_range_succ, hrow]
        exact congrArg (· + _) (ih (Nat.lt_of_succ_lt h) r j)
      · rw [outsAt0_B m c ⟨k + 1, h⟩ h0 h1]
        dsimp only
        rw [acc_B, pay2_blk]
        dsimp only
        rw [hmod, Finset.sum_range_succ, hrow]
        exact congrArg (· + _) (ih (Nat.lt_of_succ_lt h) r j)

/-- The result at a row and a column, from the staged arrays. -/
def outAt (H : S16384x2048.Idx → EReal) (W1 : S2x2048x8192.Idx → EReal) (W2 : S2x8192x2048.Idx → EReal) (G B : S1x2048.Idx → EReal) (R : Fin 16384) (j : Fin 2048) : EReal :=
  Cert.Norm.normAt (fun k => Cert.Norm.alpha * H (ix2 R k) + ffAt H W1 W2 R k) (G (ix2 0 j)) (B (ix2 0 j)) j

/-- The stored row, from where the blocks lie and what the accumulator holds. -/
theorem pay3_of (x0 acc : Vec Ideal S512x2048 .f32) (g b : Vec Ideal S1x2048 .f32)
    (H : S16384x2048.Idx → EReal) (W1 : S2x2048x8192.Idx → EReal) (W2 : S2x8192x2048.Idx → EReal) (G B : S1x2048.Idx → EReal) (R : Fin 16384) (r : Fin 512) (j : Fin 2048)
    (h0 : ∀ d : Fin 2048, x0 (ix2 r d) = H (ix2 R d)) (ha : ∀ k : Fin 2048, acc (ix2 r k) = ffAt H W1 W2 R k)
    (hg : g (ix2 0 j) = G (ix2 0 j)) (hb : b (ix2 0 j) = B (ix2 0 j)) :
    k0_pay3 x0 acc g b (ix2 r j) = outAt H W1 W2 G B R j := by
  rw [pay3_at]
  unfold outAt
  simp only [h0, ha, hg, hb]

/-- The output block at the last step of a row block. -/
theorem out_at (c : Dev nD) (t : Fin cfg0.N) (h7 : t.val % 8 = 7) (r : Fin 512) (j : Fin 2048) :
    (outsAt0 m c t.val t.isLt).1 (ix2 r j)
      = outAt (V m c main_v0) (V m c main_v1) (V m c main_v2) (V m c main_v7) (V m c main_v8) (rowOf t r) j := by
  have hacc := fun k => acc_at m c t.val t.isLt r k
  rw [outsAt0_C m c t (by omega) h7] at hacc ⊢
  dsimp only at hacc ⊢
  rw [out_C]
  simp only [acc_C] at hacc
  refine pay3_of _ _ _ _ _ _ _ _ _ _ r j (fun d => iblk0 m c t r d) (fun k => (hacc k).trans ?_) (iblk3 m c t j) (iblk4 m c t j)
  rw [h7]
  exact steps_eq _ _ _ _ _

/-- The result array. -/
theorem final (c : Dev nD) :
    (dats m 0 c).arrAt 5 cfg0.N = fun y : S16384x2048.Idx =>
      outAt (V m c main_v0) (V m c main_v1) (V m c main_v2) (V m c main_v7) (V m c main_v8) (y 0) (y 1) := by
  refine (dats m 0 c).arrAt_eq_of_covers 5 _ (by decide +kernel) fun t hf y => ?_
  have h7 : t.val % 8 = 7 := (flush0_5 t).mp hf
  have hN := N256 t
  blk_simp
  rw [after0_5]
  obtain ⟨r, j, rfl⟩ : ∃ (r : Fin 512) (j : Fin 2048), y = (ix2 r j : S512x2048.Idx) := by
    refine ⟨y 0, y 1, funext fun a => ?_⟩
    match a with
    | 0 => rfl
    | 1 => rfl
  have hi := idx5 t
  have hr : (win0_5.blk t).view.emb (ix2 r j : S512x2048.Idx) 0 = rowOf t r := by
    apply Fin.ext; show win0_5.index t 0 * 512 + 1 * r.val = 512 * (t.val / 8) + r.val; rw [hi]; show (t.val / 8) * 512 + 1 * r.val = _; omega
  have hj : (win0_5.blk t).view.emb (ix2 r j : S512x2048.Idx) 1 = j := by
    apply Fin.ext; show win0_5.index t 1 * 2048 + 1 * j.val = j.val; rw [hi]; show 0 * 2048 + 1 * j.val = _; omega
  rw [hr, hj]
  exact out_at m c t h7 r j

end Cert.MlpIdeal.Hand
-- ==== Proof.NormRef.lean ====
/-
  The reference's layer norm of rows [8, 2048, 2048], laid out as [16384, 2048], at coordinates.
-/
module

public import proofs.«01_k».proof.Proof.LayerNorm
public import Idealize.ShloMosaic.PureOps.Ideal
public import Idealize.ShloMosaic.Lib.StableHlo.Run
public import Idealize.ShloMosaic.Lib.Pointwise
public import Idealize.ShloMosaic.Lib.IdealHost

@[expose] public section

set_option maxRecDepth 16384

noncomputable section

open Idealize.ShloMosaic Idealize.ShloMosaic.StableHlo

namespace Cert.Norm

abbrev Cube : Shape := ⟨3, ![8, 2048, 2048]⟩
abbrev Flat : Shape := ⟨2, ![16384, 2048]⟩
abbrev Pair : Shape := ⟨2, ![2, 2048]⟩
abbrev One : Shape := ⟨2, ![1, 2048]⟩
abbrev Vec1 : Shape := ⟨1, ![2048]⟩
abbrev Unit3 : Shape := ⟨3, ![1, 1, 2048]⟩
abbrev Heads : Shape := ⟨2, ![8, 2048]⟩
abbrev Heads1 : Shape := ⟨3, ![8, 2048, 1]⟩
abbrev Sc : Shape := ⟨0, ![]⟩

theorem fSc : Sc.BroadcastsInDim Heads1 (![] : Fin 0 → Fin Heads1.rank) := by decide
theorem fRed : Cube.ReducesTo [2] Heads := by decide
theorem fPos : 0 < Sc.numel := by decide
theorem fH : Heads.BroadcastsInDim Heads1 (![0, 1] : Fin 2 → Fin Heads1.rank) := by decide
theorem fH1 : Heads1.BroadcastsInDim Cube (![0, 1, 2] : Fin 3 → Fin Cube.rank) := by decide
theorem fSl : Pair.Slices ![1, 0] One := by decide
theorem fOne : One.ShapeCasts Vec1 := by decide
theorem fVec : Vec1.BroadcastsInDim Unit3 (![2] : Fin 1 → Fin Unit3.rank) := by decide
theorem fUnit : Unit3.BroadcastsInDim Cube (![0, 1, 2] : Fin 3 → Fin Cube.rank) := by decide
theorem fFlat : Cube.ShapeCasts Flat := by decide

/-- The mean over the last axis, kept. -/
def rMean (y : FVec Ideal Cube .f32) : FVec Ideal Heads1 .f32 :=
  Host.divf (broadcastInDim Heads1 ![0, 1] fH (Host.reduceAdd y (constant Sc .f32 0x00000000#32) fRed fPos)) (broadcastInDim Heads1 ![] fSc (constant Sc .f32 0x45000000#32))

/-- The rows less their means. -/
def rDev (y : FVec Ideal Cube .f32) : FVec Ideal Cube .f32 := subf y (broadcastInDim Cube ![0, 1, 2] fH1 (rMean y))

/-- The normed rows. -/
def rNorm (y : FVec Ideal Cube .f32) (g b : FVec Ideal Pair .f32) : FVec Ideal Flat .f32 :=
  shapeCast _ (addf (mulf (mulf (rDev y) (broadcastInDim Cube ![0, 1, 2] fH1 (Host.rsqrt (addf (rMean (mulf (rDev y) (rDev y))) (broadcastInDim Heads1 ![] fSc (constant Sc .f32 0x3727C5AC#32))))))
    (broadcastInDim Cube ![0, 1, 2] fUnit (broadcastInDim Unit3 ![2] fVec (shapeCast _ (extractStridedSlice One ![1, 0] g fSl) fOne))))
    (broadcastInDim Cube ![0, 1, 2] fUnit (broadcastInDim Unit3 ![2] fVec (shapeCast _ (extractStridedSlice One ![1, 0] b fSl) fOne)))) fFlat

/-- The batch entry and the position of a row. -/
abbrev rowB (R : Fin 16384) : Fin 8 := ⟨R.val / 2048, by omega⟩
abbrev rowP (R : Fin 16384) : Fin 2048 := ⟨R.val % 2048, by omega⟩

theorem rMean_at (y : FVec Ideal Cube .f32) (b : Fin 8) (p : Fin 2048) :
    (rMean y : Heads1.Idx → EReal) (ix3 b p 0) = mean (fun k => (y (ix3 b p k) : EReal)) := by
  unfold rMean mean
  pointwise
  try rfl

theorem rDev_at (y : FVec Ideal Cube .f32) (b : Fin 8) (p k : Fin 2048) :
    (rDev y : Cube.Idx → EReal) (ix3 b p k) = (y (ix3 b p k) : EReal) - mean (fun k => (y (ix3 b p k) : EReal)) := by
  rw [← rMean_at]
  unfold rDev
  pointwise

theorem rNorm_at (y : FVec Ideal Cube .f32) (g b : FVec Ideal Pair .f32) (R : Fin 16384) (j : Fin 2048) :
    (rNorm y g b : Flat.Idx → EReal) (ix2 R j) = normAt (fun k => (y (ix3 (rowB R) (rowP R) k) : EReal)) (g (ix2 1 j)) (b (ix2 1 j)) j := by
  have h1 := rMean_at (mulf (rDev y) (rDev y)) (rowB R) (rowP R)
  have h2 := fun k => rDev_at y (rowB R) (rowP R) k
  have h3 : (fun k => ((mulf (rDev y) (rDev y) : FVec Ideal Cube .f32) (ix3 (rowB R) (rowP R) k) : EReal)) = fun k => (rDev y (ix3 (rowB R) (rowP R) k) : EReal) * (rDev y (ix3 (rowB R) (rowP R) k) : EReal) := rfl
  rw [h3] at h1
  simp only [h2] at h1
  unfold normAt
  rw [← h1, ← h2 j]
  unfold rNorm
  pointwise
  try rfl

end Cert.Norm
-- ==== Proof.MlpClaims.lean ====
/-
  The feed-forward call: its arrays as staged, the reference at coordinates, and the call's claims.
-/
module

public import proofs.«01_k».proof.Defs
public import proofs.«01_k».proof.Proof.Gen.Mlp.Frame
public import proofs.«01_k».proof.Proof.MlpValue
public import proofs.«01_k».proof.Proof.NormRef
public import proofs.«01_k».proof.Proof.Gen.MlpRefIdeal.Run
public import Idealize.ShloMosaic.Lib.Quiescent

@[expose] public section

set_option maxRecDepth 16384

noncomputable section

open Idealize.ShloMosaic Idealize.ShloMosaic.TcCoe Idealize.ShloMosaic.StableHlo

namespace Cert.MlpIdeal.Hand

open Cert.MlpIdeal Cert.MlpIdeal.Gen
open Cert.Norm (rowB rowP)

variable (m : (ℓ : Loc nD τ sig) → Buf (Elt Ideal) ℓ)

abbrev argH (c : Dev nD) : S8x2048x2048.Idx → EReal := m ((c : Thread nD τ).loc main_arg0)
abbrev argW1 (c : Dev nD) : S2x2048x8192.Idx → EReal := m ((c : Thread nD τ).loc main_arg1)
abbrev argW2 (c : Dev nD) : S2x8192x2048.Idx → EReal := m ((c : Thread nD τ).loc main_arg2)
abbrev argG (c : Dev nD) : S2x2048.Idx → EReal := m ((c : Thread nD τ).loc main_arg3)
abbrev argB (c : Dev nD) : S2x2048.Idx → EReal := m ((c : Thread nD τ).loc main_arg4)

theorem V0 (c : Dev nD) : (V m c main_v0 : S16384x2048.Idx → EReal) = shapeCast _ (argH m c) shapeCasts_S8x2048x2048_S16384x2048 := by
  unfold V; simp only [hostOps0]; after_results_simp <;> rfl
theorem V1 (c : Dev nD) : (V m c main_v1 : S2x2048x8192.Idx → EReal) = argW1 m c := by
  unfold V; simp only [hostOps0]; after_results_simp <;> rfl
theorem V2 (c : Dev nD) : (V m c main_v2 : S2x8192x2048.Idx → EReal) = argW2 m c := by
  unfold V; simp only [hostOps0]; after_results_simp <;> rfl
theorem V7 (c : Dev nD) : (V m c main_v7 : S1x2048.Idx → EReal) = shapeCast _ (shapeCast _ (extractStridedSlice S1x2048 ![1, 0] (argG m c) slices_S2x2048_S1x2048_1_0) shapeCasts_S1x2048_S2048) shapeCasts_S2048_S1x2048 := by
  unfold V; simp only [hostOps0]; after_results_simp <;> rfl
theorem V8 (c : Dev nD) : (V m c main_v8 : S1x2048.Idx → EReal) = shapeCast _ (shapeCast _ (extractStridedSlice S1x2048 ![1, 0] (argB m c) slices_S2x2048_S1x2048_1_0) shapeCasts_S1x2048_S2048) shapeCasts_S2048_S1x2048 := by
  unfold V; simp only [hostOps0]; after_results_simp <;> rfl

theorem v0_at (c : Dev nD) (R : Fin 16384) (d : Fin 2048) : (V m c main_v0 : S16384x2048.Idx → EReal) (ix2 R d) = argH m c (ix3 (rowB R) (rowP R) d) := by
  rw [V0]; pointwise
theorem v7_at (c : Dev nD) (j : Fin 2048) : (V m c main_v7 : S1x2048.Idx → EReal) (ix2 0 j) = argG m c (ix2 1 j) := by
  rw [V7]; pointwise
theorem v8_at (c : Dev nD) (j : Fin 2048) : (V m c main_v8 : S1x2048.Idx → EReal) (ix2 0 j) = argB m c (ix2 1 j) := by
  rw [V8]; pointwise

/-- The feed-forward part at a row and a column: the norm of the scaled residual and the two products. -/
def mlpOf (H : S8x2048x2048.Idx → EReal) (W1 : S2x2048x8192.Idx → EReal) (W2 : S2x8192x2048.Idx → EReal) (G B : S2x2048.Idx → EReal) (R : Fin 16384) (j : Fin 2048) : EReal :=
  Cert.Norm.normAt (fun k => Cert.Norm.alpha * H (ix3 (rowB R) (rowP R) k)
    + ∑ e : Fin 8192, hid (fun d => H (ix3 (rowB R) (rowP R) d)) (fun d => W1 (ix3 1 d e)) * W2 (ix3 1 e k)) (G (ix2 1 j)) (B (ix2 1 j)) j

theorem outAt_of (H : S8x2048x2048.Idx → EReal) (W1 : S2x2048x8192.Idx → EReal) (W2 : S2x8192x2048.Idx → EReal) (G B : S2x2048.Idx → EReal)
    (H' : S16384x2048.Idx → EReal) (G' B' : S1x2048.Idx → EReal) (R : Fin 16384) (j : Fin 2048)
    (hH : ∀ d, H' (ix2 R d) = H (ix3 (rowB R) (rowP R) d)) (hG : G' (ix2 0 j) = G (ix2 1 j)) (hB : B' (ix2 0 j) = B (ix2 1 j)) :
    outAt H' W1 W2 G' B' R j = mlpOf H W1 W2 G B R j := by
  unfold outAt mlpOf ffAt
  simp only [hH, hG, hB]

/-- THE KERNEL'S RESULT, from the arguments. -/
theorem result (c : Dev nD) :
    (dats m 0 c).arrAt 5 cfg0.N = fun y : S16384x2048.Idx => mlpOf (argH m c) (argW1 m c) (argW2 m c) (argG m c) (argB m c) (y 0) (y 1) := by
  rw [final m c]
  funext y
  rw [V1, V2]
  exact outAt_of _ _ _ _ _ _ _ _ (y 0) (y 1) (fun d => v0_at m c (y 0) d) (v7_at m c (y 1)) (v8_at m c (y 1))

end Cert.MlpIdeal.Hand

namespace Cert.MlpRefIdeal.Hand

open Cert.MlpRefIdeal Cert.MlpRefIdeal.Gen
open Cert.Norm (rowB rowP)

variable (m : (ℓ : Loc nD τ sig) → Buf (Elt Ideal) ℓ)

/-- The reference's hidden layer after its relu. -/
def rHid (h : FVec Ideal S8x2048x2048 .f32) (w1 : FVec Ideal S2x2048x8192 .f32) : FVec Ideal S8x2048x8192 .f32 :=
  maximumf (Host.dotGeneral (F := Ideal) dot_S8x2048x2048_S2048x8192_S8x2048x8192_2_0_01_1_n_n none h (shapeCast _ (extractStridedSlice S1x2048x8192 ![1, 0, 0] w1 slices_S2x2048x8192_S1x2048x8192_1_0_0) shapeCasts_S1x2048x8192_S2048x8192)) (broadcastInDim S8x2048x8192 ![] bcast_S_S8x2048x8192 (constant S_ .f32 0x00000000#32))

/-- The scaled residual and the second product. -/
def rSum (h : FVec Ideal S8x2048x2048 .f32) (u : FVec Ideal S8x2048x8192 .f32) (w2 : FVec Ideal S2x8192x2048 .f32) : FVec Ideal S8x2048x2048 .f32 :=
  addf (mulf (broadcastInDim S8x2048x2048 ![] bcast_S_S8x2048x2048 (constant S_ .f32 0x3FB504F3#32)) h)
    (Host.dotGeneral (F := Ideal) dot_S8x2048x8192_S8192x2048_S8x2048x2048_2_0_01_1_n_n none (mulf u u) (shapeCast _ (extractStridedSlice S1x8192x2048 ![1, 0, 0] w2 slices_S2x8192x2048_S1x8192x2048_1_0_0) shapeCasts_S1x8192x2048_S8192x2048))

theorem res_eq (c : Dev nD) : Cert.MlpRefIdeal.Value.res_main_v39 m c =
    Cert.Norm.rNorm (rSum (m ((c.tc : Thread nD τ).loc main_arg0)) (rHid (m ((c.tc : Thread nD τ).loc main_arg0)) (m ((c.tc : Thread nD τ).loc main_arg1))) (m ((c.tc : Thread nD τ).loc main_arg2))) (m ((c.tc : Thread nD τ).loc main_arg3)) (m ((c.tc : Thread nD τ).loc main_arg4)) := by
  unfold Cert.MlpRefIdeal.Value.res_main_v39 Cert.Norm.rNorm Cert.Norm.rDev Cert.Norm.rMean rSum rHid
  rfl

theorem rHid_at (h : FVec Ideal S8x2048x2048 .f32) (w1 : FVec Ideal S2x2048x8192 .f32) (b : Fin 8) (p : Fin 2048) (e : Fin 8192) :
    (rHid h w1 : S8x2048x8192.Idx → EReal) (ix3 b p e) = max (∑ d : Fin 2048, (h (ix3 b p d) : EReal) * (w1 (ix3 1 d e) : EReal)) (0 : EReal) := by
  unfold rHid
  pointwise

theorem rSum_at (h : FVec Ideal S8x2048x2048 .f32) (u : FVec Ideal S8x2048x8192 .f32) (w2 : FVec Ideal S2x8192x2048 .f32) (b : Fin 8) (p k : Fin 2048) :
    (rSum h u w2 : S8x2048x2048.Idx → EReal) (ix3 b p k) = Cert.Norm.alpha * (h (ix3 b p k) : EReal)
      + ∑ e : Fin 8192, (u (ix3 b p e) : EReal) * (u (ix3 b p e) : EReal) * (w2 (ix3 1 e k) : EReal) := by
  unfold rSum Cert.Norm.alpha
  pointwise

/-- The reference at a row and a column. -/
theorem ref_at (h : FVec Ideal S8x2048x2048 .f32) (w1 : FVec Ideal S2x2048x8192 .f32) (w2 : FVec Ideal S2x8192x2048 .f32) (g b : FVec Ideal S2x2048 .f32) (R : Fin 16384) (j : Fin 2048) :
    (Cert.Norm.rNorm (rSum h (rHid h w1) w2) g b : S16384x2048.Idx → EReal) (ix2 R j) = Cert.MlpIdeal.Hand.mlpOf h w1 w2 g b R j := by
  rw [Cert.Norm.rNorm_at]
  simp only [rSum_at, rHid_at]
  rfl

end Cert.MlpRefIdeal.Hand

namespace Cert.FeedForward

open Idealize.SL.Sem

/-- The kernel runs, its arguments unchanged and its counters at zero. -/
theorem frameP : Cert.quiescent_Mlp (hMlp := Cert.Mlp.Gen.facts) := fun m g _ => Cert.Mlp.Gen.frame m g

/-- So does its idealization. -/
theorem framePI : Cert.quiescent_MlpIdeal (hMlpIdeal := Cert.MlpIdeal.Gen.facts) := fun m g _ => Cert.MlpIdeal.Gen.frame m g

/-- So does the reference, which declares no counter. -/
theorem frameRI : Cert.quiescent_MlpRefIdeal (hMlpRefIdeal := Cert.MlpRefIdeal.Gen.facts) := fun m g _ =>
  (θ_run Cert.MlpRefIdeal.defs _ _).mono (fun r h => ⟨fun c => (h c).2, sem_eq_zero_of_no_sems (by decide) r.2⟩) (Cert.MlpRefIdeal.Value.run m g)

/-- THE VALUE: from equal arguments the kernel and the reference end with equal results. -/
theorem value : Cert.algebraic_MlpIdeal_MlpRefIdeal (hMlpIdeal := Cert.MlpIdeal.Gen.facts) (hMlpRefIdeal := Cert.MlpRefIdeal.Gen.facts) := by
  intro m g m' g' _ hargs
  refine ⟨fun c => (Cert.MlpIdeal.Gen.dats m 0 c).arrAt 5 Cert.MlpIdeal.cfg0.N, Cert.MlpIdeal.Value.run_blocks m g, ?_⟩
  refine (θ_run Cert.MlpRefIdeal.defs _ _).mono (fun _ h c => ⟨(h c).1.trans ?_, (h c).2⟩) (Cert.MlpRefIdeal.Value.run m' g')
  obtain ⟨a0, a1, a2, a3, a4⟩ := hargs c
  rw [Cert.MlpRefIdeal.Hand.res_eq, a0, a1, a2, a3, a4]
  refine Eq.trans ?_ (Cert.MlpIdeal.Hand.result m c).symm
  funext y
  have ey : y = ix2 (y 0) (y 1) := funext fun a => match a with
    | 0 => rfl
    | 1 => rfl
  rw [ey]
  exact Cert.MlpRefIdeal.Hand.ref_at _ _ _ _ _ (y 0) (y 1)

end Cert.FeedForward
-- ==== Proof.MemHeads.lean ====
/-
  The attention over the memory, one row: the softmax over 256 memory positions in each of four heads.
-/
module

public import proofs.«01_k».proof.Proof.LayerNorm
public import Idealize.ShloMosaic.PureOps.Ideal

@[expose] public section

noncomputable section

open Idealize.ShloMosaic

namespace Cert.Recall

/-- The weight of a memory position, from all the scores of a query. -/
def wt (s : Fin 256 → EReal) (n : Fin 256) : EReal :=
  Ideal.div (Ideal.exp (s n - Finset.fold max (Ideal.ofBits .f32 4286578688#32) s Finset.univ))
    (∑ x, Ideal.exp (s x - Finset.fold max (Ideal.ofBits .f32 4286578688#32) s Finset.univ))

/-- A column among a row's 2048, by its number. -/
abbrev colQ (n : ℕ) : Fin 2048 := ⟨n % 2048, Nat.mod_lt _ (by decide)⟩
/-- A column among the 4096 of keys and values, by its number. -/
abbrev colKV (n : ℕ) : Fin 4096 := ⟨n % 4096, Nat.mod_lt _ (by decide)⟩

/-- The head whose columns start at `o`: one column of its context. -/
def head (q : Fin 2048 → EReal) (kv : Fin 256 → Fin 4096 → EReal) (o : ℕ) (d : ℕ) : EReal :=
  ∑ n : Fin 256, wt (fun n => ∑ e : Fin 512, q (colQ (o + e.val)) * kv n (colKV (o + e.val))) n * kv n (colKV (2048 + o + d))

/-- A column of the context. -/
def ctx (q : Fin 2048 → EReal) (kv : Fin 256 → Fin 4096 → EReal) (j : Fin 2048) : EReal :=
  head q kv (512 * (j.val / 512)) (j.val % 512)

/-- The scaled residual and the projected context. -/
def sumAt (q : Fin 2048 → EReal) (kv : Fin 256 → Fin 4096 → EReal) (h : Fin 2048 → EReal) (w : Fin 2048 → Fin 2048 → EReal) (k : Fin 2048) : EReal :=
  Cert.Norm.alpha * h k + ∑ e : Fin 2048, ctx q kv e * w e k

end Cert.Recall
-- ==== Proof.Blocks.lean ====
/-
  Loads of some rows of a block, at coordinates.
-/
module

public import Idealize.ShloMosaic.Lib.Pipeline.ValueKit
public import Idealize.ShloMosaic.Lib.Pointwise

@[expose] public section

noncomputable section

open Idealize.ShloMosaic

namespace Cert.Blocks

variable {F : FTy → Type} [FloatOps F] {e : EltTy}

/-- Rows `o …` of a rank-two block. -/
theorem ld2 {A W N : ℕ} (x : Vec F ⟨2, ![A, W]⟩ e) (o : ℕ) (inb) (i : Fin N) (d : Fin W) (r : Fin A) (hr : r.val = o + i.val) :
    View.ld x (Rect.unit (s := ⟨2, ![A, W]⟩) ![o, 0] ![N, W] inb) (ix2 i d) = x (ix2 r d) :=
  View.ld_unit_apply_of x _ _ inb _ _ fun a => match a with
    | ⟨0, _⟩ => hr
    | ⟨1, _⟩ => (Nat.zero_add _).symm

/-- Some columns of a rank-two block. -/
theorem ld2c {A W M : ℕ} (x : Vec F ⟨2, ![A, W]⟩ e) (o : ℕ) (inb) (i : Fin A) (d : Fin M) (k : Fin W) (hk : k.val = o + d.val) :
    View.ld x (Rect.unit (s := ⟨2, ![A, W]⟩) ![0, o] ![A, M] inb) (ix2 i d) = x (ix2 i k) :=
  View.ld_unit_apply_of x _ _ inb _ _ fun a => match a with
    | ⟨0, _⟩ => (Nat.zero_add _).symm
    | ⟨1, _⟩ => hk

/-- Some columns of a rank-three block. -/
theorem ld3c {A B W M : ℕ} (x : Vec F ⟨3, ![A, B, W]⟩ e) (o : ℕ) (inb) (i : Fin A) (j : Fin B) (d : Fin M) (k : Fin W) (hk : k.val = o + d.val) :
    View.ld x (Rect.unit (s := ⟨3, ![A, B, W]⟩) ![0, 0, o] ![A, B, M] inb) (ix3 i j d) = x (ix3 i j k) :=
  View.ld_unit_apply_of x _ _ inb _ _ fun a => match a with
    | ⟨0, _⟩ => (Nat.zero_add _).symm
    | ⟨1, _⟩ => (Nat.zero_add _).symm
    | ⟨2, _⟩ => hk

/-- The whole of a rank-three block. -/
theorem ld3 {A B C : ℕ} (x : Vec F ⟨3, ![A, B, C]⟩ e) (inb) (i : Fin A) (j : Fin B) (k : Fin C) :
    View.ld x (Rect.unit (s := ⟨3, ![A, B, C]⟩) ![0, 0, 0] ![A, B, C] inb) (ix3 i j k) = x (ix3 i j k) :=
  View.ld_unit_apply_of x _ _ inb _ _ fun a => match a with
    | ⟨0, _⟩ => (Nat.zero_add _).symm
    | ⟨1, _⟩ => (Nat.zero_add _).symm
    | ⟨2, _⟩ => (Nat.zero_add _).symm

/-- An index of rank two by its coordinates. -/
theorem ex2 {A B : ℕ} (y : (⟨2, ![A, B]⟩ : Shape).Idx) : ∃ (r : Fin A) (j : Fin B), y = ix2 r j :=
  ⟨y 0, y 1, funext fun a => match a with
    | 0 => rfl
    | 1 => rfl⟩

/-- An index of rank three by its coordinates. -/
theorem ex3 {A B C : ℕ} (y : (⟨3, ![A, B, C]⟩ : Shape).Idx) : ∃ (b : Fin A) (r : Fin B) (j : Fin C), y = ix3 b r j :=
  ⟨y 0, y 1, y 2, funext fun a => match a with
    | 0 => rfl
    | 1 => rfl
    | 2 => rfl⟩

end Cert.Blocks
-- ==== Proof.MemBody.lean ====
/-
  The attention over the memory with its projection and norm, one block of 512 rows: its four stores at coordinates.
-/
module

public import proofs.«01_k».proof.Proof.Gen.MemoryIdeal.Frame
public import proofs.«01_k».proof.Proof.MemHeads
public import proofs.«01_k».proof.Proof.Blocks
public import Idealize.ShloMosaic.Lib.Pointwise
public import Idealize.ShloMosaic.Lib.KernelVsHost
public import Idealize.ShloMosaic.Lib.IdealHost
public import Idealize.ShloMosaic.Lib.Pipeline.ValueKit

@[expose] public section

set_option maxRecDepth 16384

noncomputable section

open Idealize.ShloMosaic Idealize.ShloMosaic.TcCoe

namespace Cert.MemoryIdeal.Hand

open Cert.MemoryIdeal Cert.MemoryIdeal.Gen
open Cert.Recall

/-- One head of a block. -/
abbrev hd (q : Vec Ideal S512x512 .bf16) (k v : Vec Ideal S1x256x512 .bf16) : FVec Ideal S512x512 .bf16 := k2_pay6 (k2_pay5 q k) v

theorem hd_at (q : Vec Ideal S512x512 .bf16) (k v : Vec Ideal S1x256x512 .bf16) (r d : Fin 512) :
    (hd q k v (ix2 r d) : EReal) = ∑ n : Fin 256, wt (fun n => ∑ e : Fin 512, q (ix2 r e) * k (ix3 0 n e)) n * v (ix3 0 n d) := by
  unfold wt
  pointwise [hd, k2_pay6, k2_pay5]

theorem hd_of (q : Vec Ideal S512x512 .bf16) (k v : Vec Ideal S1x256x512 .bf16) (r d : Fin 512) (Q : Fin 2048 → EReal) (KV : Fin 256 → Fin 4096 → EReal) (o : ℕ)
    (h0 : ∀ e : Fin 512, q (ix2 r e) = Q (colQ (o + e.val))) (h1 : ∀ (n : Fin 256) (e : Fin 512), k (ix3 0 n e) = KV n (colKV (o + e.val)))
    (h2 : ∀ n : Fin 256, v (ix3 0 n d) = KV n (colKV (2048 + o + d.val))) : (hd q k v (ix2 r d) : EReal) = head Q KV o d.val := by
  rw [hd_at]
  unfold head
  simp only [h0, h1, h2]

theorem pay7_eq (q : Vec Ideal S512x512 .bf16) (k v : Vec Ideal S1x256x512 .bf16) : k2_pay7 (F := Ideal) (k2_pay2 q k) v = hd q k v := rfl
theorem pay8_eq (q : Vec Ideal S512x512 .bf16) (k v : Vec Ideal S1x256x512 .bf16) : k2_pay8 (F := Ideal) (k2_pay3 q k) v = hd q k v := rfl

/-- The four heads side by side. -/
def four (a b c d : FVec Ideal S512x512 .bf16) : FVec Ideal S512x2048 .bf16 :=
  concatenate S512x2048 1 [⟨S512x512, a⟩, ⟨S512x512, b⟩, ⟨S512x512, c⟩, ⟨S512x512, d⟩] concatenates_S512x512_S512x512_S512x512_S512x512_S512x2048_d1

theorem pay10_eq (a b c : FVec Ideal S512x512 .bf16) (q : Vec Ideal S512x512 .bf16) (k v : Vec Ideal S1x256x512 .bf16) :
    k2_pay10 (F := Ideal) a b c (k2_pay9 (k2_pay4 q k)) v = four a b c (hd q k v) := rfl

theorem four_at (a b c d : FVec Ideal S512x512 .bf16) (r : Fin 512) (j : Fin 2048) (H : ℕ → ℕ → EReal)
    (ha : ∀ e : Fin 512, (a (ix2 r e) : EReal) = H 0 e.val) (hb : ∀ e : Fin 512, (b (ix2 r e) : EReal) = H 512 e.val)
    (hc : ∀ e : Fin 512, (c (ix2 r e) : EReal) = H 1024 e.val) (hd' : ∀ e : Fin 512, (d (ix2 r e) : EReal) = H 1536 e.val) :
    (four a b c d (ix2 r j) : EReal) = H (512 * (j.val / 512)) (j.val % 512) := by
  unfold four
  pointwise
  have hj := j.isLt
  split
  · rw [ha]; congr 1 <;> first | omega | (dsimp only; omega)
  split
  · rw [hb]; congr 1 <;> first | omega | (dsimp only; omega)
  split
  · rw [hc]; congr 1 <;> first | omega | (dsimp only; omega)
  · rw [hd']; congr 1 <;> first | omega | (dsimp only; omega)

/-- The context block. -/
def ctxBlk (x0 : Vec Ideal S512x2048 .bf16) (x1 : Vec Ideal S1x256x4096 .bf16) : FVec Ideal S512x2048 .bf16 :=
  four (hd (View.ld x0 r2_0) (View.ld x1 r2_1) (View.ld x1 r2_8)) (hd (View.ld x0 r2_2) (View.ld x1 r2_3) (View.ld x1 r2_9))
    (hd (View.ld x0 r2_4) (View.ld x1 r2_5) (View.ld x1 r2_10)) (hd (View.ld x0 r2_6) (View.ld x1 r2_7) (View.ld x1 r2_11))

theorem ctxBlk_at (x0 : Vec Ideal S512x2048 .bf16) (x1 : Vec Ideal S1x256x4096 .bf16) (r : Fin 512) (j : Fin 2048) :
    (ctxBlk x0 x1 (ix2 r j) : EReal) = ctx (fun d => x0 (ix2 r d)) (fun n d => x1 (ix3 0 n d)) j := by
  unfold ctxBlk ctx
  refine four_at _ _ _ _ r j (head (fun d => x0 (ix2 r d)) (fun n d => x1 (ix3 0 n d))) (fun e => ?_) (fun e => ?_) (fun e => ?_) (fun e => ?_)
  · exact hd_of _ _ _ r e _ _ 0 (fun e => Cert.Blocks.ld2c x0 0 _ r e _ (by dsimp only; omega)) (fun n e => Cert.Blocks.ld3c x1 0 _ 0 n e _ (by dsimp only; omega)) (fun n => Cert.Blocks.ld3c x1 2048 _ 0 n e _ (by dsimp only; omega))
  · exact hd_of _ _ _ r e _ _ 512 (fun e => Cert.Blocks.ld2c x0 512 _ r e _ (by dsimp only; omega)) (fun n e => Cert.Blocks.ld3c x1 512 _ 0 n e _ (by dsimp only; omega)) (fun n => Cert.Blocks.ld3c x1 2560 _ 0 n e _ (by dsimp only; omega))
  · exact hd_of _ _ _ r e _ _ 1024 (fun e => Cert.Blocks.ld2c x0 1024 _ r e _ (by dsimp only; omega)) (fun n e => Cert.Blocks.ld3c x1 1024 _ 0 n e _ (by dsimp only; omega)) (fun n => Cert.Blocks.ld3c x1 3072 _ 0 n e _ (by dsimp only; omega))
  · exact hd_of _ _ _ r e _ _ 1536 (fun e => Cert.Blocks.ld2c x0 1536 _ r e _ (by dsimp only; omega)) (fun n e => Cert.Blocks.ld3c x1 1536 _ 0 n e _ (by dsimp only; omega)) (fun n => Cert.Blocks.ld3c x1 3584 _ 0 n e _ (by dsimp only; omega))

/-- The scaled residual and the product, rows `384 …`. -/
theorem pay15_at (X : FVec Ideal S512x2048 .bf16) (h : Vec Ideal S128x2048 .f32) (w : Vec Ideal S1x2048x2048 .bf16) (i : Fin 128) (k : Fin 2048) :
    (k2_pay15 (F := Ideal) X (k2_pay14 h) (Scalar.ofBits .f32 0x3FB504F3#32) w (ix2 i k) : EReal)
      = Cert.Norm.alpha * h (ix2 i k) + ∑ e : Fin 2048, (X (ix2 ⟨384 + i.val, by omega⟩ e) : EReal) * w (ix3 0 e k) := by
  unfold Cert.Norm.alpha
  pointwise [k2_pay15, k2_pay14]

theorem pay11_at (a b c : FVec Ideal S512x512 .bf16) (p : FVec Ideal S512x256 .bf16) (v : Vec Ideal S1x256x512 .bf16) (h : Vec Ideal S128x2048 .f32) (w : Vec Ideal S1x2048x2048 .bf16) (i : Fin 128) (k : Fin 2048) :
    (k2_pay11 (F := Ideal) a b c p v h w (ix2 i k) : EReal)
      = Cert.Norm.alpha * h (ix2 i k) + ∑ e : Fin 2048, (k2_pay10 (F := Ideal) a b c p v (ix2 ⟨0 + i.val, by omega⟩ e) : EReal) * w (ix3 0 e k) := by
  unfold Cert.Norm.alpha k2_pay11
  generalize k2_pay10 (F := Ideal) a b c p v = X
  pointwise

theorem pay12_at (a b c : FVec Ideal S512x512 .bf16) (p : FVec Ideal S512x256 .bf16) (v : Vec Ideal S1x256x512 .bf16) (h : Vec Ideal S128x2048 .f32) (w : Vec Ideal S1x2048x2048 .bf16) (i : Fin 128) (k : Fin 2048) :
    (k2_pay12 (F := Ideal) a b c p v h w (ix2 i k) : EReal)
      = Cert.Norm.alpha * h (ix2 i k) + ∑ e : Fin 2048, (k2_pay10 (F := Ideal) a b c p v (ix2 ⟨128 + i.val, by omega⟩ e) : EReal) * w (ix3 0 e k) := by
  unfold Cert.Norm.alpha k2_pay12
  generalize k2_pay10 (F := Ideal) a b c p v = X
  pointwise

theorem pay13_at (a b c : FVec Ideal S512x512 .bf16) (p : FVec Ideal S512x256 .bf16) (v : Vec Ideal S1x256x512 .bf16) (h : Vec Ideal S128x2048 .f32) (w : Vec Ideal S1x2048x2048 .bf16) (i : Fin 128) (k : Fin 2048) :
    (k2_pay13 (F := Ideal) a b c p v h w (ix2 i k) : EReal)
      = Cert.Norm.alpha * h (ix2 i k) + ∑ e : Fin 2048, (k2_pay10 (F := Ideal) a b c p v (ix2 ⟨256 + i.val, by omega⟩ e) : EReal) * w (ix3 0 e k) := by
  unfold Cert.Norm.alpha k2_pay13
  generalize k2_pay10 (F := Ideal) a b c p v = X
  pointwise

theorem pay16_at (s : FVec Ideal S128x2048 .f32) (g b : Vec Ideal S1x2048 .f32) (i : Fin 128) (j : Fin 2048) :
    (k2_pay16 (F := Ideal) s g b (ix2 i j) : EReal) = Cert.Norm.normAt (fun k => s (ix2 i k)) (g (ix2 0 j)) (b (ix2 0 j)) j := by
  unfold Cert.Norm.normAt Cert.Norm.mean
  pointwise [k2_pay16]

theorem pay20_eq (s : FVec Ideal S128x2048 .f32) (g b : Vec Ideal S1x2048 .f32) :
    k2_pay20 (F := Ideal) s (k2_pay17 g) (k2_pay18 b) (k2_pay19 s) (Scalar.ofBits .f32 0x45000000#32) = k2_pay16 s g b := rfl
theorem pay21_eq (s : FVec Ideal S128x2048 .f32) (g b : Vec Ideal S1x2048 .f32) : k2_pay21 (F := Ideal) s g b = k2_pay16 s g b := rfl
theorem pay1_eq (s : FVec Ideal S128x2048 .f32) (g b : Vec Ideal S1x2048 .f32) : k2_pay1 (F := Ideal) s g b = k2_pay16 s g b := rfl

/-- A stored row, over the block's rows. -/
theorem store_at (s : FVec Ideal S128x2048 .f32) (X : FVec Ideal S512x2048 .bf16) (h : Vec Ideal S128x2048 .f32) (w : Vec Ideal S1x2048x2048 .bf16) (g b : Vec Ideal S1x2048 .f32) (i : Fin 128) (r : Fin 512) (j : Fin 2048)
    (q : Fin 2048 → EReal) (kv : Fin 256 → Fin 4096 → EReal) (H : Fin 2048 → EReal) (W : Fin 2048 → Fin 2048 → EReal) (gg bb : EReal)
    (hs : ∀ k, (s (ix2 i k) : EReal) = Cert.Norm.alpha * h (ix2 i k) + ∑ e : Fin 2048, (X (ix2 r e) : EReal) * w (ix3 0 e k))
    (hX : ∀ e, (X (ix2 r e) : EReal) = ctx q kv e) (hh : ∀ d, h (ix2 i d) = H d) (hw : ∀ e d, w (ix3 0 e d) = W e d) (hg : g (ix2 0 j) = gg) (hb : b (ix2 0 j) = bb) :
    (k2_pay16 (F := Ideal) s g b (ix2 i j) : EReal) = Cert.Norm.normAt (sumAt q kv H W) gg bb j := by
  rw [pay16_at]
  unfold sumAt
  simp only [hs, hX, hh, hw, hg, hb]

theorem out_at (x0 : Vec Ideal S512x2048 .bf16) (x1 : Vec Ideal S1x256x4096 .bf16) (x2 : Vec Ideal S1x2048x2048 .bf16) (x3 : Vec Ideal S512x2048 .f32) (x4 x5 : Vec Ideal S1x2048 .f32) (r : Fin 512) (j : Fin 2048) :
    (out2_6 (F := Ideal) x0 x1 x2 x3 x4 x5 (ix2 r j) : EReal)
      = Cert.Norm.normAt (sumAt (fun d => x0 (ix2 r d)) (fun n d => x1 (ix3 0 n d)) (fun d => x3 (ix2 r d)) (fun e d => x2 (ix3 0 e d))) (x4 (ix2 0 j)) (x5 (ix2 0 j)) j := by
  unfold out2_6 k2_pay26
  rw [pay20_eq, pay21_eq, pay1_eq]
  have hX : k2_pay10 (F := Ideal) (k2_pay22 x0 x1 x2 x3 x4 x5) (k2_pay23 x0 x1 x2 x3 x4 x5) (k2_pay24 x0 x1 x2 x3 x4 x5) (k2_pay25 x0 x1 x2 x3 x4 x5) (View.ld x1 r2_11) = ctxBlk x0 x1 := rfl
  canon_tiles x h
  · obtain ⟨i, d, rfl⟩ := Cert.Blocks.ex2 x
    obtain rfl : j = d := Fin.ext h1
    obtain rfl : r = ⟨384 + i.val, (Nat.add_lt_add_left i.isLt 384).trans_le (by decide)⟩ := Fin.ext h0
    exact store_at _ (ctxBlk x0 x1) _ _ _ _ i _ j _ _ _ _ _ _ (fun k => (pay15_at _ _ _ i k).trans (by rw [hX])) (fun e => ctxBlk_at x0 x1 _ e)
      (fun d => Cert.Blocks.ld2 x3 384 _ i d _ rfl) (fun e d => Cert.Blocks.ld3 x2 _ 0 e d) (Cert.Blocks.ld2 x4 0 _ 0 j 0 rfl) (Cert.Blocks.ld2 x5 0 _ 0 j 0 rfl)
  · obtain ⟨i, d, rfl⟩ := Cert.Blocks.ex2 x
    obtain rfl : j = d := Fin.ext h1
    obtain rfl : r = ⟨256 + i.val, (Nat.add_lt_add_left i.isLt 256).trans_le (by decide)⟩ := Fin.ext h0
    exact store_at _ (ctxBlk x0 x1) _ _ _ _ i _ j _ _ _ _ _ _ (fun k => (pay13_at _ _ _ _ _ _ _ i k).trans (by rw [hX])) (fun e => ctxBlk_at x0 x1 _ e)
      (fun d => Cert.Blocks.ld2 x3 256 _ i d _ rfl) (fun e d => Cert.Blocks.ld3 x2 _ 0 e d) (Cert.Blocks.ld2 x4 0 _ 0 j 0 rfl) (Cert.Blocks.ld2 x5 0 _ 0 j 0 rfl)
  · obtain ⟨i, d, rfl⟩ := Cert.Blocks.ex2 x
    obtain rfl : j = d := Fin.ext h1
    obtain rfl : r = ⟨128 + i.val, (Nat.add_lt_add_left i.isLt 128).trans_le (by decide)⟩ := Fin.ext h0
    exact store_at _ (ctxBlk x0 x1) _ _ _ _ i _ j _ _ _ _ _ _ (fun k => (pay12_at _ _ _ _ _ _ _ i k).trans (by rw [hX])) (fun e => ctxBlk_at x0 x1 _ e)
      (fun d => Cert.Blocks.ld2 x3 128 _ i d _ rfl) (fun e d => Cert.Blocks.ld3 x2 _ 0 e d) (Cert.Blocks.ld2 x4 0 _ 0 j 0 rfl) (Cert.Blocks.ld2 x5 0 _ 0 j 0 rfl)
  · obtain ⟨i, d, rfl⟩ := Cert.Blocks.ex2 x
    obtain rfl : j = d := Fin.ext h1
    obtain rfl : r = ⟨0 + i.val, (Nat.add_lt_add_left i.isLt 0).trans_le (by decide)⟩ := Fin.ext (h0.trans (Nat.zero_add _).symm)
    exact store_at _ (ctxBlk x0 x1) _ _ _ _ i _ j _ _ _ _ _ _ (fun k => (pay11_at _ _ _ _ _ _ _ i k).trans (by rw [hX])) (fun e => ctxBlk_at x0 x1 _ e)
      (fun d => Cert.Blocks.ld2 x3 0 _ i d _ rfl) (fun e d => Cert.Blocks.ld3 x2 _ 0 e d) (Cert.Blocks.ld2 x4 0 _ 0 j 0 rfl) (Cert.Blocks.ld2 x5 0 _ 0 j 0 rfl)

end Cert.MemoryIdeal.Hand
-- ==== Proof.MemRegions.lean ====
/-
  The memory attention's three launches: the array each leaves, from the contents it starts at.
-/
module

public import proofs.«01_k».proof.Proof.MemBody
public import proofs.«01_k».proof.Proof.NormRef

@[expose] public section

set_option maxRecDepth 16384

noncomputable section

open Idealize.ShloMosaic Idealize.ShloMosaic.TcCoe Idealize.ShloMosaic.StableHlo

namespace Cert.MemoryIdeal.Hand

open Cert.MemoryIdeal Cert.MemoryIdeal.Gen
open Cert.Norm (rowB rowP)
open Cert.Recall

variable (V : (c : Dev nD) → (b : Ref sig .tc) → Buf (Elt Ideal) ((c : Thread nD τ).loc b))

theorem N16 (t : Fin cfg0.N) : t.val < 16 := lt_of_lt_of_eq t.isLt N_0
theorem N4 (t : Fin cfg1.N) : t.val < 4 := lt_of_lt_of_eq t.isLt N_1
theorem N32 (t : Fin cfg2.N) : t.val < 32 := lt_of_lt_of_eq t.isLt N_2

theorem idx00 : ∀ t : Fin cfg0.N, win0_0.index t = ![t.val, 0] := (by decide +kernel : ∀ t : Fin grid0.N, win0_0.index t = ![t.val, 0])
theorem idx01 : ∀ t : Fin cfg0.N, win0_1.index t = ![1, 0, 0] := (by decide +kernel : ∀ t : Fin grid0.N, win0_1.index t = ![1, 0, 0])
theorem idx02 : ∀ t : Fin cfg0.N, win0_2.index t = ![t.val, 0] := (by decide +kernel : ∀ t : Fin grid0.N, win0_2.index t = ![t.val, 0])
theorem idx10 : ∀ t : Fin cfg1.N, win1_0.index t = ![t.val / 2, 0] := (by decide +kernel : ∀ t : Fin grid1.N, win1_0.index t = ![t.val / 2, 0])
theorem idx11 : ∀ t : Fin cfg1.N, win1_1.index t = ![1, 0, t.val % 2] := (by decide +kernel : ∀ t : Fin grid1.N, win1_1.index t = ![1, 0, t.val % 2])
theorem idx12 : ∀ t : Fin cfg1.N, win1_2.index t = ![t.val / 2, t.val % 2] := (by decide +kernel : ∀ t : Fin grid1.N, win1_2.index t = ![t.val / 2, t.val % 2])
theorem idx20 : ∀ t : Fin cfg2.N, win2_0.index t = ![t.val, 0] := (by decide +kernel : ∀ t : Fin grid2.N, win2_0.index t = ![t.val, 0])
theorem idx21 : ∀ t : Fin cfg2.N, win2_1.index t = ![t.val / 4, 0, 0] := (by decide +kernel : ∀ t : Fin grid2.N, win2_1.index t = ![t.val / 4, 0, 0])
theorem idx22 : ∀ t : Fin cfg2.N, win2_2.index t = ![1, 0, 0] := (by decide +kernel : ∀ t : Fin grid2.N, win2_2.index t = ![1, 0, 0])
theorem idx23 : ∀ t : Fin cfg2.N, win2_3.index t = ![t.val, 0] := (by decide +kernel : ∀ t : Fin grid2.N, win2_3.index t = ![t.val, 0])
theorem idx24 : ∀ t : Fin cfg2.N, win2_4.index t = ![0, 0] := (by decide +kernel : ∀ t : Fin grid2.N, win2_4.index t = ![0, 0])
theorem idx25 : ∀ t : Fin cfg2.N, win2_5.index t = ![0, 0] := (by decide +kernel : ∀ t : Fin grid2.N, win2_5.index t = ![0, 0])
theorem idx26 : ∀ t : Fin cfg2.N, win2_6.index t = ![t.val, 0] := (by decide +kernel : ∀ t : Fin grid2.N, win2_6.index t = ![t.val, 0])

/-- The array rows and columns that the blocks' are. -/
abbrev row0 (t : Fin cfg0.N) (r : Fin 1024) : Fin 16384 := ⟨1024 * t.val + r.val, by have := N16 t; omega⟩
abbrev row1 (t : Fin cfg1.N) (r : Fin 1024) : Fin 2048 := ⟨1024 * (t.val / 2) + r.val, by have := N4 t; omega⟩
abbrev col1 (t : Fin cfg1.N) (d : Fin 2048) : Fin 4096 := ⟨2048 * (t.val % 2) + d.val, by omega⟩
abbrev row2 (t : Fin cfg2.N) (r : Fin 512) : Fin 16384 := ⟨512 * t.val + r.val, by have := N32 t; omega⟩
abbrev bat2 (t : Fin cfg2.N) : Fin 8 := ⟨t.val / 4, by have := N32 t; omega⟩

theorem at00 (c : Dev nD) (t : Fin cfg0.N) (r : Fin 1024) (d : Fin 2048) :
    (iblk0 V c 0 t : S1024x2048.Idx → EReal) (ix2 r d) = (V c main_v0 : S16384x2048.Idx → EReal) (ix2 (row0 t r) d) := by
  unfold iblk0; rw [View.read_apply]
  show V c main_v0 _ = V c main_v0 _
  congr 1; funext a; apply Fin.ext
  have hi := idx00 t
  match a with
  | ⟨0, _⟩ => show win0_0.index t 0 * 1024 + 1 * r.val = 1024 * t.val + r.val; rw [hi]; show t.val * 1024 + 1 * r.val = 1024 * t.val + r.val; omega
  | ⟨1, _⟩ => show win0_0.index t 1 * 2048 + 1 * d.val = d.val; rw [hi]; show 0 * 2048 + 1 * d.val = d.val; omega

theorem at01 (c : Dev nD) (t : Fin cfg0.N) (e d : Fin 2048) :
    (iblk0 V c 1 t : S1x2048x2048.Idx → EReal) (ix3 0 e d) = (V c main_v4 : S2x2048x2048.Idx → EReal) (ix3 1 e d) := by
  unfold iblk0; rw [View.read_apply]
  show V c main_v4 _ = V c main_v4 _
  congr 1; funext a; apply Fin.ext
  have hi := idx01 t
  match a with
  | ⟨0, _⟩ => show win0_1.index t 0 * 1 + 1 * 0 = 1; rw [hi]; show 1 * 1 + 1 * 0 = 1; omega
  | ⟨1, _⟩ => show win0_1.index t 1 * 2048 + 1 * e.val = e.val; rw [hi]; show 0 * 2048 + 1 * e.val = e.val; omega
  | ⟨2, _⟩ => show win0_1.index t 2 * 2048 + 1 * d.val = d.val; rw [hi]; show 0 * 2048 + 1 * d.val = d.val; omega

theorem at10 (c : Dev nD) (t : Fin cfg1.N) (r : Fin 1024) (d : Fin 2048) :
    (iblk1 V c 0 t : S1024x2048.Idx → EReal) (ix2 r d) = (V c main_v1 : S2048x2048.Idx → EReal) (ix2 (row1 t r) d) := by
  unfold iblk1; rw [View.read_apply]
  show V c main_v1 _ = V c main_v1 _
  congr 1; funext a; apply Fin.ext
  have hi := idx10 t
  match a with
  | ⟨0, _⟩ => show win1_0.index t 0 * 1024 + 1 * r.val = 1024 * (t.val / 2) + r.val; rw [hi]; show t.val / 2 * 1024 + 1 * r.val = 1024 * (t.val / 2) + r.val; omega
  | ⟨1, _⟩ => show win1_0.index t 1 * 2048 + 1 * d.val = d.val; rw [hi]; show 0 * 2048 + 1 * d.val = d.val; omega

theorem at11 (c : Dev nD) (t : Fin cfg1.N) (e d : Fin 2048) :
    (iblk1 V c 1 t : S1x2048x2048.Idx → EReal) (ix3 0 e d) = (V c main_v6 : S2x2048x4096.Idx → EReal) (ix3 1 e (col1 t d)) := by
  unfold iblk1; rw [View.read_apply]
  show V c main_v6 _ = V c main_v6 _
  congr 1; funext a; apply Fin.ext
  have hi := idx11 t
  match a with
  | ⟨0, _⟩ => show win1_1.index t 0 * 1 + 1 * 0 = 1; rw [hi]; show 1 * 1 + 1 * 0 = 1; omega
  | ⟨1, _⟩ => show win1_1.index t 1 * 2048 + 1 * e.val = e.val; rw [hi]; show 0 * 2048 + 1 * e.val = e.val; omega
  | ⟨2, _⟩ => show win1_1.index t 2 * 2048 + 1 * d.val = 2048 * (t.val % 2) + d.val; rw [hi]; show (t.val % 2) * 2048 + 1 * d.val = 2048 * (t.val % 2) + d.val; omega

theorem at20 (c : Dev nD) (t : Fin cfg2.N) (r : Fin 512) (d : Fin 2048) :
    (iblk2 V c 0 t : S512x2048.Idx → EReal) (ix2 r d) = (V c main_v5 : S16384x2048.Idx → EReal) (ix2 (row2 t r) d) := by
  unfold iblk2; rw [View.read_apply]
  show V c main_v5 _ = V c main_v5 _
  congr 1; funext a; apply Fin.ext
  have hi := idx20 t
  match a with
  | ⟨0, _⟩ => show win2_0.index t 0 * 512 + 1 * r.val = 512 * t.val + r.val; rw [hi]; show t.val * 512 + 1 * r.val = 512 * t.val + r.val; omega
  | ⟨1, _⟩ => show win2_0.index t 1 * 2048 + 1 * d.val = d.val; rw [hi]; show 0 * 2048 + 1 * d.val = d.val; omega

theorem at21 (c : Dev nD) (t : Fin cfg2.N) (n : Fin 256) (d : Fin 4096) :
    (iblk2 V c 1 t : S1x256x4096.Idx → EReal) (ix3 0 n d) = (V c main_v13 : S8x256x4096.Idx → EReal) (ix3 (bat2 t) n d) := by
  unfold iblk2; rw [View.read_apply]
  show V c main_v13 _ = V c main_v13 _
  congr 1; funext a; apply Fin.ext
  have hi := idx21 t
  match a with
  | ⟨0, _⟩ => show win2_1.index t 0 * 1 + 1 * 0 = t.val / 4; rw [hi]; show t.val / 4 * 1 + 1 * 0 = t.val / 4; omega
  | ⟨1, _⟩ => show win2_1.index t 1 * 256 + 1 * n.val = n.val; rw [hi]; show 0 * 256 + 1 * n.val = n.val; omega
  | ⟨2, _⟩ => show win2_1.index t 2 * 4096 + 1 * d.val = d.val; rw [hi]; show 0 * 4096 + 1 * d.val = d.val; omega

theorem at22 (c : Dev nD) (t : Fin cfg2.N) (e d : Fin 2048) :
    (iblk2 V c 2 t : S1x2048x2048.Idx → EReal) (ix3 0 e d) = (V c main_v8 : S2x2048x2048.Idx → EReal) (ix3 1 e d) := by
  unfold iblk2; rw [View.read_apply]
  show V c main_v8 _ = V c main_v8 _
  congr 1; funext a; apply Fin.ext
  have hi := idx22 t
  match a with
  | ⟨0, _⟩ => show win2_2.index t 0 * 1 + 1 * 0 = 1; rw [hi]; show 1 * 1 + 1 * 0 = 1; omega
  | ⟨1, _⟩ => show win2_2.index t 1 * 2048 + 1 * e.val = e.val; rw [hi]; show 0 * 2048 + 1 * e.val = e.val; omega
  | ⟨2, _⟩ => show win2_2.index t 2 * 2048 + 1 * d.val = d.val; rw [hi]; show 0 * 2048 + 1 * d.val = d.val; omega

theorem at23 (c : Dev nD) (t : Fin cfg2.N) (r : Fin 512) (d : Fin 2048) :
    (iblk2 V c 3 t : S512x2048.Idx → EReal) (ix2 r d) = (V c main_v0 : S16384x2048.Idx → EReal) (ix2 (row2 t r) d) := by
  unfold iblk2; rw [View.read_apply]
  show V c main_v0 _ = V c main_v0 _
  congr 1; funext a; apply Fin.ext
  have hi := idx23 t
  match a with
  | ⟨0, _⟩ => show win2_3.index t 0 * 512 + 1 * r.val = 512 * t.val + r.val; rw [hi]; show t.val * 512 + 1 * r.val = 512 * t.val + r.val; omega
  | ⟨1, _⟩ => show win2_3.index t 1 * 2048 + 1 * d.val = d.val; rw [hi]; show 0 * 2048 + 1 * d.val = d.val; omega

theorem at24 (c : Dev nD) (t : Fin cfg2.N) (j : Fin 2048) :
    (iblk2 V c 4 t : S1x2048.Idx → EReal) (ix2 0 j) = (V c main_v14 : S1x2048.Idx → EReal) (ix2 0 j) := by
  unfold iblk2; rw [View.read_apply]
  show V c main_v14 _ = V c main_v14 _
  congr 1; funext a; apply Fin.ext
  have hi := idx24 t
  match a with
  | ⟨0, _⟩ => show win2_4.index t 0 * 1 + 1 * 0 = 0; rw [hi]; show 0 * 1 + 1 * 0 = 0; omega
  | ⟨1, _⟩ => show win2_4.index t 1 * 2048 + 1 * j.val = j.val; rw [hi]; show 0 * 2048 + 1 * j.val = j.val; omega

theorem at25 (c : Dev nD) (t : Fin cfg2.N) (j : Fin 2048) :
    (iblk2 V c 5 t : S1x2048.Idx → EReal) (ix2 0 j) = (V c main_v15 : S1x2048.Idx → EReal) (ix2 0 j) := by
  unfold iblk2; rw [View.read_apply]
  show V c main_v15 _ = V c main_v15 _
  congr 1; funext a; apply Fin.ext
  have hi := idx25 t
  match a with
  | ⟨0, _⟩ => show win2_5.index t 0 * 1 + 1 * 0 = 0; rw [hi]; show 0 * 1 + 1 * 0 = 0; omega
  | ⟨1, _⟩ => show win2_5.index t 1 * 2048 + 1 * j.val = j.val; rw [hi]; show 0 * 2048 + 1 * j.val = j.val; omega

/-- A projection's block at coordinates. -/
theorem pay0_at (x : Vec Ideal S1024x2048 .f32) (w : Vec Ideal S1x2048x2048 .bf16) (r : Fin 1024) (d : Fin 2048) :
    (k0_pay1 (F := Ideal) x w (ix2 r d) : EReal) = ∑ e : Fin 2048, x (ix2 r e) * w (ix3 0 e d) := by
  pointwise [k0_pay1]

theorem hz2 : (![0, 0] : Fin 2 → ℕ) = fun _ => 0 := by decide
theorem hz3 : (![0, 0, 0] : Fin 3 → ℕ) = fun _ => 0 := by decide

theorem out0_eq (x : Vec Ideal S1024x2048 .f32) (w : Vec Ideal S1x2048x2048 .bf16) : out0_2 (F := Ideal) x w = k0_pay1 x w := by
  unfold out0_2
  rw [View.canon_unit_zero (S := S1024x2048) hz2, View.ld_unit_zero (S := S1024x2048) hz2, View.ld_unit_zero (S := S1x2048x2048) hz3]
theorem out1_eq (x : Vec Ideal S1024x2048 .f32) (w : Vec Ideal S1x2048x2048 .bf16) : out1_2 (F := Ideal) x w = k0_pay1 x w := by
  unfold out1_2
  rw [View.canon_unit_zero (S := S1024x2048) hz2, View.ld_unit_zero (S := S1024x2048) hz2, View.ld_unit_zero (S := S1x2048x2048) hz3]
  rfl

/-- A projection's block, from where its blocks lie. -/
theorem proj_of (x : Vec Ideal S1024x2048 .f32) (w : Vec Ideal S1x2048x2048 .bf16) (r : Fin 1024) (d : Fin 2048) (X W : Fin 2048 → EReal)
    (h0 : ∀ e, x (ix2 r e) = X e) (h1 : ∀ e, w (ix3 0 e d) = W e) : (k0_pay1 (F := Ideal) x w (ix2 r d) : EReal) = ∑ e : Fin 2048, X e * W e := by
  rw [pay0_at]
  simp only [h0, h1]

/-- A row of one array against a column of the other's second layer. -/
def qOf (X : S16384x2048.Idx → EReal) (W : S2x2048x2048.Idx → EReal) (R : Fin 16384) (d : Fin 2048) : EReal := ∑ e : Fin 2048, X (ix2 R e) * W (ix3 1 e d)
def kvOf (X : S2048x2048.Idx → EReal) (W : S2x2048x4096.Idx → EReal) (R : Fin 2048) (d : Fin 4096) : EReal := ∑ e : Fin 2048, X (ix2 R e) * W (ix3 1 e d)

theorem qOf_of (X : S16384x2048.Idx → EReal) (W : S2x2048x2048.Idx → EReal) (R : Fin 16384) (d : Fin 2048) (A B : Fin 2048 → EReal)
    (h0 : ∀ e, X (ix2 R e) = A e) (h1 : ∀ e, W (ix3 1 e d) = B e) : qOf X W R d = ∑ e : Fin 2048, A e * B e := by
  unfold qOf
  simp only [h0, h1]
theorem kvOf_of (X : S2048x2048.Idx → EReal) (W : S2x2048x4096.Idx → EReal) (R : Fin 2048) (d : Fin 4096) (A B : Fin 2048 → EReal)
    (h0 : ∀ e, X (ix2 R e) = A e) (h1 : ∀ e, W (ix3 1 e d) = B e) : kvOf X W R d = ∑ e : Fin 2048, A e * B e := by
  unfold kvOf
  simp only [h0, h1]

/-- The queries that the first launch leaves. -/
theorem result0 (c : Dev nD) :
    (dat0 V c).arrAt 2 cfg0.N = fun y : S16384x2048.Idx => qOf (V c main_v0) (V c main_v4) (y 0) (y 1) := by
  refine (dat0 V c).arrAt_eq_of_covers 2 _ (by decide +kernel) fun t hf y => ?_
  blk_simp
  rw [after0_2, out0_eq]
  obtain ⟨r, j, rfl⟩ := Cert.Blocks.ex2 (A := 1024) (B := 2048) y
  have hi := idx02 t
  have hr : (win0_2.blk t).view.emb (ix2 r j : S1024x2048.Idx) 0 = row0 t r := by
    apply Fin.ext; show win0_2.index t 0 * 1024 + 1 * r.val = 1024 * t.val + r.val; rw [hi]; show t.val * 1024 + 1 * r.val = _; omega
  have hj : (win0_2.blk t).view.emb (ix2 r j : S1024x2048.Idx) 1 = j := by
    apply Fin.ext; show win0_2.index t 1 * 2048 + 1 * j.val = j.val; rw [hi]; show 0 * 2048 + 1 * j.val = _; omega
  rw [hr, hj]
  exact proj_of _ _ r j _ _ (fun e => at00 V c t r e) (fun e => at01 V c t e j)

/-- The keys and values that the second leaves. -/
theorem result1 (c : Dev nD) :
    (dat1 V c).arrAt 2 cfg1.N = fun y : S2048x4096.Idx => kvOf (V c main_v1) (V c main_v6) (y 0) (y 1) := by
  refine (dat1 V c).arrAt_eq_of_covers 2 _ (by decide +kernel) fun t hf y => ?_
  blk_simp
  rw [after1_2, out1_eq]
  obtain ⟨r, j, rfl⟩ := Cert.Blocks.ex2 (A := 1024) (B := 2048) y
  have hi := idx12 t
  have hr : (win1_2.blk t).view.emb (ix2 r j : S1024x2048.Idx) 0 = row1 t r := by
    apply Fin.ext; show win1_2.index t 0 * 1024 + 1 * r.val = 1024 * (t.val / 2) + r.val; rw [hi]; show t.val / 2 * 1024 + 1 * r.val = _; omega
  have hj : (win1_2.blk t).view.emb (ix2 r j : S1024x2048.Idx) 1 = col1 t j := by
    apply Fin.ext; show win1_2.index t 1 * 2048 + 1 * j.val = 2048 * (t.val % 2) + j.val; rw [hi]; show t.val % 2 * 2048 + 1 * j.val = _; omega
  rw [hr, hj]
  exact proj_of _ _ r j _ _ (fun e => at10 V c t r e) (fun e => at11 V c t e j)

/-- The attended rows, projected and normalized, from the arrays the third launch starts at. -/
def memV (Q H : S16384x2048.Idx → EReal) (K : S8x256x4096.Idx → EReal) (W : S2x2048x2048.Idx → EReal) (G B : S1x2048.Idx → EReal) (R : Fin 16384) (j : Fin 2048) : EReal :=
  Cert.Norm.normAt (sumAt (fun d => Q (ix2 R d)) (fun n d => K (ix3 (rowB R) n d)) (fun d => H (ix2 R d)) (fun e d => W (ix3 1 e d))) (G (ix2 0 j)) (B (ix2 0 j)) j

theorem out_of (x0 : Vec Ideal S512x2048 .bf16) (x1 : Vec Ideal S1x256x4096 .bf16) (x2 : Vec Ideal S1x2048x2048 .bf16) (x3 : Vec Ideal S512x2048 .f32) (x4 x5 : Vec Ideal S1x2048 .f32) (r : Fin 512) (j : Fin 2048)
    (Q H : S16384x2048.Idx → EReal) (K : S8x256x4096.Idx → EReal) (W : S2x2048x2048.Idx → EReal) (G B : S1x2048.Idx → EReal) (R : Fin 16384)
    (h0 : ∀ d, x0 (ix2 r d) = Q (ix2 R d)) (h1 : ∀ n d, x1 (ix3 0 n d) = K (ix3 (rowB R) n d)) (h2 : ∀ e d, x2 (ix3 0 e d) = W (ix3 1 e d))
    (h3 : ∀ d, x3 (ix2 r d) = H (ix2 R d)) (h4 : x4 (ix2 0 j) = G (ix2 0 j)) (h5 : x5 (ix2 0 j) = B (ix2 0 j)) :
    (out2_6 (F := Ideal) x0 x1 x2 x3 x4 x5 (ix2 r j) : EReal) = memV Q H K W G B R j := by
  rw [out_at]
  unfold memV
  simp only [h0, h1, h2, h3, h4, h5]

theorem bat2_eq (t : Fin cfg2.N) (r : Fin 512) : bat2 t = rowB (row2 t r) := by
  apply Fin.ext; show t.val / 4 = (512 * t.val + r.val) / 2048; omega

/-- The rows that the third leaves. -/
theorem result2 (c : Dev nD) :
    (dat2 V c).arrAt 6 cfg2.N = fun y : S16384x2048.Idx => memV (V c main_v5) (V c main_v0) (V c main_v13) (V c main_v8) (V c main_v14) (V c main_v15) (y 0) (y 1) := by
  refine (dat2 V c).arrAt_eq_of_covers 6 _ (by decide +kernel) fun t hf y => ?_
  blk_simp
  rw [after2_6]
  obtain ⟨r, j, rfl⟩ := Cert.Blocks.ex2 (A := 512) (B := 2048) y
  have hi := idx26 t
  have hr : (win2_6.blk t).view.emb (ix2 r j : S512x2048.Idx) 0 = row2 t r := by
    apply Fin.ext; show win2_6.index t 0 * 512 + 1 * r.val = 512 * t.val + r.val; rw [hi]; show t.val * 512 + 1 * r.val = _; omega
  have hj : (win2_6.blk t).view.emb (ix2 r j : S512x2048.Idx) 1 = j := by
    apply Fin.ext; show win2_6.index t 1 * 2048 + 1 * j.val = j.val; rw [hi]; show 0 * 2048 + 1 * j.val = _; omega
  rw [hr, hj]
  exact out_of _ _ _ _ _ _ r j _ _ _ _ _ _ _ (fun d => at20 V c t r d) (fun n d => (at21 V c t n d).trans (by rw [bat2_eq t r])) (fun e d => at22 V c t e d) (fun d => at23 V c t r d) (at24 V c t j) (at25 V c t j)

end Cert.MemoryIdeal.Hand
-- ==== Proof.MemHost.lean ====
/-
  The memory attention's staged arrays, and its result from the arguments.
-/
module

public import proofs.«01_k».proof.Proof.MemRegions

@[expose] public section

set_option maxRecDepth 16384

noncomputable section

open Idealize.ShloMosaic Idealize.ShloMosaic.TcCoe Idealize.ShloMosaic.StableHlo

namespace Cert.MemoryIdeal.Hand

open Cert.MemoryIdeal Cert.MemoryIdeal.Gen
open Cert.Norm (rowB rowP)
open Cert.Recall

variable (m : (ℓ : Loc nD τ sig) → Buf (Elt Ideal) ℓ) (ρ : Dev nD → PrngReg)

abbrev argH (c : Dev nD) : S8x2048x2048.Idx → EReal := m ((c : Thread nD τ).loc main_arg0)
abbrev argM (c : Dev nD) : S8x256x2048.Idx → EReal := m ((c : Thread nD τ).loc main_arg1)
abbrev argQ (c : Dev nD) : S2x2048x2048.Idx → EReal := m ((c : Thread nD τ).loc main_arg2)
abbrev argKV (c : Dev nD) : S2x2048x4096.Idx → EReal := m ((c : Thread nD τ).loc main_arg3)
abbrev argO (c : Dev nD) : S2x2048x2048.Idx → EReal := m ((c : Thread nD τ).loc main_arg4)
abbrev argG (c : Dev nD) : S2x2048.Idx → EReal := m ((c : Thread nD τ).loc main_arg5)
abbrev argB (c : Dev nD) : S2x2048.Idx → EReal := m ((c : Thread nD τ).loc main_arg6)

/-- The scale of the queries. -/
abbrev scale : EReal := Ideal.ofBits .f32 0x3D3504F3#32

theorem S0 (c : Dev nD) : (V1 m ρ c main_v0 : S16384x2048.Idx → EReal) = shapeCast _ (argH m c) shapeCasts_S8x2048x2048_S16384x2048 := by
  show StableHlo.after hostOps0 (W0 m ρ c) (Proc.devRef .tc main_v0) = _
  simp only [hostOps0]; after_results_simp <;> rfl
theorem s0_at (c : Dev nD) (R : Fin 16384) (d : Fin 2048) : (V1 m ρ c main_v0 : S16384x2048.Idx → EReal) (ix2 R d) = argH m c (ix3 (rowB R) (rowP R) d) := by
  rw [S0]; pointwise
theorem S1 (c : Dev nD) : (V1 m ρ c main_v1 : S2048x2048.Idx → EReal) = shapeCast _ (argM m c) shapeCasts_S8x256x2048_S2048x2048 := by
  show StableHlo.after hostOps0 (W0 m ρ c) (Proc.devRef .tc main_v1) = _
  simp only [hostOps0]; after_results_simp <;> rfl
theorem s1_at (c : Dev nD) (b : Fin 8) (n : Fin 256) (d : Fin 2048) : (V1 m ρ c main_v1 : S2048x2048.Idx → EReal) (ix2 ⟨b.val * 256 + n.val, by omega⟩ d) = argM m c (ix3 b n d) := by
  rw [S1]; pointwise
theorem S4 (c : Dev nD) : (V1 m ρ c main_v4 : S2x2048x2048.Idx → EReal) = (mulf (F := Ideal) (argQ m c : FVec Ideal S2x2048x2048 .f32) (broadcastInDim S2x2048x2048 ![] bcast_S_S2x2048x2048 (constant S_ .f32 0x3D3504F3#32)) : FVec Ideal S2x2048x2048 .f32) := by
  show StableHlo.after hostOps0 (W0 m ρ c) (Proc.devRef .tc main_v4) = _
  simp only [hostOps0]; after_results_simp <;> rfl
theorem s4_at (c : Dev nD) (e d : Fin 2048) : (V1 m ρ c main_v4 : S2x2048x2048.Idx → EReal) (ix3 1 e d) = argQ m c (ix3 1 e d) * scale := by
  rw [S4]; pointwise

/-- The queries at coordinates. -/
theorem q_at (c : Dev nD) (R : Fin 16384) (d : Fin 2048) :
    (V5 m ρ c main_v5 : S16384x2048.Idx → EReal) (ix2 R d) = ∑ e : Fin 2048, argH m c (ix3 (rowB R) (rowP R) e) * (argQ m c (ix3 1 e d) * scale) := by
  have h : (V5 m ρ c main_v5 : S16384x2048.Idx → EReal) = (dat0 (V1 m ρ) c).arrAt 2 cfg0.N :=
    (W5_of m ρ c main_v5 (by decide)).trans ((W4_of m ρ c main_v5 (by decide +kernel)).trans ((W3_of m ρ c main_v5 (by decide)).trans (W2_arr m ρ c 2)))
  rw [h]
  refine (congrFun (result0 _ c) (ix2 R d)).trans ?_
  exact qOf_of _ _ R d _ _ (fun e => s0_at m ρ c R e) (fun e => s4_at m ρ c e d)

theorem s1' (c : Dev nD) : (V3 m ρ c main_v1 : S2048x2048.Idx → EReal) = V1 m ρ c main_v1 :=
  (W3_of m ρ c main_v1 (by decide)).trans (W2_of m ρ c main_v1 (by decide +kernel))
theorem S6 (c : Dev nD) : (V3 m ρ c main_v6 : S2x2048x4096.Idx → EReal) = argKV m c := by
  have h : (W2 m ρ c (Proc.devRef .tc main_arg3) : S2x2048x4096.Idx → EReal) = argKV m c := W2_args m ρ c main_arg3 (by decide)
  refine Eq.trans ?_ h
  show StableHlo.after hostOps1 (W2 m ρ c) (Proc.devRef .tc main_v6) = _
  simp only [hostOps1]; after_results_simp <;> rfl

/-- The keys and values at coordinates. -/
theorem kv_at (c : Dev nD) (b : Fin 8) (n : Fin 256) (d : Fin 4096) :
    (V5 m ρ c main_v13 : S8x256x4096.Idx → EReal) (ix3 b n d) = ∑ e : Fin 2048, argM m c (ix3 b n e) * argKV m c (ix3 1 e d) := by
  have h : (W4 m ρ c (Proc.devRef .tc main_v7) : S2048x4096.Idx → EReal) = (dat1 (V3 m ρ) c).arrAt 2 cfg1.N := W4_arr m ρ c 2
  have h1 : (V5 m ρ c main_v13 : S8x256x4096.Idx → EReal) = shapeCast _ (W4 m ρ c (Proc.devRef .tc main_v7) : S2048x4096.Idx → EReal) shapeCasts_S2048x4096_S8x256x4096 := by
    show StableHlo.after hostOps2 (W4 m ρ c) (Proc.devRef .tc main_v13) = _
    simp only [hostOps2]; after_results_simp <;> rfl
  have h2 : ∀ A : S2048x4096.Idx → EReal, (shapeCast S8x256x4096 A shapeCasts_S2048x4096_S8x256x4096 : S8x256x4096.Idx → EReal) (ix3 b n d) = A (ix2 ⟨b.val * 256 + n.val, by omega⟩ d) := by
    intro A; pointwise
  rw [h1, h2, h]
  refine (congrFun (result1 _ c) (ix2 _ d)).trans ?_
  exact kvOf_of _ _ _ d _ _ (fun e => (congrFun (s1' m ρ c) _).trans (s1_at m ρ c b n e)) (fun e => congrFun (S6 m ρ c) _)

theorem S0' (c : Dev nD) : (V5 m ρ c main_v0 : S16384x2048.Idx → EReal) = V1 m ρ c main_v0 :=
  (W5_of m ρ c main_v0 (by decide)).trans ((W4_of m ρ c main_v0 (by decide +kernel)).trans ((W3_of m ρ c main_v0 (by decide)).trans (W2_of m ρ c main_v0 (by decide +kernel))))
theorem S8 (c : Dev nD) : (V5 m ρ c main_v8 : S2x2048x2048.Idx → EReal) = argO m c := by
  have h : (W4 m ρ c (Proc.devRef .tc main_arg4) : S2x2048x2048.Idx → EReal) = argO m c := W4_args m ρ c main_arg4 (by decide)
  refine Eq.trans ?_ h
  show StableHlo.after hostOps2 (W4 m ρ c) (Proc.devRef .tc main_v8) = _
  simp only [hostOps2]; after_results_simp <;> rfl
theorem S14 (c : Dev nD) : (V5 m ρ c main_v14 : S1x2048.Idx → EReal) = shapeCast _ (shapeCast _ (extractStridedSlice S1x2048 ![1, 0] (argG m c) slices_S2x2048_S1x2048_1_0) shapeCasts_S1x2048_S2048) shapeCasts_S2048_S1x2048 := by
  have h : (W4 m ρ c (Proc.devRef .tc main_arg5) : S2x2048.Idx → EReal) = argG m c := W4_args m ρ c main_arg5 (by decide)
  show StableHlo.after hostOps2 (W4 m ρ c) (Proc.devRef .tc main_v14) = _
  rw [← h]
  simp only [hostOps2]; after_results_simp <;> rfl
theorem s14_at (c : Dev nD) (j : Fin 2048) : (V5 m ρ c main_v14 : S1x2048.Idx → EReal) (ix2 0 j) = argG m c (ix2 1 j) := by
  rw [S14]; pointwise
theorem S15 (c : Dev nD) : (V5 m ρ c main_v15 : S1x2048.Idx → EReal) = shapeCast _ (shapeCast _ (extractStridedSlice S1x2048 ![1, 0] (argB m c) slices_S2x2048_S1x2048_1_0) shapeCasts_S1x2048_S2048) shapeCasts_S2048_S1x2048 := by
  have h : (W4 m ρ c (Proc.devRef .tc main_arg6) : S2x2048.Idx → EReal) = argB m c := W4_args m ρ c main_arg6 (by decide)
  show StableHlo.after hostOps2 (W4 m ρ c) (Proc.devRef .tc main_v15) = _
  rw [← h]
  simp only [hostOps2]; after_results_simp <;> rfl
theorem s15_at (c : Dev nD) (j : Fin 2048) : (V5 m ρ c main_v15 : S1x2048.Idx → EReal) (ix2 0 j) = argB m c (ix2 1 j) := by
  rw [S15]; pointwise

/-- The call at a row and a column, from its arguments. -/
def memOf (H : S8x2048x2048.Idx → EReal) (M : S8x256x2048.Idx → EReal) (Q : S2x2048x2048.Idx → EReal) (KV : S2x2048x4096.Idx → EReal) (O : S2x2048x2048.Idx → EReal) (G B : S2x2048.Idx → EReal) (R : Fin 16384) (j : Fin 2048) : EReal :=
  Cert.Norm.normAt (sumAt (fun d => ∑ e : Fin 2048, H (ix3 (rowB R) (rowP R) e) * (Q (ix3 1 e d) * scale)) (fun n d => ∑ e : Fin 2048, M (ix3 (rowB R) n e) * KV (ix3 1 e d))
    (fun d => H (ix3 (rowB R) (rowP R) d)) (fun e d => O (ix3 1 e d))) (G (ix2 1 j)) (B (ix2 1 j)) j

theorem memV_of (X Y : S16384x2048.Idx → EReal) (K : S8x256x4096.Idx → EReal) (W : S2x2048x2048.Idx → EReal) (g b : S1x2048.Idx → EReal) (R : Fin 16384) (j : Fin 2048)
    (H : S8x2048x2048.Idx → EReal) (M : S8x256x2048.Idx → EReal) (Q : S2x2048x2048.Idx → EReal) (KV : S2x2048x4096.Idx → EReal) (O : S2x2048x2048.Idx → EReal) (G B : S2x2048.Idx → EReal)
    (h0 : ∀ d, X (ix2 R d) = ∑ e : Fin 2048, H (ix3 (rowB R) (rowP R) e) * (Q (ix3 1 e d) * scale)) (h1 : ∀ n d, K (ix3 (rowB R) n d) = ∑ e : Fin 2048, M (ix3 (rowB R) n e) * KV (ix3 1 e d))
    (h2 : ∀ e d, W (ix3 1 e d) = O (ix3 1 e d)) (h3 : ∀ d, Y (ix2 R d) = H (ix3 (rowB R) (rowP R) d)) (h4 : g (ix2 0 j) = G (ix2 1 j)) (h5 : b (ix2 0 j) = B (ix2 1 j)) :
    memV X Y K W g b R j = memOf H M Q KV O G B R j := by
  unfold memV memOf
  simp only [h0, h1, h2, h3, h4, h5]

/-- THE KERNEL'S RESULT, from the arguments. -/
theorem result (c : Dev nD) :
    W6 m ρ c (Proc.devRef .tc main_v16) = fun y : S16384x2048.Idx => memOf (argH m c) (argM m c) (argQ m c) (argKV m c) (argO m c) (argG m c) (argB m c) (y 0) (y 1) := by
  have h : (W6 m ρ c (Proc.devRef .tc main_v16) : S16384x2048.Idx → EReal) = (dat2 (V5 m ρ) c).arrAt 6 cfg2.N := W6_arr m ρ c 6
  refine h.trans ?_
  refine (result2 _ c).trans ?_
  funext y
  exact memV_of _ _ _ _ _ _ (y 0) (y 1) _ _ _ _ _ _ _ (fun d => q_at m ρ c (y 0) d) (fun n d => kv_at m ρ c _ n d) (fun e d => congrFun (S8 m ρ c) _)
    (fun d => (congrFun (S0' m ρ c) _).trans (s0_at m ρ c (y 0) d)) (s14_at m ρ c (y 1)) (s15_at m ρ c (y 1))

end Cert.MemoryIdeal.Hand
-- ==== Proof.MemRef.lean ====
/-
  The attention over the memory as the reference computes it, at coordinates, and the place of the scale.
-/
module

public import proofs.«01_k».proof.Proof.MemHost
public import proofs.«01_k».proof.Proof.Gen.MemoryRefIdeal.Run

@[expose] public section

set_option maxRecDepth 16384

noncomputable section

open Idealize.ShloMosaic Idealize.ShloMosaic.TcCoe Idealize.ShloMosaic.StableHlo

namespace Cert.MemoryRefIdeal.Hand

open Cert.MemoryRefIdeal Cert.MemoryRefIdeal.Gen
open Cert.Norm (rowB rowP)
open Cert.Recall
open Cert.MemoryIdeal.Hand (scale memOf)

variable (m : (ℓ : Loc nD τ sig) → Buf (Elt Ideal) ℓ)

/-- The queries by head. -/
def rQ (h : FVec Ideal S8x2048x2048 .f32) (w : FVec Ideal S2x2048x2048 .f32) : FVec Ideal S8x2048x4x512 .f32 :=
  shapeCast _ (Host.dotGeneral (F := Ideal) dot_S8x2048x2048_S2048x2048_S8x2048x2048_2_0_01_1_n_n none h (shapeCast _ (extractStridedSlice S1x2048x2048 ![1, 0, 0] w slices_S2x2048x2048_S1x2048x2048_1_0_0) shapeCasts_S1x2048x2048_S2048x2048)) shapeCasts_S8x2048x2048_S8x2048x4x512

/-- The keys and values. -/
def rKV (x : FVec Ideal S8x256x2048 .f32) (w : FVec Ideal S2x2048x4096 .f32) : FVec Ideal S8x256x4096 .f32 :=
  Host.dotGeneral (F := Ideal) dot_S8x256x2048_S2048x4096_S8x256x4096_2_0_01_1_n_n none x (shapeCast _ (extractStridedSlice S1x2048x4096 ![1, 0, 0] w slices_S2x2048x4096_S1x2048x4096_1_0_0) shapeCasts_S1x2048x4096_S2048x4096)

/-- The keys, and the values, by head. -/
def rK (kv : FVec Ideal S8x256x4096 .f32) : FVec Ideal S8x256x4x512 .f32 :=
  shapeCast _ (extractStridedSlice S8x256x1x4x512 ![0, 0, 0, 0, 0] (shapeCast _ kv shapeCasts_S8x256x4096_S8x256x2x4x512) slices_S8x256x2x4x512_S8x256x1x4x512_0_0_0_0_0) shapeCasts_S8x256x1x4x512_S8x256x4x512
def rV (kv : FVec Ideal S8x256x4096 .f32) : FVec Ideal S8x256x4x512 .f32 :=
  shapeCast _ (extractStridedSlice S8x256x1x4x512 ![0, 0, 1, 0, 0] (shapeCast _ kv shapeCasts_S8x256x4096_S8x256x2x4x512) slices_S8x256x2x4x512_S8x256x1x4x512_0_0_1_0_0) shapeCasts_S8x256x1x4x512_S8x256x4x512

/-- The scaled scores. -/
def rS (q : FVec Ideal S8x2048x4x512 .f32) (k : FVec Ideal S8x256x4x512 .f32) : FVec Ideal S8x4x2048x256 .f32 :=
  mulf (Host.dotGeneral (F := Ideal) dot_S8x2048x4x512_S8x256x4x512_S8x4x2048x256_3_3_1_1_02_02 none q k) (broadcastInDim S8x4x2048x256 ![] bcast_S_S8x4x2048x256 (constant S_ .f32 0x3D3504F3#32))

/-- The largest score of a row. -/
def rX (S : FVec Ideal S8x4x2048x256 .f32) : FVec Ideal S8x4x2048 .f32 :=
  Host.reduce FloatOps.maximumf S (constant S_ .f32 0xFF800000#32) reducesTo_S8x4x2048x256_S8x4x2048_d3 h_S_
def rM (X : FVec Ideal S8x4x2048 .f32) : FVec Ideal S8x4x2048 .f32 :=
  maximumf (broadcastInDim S8x4x2048 ![] bcast_S_S8x4x2048 (constant S_ .f32 0xFF800000#32)) X

/-- The exponentials of the scores below `X`. -/
def rE (S : FVec Ideal S8x4x2048x256 .f32) (X : FVec Ideal S8x4x2048 .f32) : FVec Ideal S8x4x2048x256 .f32 :=
  Host.exp (F := Ideal) (subf S (broadcastInDim S8x4x2048x256 ![0, 1, 2, 3] bcast_S8x4x2048x1_S8x4x2048x256_0_1_2_3 (broadcastInDim S8x4x2048x1 ![0, 1, 2] bcast_S8x4x2048_S8x4x2048x1_0_1_2 X)))

/-- The sums of the exponentials, and the weights. -/
def rL (E : FVec Ideal S8x4x2048x256 .f32) : FVec Ideal S8x4x2048 .f32 :=
  Host.reduceAdd (F := Ideal) E (constant S_ .f32 0x00000000#32) reducesTo_S8x4x2048x256_S8x4x2048_d3 h_S_
def rP (E : FVec Ideal S8x4x2048x256 .f32) (L : FVec Ideal S8x4x2048 .f32) : FVec Ideal S8x4x2048x256 .f32 :=
  Host.divf (F := Ideal) E (broadcastInDim S8x4x2048x256 ![0, 1, 2, 3] bcast_S8x4x2048x1_S8x4x2048x256_0_1_2_3 (broadcastInDim S8x4x2048x1 ![0, 1, 2] bcast_S8x4x2048_S8x4x2048x1_0_1_2 L))
/-- The weights from the scores. -/
def rW (S : FVec Ideal S8x4x2048x256 .f32) : FVec Ideal S8x4x2048x256 .f32 := rP (rE S (rM (rX S))) (rL (rE S (rM (rX S))))

/-- The context. -/
def rC (v : FVec Ideal S8x256x4x512 .f32) (P : FVec Ideal S8x4x2048x256 .f32) : FVec Ideal S8x2048x2048 .f32 :=
  shapeCast _ (transpose S8x2048x4x512 [0, 3, 1, 2] (Host.dotGeneral (F := Ideal) dot_S8x256x4x512_S8x4x2048x256_S8x4x512x2048_1_3_3_2_02_01 none v P) transposes_S8x4x512x2048_S8x2048x4x512_0_3_1_2) shapeCasts_S8x2048x4x512_S8x2048x2048

/-- The scaled residual and the projected context. -/
def rSum (h : FVec Ideal S8x2048x2048 .f32) (C : FVec Ideal S8x2048x2048 .f32) (w : FVec Ideal S2x2048x2048 .f32) : FVec Ideal S8x2048x2048 .f32 :=
  addf (mulf (broadcastInDim S8x2048x2048 ![] bcast_S_S8x2048x2048 (constant S_ .f32 0x3FB504F3#32)) h)
    (Host.dotGeneral (F := Ideal) dot_S8x2048x2048_S2048x2048_S8x2048x2048_2_0_01_1_n_n none C (shapeCast _ (extractStridedSlice S1x2048x2048 ![1, 0, 0] w slices_S2x2048x2048_S1x2048x2048_1_0_0) shapeCasts_S1x2048x2048_S2048x2048))

/-- All of it. -/
def rAll (h : FVec Ideal S8x2048x2048 .f32) (x : FVec Ideal S8x256x2048 .f32) (wq : FVec Ideal S2x2048x2048 .f32) (wkv : FVec Ideal S2x2048x4096 .f32) (wo : FVec Ideal S2x2048x2048 .f32) : FVec Ideal S8x2048x2048 .f32 :=
  rSum h (rC (rV (rKV x wkv)) (rW (rS (rQ h wq) (rK (rKV x wkv))))) wo

theorem res_eq (c : Dev nD) : Cert.MemoryRefIdeal.Value.res_main_v63 m c =
    Cert.Norm.rNorm (rAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := by
  unfold Cert.MemoryRefIdeal.Value.res_main_v63 Cert.Norm.rNorm Cert.Norm.rDev Cert.Norm.rMean rAll rSum rC rW rP rL rE rM rX rS rK rV rQ rKV
  rfl

theorem rQ_at (h : FVec Ideal S8x2048x2048 .f32) (w : FVec Ideal S2x2048x2048 .f32) (b : Fin 8) (p : Fin 2048) (a : Fin 4) (d : Fin 512) :
    (rQ h w (ix4 b p a d) : EReal) = ∑ e : Fin 2048, (h (ix3 b p e) : EReal) * w (ix3 1 e ⟨a.val * 512 + d.val, by omega⟩) := by
  unfold rQ
  pointwise

theorem rKV_at (x : FVec Ideal S8x256x2048 .f32) (w : FVec Ideal S2x2048x4096 .f32) (b : Fin 8) (n : Fin 256) (d : Fin 4096) :
    (rKV x w (ix3 b n d) : EReal) = ∑ e : Fin 2048, (x (ix3 b n e) : EReal) * w (ix3 1 e d) := by
  unfold rKV
  pointwise

theorem rK_at (kv : FVec Ideal S8x256x4096 .f32) (b : Fin 8) (n : Fin 256) (a : Fin 4) (d : Fin 512) :
    (rK kv (ix4 b n a d) : EReal) = kv (ix3 b n ⟨a.val * 512 + d.val, by omega⟩) := by
  unfold rK
  pointwise

theorem rV_at (kv : FVec Ideal S8x256x4096 .f32) (b : Fin 8) (n : Fin 256) (a : Fin 4) (d : Fin 512) :
    (rV kv (ix4 b n a d) : EReal) = kv (ix3 b n ⟨2048 + a.val * 512 + d.val, by omega⟩) := by
  unfold rV
  pointwise

theorem rS_at (q : FVec Ideal S8x2048x4x512 .f32) (k : FVec Ideal S8x256x4x512 .f32) (b : Fin 8) (a : Fin 4) (p : Fin 2048) (n : Fin 256) :
    (rS q k (ix4 b a p n) : EReal) = (∑ e : Fin 512, (q (ix4 b p a e) : EReal) * k (ix4 b n a e)) * scale := by
  unfold rS
  pointwise

theorem rX_at (S : FVec Ideal S8x4x2048x256 .f32) (b : Fin 8) (a : Fin 4) (p : Fin 2048) :
    (rX S (ix3 b a p) : EReal) = Finset.fold max (Ideal.ofBits .f32 4286578688#32) (fun k : Fin 256 => (S (ix4 b a p k) : EReal)) Finset.univ := by
  unfold rX
  pointwise

theorem rM_at (X : FVec Ideal S8x4x2048 .f32) (b : Fin 8) (a : Fin 4) (p : Fin 2048) : (rM X (ix3 b a p) : EReal) = X (ix3 b a p) := by
  have h : (rM X (ix3 b a p) : EReal) = max (Ideal.ofBits .f32 4286578688#32) (X (ix3 b a p) : EReal) := by
    unfold rM
    pointwise
  rw [h, show (Ideal.ofBits .f32 4286578688#32 : EReal) = ⊥ by simp [Ideal.ofBits, Ideal.ieee]]
  exact max_eq_right bot_le

theorem rE_at (S : FVec Ideal S8x4x2048x256 .f32) (X : FVec Ideal S8x4x2048 .f32) (b : Fin 8) (a : Fin 4) (p : Fin 2048) (n : Fin 256) :
    (rE S X (ix4 b a p n) : EReal) = Ideal.exp ((S (ix4 b a p n) : EReal) - X (ix3 b a p)) := by
  unfold rE
  pointwise

theorem rL_at (E : FVec Ideal S8x4x2048x256 .f32) (b : Fin 8) (a : Fin 4) (p : Fin 2048) :
    (rL E (ix3 b a p) : EReal) = ∑ k : Fin 256, (E (ix4 b a p k) : EReal) := by
  unfold rL
  pointwise

theorem rP_at (E : FVec Ideal S8x4x2048x256 .f32) (L : FVec Ideal S8x4x2048 .f32) (b : Fin 8) (a : Fin 4) (p : Fin 2048) (n : Fin 256) :
    (rP E L (ix4 b a p n) : EReal) = Ideal.div (E (ix4 b a p n) : EReal) (L (ix3 b a p) : EReal) := by
  unfold rP
  pointwise

/-- The weights, over a row's scores. -/
theorem rW_at (S : FVec Ideal S8x4x2048x256 .f32) (b : Fin 8) (a : Fin 4) (p : Fin 2048) (n : Fin 256) (s : Fin 256 → EReal) (hs : ∀ k, (S (ix4 b a p k) : EReal) = s k) :
    (rW S (ix4 b a p n) : EReal) = wt s n := by
  unfold rW wt
  rw [rP_at, rL_at]
  simp only [rE_at, rM_at, rX_at, hs]

theorem rC_at (v : FVec Ideal S8x256x4x512 .f32) (P : FVec Ideal S8x4x2048x256 .f32) (b : Fin 8) (p : Fin 2048) (j : Fin 2048) :
    (rC v P (ix3 b p j) : EReal) = ∑ n : Fin 256, (v (ix4 b n ⟨j.val / 512, by omega⟩ ⟨j.val % 512, by omega⟩) : EReal) * P (ix4 b ⟨j.val / 512, by omega⟩ p n) := by
  unfold rC
  pointwise

theorem rSum_at (h : FVec Ideal S8x2048x2048 .f32) (C : FVec Ideal S8x2048x2048 .f32) (w : FVec Ideal S2x2048x2048 .f32) (b : Fin 8) (p k : Fin 2048) :
    (rSum h C w (ix3 b p k) : EReal) = Cert.Norm.alpha * h (ix3 b p k) + ∑ e : Fin 2048, (C (ix3 b p e) : EReal) * w (ix3 1 e k) := by
  unfold rSum Cert.Norm.alpha
  pointwise

theorem scale_nonneg : (0 : EReal) ≤ scale := by
  unfold scale
  rw [show (0 : EReal) = ((0 : ℝ) : EReal) by norm_cast]
  simp [Ideal.ofBits, Ideal.ieee, -EReal.coe_mul]
  try exact EReal.coe_le_coe_iff.2 (by norm_num)
theorem scale_ne_top : scale ≠ ⊤ := by
  unfold scale
  simp [Ideal.ofBits, Ideal.ieee, -EReal.coe_mul]

theorem sum_scale {n : ℕ} (f : Fin n → EReal) : (∑ e, f e) * scale = ∑ e, f e * scale := by
  induction n with
  | zero => simp
  | succ n ih => rw [Fin.sum_univ_succ, Fin.sum_univ_succ, EReal.right_distrib_of_nonneg_of_ne_top scale_nonneg scale_ne_top, ih]

/-- The scale applied to the query weights is the scale applied to the scores. -/
theorem scale_in (h : Fin 2048 → EReal) (w : Fin 2048 → Fin 512 → EReal) (k : Fin 512 → EReal) :
    ∑ d, (∑ e, h e * (w e d * scale)) * k d = (∑ d, (∑ e, h e * w e d) * k d) * scale := by
  rw [sum_scale]
  refine Finset.sum_congr rfl fun d _ => ?_
  rw [mul_right_comm, sum_scale]
  simp only [mul_assoc]

/-- The context at a row and a column. -/
theorem ctx_at (h : FVec Ideal S8x2048x2048 .f32) (x : FVec Ideal S8x256x2048 .f32) (wq : FVec Ideal S2x2048x2048 .f32) (wkv : FVec Ideal S2x2048x4096 .f32) (b : Fin 8) (p j : Fin 2048) :
    (rC (rV (rKV x wkv)) (rW (rS (rQ h wq) (rK (rKV x wkv)))) (ix3 b p j) : EReal)
      = ctx (fun d => ∑ e : Fin 2048, (h (ix3 b p e) : EReal) * (wq (ix3 1 e d) * scale)) (fun n d => ∑ e : Fin 2048, (x (ix3 b n e) : EReal) * wkv (ix3 1 e d)) j := by
  have hj := j.isLt
  rw [rC_at]
  unfold ctx head
  refine Finset.sum_congr rfl fun n _ => ?_
  have hs : ∀ k : Fin 256, (rS (rQ h wq) (rK (rKV x wkv)) (ix4 b ⟨j.val / 512, by omega⟩ p k) : EReal)
      = ∑ d : Fin 512, (∑ e : Fin 2048, (h (ix3 b p e) : EReal) * (wq (ix3 1 e (colQ (512 * (j.val / 512) + d.val))) * scale))
          * ∑ e : Fin 2048, (x (ix3 b k e) : EReal) * wkv (ix3 1 e (colKV (512 * (j.val / 512) + d.val))) := by
    intro k
    rw [rS_at]
    refine Eq.trans ?_ (scale_in (fun e => (h (ix3 b p e) : EReal)) (fun e d => wq (ix3 1 e (colQ (512 * (j.val / 512) + d.val)))) (fun d => ∑ e : Fin 2048, (x (ix3 b k e) : EReal) * wkv (ix3 1 e (colKV (512 * (j.val / 512) + d.val))))).symm
    refine congrArg (· * scale) (Finset.sum_congr rfl fun d _ => ?_)
    rw [rQ_at, rK_at, rKV_at]
    have h1 : (⟨j.val / 512 * 512 + d.val, by omega⟩ : Fin 2048) = colQ (512 * (j.val / 512) + d.val) := Fin.ext (by dsimp only; omega)
    have h2 : (⟨j.val / 512 * 512 + d.val, by omega⟩ : Fin 4096) = colKV (512 * (j.val / 512) + d.val) := Fin.ext (by dsimp only; omega)
    exact congrArg₂ (· * ·) (by rw [← h1]) (by rw [← h2])
  rw [rW_at _ b _ p n _ hs, rV_at, rKV_at, mul_comm]
  have h3 : (⟨2048 + j.val / 512 * 512 + j.val % 512, by omega⟩ : Fin 4096) = colKV (2048 + 512 * (j.val / 512) + j.val % 512) := Fin.ext (by dsimp only; omega)
  exact congrArg₂ (· * ·) rfl (by rw [← h3])

/-- The reference at a row and a column. -/
theorem ref_at (h : FVec Ideal S8x2048x2048 .f32) (x : FVec Ideal S8x256x2048 .f32) (wq : FVec Ideal S2x2048x2048 .f32) (wkv : FVec Ideal S2x2048x4096 .f32) (wo : FVec Ideal S2x2048x2048 .f32) (g b : FVec Ideal S2x2048 .f32) (R : Fin 16384) (j : Fin 2048) :
    (Cert.Norm.rNorm (rAll h x wq wkv wo) g b : S16384x2048.Idx → EReal) (ix2 R j) = memOf h x wq wkv wo g b R j := by
  rw [Cert.Norm.rNorm_at]
  unfold rAll memOf sumAt
  simp only [rSum_at, ctx_at]

end Cert.MemoryRefIdeal.Hand
-- ==== Proof.MemRun.lean ====
/-
  The memory attention's run: it ends with its result array at the contents after the last launch, its arguments unchanged.
-/
module

public import proofs.«01_k».proof.Proof.Gen.MemoryIdeal.Frame
public import Idealize.ShloMosaic.PureOps.Ideal

@[expose] public section

set_option maxRecDepth 16384

noncomputable section

namespace Cert.MemoryIdeal.Hand

open Cert.MemoryIdeal Cert.MemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, from any memory with zero counters. -/
theorem run : θ_run defs (onTc (τ := τ) (main (F := Ideal))) ⟨m, fun _ => 0, ρ⟩ (fun r => (∀ c : Dev nD,
      r.2.mem ((c.tc : Thread nD τ).loc main_v16) = W6 m ρ c (Proc.devRef .tc main_v16) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v16 (by decide)), (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩), funext fun g => hz g (.inr (no_unscoped g.2))⟩)

end Cert.MemoryIdeal.Hand
-- ==== Proof.MemClaims.lean ====
/-
  The attention over the memory: the call's claims.
-/
module

public import proofs.«01_k».proof.Defs
public import proofs.«01_k».proof.Proof.Gen.Memory.Frame
public import proofs.«01_k».proof.Proof.MemRef
public import proofs.«01_k».proof.Proof.MemRun
public import Idealize.ShloMosaic.Lib.Quiescent

@[expose] public section

set_option maxRecDepth 16384

noncomputable section

open Idealize.ShloMosaic Idealize.ShloMosaic.TcCoe Idealize.ShloMosaic.StableHlo

namespace Cert.Recalled

open Idealize.SL.Sem

/-- The kernel runs, its arguments unchanged and its counters at zero. -/
theorem frameP : Cert.quiescent_Memory (hMemory := Cert.Memory.Gen.facts) := fun m g _ => Cert.Memory.Gen.frame m g

/-- So does its idealization. -/
theorem framePI : Cert.quiescent_MemoryIdeal (hMemoryIdeal := Cert.MemoryIdeal.Gen.facts) := fun m g _ => Cert.MemoryIdeal.Gen.frame m g

/-- So does the reference, which declares no counter. -/
theorem frameRI : Cert.quiescent_MemoryRefIdeal (hMemoryRefIdeal := Cert.MemoryRefIdeal.Gen.facts) := fun m g _ =>
  (θ_run Cert.MemoryRefIdeal.defs _ _).mono (fun r h => ⟨fun c => (h c).2, sem_eq_zero_of_no_sems (by decide) r.2⟩) (Cert.MemoryRefIdeal.Value.run m g)

/-- THE VALUE: from equal arguments the kernel and the reference end with equal results. -/
theorem value : Cert.algebraic_MemoryIdeal_MemoryRefIdeal (hMemoryIdeal := Cert.MemoryIdeal.Gen.facts) (hMemoryRefIdeal := Cert.MemoryRefIdeal.Gen.facts) := by
  intro m g m' g' _ hargs
  refine ⟨fun c => Cert.MemoryIdeal.Gen.W6 m g c (Proc.devRef .tc Cert.MemoryIdeal.main_v16), (θ_run Cert.MemoryIdeal.defs _ _).mono (fun _ h c => h.1 c) (Cert.MemoryIdeal.Hand.run m g), ?_⟩
  refine (θ_run Cert.MemoryRefIdeal.defs _ _).mono (fun _ h c => ⟨(h c).1.trans ?_, (h c).2⟩) (Cert.MemoryRefIdeal.Value.run m' g')
  obtain ⟨a0, a1, a2, a3, a4, a5, a6⟩ := hargs c
  rw [Cert.MemoryRefIdeal.Hand.res_eq, a0, a1, a2, a3, a4, a5, a6]
  refine Eq.trans ?_ (Cert.MemoryIdeal.Hand.result m g c).symm
  funext y
  obtain ⟨R, j, rfl⟩ := Cert.Blocks.ex2 (A := 16384) (B := 2048) y
  exact Cert.MemoryRefIdeal.Hand.ref_at _ _ _ _ _ _ _ R j

end Cert.Recalled
-- ==== Proof.MixBody.lean ====
/-
  The mixers' output projection, one block of 512 rows: its four stores at coordinates.
-/
module

public import proofs.«01_k».proof.Proof.Gen.MixIdeal.Value
public import proofs.«01_k».proof.Proof.LayerNorm
public import Idealize.ShloMosaic.Lib.Pointwise
public import Idealize.ShloMosaic.Lib.KernelVsHost
public import Idealize.ShloMosaic.Lib.IdealHost
public import Idealize.ShloMosaic.Lib.Pipeline.ValueKit

@[expose] public section

set_option maxRecDepth 16384

noncomputable section

open Idealize.ShloMosaic Idealize.ShloMosaic.TcCoe

namespace Cert.MixIdeal.Hand

open Cert.MixIdeal Cert.MixIdeal.Gen

/-- Three rows side by side. -/
def cat (a0 : Fin 1024 → EReal) (a1 a2 : Fin 512 → EReal) (k : Fin 2048) : EReal :=
  if h : k.val < 1024 then a0 ⟨k.val, h⟩ else if h2 : k.val - 1024 < 512 then a1 ⟨k.val - 1024, h2⟩ else a2 ⟨k.val - 1024 - 512, by omega⟩

/-- The scaled residual and the projected row. -/
def sumAt (a0 : Fin 1024 → EReal) (a1 a2 : Fin 512 → EReal) (h : Fin 2048 → EReal) (w : Fin 2048 → Fin 2048 → EReal) (k : Fin 2048) : EReal :=
  Cert.Norm.alpha * h k + ∑ e : Fin 2048, cat a0 a1 a2 e * w e k

theorem pay2_at (v0 : Vec Ideal S128x1024 .bf16) (v2 v4 : Vec Ideal S128x512 .bf16) (v7 : Vec Ideal S128x2048 .f32) (v11 : Vec Ideal S1x2048x2048 .bf16) (i : Fin 128) (k : Fin 2048) :
    (k0_pay2 (F := Ideal) v0 v2 v4 v7 v11 (ix2 i k) : EReal) = sumAt (fun d => v0 (ix2 i d)) (fun d => v2 (ix2 i d)) (fun d => v4 (ix2 i d)) (fun d => v7 (ix2 i d)) (fun e d => v11 (ix3 0 e d)) k := by
  unfold sumAt cat Cert.Norm.alpha
  pointwise [k0_pay2]

theorem pay7_at (s : FVec Ideal S128x2048 .f32) (g b : Vec Ideal S1x2048 .f32) (i : Fin 128) (j : Fin 2048) :
    (k0_pay7 (F := Ideal) s (k0_pay6 g) b (ix2 i j) : EReal) = Cert.Norm.normAt (fun k => s (ix2 i k)) (g (ix2 0 j)) (b (ix2 0 j)) j := by
  unfold Cert.Norm.normAt Cert.Norm.mean
  pointwise [k0_pay7, k0_pay6]

theorem pay11_eq (s : FVec Ideal S128x2048 .f32) (g b : Vec Ideal S1x2048 .f32) : k0_pay11 (F := Ideal) (k0_pay8 b) (k0_pay9 s) (k0_pay10 g) = k0_pay7 s (k0_pay6 g) b := rfl
theorem pay12_eq (s : FVec Ideal S128x2048 .f32) (g b : Vec Ideal S1x2048 .f32) : k0_pay12 (F := Ideal) s g b = k0_pay7 s (k0_pay6 g) b := rfl
theorem pay1_eq (s : FVec Ideal S128x2048 .f32) (g b : Vec Ideal S1x2048 .f32) : k0_pay1 (F := Ideal) (k0_pay13 g) (k0_pay14 b) (k0_pay15 s) = k0_pay7 s (k0_pay6 g) b := rfl
theorem pay3_eq : @k0_pay3 Ideal _ = k0_pay2 := rfl
theorem pay4_eq : @k0_pay4 Ideal _ = k0_pay2 := rfl
theorem pay5_eq : @k0_pay5 Ideal _ = k0_pay2 := rfl

/-- A stored row of a block, over the block's rows. -/
theorem store_at (v0 : Vec Ideal S128x1024 .bf16) (v2 v4 : Vec Ideal S128x512 .bf16) (v7 : Vec Ideal S128x2048 .f32) (v11 : Vec Ideal S1x2048x2048 .bf16) (g b : Vec Ideal S1x2048 .f32) (i : Fin 128) (j : Fin 2048)
    (a0 : Fin 1024 → EReal) (a1 a2 : Fin 512 → EReal) (h : Fin 2048 → EReal) (w : Fin 2048 → Fin 2048 → EReal) (gg bb : EReal)
    (h0 : ∀ d, v0 (ix2 i d) = a0 d) (h1 : ∀ d, v2 (ix2 i d) = a1 d) (h2 : ∀ d, v4 (ix2 i d) = a2 d) (h3 : ∀ d, v7 (ix2 i d) = h d)
    (h4 : ∀ e d, v11 (ix3 0 e d) = w e d) (h5 : g (ix2 0 j) = gg) (h6 : b (ix2 0 j) = bb) :
    (k0_pay7 (F := Ideal) (k0_pay2 v0 v2 v4 v7 v11) (k0_pay6 g) b (ix2 i j) : EReal) = Cert.Norm.normAt (sumAt a0 a1 a2 h w) gg bb j := by
  rw [pay7_at]
  simp only [pay2_at, h0, h1, h2, h3, h4, h5, h6]

end Cert.MixIdeal.Hand
-- ==== Proof.MixOut.lean ====
/-
  The block the body leaves, at a row and a column: four parts of 128 rows.
-/
module

public import proofs.«01_k».proof.Proof.MixBody
public import proofs.«01_k».proof.Proof.Blocks

@[expose] public section

set_option maxRecDepth 16384

noncomputable section

open Idealize.ShloMosaic Idealize.ShloMosaic.TcCoe

namespace Cert.MixIdeal.Hand

open Cert.MixIdeal Cert.MixIdeal.Gen

theorem out_at (x0 : Vec Ideal S512x1024 .bf16) (x1 x2 : Vec Ideal S512x512 .bf16) (x3 : Vec Ideal S1x2048x2048 .bf16) (x4 : Vec Ideal S512x2048 .f32) (x5 x6 : Vec Ideal S1x2048 .f32) (r : Fin 512) (j : Fin 2048) :
    (out0_7 (F := Ideal) x0 x1 x2 x3 x4 x5 x6 (ix2 r j) : EReal) = Cert.Norm.normAt (sumAt (fun d => x0 (ix2 r d)) (fun d => x1 (ix2 r d)) (fun d => x2 (ix2 r d)) (fun d => x4 (ix2 r d)) (fun e d => x3 (ix3 0 e d))) (x5 (ix2 0 j)) (x6 (ix2 0 j)) j := by
  unfold out0_7
  rw [pay1_eq, pay12_eq, pay11_eq, pay3_eq, pay4_eq, pay5_eq]
  canon_tiles x h
  · obtain ⟨i, d, rfl⟩ := Cert.Blocks.ex2 x
    obtain rfl : j = d := Fin.ext h1
    exact store_at _ _ _ _ _ _ _ i j _ _ _ _ _ _ _ (fun d => Cert.Blocks.ld2 x0 384 _ i d r h0) (fun d => Cert.Blocks.ld2 x1 384 _ i d r h0) (fun d => Cert.Blocks.ld2 x2 384 _ i d r h0) (fun d => Cert.Blocks.ld2 x4 384 _ i d r h0)
      (fun e d => Cert.Blocks.ld3 x3 _ 0 e d) (Cert.Blocks.ld2 x5 0 _ 0 j 0 rfl) (Cert.Blocks.ld2 x6 0 _ 0 j 0 rfl)
  · obtain ⟨i, d, rfl⟩ := Cert.Blocks.ex2 x
    obtain rfl : j = d := Fin.ext h1
    exact store_at _ _ _ _ _ _ _ i j _ _ _ _ _ _ _ (fun d => Cert.Blocks.ld2 x0 256 _ i d r h0) (fun d => Cert.Blocks.ld2 x1 256 _ i d r h0) (fun d => Cert.Blocks.ld2 x2 256 _ i d r h0) (fun d => Cert.Blocks.ld2 x4 256 _ i d r h0)
      (fun e d => Cert.Blocks.ld3 x3 _ 0 e d) (Cert.Blocks.ld2 x5 0 _ 0 j 0 rfl) (Cert.Blocks.ld2 x6 0 _ 0 j 0 rfl)
  · obtain ⟨i, d, rfl⟩ := Cert.Blocks.ex2 x
    obtain rfl : j = d := Fin.ext h1
    exact store_at _ _ _ _ _ _ _ i j _ _ _ _ _ _ _ (fun d => Cert.Blocks.ld2 x0 128 _ i d r h0) (fun d => Cert.Blocks.ld2 x1 128 _ i d r h0) (fun d => Cert.Blocks.ld2 x2 128 _ i d r h0) (fun d => Cert.Blocks.ld2 x4 128 _ i d r h0)
      (fun e d => Cert.Blocks.ld3 x3 _ 0 e d) (Cert.Blocks.ld2 x5 0 _ 0 j 0 rfl) (Cert.Blocks.ld2 x6 0 _ 0 j 0 rfl)
  · obtain ⟨i, d, rfl⟩ := Cert.Blocks.ex2 x
    obtain rfl : j = d := Fin.ext h1
    exact store_at _ _ _ _ _ _ _ i j _ _ _ _ _ _ _ (fun d => Cert.Blocks.ld2 x0 0 _ i d r (h0.trans (Nat.zero_add _).symm)) (fun d => Cert.Blocks.ld2 x1 0 _ i d r (h0.trans (Nat.zero_add _).symm)) (fun d => Cert.Blocks.ld2 x2 0 _ i d r (h0.trans (Nat.zero_add _).symm)) (fun d => Cert.Blocks.ld2 x4 0 _ i d r (h0.trans (Nat.zero_add _).symm))
      (fun e d => Cert.Blocks.ld3 x3 _ 0 e d) (Cert.Blocks.ld2 x5 0 _ 0 j 0 rfl) (Cert.Blocks.ld2 x6 0 _ 0 j 0 rfl)

end Cert.MixIdeal.Hand
-- ==== Proof.MixClaims.lean ====
/-
  The mixers' output projection: its staged arrays, its result array, the reference at coordinates, and the call's claims.
-/
module

public import proofs.«01_k».proof.Defs
public import proofs.«01_k».proof.Proof.Gen.Mix.Frame
public import proofs.«01_k».proof.Proof.MixOut
public import proofs.«01_k».proof.Proof.NormRef
public import proofs.«01_k».proof.Proof.Gen.MixRefIdeal.Run
public import Idealize.ShloMosaic.Lib.Quiescent

@[expose] public section

set_option maxRecDepth 16384

noncomputable section

open Idealize.ShloMosaic Idealize.ShloMosaic.TcCoe Idealize.ShloMosaic.StableHlo

namespace Cert.MixIdeal.Hand

open Cert.MixIdeal Cert.MixIdeal.Gen
open Cert.Norm (rowB rowP)

variable (m : (ℓ : Loc nD τ sig) → Buf (Elt Ideal) ℓ)

theorem N32 (t : Fin cfg0.N) : t.val < 32 := lt_of_lt_of_eq t.isLt N_0

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx4 : ∀ t : Fin cfg0.N, win0_4.index t = ![t.val, 0] := (by decide +kernel : ∀ t : Fin grid0.N, win0_4.index t = ![t.val, 0])
theorem idx7 : ∀ t : Fin cfg0.N, win0_7.index t = ![t.val, 0] := (by decide +kernel : ∀ t : Fin grid0.N, win0_7.index t = ![t.val, 0])
theorem idx3 : ∀ t : Fin cfg0.N, win0_3.index t = ![1, 0, 0] := (by decide +kernel : ∀ t : Fin grid0.N, win0_3.index t = ![1, 0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])

/-- The row of the array that a block's row is. -/
abbrev rowOf (t : Fin cfg0.N) (r : Fin 512) : Fin 16384 := ⟨512 * t.val + r.val, by have := N32 t; omega⟩

theorem iblk0 (c : Dev nD) (t : Fin cfg0.N) (r : Fin 512) (d : Fin 1024) :
    (iblk m c 0 t : S512x1024.Idx → EReal) (ix2 r d) = (V m c main_v1 : S16384x1024.Idx → EReal) (ix2 (rowOf t r) d) := by
  unfold iblk; rw [View.read_apply]
  show V m c main_v1 _ = V m c main_v1 _
  congr 1; funext a; apply Fin.ext
  have hi := idx0 t
  match a with
  | ⟨0, _⟩ => show win0_0.index t 0 * 512 + 1 * r.val = 512 * t.val + r.val; rw [hi]; show t.val * 512 + 1 * r.val = _; omega
  | ⟨1, _⟩ => show win0_0.index t 1 * 1024 + 1 * d.val = d.val; rw [hi]; show 0 * 1024 + 1 * d.val = _; omega

theorem iblk1 (c : Dev nD) (t : Fin cfg0.N) (r : Fin 512) (d : Fin 512) :
    (iblk m c 1 t : S512x512.Idx → EReal) (ix2 r d) = (V m c main_v3 : S16384x512.Idx → EReal) (ix2 (rowOf t r) d) := by
  unfold iblk; rw [View.read_apply]
  show V m c main_v3 _ = V m c main_v3 _
  congr 1; funext a; apply Fin.ext
  have hi := idx1 t
  match a with
  | ⟨0, _⟩ => show win0_1.index t 0 * 512 + 1 * r.val = 512 * t.val + r.val; rw [hi]; show t.val * 512 + 1 * r.val = _; omega
  | ⟨1, _⟩ => show win0_1.index t 1 * 512 + 1 * d.val = d.val; rw [hi]; show 0 * 512 + 1 * d.val = _; omega

theorem iblk2 (c : Dev nD) (t : Fin cfg0.N) (r : Fin 512) (d : Fin 512) :
    (iblk m c 2 t : S512x512.Idx → EReal) (ix2 r d) = (V m c main_v5 : S16384x512.Idx → EReal) (ix2 (rowOf t r) d) := by
  unfold iblk; rw [View.read_apply]
  show V m c main_v5 _ = V m c main_v5 _
  congr 1; funext a; apply Fin.ext
  have hi := idx2 t
  match a with
  | ⟨0, _⟩ => show win0_2.index t 0 * 512 + 1 * r.val = 512 * t.val + r.val; rw [hi]; show t.val * 512 + 1 * r.val = _; omega
  | ⟨1, _⟩ => show win0_2.index t 1 * 512 + 1 * d.val = d.val; rw [hi]; show 0 * 512 + 1 * d.val = _; omega

theorem iblk4 (c : Dev nD) (t : Fin cfg0.N) (r : Fin 512) (d : Fin 2048) :
    (iblk m c 4 t : S512x2048.Idx → EReal) (ix2 r d) = (V m c main_v7 : S16384x2048.Idx → EReal) (ix2 (rowOf t r) d) := by
  unfold iblk; rw [View.read_apply]
  show V m c main_v7 _ = V m c main_v7 _
  congr 1; funext a; apply Fin.ext
  have hi := idx4 t
  match a with
  | ⟨0, _⟩ => show win0_4.index t 0 * 512 + 1 * r.val = 512 * t.val + r.val; rw [hi]; show t.val * 512 + 1 * r.val = _; omega
  | ⟨1, _⟩ => show win0_4.index t 1 * 2048 + 1 * d.val = d.val; rw [hi]; show 0 * 2048 + 1 * d.val = _; omega

theorem iblk3 (c : Dev nD) (t : Fin cfg0.N) (d j : Fin 2048) :
    (iblk m c 3 t : S1x2048x2048.Idx → EReal) (ix3 0 d j) = (V m c main_v6 : S2x2048x2048.Idx → EReal) (ix3 1 d j) := by
  unfold iblk; rw [View.read_apply]
  show V m c main_v6 _ = V m c main_v6 _
  congr 1; funext a; apply Fin.ext
  have hi := idx3 t
  match a with
  | ⟨0, _⟩ => show win0_3.index t 0 * 1 + 1 * 0 = 1; rw [hi]; rfl
  | ⟨1, _⟩ => show win0_3.index t 1 * 2048 + 1 * d.val = d.val; rw [hi]; show 0 * 2048 + 1 * d.val = _; omega
  | ⟨2, _⟩ => show win0_3.index t 2 * 2048 + 1 * j.val = j.val; rw [hi]; show 0 * 2048 + 1 * j.val = _; omega

theorem iblk5 (c : Dev nD) (t : Fin cfg0.N) (j : Fin 2048) :
    (iblk m c 5 t : S1x2048.Idx → EReal) (ix2 0 j) = (V m c main_v12 : S1x2048.Idx → EReal) (ix2 0 j) := by
  unfold iblk; rw [View.read_apply]
  show V m c main_v12 _ = V m c main_v12 _
  congr 1; funext a; apply Fin.ext
  have hi := idx5 t
  match a with
  | ⟨0, _⟩ => show win0_5.index t 0 * 1 + 1 * 0 = 0; rw [hi]; rfl
  | ⟨1, _⟩ => show win0_5.index t 1 * 2048 + 1 * j.val = j.val; rw [hi]; show 0 * 2048 + 1 * j.val = _; omega

theorem iblk6 (c : Dev nD) (t : Fin cfg0.N) (j : Fin 2048) :
    (iblk m c 6 t : S1x2048.Idx → EReal) (ix2 0 j) = (V m c main_v13 : S1x2048.Idx → EReal) (ix2 0 j) := by
  unfold iblk; rw [View.read_apply]
  show V m c main_v13 _ = V m c main_v13 _
  congr 1; funext a; apply Fin.ext
  have hi := idx6 t
  match a with
  | ⟨0, _⟩ => show win0_6.index t 0 * 1 + 1 * 0 = 0; rw [hi]; rfl
  | ⟨1, _⟩ => show win0_6.index t 1 * 2048 + 1 * j.val = j.val; rw [hi]; show 0 * 2048 + 1 * j.val = _; omega

abbrev argA0 (c : Dev nD) : S8x2048x1024.Idx → EReal := m ((c : Thread nD τ).loc main_arg0)
abbrev argA1 (c : Dev nD) : S8x2048x512.Idx → EReal := m ((c : Thread nD τ).loc main_arg1)
abbrev argA2 (c : Dev nD) : S8x2048x512.Idx → EReal := m ((c : Thread nD τ).loc main_arg2)
abbrev argW (c : Dev nD) : S2x2048x2048.Idx → EReal := m ((c : Thread nD τ).loc main_arg3)
abbrev argH (c : Dev nD) : S8x2048x2048.Idx → EReal := m ((c : Thread nD τ).loc main_arg4)
abbrev argG (c : Dev nD) : S2x2048.Idx → EReal := m ((c : Thread nD τ).loc main_arg5)
abbrev argB (c : Dev nD) : S2x2048.Idx → EReal := m ((c : Thread nD τ).loc main_arg6)

theorem V1 (c : Dev nD) : (V m c main_v1 : S16384x1024.Idx → EReal) = shapeCast _ (argA0 m c) shapeCasts_S8x2048x1024_S16384x1024 := by
  unfold V; simp only [hostOps0]; after_results_simp <;> rfl
theorem v1_at (c : Dev nD) (R : Fin 16384) (d : Fin 1024) : (V m c main_v1 : S16384x1024.Idx → EReal) (ix2 R d) = argA0 m c (ix3 (rowB R) (rowP R) d) := by
  rw [V1]; pointwise
theorem V3 (c : Dev nD) : (V m c main_v3 : S16384x512.Idx → EReal) = shapeCast _ (argA1 m c) shapeCasts_S8x2048x512_S16384x512 := by
  unfold V; simp only [hostOps0]; after_results_simp <;> rfl
theorem v3_at (c : Dev nD) (R : Fin 16384) (d : Fin 512) : (V m c main_v3 : S16384x512.Idx → EReal) (ix2 R d) = argA1 m c (ix3 (rowB R) (rowP R) d) := by
  rw [V3]; pointwise
theorem V5 (c : Dev nD) : (V m c main_v5 : S16384x512.Idx → EReal) = shapeCast _ (argA2 m c) shapeCasts_S8x2048x512_S16384x512 := by
  unfold V; simp only [hostOps0]; after_results_simp <;> rfl
theorem v5_at (c : Dev nD) (R : Fin 16384) (d : Fin 512) : (V m c main_v5 : S16384x512.Idx → EReal) (ix2 R d) = argA2 m c (ix3 (rowB R) (rowP R) d) := by
  rw [V5]; pointwise
theorem V7 (c : Dev nD) : (V m c main_v7 : S16384x2048.Idx → EReal) = shapeCast _ (argH m c) shapeCasts_S8x2048x2048_S16384x2048 := by
  unfold V; simp only [hostOps0]; after_results_simp <;> rfl
theorem v7_at (c : Dev nD) (R : Fin 16384) (d : Fin 2048) : (V m c main_v7 : S16384x2048.Idx → EReal) (ix2 R d) = argH m c (ix3 (rowB R) (rowP R) d) := by
  rw [V7]; pointwise
theorem V6 (c : Dev nD) : (V m c main_v6 : S2x2048x2048.Idx → EReal) = argW m c := by
  unfold V; simp only [hostOps0]; after_results_simp <;> rfl
theorem V12 (c : Dev nD) : (V m c main_v12 : S1x2048.Idx → EReal) = shapeCast _ (shapeCast _ (extractStridedSlice S1x2048 ![1, 0] (argG m c) slices_S2x2048_S1x2048_1_0) shapeCasts_S1x2048_S2048) shapeCasts_S2048_S1x2048 := by
  unfold V; simp only [hostOps0]; after_results_simp <;> rfl
theorem v12_at (c : Dev nD) (j : Fin 2048) : (V m c main_v12 : S1x2048.Idx → EReal) (ix2 0 j) = argG m c (ix2 1 j) := by
  rw [V12]; pointwise
theorem V13 (c : Dev nD) : (V m c main_v13 : S1x2048.Idx → EReal) = shapeCast _ (shapeCast _ (extractStridedSlice S1x2048 ![1, 0] (argB m c) slices_S2x2048_S1x2048_1_0) shapeCasts_S1x2048_S2048) shapeCasts_S2048_S1x2048 := by
  unfold V; simp only [hostOps0]; after_results_simp <;> rfl
theorem v13_at (c : Dev nD) (j : Fin 2048) : (V m c main_v13 : S1x2048.Idx → EReal) (ix2 0 j) = argB m c (ix2 1 j) := by
  rw [V13]; pointwise

/-- The projection at a row and a column: the norm of the scaled residual and the product. -/
def mixOf (A0 : S8x2048x1024.Idx → EReal) (A1 A2 : S8x2048x512.Idx → EReal) (W : S2x2048x2048.Idx → EReal) (H : S8x2048x2048.Idx → EReal) (G B : S2x2048.Idx → EReal) (R : Fin 16384) (j : Fin 2048) : EReal :=
  Cert.Norm.normAt (sumAt (fun d => A0 (ix3 (rowB R) (rowP R) d)) (fun d => A1 (ix3 (rowB R) (rowP R) d)) (fun d => A2 (ix3 (rowB R) (rowP R) d)) (fun d => H (ix3 (rowB R) (rowP R) d)) (fun e d => W (ix3 1 e d)))
    (G (ix2 1 j)) (B (ix2 1 j)) j

/-- The stored block, from where the blocks lie. -/
theorem out_of (x0 : Vec Ideal S512x1024 .bf16) (x1 x2 : Vec Ideal S512x512 .bf16) (x3 : Vec Ideal S1x2048x2048 .bf16) (x4 : Vec Ideal S512x2048 .f32) (x5 x6 : Vec Ideal S1x2048 .f32) (r : Fin 512) (j : Fin 2048)
    (A0 : S8x2048x1024.Idx → EReal) (A1 A2 : S8x2048x512.Idx → EReal) (W : S2x2048x2048.Idx → EReal) (H : S8x2048x2048.Idx → EReal) (G B : S2x2048.Idx → EReal) (R : Fin 16384)
    (h0 : ∀ d, x0 (ix2 r d) = A0 (ix3 (rowB R) (rowP R) d)) (h1 : ∀ d, x1 (ix2 r d) = A1 (ix3 (rowB R) (rowP R) d)) (h2 : ∀ d, x2 (ix2 r d) = A2 (ix3 (rowB R) (rowP R) d))
    (h3 : ∀ e d, x3 (ix3 0 e d) = W (ix3 1 e d)) (h4 : ∀ d, x4 (ix2 r d) = H (ix3 (rowB R) (rowP R) d)) (h5 : x5 (ix2 0 j) = G (ix2 1 j)) (h6 : x6 (ix2 0 j) = B (ix2 1 j)) :
    (out0_7 (F := Ideal) x0 x1 x2 x3 x4 x5 x6 (ix2 r j) : EReal) = mixOf A0 A1 A2 W H G B R j := by
  rw [out_at]
  unfold mixOf
  simp only [h0, h1, h2, h3, h4, h5, h6]

theorem blk_at (c : Dev nD) (t : Fin cfg0.N) (r : Fin 512) (j : Fin 2048) :
    (out0_7 (F := Ideal) (iblk m c 0 t) (iblk m c 1 t) (iblk m c 2 t) (iblk m c 3 t) (iblk m c 4 t) (iblk m c 5 t) (iblk m c 6 t) (ix2 r j) : EReal)
      = mixOf (argA0 m c) (argA1 m c) (argA2 m c) (argW m c) (argH m c) (argG m c) (argB m c) (rowOf t r) j :=
  out_of _ _ _ _ _ _ _ r j _ _ _ _ _ _ _ _ (fun d => (iblk0 m c t r d).trans (v1_at m c _ d)) (fun d => (iblk1 m c t r d).trans (v3_at m c _ d)) (fun d => (iblk2 m c t r d).trans (v5_at m c _ d))
    (fun e d => (iblk3 m c t e d).trans (congrFun (V6 m c) _)) (fun d => (iblk4 m c t r d).trans (v7_at m c _ d)) ((iblk5 m c t j).trans (v12_at m c j)) ((iblk6 m c t j).trans (v13_at m c j))

/-- THE KERNEL'S RESULT, from the arguments. -/
theorem result (c : Dev nD) :
    (dats m 0 c).arrAt 7 cfg0.N = fun y : S16384x2048.Idx => mixOf (argA0 m c) (argA1 m c) (argA2 m c) (argW m c) (argH m c) (argG m c) (argB m c) (y 0) (y 1) := by
  refine (dats m 0 c).arrAt_eq_of_covers 7 _ (by decide +kernel) fun t hf y => ?_
  blk_simp
  rw [after0_7]
  obtain ⟨r, j, rfl⟩ := Cert.Blocks.ex2 (A := 512) (B := 2048) y
  have hi := idx7 t
  have hr : (win0_7.blk t).view.emb (ix2 r j : S512x2048.Idx) 0 = rowOf t r := by
    apply Fin.ext; show win0_7.index t 0 * 512 + 1 * r.val = 512 * t.val + r.val; rw [hi]; show t.val * 512 + 1 * r.val = _; omega
  have hj : (win0_7.blk t).view.emb (ix2 r j : S512x2048.Idx) 1 = j := by
    apply Fin.ext; show win0_7.index t 1 * 2048 + 1 * j.val = j.val; rw [hi]; show 0 * 2048 + 1 * j.val = _; omega
  rw [hr, hj]
  exact blk_at m c t r j

end Cert.MixIdeal.Hand

namespace Cert.MixRefIdeal.Hand

open Cert.MixRefIdeal Cert.MixRefIdeal.Gen
open Cert.Norm (rowB rowP)

variable (m : (ℓ : Loc nD τ sig) → Buf (Elt Ideal) ℓ)

/-- The scaled residual and the product. -/
def rSum (a0 : FVec Ideal S8x2048x1024 .f32) (a1 a2 : FVec Ideal S8x2048x512 .f32) (w : FVec Ideal S2x2048x2048 .f32) (h : FVec Ideal S8x2048x2048 .f32) : FVec Ideal S8x2048x2048 .f32 :=
  addf (mulf (broadcastInDim S8x2048x2048 ![] bcast_S_S8x2048x2048 (constant S_ .f32 0x3FB504F3#32)) h)
    (Host.dotGeneral (F := Ideal) dot_S8x2048x2048_S2048x2048_S8x2048x2048_2_0_01_1_n_n none
      (concatenate S8x2048x2048 2 [⟨S8x2048x1024, a0⟩, ⟨S8x2048x512, a1⟩, ⟨S8x2048x512, a2⟩] concatenates_S8x2048x1024_S8x2048x512_S8x2048x512_S8x2048x2048_d2)
      (shapeCast _ (extractStridedSlice S1x2048x2048 ![1, 0, 0] w slices_S2x2048x2048_S1x2048x2048_1_0_0) shapeCasts_S1x2048x2048_S2048x2048))

theorem res_eq (c : Dev nD) : Cert.MixRefIdeal.Value.res_main_v35 m c =
    Cert.Norm.rNorm (rSum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := by
  unfold Cert.MixRefIdeal.Value.res_main_v35 Cert.Norm.rNorm Cert.Norm.rDev Cert.Norm.rMean rSum
  rfl

theorem rSum_at (a0 : FVec Ideal S8x2048x1024 .f32) (a1 a2 : FVec Ideal S8x2048x512 .f32) (w : FVec Ideal S2x2048x2048 .f32) (h : FVec Ideal S8x2048x2048 .f32) (b : Fin 8) (p k : Fin 2048) :
    (rSum a0 a1 a2 w h : S8x2048x2048.Idx → EReal) (ix3 b p k)
      = Cert.MixIdeal.Hand.sumAt (fun d => a0 (ix3 b p d)) (fun d => a1 (ix3 b p d)) (fun d => a2 (ix3 b p d)) (fun d => h (ix3 b p d)) (fun e d => w (ix3 1 e d)) k := by
  unfold rSum Cert.MixIdeal.Hand.sumAt Cert.MixIdeal.Hand.cat Cert.Norm.alpha
  pointwise

/-- The reference at a row and a column. -/
theorem ref_at (a0 : FVec Ideal S8x2048x1024 .f32) (a1 a2 : FVec Ideal S8x2048x512 .f32) (w : FVec Ideal S2x2048x2048 .f32) (h : FVec Ideal S8x2048x2048 .f32) (g b : FVec Ideal S2x2048 .f32) (R : Fin 16384) (j : Fin 2048) :
    (Cert.Norm.rNorm (rSum a0 a1 a2 w h) g b : S16384x2048.Idx → EReal) (ix2 R j) = Cert.MixIdeal.Hand.mixOf a0 a1 a2 w h g b R j := by
  rw [Cert.Norm.rNorm_at]
  simp only [rSum_at]
  rfl

end Cert.MixRefIdeal.Hand

namespace Cert.Mixed

open Idealize.SL.Sem

/-- The kernel runs, its arguments unchanged and its counters at zero. -/
theorem frameP : Cert.quiescent_Mix (hMix := Cert.Mix.Gen.facts) := fun m g _ => Cert.Mix.Gen.frame m g

/-- So does its idealization. -/
theorem framePI : Cert.quiescent_MixIdeal (hMixIdeal := Cert.MixIdeal.Gen.facts) := fun m g _ => Cert.MixIdeal.Gen.frame m g

/-- So does the reference, which declares no counter. -/
theorem frameRI : Cert.quiescent_MixRefIdeal (hMixRefIdeal := Cert.MixRefIdeal.Gen.facts) := fun m g _ =>
  (θ_run Cert.MixRefIdeal.defs _ _).mono (fun r h => ⟨fun c => (h c).2, sem_eq_zero_of_no_sems (by decide) r.2⟩) (Cert.MixRefIdeal.Value.run m g)

/-- THE VALUE: from equal arguments the kernel and the reference end with equal results. -/
theorem value : Cert.algebraic_MixIdeal_MixRefIdeal (hMixIdeal := Cert.MixIdeal.Gen.facts) (hMixRefIdeal := Cert.MixRefIdeal.Gen.facts) := by
  intro m g m' g' _ hargs
  refine ⟨fun c => (Cert.MixIdeal.Gen.dats m 0 c).arrAt 7 Cert.MixIdeal.cfg0.N, Cert.MixIdeal.Value.run_blocks m g, ?_⟩
  refine (θ_run Cert.MixRefIdeal.defs _ _).mono (fun _ h c => ⟨(h c).1.trans ?_, (h c).2⟩) (Cert.MixRefIdeal.Value.run m' g')
  obtain ⟨a0, a1, a2, a3, a4, a5, a6⟩ := hargs c
  rw [Cert.MixRefIdeal.Hand.res_eq, a0, a1, a2, a3, a4, a5, a6]
  refine Eq.trans ?_ (Cert.MixIdeal.Hand.result m c).symm
  funext y
  obtain ⟨R, j, rfl⟩ := Cert.Blocks.ex2 (A := 16384) (B := 2048) y
  exact Cert.MixRefIdeal.Hand.ref_at _ _ _ _ _ _ _ R j

end Cert.Mixed
-- ==== Proof.EntryPack.lean ====
/-
  The packing of the input projection's columns: the block a grid point leaves, at coordinates.
-/
module

public import proofs.«01_k».proof.Proof.Gen.EntryIdeal.Frame
public import proofs.«01_k».proof.Proof.Blocks
public import Idealize.ShloMosaic.PureOps.Ideal
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.EntryIdeal.Hand

open Cert.EntryIdeal Cert.EntryIdeal.Gen

/-- The column packed at a place, 3916 and more where the place is padding. -/
def colOf (j : ℕ) : ℕ :=
  if j < 1024 then j else if j < 1536 then j + 64 else if j < 3072 then j + 844 else if j < 3136 then j - 2048 else if j < 3200 then 3916 else if j < 3980 then j - 1600 else 3916

/-- A packed row. -/
def pk (f : Fin 3916 → EReal) (j : Fin 4096) : EReal := if h : colOf j.val < 3916 then f ⟨colOf j.val, h⟩ else 0

theorem pk_col (f : Fin 3916 → EReal) (j : Fin 4096) (k : Fin 3916) (h : colOf j.val = k.val) : pk f j = f k := by
  have hk : colOf j.val < 3916 := h ▸ k.isLt
  unfold pk
  rw [dif_pos hk]
  exact congrArg f (Fin.ext h)
theorem pk_pad (f : Fin 3916 → EReal) (j : Fin 4096) (h : colOf j.val = 3916) : pk f j = 0 := by
  unfold pk
  rw [dif_neg (by omega)]

section Pays
variable (v : Vec Ideal S1x256x512 .f32) (u : Vec Ideal S1x256x128 .f32) (i : Fin 256)

theorem pay1_at (d : Fin 512) : (k1_pay1 (F := Ideal) v (ix3 0 i d) : EReal) = v (ix3 0 i d) := by
  pointwise [k1_pay1]
theorem pay2_at (d : Fin 512) : (k1_pay2 (F := Ideal) v (ix3 0 i d) : EReal) = v (ix3 0 i d) := by
  pointwise [k1_pay2]
theorem pay3_at (d : Fin 512) : (k1_pay3 (F := Ideal) v (ix3 0 i d) : EReal) = v (ix3 0 i d) := by
  pointwise [k1_pay3]
theorem pay5_at (d : Fin 512) : (k1_pay5 (F := Ideal) v (ix3 0 i d) : EReal) = v (ix3 0 i d) := by
  pointwise [k1_pay5]
theorem pay14_at (d : Fin 512) : (k1_pay14 (F := Ideal) v (ix3 0 i d) : EReal) = v (ix3 0 i d) := by
  pointwise [k1_pay14]
theorem pay15_at (d : Fin 512) : (k1_pay15 (F := Ideal) v (ix3 0 i d) : EReal) = v (ix3 0 i d) := by
  pointwise [k1_pay15]
theorem pay6_at (d : Fin 128) : (k1_pay6 (F := Ideal) u (ix3 0 i d) : EReal) = u (ix3 0 i d) := by
  pointwise [k1_pay6]
theorem pay7_at (d : Fin 128) : (k1_pay7 (F := Ideal) u (ix3 0 i d) : EReal) = u (ix3 0 i d) := by
  pointwise [k1_pay7]
theorem pay8_at (d : Fin 128) : (k1_pay8 (F := Ideal) u (ix3 0 i d) : EReal) = u (ix3 0 i d) := by
  pointwise [k1_pay8]
theorem pay9_at (d : Fin 128) : (k1_pay9 (F := Ideal) u (ix3 0 i d) : EReal) = u (ix3 0 i d) := by
  pointwise [k1_pay9]
theorem pay12_at (d : Fin 128) : (k1_pay12 (F := Ideal) u (ix3 0 i d) : EReal) = u (ix3 0 i d) := by
  pointwise [k1_pay12]
theorem pay11_at (d : Fin 128) : (k1_pay11 (F := Ideal) (k1_pay10 u) (ix3 0 i d) : EReal) = u (ix3 0 i d) := by
  pointwise [k1_pay10, k1_pay11]
theorem pay4_at (w : Vec Ideal S1x256x64 .f32) (d : Fin 128) (x : EReal) (h0 : ∀ k : Fin 64, d.val = k.val → w (ix3 0 i k) = x) (h1 : 64 ≤ d.val → (0 : EReal) = x) : (k1_pay4 (F := Ideal) w (ix3 0 i d) : EReal) = x := by
  pointwise [k1_pay4]
  split
  · exact h0 ⟨d.val, by assumption⟩ rfl
  · exact h1 (by omega)
theorem pay13_at (w : Vec Ideal S1x256x12 .f32) (d : Fin 128) (x : EReal) (h0 : ∀ k : Fin 12, d.val = k.val → w (ix3 0 i k) = x) (h1 : 12 ≤ d.val → (0 : EReal) = x) : (k1_pay13 (F := Ideal) w (ix3 0 i d) : EReal) = x := by
  pointwise [k1_pay13]
  split
  · exact h0 ⟨d.val, by assumption⟩ rfl
  · exact h1 (by omega)
end Pays

/-- The block a grid point leaves. -/
theorem pack_at (c : Dev nD) (i : grid1.Coords) (a2 : Memref sig .tc .vmem S1x256x3916 .f32) (w2 : a2.IsWhole) (a3 : Memref sig .tc .vmem S1x256x4096 .bf16) (w3 : a3.IsWhole)
    (x0 : Vec Ideal S1x256x3916 .f32) (r : Fin 256) (j : Fin 4096) :
    (out1_A_1 (F := Ideal) c i a2 w2 a3 w3 x0 (ix3 0 r j) : EReal) = pk (fun k => x0 (ix3 0 r k)) j := by
  unfold out1_A_1
  rw [View.read_writes_eq_canon _ _ _ (cover1_A_1 c i a2 w2 a3 w3 x0)]
  unfold kernelRun1_A
  dsimp only
  sl_unfold_words
  simp only [View.readAt_eq_ld, w2.read_unread]
  canon_tiles x h using (View.cover_of_tiledBy _ ![1, 256, 128] (by sl_kernel_rfl) _)
  · obtain ⟨a, i', d, rfl⟩ := Cert.Blocks.ex3 x
    obtain rfl : a = 0 := Subsingleton.elim _ _
    obtain rfl : r = i' := Fin.ext h1
    have hj : j.val = 2560 + d.val := h2
    have hd := d.isLt
    exact (pay1_at _ r d).trans ((Cert.Blocks.ld3c x0 3404 _ 0 r d ⟨3404 + d.val, by omega⟩ rfl).trans (pk_col (fun k => x0 (ix3 0 r k)) j _ (by unfold colOf; rw [hj]; split_ifs <;> first | omega | (dsimp only; omega))).symm)
  · obtain ⟨a, i', d, rfl⟩ := Cert.Blocks.ex3 x
    obtain rfl : a = 0 := Subsingleton.elim _ _
    obtain rfl : r = i' := Fin.ext h1
    have hj : j.val = 2048 + d.val := h2
    have hd := d.isLt
    exact (pay15_at _ r d).trans ((Cert.Blocks.ld3c x0 2892 _ 0 r d ⟨2892 + d.val, by omega⟩ rfl).trans (pk_col (fun k => x0 (ix3 0 r k)) j _ (by unfold colOf; rw [hj]; split_ifs <;> first | omega | (dsimp only; omega))).symm)
  · obtain ⟨a, i', d, rfl⟩ := Cert.Blocks.ex3 x
    obtain rfl : a = 0 := Subsingleton.elim _ _
    obtain rfl : r = i' := Fin.ext h1
    have hj : j.val = 1536 + d.val := h2
    have hd := d.isLt
    exact (pay14_at _ r d).trans ((Cert.Blocks.ld3c x0 2380 _ 0 r d ⟨2380 + d.val, by omega⟩ rfl).trans (pk_col (fun k => x0 (ix3 0 r k)) j _ (by unfold colOf; rw [hj]; split_ifs <;> first | omega | (dsimp only; omega))).symm)
  · obtain ⟨a, i', d, rfl⟩ := Cert.Blocks.ex3 x
    obtain rfl : a = 0 := Subsingleton.elim _ _
    obtain rfl : r = i' := Fin.ext h1
    have hj : j.val = 3968 + d.val := h2
    have hd := d.isLt
    refine pay13_at r _ d _ (fun k hk => (Cert.Blocks.ld3c x0 2368 _ 0 r k ⟨2368 + k.val, by omega⟩ rfl).trans (pk_col (fun k => x0 (ix3 0 r k)) j _ (by unfold colOf; rw [hj]; split_ifs <;> first | omega | (dsimp only; omega))).symm) (fun hk => (pk_pad _ j (by unfold colOf; rw [hj]; split_ifs <;> omega)).symm)
  · obtain ⟨a, i', d, rfl⟩ := Cert.Blocks.ex3 x
    obtain rfl : a = 0 := Subsingleton.elim _ _
    obtain rfl : r = i' := Fin.ext h1
    have hj : j.val = 3840 + d.val := h2
    have hd := d.isLt
    exact (pay12_at _ r d).trans ((Cert.Blocks.ld3c x0 2240 _ 0 r d ⟨2240 + d.val, by omega⟩ rfl).trans (pk_col (fun k => x0 (ix3 0 r k)) j _ (by unfold colOf; rw [hj]; split_ifs <;> first | omega | (dsimp only; omega))).symm)
  · obtain ⟨a, i', d, rfl⟩ := Cert.Blocks.ex3 x
    obtain rfl : a = 0 := Subsingleton.elim _ _
    obtain rfl : r = i' := Fin.ext h1
    have hj : j.val = 3712 + d.val := h2
    have hd := d.isLt
    exact (pay11_at _ r d).trans ((Cert.Blocks.ld3c x0 2112 _ 0 r d ⟨2112 + d.val, by omega⟩ rfl).trans (pk_col (fun k => x0 (ix3 0 r k)) j _ (by unfold colOf; rw [hj]; split_ifs <;> first | omega | (dsimp only; omega))).symm)
  · obtain ⟨a, i', d, rfl⟩ := Cert.Blocks.ex3 x
    obtain rfl : a = 0 := Subsingleton.elim _ _
    obtain rfl : r = i' := Fin.ext h1
    have hj : j.val = 3584 + d.val := h2
    have hd := d.isLt
    exact (pay9_at _ r d).trans ((Cert.Blocks.ld3c x0 1984 _ 0 r d ⟨1984 + d.val, by omega⟩ rfl).trans (pk_col (fun k => x0 (ix3 0 r k)) j _ (by unfold colOf; rw [hj]; split_ifs <;> first | omega | (dsimp only; omega))).symm)
  · obtain ⟨a, i', d, rfl⟩ := Cert.Blocks.ex3 x
    obtain rfl : a = 0 := Subsingleton.elim _ _
    obtain rfl : r = i' := Fin.ext h1
    have hj : j.val = 3456 + d.val := h2
    have hd := d.isLt
    exact (pay8_at _ r d).trans ((Cert.Blocks.ld3c x0 1856 _ 0 r d ⟨1856 + d.val, by omega⟩ rfl).trans (pk_col (fun k => x0 (ix3 0 r k)) j _ (by unfold colOf; rw [hj]; split_ifs <;> first | omega | (dsimp only; omega))).symm)
  · obtain ⟨a, i', d, rfl⟩ := Cert.Blocks.ex3 x
    obtain rfl : a = 0 := Subsingleton.elim _ _
    obtain rfl : r = i' := Fin.ext h1
    have hj : j.val = 3328 + d.val := h2
    have hd := d.isLt
    exact (pay7_at _ r d).trans ((Cert.Blocks.ld3c x0 1728 _ 0 r d ⟨1728 + d.val, by omega⟩ rfl).trans (pk_col (fun k => x0 (ix3 0 r k)) j _ (by unfold colOf; rw [hj]; split_ifs <;> first | omega | (dsimp only; omega))).symm)
  · obtain ⟨a, i', d, rfl⟩ := Cert.Blocks.ex3 x
    obtain rfl : a = 0 := Subsingleton.elim _ _
    obtain rfl : r = i' := Fin.ext h1
    have hj : j.val = 3200 + d.val := h2
    have hd := d.isLt
    exact (pay6_at _ r d).trans ((Cert.Blocks.ld3c x0 1600 _ 0 r d ⟨1600 + d.val, by omega⟩ rfl).trans (pk_col (fun k => x0 (ix3 0 r k)) j _ (by unfold colOf; rw [hj]; split_ifs <;> first | omega | (dsimp only; omega))).symm)
  · obtain ⟨a, i', d, rfl⟩ := Cert.Blocks.ex3 x
    obtain rfl : a = 0 := Subsingleton.elim _ _
    obtain rfl : r = i' := Fin.ext h1
    have hj : j.val = 1024 + d.val := h2
    have hd := d.isLt
    exact (pay5_at _ r d).trans ((Cert.Blocks.ld3c x0 1088 _ 0 r d ⟨1088 + d.val, by omega⟩ rfl).trans (pk_col (fun k => x0 (ix3 0 r k)) j _ (by unfold colOf; rw [hj]; split_ifs <;> first | omega | (dsimp only; omega))).symm)
  · obtain ⟨a, i', d, rfl⟩ := Cert.Blocks.ex3 x
    obtain rfl : a = 0 := Subsingleton.elim _ _
    obtain rfl : r = i' := Fin.ext h1
    have hj : j.val = 3072 + d.val := h2
    have hd := d.isLt
    refine pay4_at r _ d _ (fun k hk => (Cert.Blocks.ld3c x0 1024 _ 0 r k ⟨1024 + k.val, by omega⟩ rfl).trans (pk_col (fun k => x0 (ix3 0 r k)) j _ (by unfold colOf; rw [hj]; split_ifs <;> first | omega | (dsimp only; omega))).symm) (fun hk => (pk_pad _ j (by unfold colOf; rw [hj]; split_ifs <;> omega)).symm)
  · obtain ⟨a, i', d, rfl⟩ := Cert.Blocks.ex3 x
    obtain rfl : a = 0 := Subsingleton.elim _ _
    obtain rfl : r = i' := Fin.ext h1
    have hj : j.val = 512 + d.val := h2
    have hd := d.isLt
    exact (pay3_at _ r d).trans ((Cert.Blocks.ld3c x0 512 _ 0 r d ⟨512 + d.val, by omega⟩ rfl).trans (pk_col (fun k => x0 (ix3 0 r k)) j _ (by unfold colOf; rw [hj, if_pos (by omega)])).symm)
  · obtain ⟨a, i', d, rfl⟩ := Cert.Blocks.ex3 x
    obtain rfl : a = 0 := Subsingleton.elim _ _
    obtain rfl : r = i' := Fin.ext h1
    have hj : j.val = d.val := h2
    have hd := d.isLt
    exact (pay2_at _ r d).trans ((Cert.Blocks.ld3c x0 0 _ 0 r d ⟨0 + d.val, by omega⟩ rfl).trans (pk_col (fun k => x0 (ix3 0 r k)) j _ (by unfold colOf; rw [hj]; split_ifs <;> first | omega | (dsimp only; omega))).symm)

end Cert.EntryIdeal.Hand
-- ==== Proof.EntryRegions.lean ====
/-
  The entry's three launches: the array each leaves, from the contents it starts at.
-/
module

public import proofs.«01_k».proof.Proof.EntryPack
public import proofs.«01_k».proof.Proof.NormRef

@[expose] public section

set_option maxRecDepth 16384

noncomputable section

open Idealize.ShloMosaic Idealize.ShloMosaic.TcCoe Idealize.ShloMosaic.StableHlo

namespace Cert.EntryIdeal.Hand

open Cert.EntryIdeal Cert.EntryIdeal.Gen
open Cert.Norm (rowB rowP)

variable (V : (c : Dev nD) → (b : Ref sig .tc) → Buf (Elt Ideal) ((c : Thread nD τ).loc b))

theorem N32 (t : Fin cfg0.N) : t.val < 32 := lt_of_lt_of_eq t.isLt N_0
theorem N16 (t : Fin cfg1.N) : t.val < 16 := lt_of_lt_of_eq t.isLt N_1
theorem N32' (t : Fin cfg2.N) : t.val < 32 := lt_of_lt_of_eq t.isLt N_2

theorem idx00 : ∀ t : Fin cfg0.N, win0_0.index t = ![t.val, 0] := (by decide +kernel : ∀ t : Fin grid0.N, win0_0.index t = ![t.val, 0])
theorem idx01 : ∀ t : Fin cfg0.N, win0_1.index t = ![0, 0] := (by decide +kernel : ∀ t : Fin grid0.N, win0_1.index t = ![0, 0])
theorem idx02 : ∀ t : Fin cfg0.N, win0_2.index t = ![0, 0] := (by decide +kernel : ∀ t : Fin grid0.N, win0_2.index t = ![0, 0])
theorem idx03 : ∀ t : Fin cfg0.N, win0_3.index t = ![t.val, 0] := (by decide +kernel : ∀ t : Fin grid0.N, win0_3.index t = ![t.val, 0])
theorem idx10 : ∀ t : Fin cfg1.N, win1_0.index t = ![t.val / 8, t.val % 8, 0] := (by decide +kernel : ∀ t : Fin grid1.N, win1_0.index t = ![t.val / 8, t.val % 8, 0])
theorem idx11 : ∀ t : Fin cfg1.N, win1_1.index t = ![t.val / 8, t.val % 8, 0] := (by decide +kernel : ∀ t : Fin grid1.N, win1_1.index t = ![t.val / 8, t.val % 8, 0])
theorem idx20 : ∀ t : Fin cfg2.N, win2_0.index t = ![t.val / 2, 0] := (by decide +kernel : ∀ t : Fin grid2.N, win2_0.index t = ![t.val / 2, 0])
theorem idx21 : ∀ t : Fin cfg2.N, win2_1.index t = ![0, 0, t.val % 2] := (by decide +kernel : ∀ t : Fin grid2.N, win2_1.index t = ![0, 0, t.val % 2])
theorem idx22 : ∀ t : Fin cfg2.N, win2_2.index t = ![t.val / 2, t.val % 2] := (by decide +kernel : ∀ t : Fin grid2.N, win2_2.index t = ![t.val / 2, t.val % 2])

/-- The array rows and columns that the blocks' are. -/
abbrev row0 (t : Fin cfg0.N) (r : Fin 512) : Fin 16384 := ⟨512 * t.val + r.val, by have := N32 t; omega⟩
abbrev lay1 (t : Fin cfg1.N) : Fin 2 := ⟨t.val / 8, by have := N16 t; omega⟩
abbrev row1 (t : Fin cfg1.N) (r : Fin 256) : Fin 2048 := ⟨256 * (t.val % 8) + r.val, by omega⟩
abbrev row2 (t : Fin cfg2.N) (r : Fin 1024) : Fin 16384 := ⟨1024 * (t.val / 2) + r.val, by have := N32' t; omega⟩
abbrev col2 (t : Fin cfg2.N) (d : Fin 2048) : Fin 4096 := ⟨2048 * (t.val % 2) + d.val, by omega⟩

theorem at00 (c : Dev nD) (t : Fin cfg0.N) (r : Fin 512) (d : Fin 2048) :
    (iblk0 V c 0 t : S512x2048.Idx → EReal) (ix2 r d) = (V c main_v0 : S16384x2048.Idx → EReal) (ix2 (row0 t r) d) := by
  unfold iblk0; rw [View.read_apply]
  show V c main_v0 _ = V c main_v0 _
  congr 1; funext a; apply Fin.ext
  have hi := idx00 t
  match a with
  | ⟨0, _⟩ => show win0_0.index t 0 * 512 + 1 * r.val = 512 * t.val + r.val; rw [hi]; show t.val * 512 + 1 * r.val = 512 * t.val + r.val; omega
  | ⟨1, _⟩ => show win0_0.index t 1 * 2048 + 1 * d.val = d.val; rw [hi]; show 0 * 2048 + 1 * d.val = d.val; omega

theorem at01 (c : Dev nD) (t : Fin cfg0.N) (j : Fin 2048) :
    (iblk0 V c 1 t : S1x2048.Idx → EReal) (ix2 0 j) = (V c main_v1 : S1x2048.Idx → EReal) (ix2 0 j) := by
  unfold iblk0; rw [View.read_apply]
  show V c main_v1 _ = V c main_v1 _
  congr 1; funext a; apply Fin.ext
  have hi := idx01 t
  match a with
  | ⟨0, _⟩ => show win0_1.index t 0 * 1 + 1 * 0 = 0; rw [hi]; show 0 * 1 + 1 * 0 = 0; omega
  | ⟨1, _⟩ => show win0_1.index t 1 * 2048 + 1 * j.val = j.val; rw [hi]; show 0 * 2048 + 1 * j.val = j.val; omega

theorem at02 (c : Dev nD) (t : Fin cfg0.N) (j : Fin 2048) :
    (iblk0 V c 2 t : S1x2048.Idx → EReal) (ix2 0 j) = (V c main_v2 : S1x2048.Idx → EReal) (ix2 0 j) := by
  unfold iblk0; rw [View.read_apply]
  show V c main_v2 _ = V c main_v2 _
  congr 1; funext a; apply Fin.ext
  have hi := idx02 t
  match a with
  | ⟨0, _⟩ => show win0_2.index t 0 * 1 + 1 * 0 = 0; rw [hi]; show 0 * 1 + 1 * 0 = 0; omega
  | ⟨1, _⟩ => show win0_2.index t 1 * 2048 + 1 * j.val = j.val; rw [hi]; show 0 * 2048 + 1 * j.val = j.val; omega

theorem at10 (c : Dev nD) (t : Fin cfg1.N) (r : Fin 256) (k : Fin 3916) :
    (iblk1 V c 0 t : S1x256x3916.Idx → EReal) (ix3 0 r k) = (V c main_arg3 : S2x2048x3916.Idx → EReal) (ix3 (lay1 t) (row1 t r) k) := by
  unfold iblk1; rw [View.read_apply]
  show V c main_arg3 _ = V c main_arg3 _
  congr 1; funext a; apply Fin.ext
  have hi := idx10 t
  match a with
  | ⟨0, _⟩ => show win1_0.index t 0 * 1 + 1 * 0 = t.val / 8; rw [hi]; show t.val / 8 * 1 + 1 * 0 = t.val / 8; omega
  | ⟨1, _⟩ => show win1_0.index t 1 * 256 + 1 * r.val = 256 * (t.val % 8) + r.val; rw [hi]; show t.val % 8 * 256 + 1 * r.val = 256 * (t.val % 8) + r.val; omega
  | ⟨2, _⟩ => show win1_0.index t 2 * 3916 + 1 * k.val = k.val; rw [hi]; show 0 * 3916 + 1 * k.val = k.val; omega

theorem at20 (c : Dev nD) (t : Fin cfg2.N) (r : Fin 1024) (d : Fin 2048) :
    (iblk2 V c 0 t : S1024x2048.Idx → EReal) (ix2 r d) = (V c main_v3 : S16384x2048.Idx → EReal) (ix2 (row2 t r) d) := by
  unfold iblk2; rw [View.read_apply]
  show V c main_v3 _ = V c main_v3 _
  congr 1; funext a; apply Fin.ext
  have hi := idx20 t
  match a with
  | ⟨0, _⟩ => show win2_0.index t 0 * 1024 + 1 * r.val = 1024 * (t.val / 2) + r.val; rw [hi]; show t.val / 2 * 1024 + 1 * r.val = 1024 * (t.val / 2) + r.val; omega
  | ⟨1, _⟩ => show win2_0.index t 1 * 2048 + 1 * d.val = d.val; rw [hi]; show 0 * 2048 + 1 * d.val = d.val; omega

theorem at21 (c : Dev nD) (t : Fin cfg2.N) (e d : Fin 2048) :
    (iblk2 V c 1 t : S1x2048x2048.Idx → EReal) (ix3 0 e d) = (V c main_v4 : S2x2048x4096.Idx → EReal) (ix3 0 e (col2 t d)) := by
  unfold iblk2; rw [View.read_apply]
  show V c main_v4 _ = V c main_v4 _
  congr 1; funext a; apply Fin.ext
  have hi := idx21 t
  match a with
  | ⟨0, _⟩ => show win2_1.index t 0 * 1 + 1 * 0 = 0; rw [hi]; show 0 * 1 + 1 * 0 = 0; omega
  | ⟨1, _⟩ => show win2_1.index t 1 * 2048 + 1 * e.val = e.val; rw [hi]; show 0 * 2048 + 1 * e.val = e.val; omega
  | ⟨2, _⟩ => show win2_1.index t 2 * 2048 + 1 * d.val = 2048 * (t.val % 2) + d.val; rw [hi]; show (t.val % 2) * 2048 + 1 * d.val = 2048 * (t.val % 2) + d.val; omega

theorem hz2 : (![0, 0] : Fin 2 → ℕ) = fun _ => 0 := by decide
theorem hz3 : (![0, 0, 0] : Fin 3 → ℕ) = fun _ => 0 := by decide

/-- The normed rows' block at coordinates. -/
theorem pay0_at (x : Vec Ideal S512x2048 .f32) (g b : Vec Ideal S1x2048 .f32) (r : Fin 512) (j : Fin 2048) :
    (k0_pay1 (F := Ideal) x g b (ix2 r j) : EReal) = Cert.Norm.normAt (fun k => x (ix2 r k)) (g (ix2 0 j)) (b (ix2 0 j)) j := by
  unfold Cert.Norm.normAt Cert.Norm.mean
  pointwise [k0_pay1]

/-- The product's block at coordinates. -/
theorem prod_at (x : Vec Ideal S1024x2048 .f32) (w : Vec Ideal S1x2048x2048 .bf16) (r : Fin 1024) (d : Fin 2048) :
    (k2_pay1 (F := Ideal) x w (ix2 r d) : EReal) = ∑ e : Fin 2048, x (ix2 r e) * w (ix3 0 e d) := by
  pointwise [k2_pay1]

theorem out0_eq (x : Vec Ideal S512x2048 .f32) (g b : Vec Ideal S1x2048 .f32) : out0_3 (F := Ideal) x g b = k0_pay1 x g b := by
  unfold out0_3
  rw [View.canon_unit_zero (S := S512x2048) hz2, View.ld_unit_zero (S := S512x2048) hz2, View.ld_unit_zero (S := S1x2048) hz2, View.ld_unit_zero (S := S1x2048) hz2]
theorem out2_eq (x : Vec Ideal S1024x2048 .f32) (w : Vec Ideal S1x2048x2048 .bf16) : out2_2 (F := Ideal) x w = k2_pay1 x w := by
  unfold out2_2
  rw [View.canon_unit_zero (S := S1024x2048) hz2, View.ld_unit_zero (S := S1024x2048) hz2, View.ld_unit_zero (S := S1x2048x2048) hz3]

/-- The arrays that the launches leave, from those they start at: the normed rows, -/
def lnOf (X : S16384x2048.Idx → EReal) (G B : S1x2048.Idx → EReal) (R : Fin 16384) (j : Fin 2048) : EReal := Cert.Norm.normAt (fun k => X (ix2 R k)) (G (ix2 0 j)) (B (ix2 0 j)) j
/-- the packed columns, -/
def packOf (W : S2x2048x3916.Idx → EReal) (l : Fin 2) (e : Fin 2048) (d : Fin 4096) : EReal := pk (fun k => W (ix3 l e k)) d
/-- and the rows of one against the columns of the other's first layer. -/
def prodOf (X : S16384x2048.Idx → EReal) (W : S2x2048x4096.Idx → EReal) (R : Fin 16384) (d : Fin 4096) : EReal := ∑ e : Fin 2048, X (ix2 R e) * W (ix3 0 e d)

theorem ln_of (x : Vec Ideal S512x2048 .f32) (g b : Vec Ideal S1x2048 .f32) (r : Fin 512) (j : Fin 2048) (X : S16384x2048.Idx → EReal) (G B : S1x2048.Idx → EReal) (R : Fin 16384)
    (h0 : ∀ k, x (ix2 r k) = X (ix2 R k)) (h1 : g (ix2 0 j) = G (ix2 0 j)) (h2 : b (ix2 0 j) = B (ix2 0 j)) : (k0_pay1 (F := Ideal) x g b (ix2 r j) : EReal) = lnOf X G B R j := by
  rw [pay0_at]
  unfold lnOf
  simp only [h0, h1, h2]
theorem pack_of (f : Fin 3916 → EReal) (W : S2x2048x3916.Idx → EReal) (l : Fin 2) (e : Fin 2048) (d : Fin 4096) (h0 : ∀ k, f k = W (ix3 l e k)) : pk f d = packOf W l e d := by
  unfold packOf
  rw [funext h0]
theorem prod_of (x : Vec Ideal S1024x2048 .f32) (w : Vec Ideal S1x2048x2048 .bf16) (r : Fin 1024) (d : Fin 2048) (X : S16384x2048.Idx → EReal) (W : S2x2048x4096.Idx → EReal) (R : Fin 16384) (D : Fin 4096)
    (h0 : ∀ e, x (ix2 r e) = X (ix2 R e)) (h1 : ∀ e, w (ix3 0 e d) = W (ix3 0 e D)) : (k2_pay1 (F := Ideal) x w (ix2 r d) : EReal) = prodOf X W R D := by
  rw [prod_at]
  unfold prodOf
  simp only [h0, h1]
theorem prodOf_of (X : S16384x2048.Idx → EReal) (W : S2x2048x4096.Idx → EReal) (R : Fin 16384) (d : Fin 4096) (A B : Fin 2048 → EReal)
    (h0 : ∀ e, X (ix2 R e) = A e) (h1 : ∀ e, W (ix3 0 e d) = B e) : prodOf X W R d = ∑ e : Fin 2048, A e * B e := by
  unfold prodOf
  simp only [h0, h1]

/-- The normed rows that the first launch leaves. -/
theorem result0 (c : Dev nD) :
    (dat0 V c).arrAt 3 cfg0.N = fun y : S16384x2048.Idx => lnOf (V c main_v0) (V c main_v1) (V c main_v2) (y 0) (y 1) := by
  refine (dat0 V c).arrAt_eq_of_covers 3 _ (by decide +kernel) fun t hf y => ?_
  blk_simp
  rw [after0_3, out0_eq]
  obtain ⟨r, j, rfl⟩ := Cert.Blocks.ex2 (A := 512) (B := 2048) y
  have hi := idx03 t
  have hr : (win0_3.blk t).view.emb (ix2 r j : S512x2048.Idx) 0 = row0 t r := by
    apply Fin.ext; show win0_3.index t 0 * 512 + 1 * r.val = 512 * t.val + r.val; rw [hi]; show t.val * 512 + 1 * r.val = _; omega
  have hj : (win0_3.blk t).view.emb (ix2 r j : S512x2048.Idx) 1 = j := by
    apply Fin.ext; show win0_3.index t 1 * 2048 + 1 * j.val = j.val; rw [hi]; show 0 * 2048 + 1 * j.val = _; omega
  rw [hr, hj]
  exact ln_of _ _ _ r j _ _ _ _ (fun e => at00 V c t r e) (at01 V c t j) (at02 V c t j)

/-- The packed columns that the second leaves. -/
theorem result1 (c : Dev nD) :
    (dat1 V c).arrAt 1 cfg1.N = fun y : S2x2048x4096.Idx => packOf (V c main_arg3) (y 0) (y 1) (y 2) := by
  refine (dat1 V c).arrAt_eq_of_covers 1 _ (by decide +kernel) fun t hf y => ?_
  blk_simp
  rw [after1_1]
  unfold outsAt1
  obtain ⟨a, r, j, rfl⟩ := Cert.Blocks.ex3 (A := 1) (B := 256) (C := 4096) y
  obtain rfl : a = 0 := Subsingleton.elim _ _
  have hi := idx11 t
  have ha : (win1_1.blk t).view.emb (ix3 0 r j : S1x256x4096.Idx) 0 = lay1 t := by
    apply Fin.ext; show win1_1.index t 0 * 1 + 1 * 0 = t.val / 8; rw [hi]; show t.val / 8 * 1 + 1 * 0 = _; omega
  have hr : (win1_1.blk t).view.emb (ix3 0 r j : S1x256x4096.Idx) 1 = row1 t r := by
    apply Fin.ext; show win1_1.index t 1 * 256 + 1 * r.val = 256 * (t.val % 8) + r.val; rw [hi]; show t.val % 8 * 256 + 1 * r.val = _; omega
  have hj : (win1_1.blk t).view.emb (ix3 0 r j : S1x256x4096.Idx) 2 = j := by
    apply Fin.ext; show win1_1.index t 2 * 4096 + 1 * j.val = j.val; rw [hi]; show 0 * 4096 + 1 * j.val = _; omega
  rw [ha, hr, hj]
  exact (pack_at c _ _ _ _ _ _ r j).trans (pack_of _ _ _ _ j (fun k => at10 V c t r k))

/-- The products that the third leaves. -/
theorem result2 (c : Dev nD) :
    (dat2 V c).arrAt 2 cfg2.N = fun y : S16384x4096.Idx => prodOf (V c main_v3) (V c main_v4) (y 0) (y 1) := by
  refine (dat2 V c).arrAt_eq_of_covers 2 _ (by decide +kernel) fun t hf y => ?_
  blk_simp
  rw [after2_2, out2_eq]
  obtain ⟨r, j, rfl⟩ := Cert.Blocks.ex2 (A := 1024) (B := 2048) y
  have hi := idx22 t
  have hr : (win2_2.blk t).view.emb (ix2 r j : S1024x2048.Idx) 0 = row2 t r := by
    apply Fin.ext; show win2_2.index t 0 * 1024 + 1 * r.val = 1024 * (t.val / 2) + r.val; rw [hi]; show t.val / 2 * 1024 + 1 * r.val = _; omega
  have hj : (win2_2.blk t).view.emb (ix2 r j : S1024x2048.Idx) 1 = col2 t j := by
    apply Fin.ext; show win2_2.index t 1 * 2048 + 1 * j.val = 2048 * (t.val % 2) + j.val; rw [hi]; show t.val % 2 * 2048 + 1 * j.val = _; omega
  rw [hr, hj]
  exact prod_of _ _ r j _ _ _ _ (fun e => at20 V c t r e) (fun e => at21 V c t e j)

end Cert.EntryIdeal.Hand
-- ==== Proof.EntryHost.lean ====
/-
  The entry's staged arrays, and its result from the arguments.
-/
module

public import proofs.«01_k».proof.Proof.EntryRegions

@[expose] public section

set_option maxRecDepth 16384

noncomputable section

open Idealize.ShloMosaic Idealize.ShloMosaic.TcCoe Idealize.ShloMosaic.StableHlo

namespace Cert.EntryIdeal.Hand

open Cert.EntryIdeal Cert.EntryIdeal.Gen
open Cert.Norm (rowB rowP)

variable (m : (ℓ : Loc nD τ sig) → Buf (Elt Ideal) ℓ) (ρ : Dev nD → PrngReg)

abbrev argX (c : Dev nD) : S8x2048x2048.Idx → EReal := m ((c : Thread nD τ).loc main_arg0)
abbrev argG (c : Dev nD) : S2048.Idx → EReal := m ((c : Thread nD τ).loc main_arg1)
abbrev argB (c : Dev nD) : S2048.Idx → EReal := m ((c : Thread nD τ).loc main_arg2)
abbrev argW (c : Dev nD) : S2x2048x3916.Idx → EReal := m ((c : Thread nD τ).loc main_arg3)

theorem S0 (c : Dev nD) : (V1 m ρ c main_v0 : S16384x2048.Idx → EReal) = shapeCast _ (argX m c) shapeCasts_S8x2048x2048_S16384x2048 := by
  show StableHlo.after hostOps0 (W0 m ρ c) (Proc.devRef .tc main_v0) = _
  simp only [hostOps0]; after_results_simp <;> rfl
theorem s0_at (c : Dev nD) (R : Fin 16384) (d : Fin 2048) : (V1 m ρ c main_v0 : S16384x2048.Idx → EReal) (ix2 R d) = argX m c (ix3 (rowB R) (rowP R) d) := by
  rw [S0]; pointwise
theorem S1 (c : Dev nD) : (V1 m ρ c main_v1 : S1x2048.Idx → EReal) = shapeCast _ (argG m c) shapeCasts_S2048_S1x2048 := by
  show StableHlo.after hostOps0 (W0 m ρ c) (Proc.devRef .tc main_v1) = _
  simp only [hostOps0]; after_results_simp <;> rfl
theorem s1_at (c : Dev nD) (j : Fin 2048) : (V1 m ρ c main_v1 : S1x2048.Idx → EReal) (ix2 0 j) = argG m c (ix1 j) := by
  rw [S1]; pointwise
theorem S2 (c : Dev nD) : (V1 m ρ c main_v2 : S1x2048.Idx → EReal) = shapeCast _ (argB m c) shapeCasts_S2048_S1x2048 := by
  show StableHlo.after hostOps0 (W0 m ρ c) (Proc.devRef .tc main_v2) = _
  simp only [hostOps0]; after_results_simp <;> rfl
theorem s2_at (c : Dev nD) (j : Fin 2048) : (V1 m ρ c main_v2 : S1x2048.Idx → EReal) (ix2 0 j) = argB m c (ix1 j) := by
  rw [S2]; pointwise

theorem lnOf_of (X : S16384x2048.Idx → EReal) (G B : S1x2048.Idx → EReal) (R : Fin 16384) (j : Fin 2048) (x : Fin 2048 → EReal) (g b : EReal)
    (h0 : ∀ k, X (ix2 R k) = x k) (h1 : G (ix2 0 j) = g) (h2 : B (ix2 0 j) = b) : lnOf X G B R j = Cert.Norm.normAt x g b j := by
  unfold lnOf
  rw [funext h0, h1, h2]

/-- The normed rows at coordinates. -/
theorem ln_at (c : Dev nD) (R : Fin 16384) (j : Fin 2048) :
    (V3 m ρ c main_v3 : S16384x2048.Idx → EReal) (ix2 R j) = Cert.Norm.normAt (fun k => argX m c (ix3 (rowB R) (rowP R) k)) (argG m c (ix1 j)) (argB m c (ix1 j)) j := by
  have h : (V3 m ρ c main_v3 : S16384x2048.Idx → EReal) = (dat0 (V1 m ρ) c).arrAt 3 cfg0.N :=
    (W3_of m ρ c main_v3 (by decide +kernel)).trans (W2_arr m ρ c 3)
  rw [h]
  refine (congrFun (result0 _ c) (ix2 R j)).trans ?_
  exact lnOf_of _ _ _ R j _ _ _ (fun e => s0_at m ρ c R e) (s1_at m ρ c j) (s2_at m ρ c j)

theorem packOf_of (W X : S2x2048x3916.Idx → EReal) (l : Fin 2) (e : Fin 2048) (d : Fin 4096) (h : W = X) : packOf W l e d = pk (fun k => X (ix3 l e k)) d := by
  subst h
  rfl

/-- The packed columns at coordinates. -/
theorem pk_at (c : Dev nD) (l : Fin 2) (e : Fin 2048) (d : Fin 4096) :
    (V3 m ρ c main_v4 : S2x2048x4096.Idx → EReal) (ix3 l e d) = pk (fun k => argW m c (ix3 l e k)) d := by
  have h : (V3 m ρ c main_v4 : S2x2048x4096.Idx → EReal) = (dat1 (V2 m ρ) c).arrAt 1 cfg1.N := W3_arr m ρ c 1
  rw [h]
  refine (congrFun (result1 _ c) (ix3 l e d)).trans ?_
  exact packOf_of _ _ l e d (W2_args m ρ c main_arg3 (by decide))

/-- The packed projection at coordinates. -/
theorem proj_at (c : Dev nD) (R : Fin 16384) (d : Fin 4096) :
    (W4 m ρ c (Proc.devRef .tc main_v5) : S16384x4096.Idx → EReal) (ix2 R d)
      = ∑ e : Fin 2048, Cert.Norm.normAt (fun k => argX m c (ix3 (rowB R) (rowP R) k)) (argG m c (ix1 e)) (argB m c (ix1 e)) e * pk (fun k => argW m c (ix3 0 e k)) d := by
  have h : (W4 m ρ c (Proc.devRef .tc main_v5) : S16384x4096.Idx → EReal) = (dat2 (V3 m ρ) c).arrAt 2 cfg2.N := W4_arr m ρ c 2
  rw [h]
  refine (congrFun (result2 _ c) (ix2 R d)).trans ?_
  exact prodOf_of _ _ R d _ _ (fun e => ln_at m ρ c R e) (fun e => pk_at m ρ c 0 e d)

/-- The packed columns in the reference's order. -/
def parts (A : FVec Ideal S16384x4096 .bf16) : List ((s : Shape) × (s.Idx → EReal)) := [⟨S16384x512, extractStridedSlice S16384x512 ![0, 0] A slices_S16384x4096_S16384x512_0_0⟩, ⟨S16384x512, extractStridedSlice S16384x512 ![0, 512] A slices_S16384x4096_S16384x512_0_512⟩, ⟨S16384x64, extractStridedSlice S16384x64 ![0, 3072] A slices_S16384x4096_S16384x64_0_3072⟩, ⟨S16384x512, extractStridedSlice S16384x512 ![0, 1024] A slices_S16384x4096_S16384x512_0_1024⟩, ⟨S16384x128, extractStridedSlice S16384x128 ![0, 3200] A slices_S16384x4096_S16384x128_0_3200⟩, ⟨S16384x128, extractStridedSlice S16384x128 ![0, 3328] A slices_S16384x4096_S16384x128_0_3328⟩, ⟨S16384x128, extractStridedSlice S16384x128 ![0, 3456] A slices_S16384x4096_S16384x128_0_3456⟩, ⟨S16384x128, extractStridedSlice S16384x128 ![0, 3584] A slices_S16384x4096_S16384x128_0_3584⟩, ⟨S16384x128, extractStridedSlice S16384x128 ![0, 3712] A slices_S16384x4096_S16384x128_0_3712⟩, ⟨S16384x128, extractStridedSlice S16384x128 ![0, 3840] A slices_S16384x4096_S16384x128_0_3840⟩, ⟨S16384x12, extractStridedSlice S16384x12 ![0, 3968] A slices_S16384x4096_S16384x12_0_3968⟩, ⟨S16384x512, extractStridedSlice S16384x512 ![0, 1536] A slices_S16384x4096_S16384x512_0_1536⟩, ⟨S16384x512, extractStridedSlice S16384x512 ![0, 2048] A slices_S16384x4096_S16384x512_0_2048⟩, ⟨S16384x512, extractStridedSlice S16384x512 ![0, 2560] A slices_S16384x4096_S16384x512_0_2560⟩]
def joined (A : FVec Ideal S16384x4096 .bf16) : FVec Ideal S16384x3916 .bf16 := concatenate S16384x3916 1 (parts A) concatenates_S16384x512_S16384x512_S16384x64_S16384x512_S16384x128_S16384x128_S16384x128_S16384x128_S16384x128_S16384x128_S16384x12_S16384x512_S16384x512_S16384x512_S16384x3916_d1
def unpack (A : FVec Ideal S16384x4096 .bf16) : FVec Ideal S8x2048x3916 .f32 :=
  shapeCast S8x2048x3916 (extf (F := Ideal) .f32 (joined A) bitsLt_bf16_f32) shapeCasts_S16384x3916_S8x2048x3916

theorem join_0 (A : FVec Ideal S16384x4096 .bf16) (R : Fin 16384) (k : Fin 3916) (h1 : k.val < 512) : (joined A (ix2 R k) : EReal) = A (ix2 R ⟨k.val + 0, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 0 (show 0 < 14 by decide) S16384x512 (extractStridedSlice S16384x512 ![0, 0] A slices_S16384x4096_S16384x512_0_0) rfl rfl 0 (by rfl) (ix2 R ⟨k.val, by omega⟩) ?_ ?_).trans ?_
  · intro b hb
    match b with
    | ⟨0, _⟩ => rfl
    | ⟨1, _⟩ => exact absurd rfl hb
  · show 0 + (k.val) = k.val
    omega
  · refine (show (extractStridedSlice S16384x512 ![0, 0] A slices_S16384x4096_S16384x512_0_0 (ix2 R ⟨k.val, by omega⟩) : EReal) = A (ix2 R ⟨0 + (k.val), by omega⟩) by pointwise).trans ?_
    exact congrArg (fun d => (A (ix2 R d) : EReal)) (Fin.ext (by show 0 + (k.val) = k.val + 0; omega))
theorem join_1 (A : FVec Ideal S16384x4096 .bf16) (R : Fin 16384) (k : Fin 3916) (h0 : 512 ≤ k.val) (h1 : k.val < 1024) : (joined A (ix2 R k) : EReal) = A (ix2 R ⟨k.val + 0, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 1 (show 1 < 14 by decide) S16384x512 (extractStridedSlice S16384x512 ![0, 512] A slices_S16384x4096_S16384x512_0_512) rfl rfl 512 (by rfl) (ix2 R ⟨k.val - 512, by omega⟩) ?_ ?_).trans ?_
  · intro b hb
    match b with
    | ⟨0, _⟩ => rfl
    | ⟨1, _⟩ => exact absurd rfl hb
  · show 512 + (k.val - 512) = k.val
    omega
  · refine (show (extractStridedSlice S16384x512 ![0, 512] A slices_S16384x4096_S16384x512_0_512 (ix2 R ⟨k.val - 512, by omega⟩) : EReal) = A (ix2 R ⟨512 + (k.val - 512), by omega⟩) by pointwise).trans ?_
    exact congrArg (fun d => (A (ix2 R d) : EReal)) (Fin.ext (by show 512 + (k.val - 512) = k.val + 0; omega))
theorem join_2 (A : FVec Ideal S16384x4096 .bf16) (R : Fin 16384) (k : Fin 3916) (h0 : 1024 ≤ k.val) (h1 : k.val < 1088) : (joined A (ix2 R k) : EReal) = A (ix2 R ⟨k.val + 2048, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 2 (show 2 < 14 by decide) S16384x64 (extractStridedSlice S16384x64 ![0, 3072] A slices_S16384x4096_S16384x64_0_3072) rfl rfl 1024 (by rfl) (ix2 R ⟨k.val - 1024, by omega⟩) ?_ ?_).trans ?_
  · intro b hb
    match b with
    | ⟨0, _⟩ => rfl
    | ⟨1, _⟩ => exact absurd rfl hb
  · show 1024 + (k.val - 1024) = k.val
    omega
  · refine (show (extractStridedSlice S16384x64 ![0, 3072] A slices_S16384x4096_S16384x64_0_3072 (ix2 R ⟨k.val - 1024, by omega⟩) : EReal) = A (ix2 R ⟨3072 + (k.val - 1024), by omega⟩) by pointwise).trans ?_
    exact congrArg (fun d => (A (ix2 R d) : EReal)) (Fin.ext (by show 3072 + (k.val - 1024) = k.val + 2048; omega))
theorem join_3 (A : FVec Ideal S16384x4096 .bf16) (R : Fin 16384) (k : Fin 3916) (h0 : 1088 ≤ k.val) (h1 : k.val < 1600) : (joined A (ix2 R k) : EReal) = A (ix2 R ⟨k.val - 64, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 3 (show 3 < 14 by decide) S16384x512 (extractStridedSlice S16384x512 ![0, 1024] A slices_S16384x4096_S16384x512_0_1024) rfl rfl 1088 (by rfl) (ix2 R ⟨k.val - 1088, by omega⟩) ?_ ?_).trans ?_
  · intro b hb
    match b with
    | ⟨0, _⟩ => rfl
    | ⟨1, _⟩ => exact absurd rfl hb
  · show 1088 + (k.val - 1088) = k.val
    omega
  · refine (show (extractStridedSlice S16384x512 ![0, 1024] A slices_S16384x4096_S16384x512_0_1024 (ix2 R ⟨k.val - 1088, by omega⟩) : EReal) = A (ix2 R ⟨1024 + (k.val - 1088), by omega⟩) by pointwise).trans ?_
    exact congrArg (fun d => (A (ix2 R d) : EReal)) (Fin.ext (by show 1024 + (k.val - 1088) = k.val - 64; omega))
theorem join_4 (A : FVec Ideal S16384x4096 .bf16) (R : Fin 16384) (k : Fin 3916) (h0 : 1600 ≤ k.val) (h1 : k.val < 1728) : (joined A (ix2 R k) : EReal) = A (ix2 R ⟨k.val + 1600, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 4 (show 4 < 14 by decide) S16384x128 (extractStridedSlice S16384x128 ![0, 3200] A slices_S16384x4096_S16384x128_0_3200) rfl rfl 1600 (by rfl) (ix2 R ⟨k.val - 1600, by omega⟩) ?_ ?_).trans ?_
  · intro b hb
    match b with
    | ⟨0, _⟩ => rfl
    | ⟨1, _⟩ => exact absurd rfl hb
  · show 1600 + (k.val - 1600) = k.val
    omega
  · refine (show (extractStridedSlice S16384x128 ![0, 3200] A slices_S16384x4096_S16384x128_0_3200 (ix2 R ⟨k.val - 1600, by omega⟩) : EReal) = A (ix2 R ⟨3200 + (k.val - 1600), by omega⟩) by pointwise).trans ?_
    exact congrArg (fun d => (A (ix2 R d) : EReal)) (Fin.ext (by show 3200 + (k.val - 1600) = k.val + 1600; omega))
theorem join_5 (A : FVec Ideal S16384x4096 .bf16) (R : Fin 16384) (k : Fin 3916) (h0 : 1728 ≤ k.val) (h1 : k.val < 1856) : (joined A (ix2 R k) : EReal) = A (ix2 R ⟨k.val + 1600, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 5 (show 5 < 14 by decide) S16384x128 (extractStridedSlice S16384x128 ![0, 3328] A slices_S16384x4096_S16384x128_0_3328) rfl rfl 1728 (by rfl) (ix2 R ⟨k.val - 1728, by omega⟩) ?_ ?_).trans ?_
  · intro b hb
    match b with
    | ⟨0, _⟩ => rfl
    | ⟨1, _⟩ => exact absurd rfl hb
  · show 1728 + (k.val - 1728) = k.val
    omega
  · refine (show (extractStridedSlice S16384x128 ![0, 3328] A slices_S16384x4096_S16384x128_0_3328 (ix2 R ⟨k.val - 1728, by omega⟩) : EReal) = A (ix2 R ⟨3328 + (k.val - 1728), by omega⟩) by pointwise).trans ?_
    exact congrArg (fun d => (A (ix2 R d) : EReal)) (Fin.ext (by show 3328 + (k.val - 1728) = k.val + 1600; omega))
theorem join_6 (A : FVec Ideal S16384x4096 .bf16) (R : Fin 16384) (k : Fin 3916) (h0 : 1856 ≤ k.val) (h1 : k.val < 1984) : (joined A (ix2 R k) : EReal) = A (ix2 R ⟨k.val + 1600, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 6 (show 6 < 14 by decide) S16384x128 (extractStridedSlice S16384x128 ![0, 3456] A slices_S16384x4096_S16384x128_0_3456) rfl rfl 1856 (by rfl) (ix2 R ⟨k.val - 1856, by omega⟩) ?_ ?_).trans ?_
  · intro b hb
    match b with
    | ⟨0, _⟩ => rfl
    | ⟨1, _⟩ => exact absurd rfl hb
  · show 1856 + (k.val - 1856) = k.val
    omega
  · refine (show (extractStridedSlice S16384x128 ![0, 3456] A slices_S16384x4096_S16384x128_0_3456 (ix2 R ⟨k.val - 1856, by omega⟩) : EReal) = A (ix2 R ⟨3456 + (k.val - 1856), by omega⟩) by pointwise).trans ?_
    exact congrArg (fun d => (A (ix2 R d) : EReal)) (Fin.ext (by show 3456 + (k.val - 1856) = k.val + 1600; omega))
theorem join_7 (A : FVec Ideal S16384x4096 .bf16) (R : Fin 16384) (k : Fin 3916) (h0 : 1984 ≤ k.val) (h1 : k.val < 2112) : (joined A (ix2 R k) : EReal) = A (ix2 R ⟨k.val + 1600, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 7 (show 7 < 14 by decide) S16384x128 (extractStridedSlice S16384x128 ![0, 3584] A slices_S16384x4096_S16384x128_0_3584) rfl rfl 1984 (by rfl) (ix2 R ⟨k.val - 1984, by omega⟩) ?_ ?_).trans ?_
  · intro b hb
    match b with
    | ⟨0, _⟩ => rfl
    | ⟨1, _⟩ => exact absurd rfl hb
  · show 1984 + (k.val - 1984) = k.val
    omega
  · refine (show (extractStridedSlice S16384x128 ![0, 3584] A slices_S16384x4096_S16384x128_0_3584 (ix2 R ⟨k.val - 1984, by omega⟩) : EReal) = A (ix2 R ⟨3584 + (k.val - 1984), by omega⟩) by pointwise).trans ?_
    exact congrArg (fun d => (A (ix2 R d) : EReal)) (Fin.ext (by show 3584 + (k.val - 1984) = k.val + 1600; omega))
theorem join_8 (A : FVec Ideal S16384x4096 .bf16) (R : Fin 16384) (k : Fin 3916) (h0 : 2112 ≤ k.val) (h1 : k.val < 2240) : (joined A (ix2 R k) : EReal) = A (ix2 R ⟨k.val + 1600, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 8 (show 8 < 14 by decide) S16384x128 (extractStridedSlice S16384x128 ![0, 3712] A slices_S16384x4096_S16384x128_0_3712) rfl rfl 2112 (by rfl) (ix2 R ⟨k.val - 2112, by omega⟩) ?_ ?_).trans ?_
  · intro b hb
    match b with
    | ⟨0, _⟩ => rfl
    | ⟨1, _⟩ => exact absurd rfl hb
  · show 2112 + (k.val - 2112) = k.val
    omega
  · refine (show (extractStridedSlice S16384x128 ![0, 3712] A slices_S16384x4096_S16384x128_0_3712 (ix2 R ⟨k.val - 2112, by omega⟩) : EReal) = A (ix2 R ⟨3712 + (k.val - 2112), by omega⟩) by pointwise).trans ?_
    exact congrArg (fun d => (A (ix2 R d) : EReal)) (Fin.ext (by show 3712 + (k.val - 2112) = k.val + 1600; omega))
theorem join_9 (A : FVec Ideal S16384x4096 .bf16) (R : Fin 16384) (k : Fin 3916) (h0 : 2240 ≤ k.val) (h1 : k.val < 2368) : (joined A (ix2 R k) : EReal) = A (ix2 R ⟨k.val + 1600, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 9 (show 9 < 14 by decide) S16384x128 (extractStridedSlice S16384x128 ![0, 3840] A slices_S16384x4096_S16384x128_0_3840) rfl rfl 2240 (by rfl) (ix2 R ⟨k.val - 2240, by omega⟩) ?_ ?_).trans ?_
  · intro b hb
    match b with
    | ⟨0, _⟩ => rfl
    | ⟨1, _⟩ => exact absurd rfl hb
  · show 2240 + (k.val - 2240) = k.val
    omega
  · refine (show (extractStridedSlice S16384x128 ![0, 3840] A slices_S16384x4096_S16384x128_0_3840 (ix2 R ⟨k.val - 2240, by omega⟩) : EReal) = A (ix2 R ⟨3840 + (k.val - 2240), by omega⟩) by pointwise).trans ?_
    exact congrArg (fun d => (A (ix2 R d) : EReal)) (Fin.ext (by show 3840 + (k.val - 2240) = k.val + 1600; omega))
theorem join_10 (A : FVec Ideal S16384x4096 .bf16) (R : Fin 16384) (k : Fin 3916) (h0 : 2368 ≤ k.val) (h1 : k.val < 2380) : (joined A (ix2 R k) : EReal) = A (ix2 R ⟨k.val + 1600, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 10 (show 10 < 14 by decide) S16384x12 (extractStridedSlice S16384x12 ![0, 3968] A slices_S16384x4096_S16384x12_0_3968) rfl rfl 2368 (by rfl) (ix2 R ⟨k.val - 2368, by omega⟩) ?_ ?_).trans ?_
  · intro b hb
    match b with
    | ⟨0, _⟩ => rfl
    | ⟨1, _⟩ => exact absurd rfl hb
  · show 2368 + (k.val - 2368) = k.val
    omega
  · refine (show (extractStridedSlice S16384x12 ![0, 3968] A slices_S16384x4096_S16384x12_0_3968 (ix2 R ⟨k.val - 2368, by omega⟩) : EReal) = A (ix2 R ⟨3968 + (k.val - 2368), by omega⟩) by pointwise).trans ?_
    exact congrArg (fun d => (A (ix2 R d) : EReal)) (Fin.ext (by show 3968 + (k.val - 2368) = k.val + 1600; omega))
set_option maxHeartbeats 2000000 in
theorem join_11 (A : FVec Ideal S16384x4096 .bf16) (R : Fin 16384) (k : Fin 3916) (h0 : 2380 ≤ k.val) (h1 : k.val < 2892) : (joined A (ix2 R k) : EReal) = A (ix2 R ⟨k.val - 844, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 11 (show 11 < 14 by decide) S16384x512 (extractStridedSlice S16384x512 ![0, 1536] A slices_S16384x4096_S16384x512_0_1536) rfl rfl 2380 (by rfl) (ix2 R ⟨k.val - 2380, by omega⟩) ?_ ?_).trans ?_
  · intro b hb
    match b with
    | ⟨0, _⟩ => rfl
    | ⟨1, _⟩ => exact absurd rfl hb
  · show 2380 + (k.val - 2380) = k.val
    omega
  · refine (show (extractStridedSlice S16384x512 ![0, 1536] A slices_S16384x4096_S16384x512_0_1536 (ix2 R ⟨k.val - 2380, by omega⟩) : EReal) = A (ix2 R ⟨1536 + (k.val - 2380), by omega⟩) by pointwise).trans ?_
    exact congrArg (fun d => (A (ix2 R d) : EReal)) (Fin.ext (by show 1536 + (k.val - 2380) = k.val - 844; omega))
set_option maxHeartbeats 2000000 in
theorem join_12 (A : FVec Ideal S16384x4096 .bf16) (R : Fin 16384) (k : Fin 3916) (h0 : 2892 ≤ k.val) (h1 : k.val < 3404) : (joined A (ix2 R k) : EReal) = A (ix2 R ⟨k.val - 844, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 12 (show 12 < 14 by decide) S16384x512 (extractStridedSlice S16384x512 ![0, 2048] A slices_S16384x4096_S16384x512_0_2048) rfl rfl 2892 (by rfl) (ix2 R ⟨k.val - 2892, by omega⟩) ?_ ?_).trans ?_
  · intro b hb
    match b with
    | ⟨0, _⟩ => rfl
    | ⟨1, _⟩ => exact absurd rfl hb
  · show 2892 + (k.val - 2892) = k.val
    omega
  · refine (show (extractStridedSlice S16384x512 ![0, 2048] A slices_S16384x4096_S16384x512_0_2048 (ix2 R ⟨k.val - 2892, by omega⟩) : EReal) = A (ix2 R ⟨2048 + (k.val - 2892), by omega⟩) by pointwise).trans ?_
    exact congrArg (fun d => (A (ix2 R d) : EReal)) (Fin.ext (by show 2048 + (k.val - 2892) = k.val - 844; omega))
set_option maxHeartbeats 2000000 in
theorem join_13 (A : FVec Ideal S16384x4096 .bf16) (R : Fin 16384) (k : Fin 3916) (h0 : 3404 ≤ k.val) (h1 : k.val < 3916) : (joined A (ix2 R k) : EReal) = A (ix2 R ⟨k.val - 844, by omega⟩) := by
  unfold joined
  refine (concatenate_apply_piece (t := S16384x3916) 1 (parts A) concatenates_S16384x512_S16384x512_S16384x64_S16384x512_S16384x128_S16384x128_S16384x128_S16384x128_S16384x128_S16384x128_S16384x12_S16384x512_S16384x512_S16384x512_S16384x3916_d1 (ix2 R k) 13 (show 13 < 14 by decide) S16384x512 (extractStridedSlice S16384x512 ![0, 2560] A slices_S16384x4096_S16384x512_0_2560) rfl rfl 3404 (by rfl) (ix2 R ⟨k.val - 3404, by omega⟩) ?_ ?_).trans ?_
  · intro b hb
    match b with
    | ⟨0, _⟩ => rfl
    | ⟨1, _⟩ => exact absurd rfl hb
  · show 3404 + (k.val - 3404) = k.val
    omega
  · refine (show (extractStridedSlice S16384x512 ![0, 2560] A slices_S16384x4096_S16384x512_0_2560 (ix2 R ⟨k.val - 3404, by omega⟩) : EReal) = A (ix2 R ⟨2560 + (k.val - 3404), by omega⟩) by pointwise).trans ?_
    exact congrArg (fun d => (A (ix2 R d) : EReal)) (Fin.ext (by show 2560 + (k.val - 3404) = k.val - 844; omega))

/-- Where a column is packed. -/
def placeOf (k : ℕ) : ℕ := if k < 1024 then k else if k < 1088 then k + 2048 else if k < 1600 then k - 64 else if k < 2380 then k + 1600 else k - 844
theorem placeOf_lt (k : Fin 3916) : placeOf k.val < 4096 := by
  have := k.isLt
  unfold placeOf
  split_ifs <;> omega
theorem col_place (k : Fin 3916) : colOf (placeOf k.val) = k.val := by
  have := k.isLt
  unfold placeOf colOf
  split_ifs <;> omega

theorem unpack_at (A : FVec Ideal S16384x4096 .bf16) (b : Fin 8) (p : Fin 2048) (k : Fin 3916) :
    (unpack A (ix3 b p k) : EReal) = A (ix2 ⟨b.val * 2048 + p.val, by omega⟩ ⟨placeOf k.val, placeOf_lt k⟩) := by
  have h : (unpack A (ix3 b p k) : EReal) = joined A (ix2 ⟨b.val * 2048 + p.val, by omega⟩ k) := by
    unfold unpack
    pointwise
  rw [h]
  have hk := k.isLt
  have hp : ∀ d : Fin 4096, placeOf k.val = d.val → (⟨placeOf k.val, placeOf_lt k⟩ : Fin 4096) = d := fun d h => Fin.ext h
  by_cases h0 : k.val < 512
  · exact (join_0 A _ k (by omega)).trans (congrArg (fun d => (A (ix2 _ d) : EReal)) (hp ⟨k.val + 0, by omega⟩ (by show placeOf k.val = k.val + 0; unfold placeOf; split_ifs <;> first | omega | rfl)).symm)
  by_cases h1 : k.val < 1024
  · exact (join_1 A _ k (by omega) (by omega)).trans (congrArg (fun d => (A (ix2 _ d) : EReal)) (hp ⟨k.val + 0, by omega⟩ (by show placeOf k.val = k.val + 0; unfold placeOf; split_ifs <;> first | omega | rfl)).symm)
  by_cases h2 : k.val < 1088
  · exact (join_2 A _ k (by omega) (by omega)).trans (congrArg (fun d => (A (ix2 _ d) : EReal)) (hp ⟨k.val + 2048, by omega⟩ (by show placeOf k.val = k.val + 2048; unfold placeOf; split_ifs <;> first | omega | rfl)).symm)
  by_cases h3 : k.val < 1600
  · exact (join_3 A _ k (by omega) (by omega)).trans (congrArg (fun d => (A (ix2 _ d) : EReal)) (hp ⟨k.val - 64, by omega⟩ (by show placeOf k.val = k.val - 64; unfold placeOf; split_ifs <;> first | omega | rfl)).symm)
  by_cases h4 : k.val < 1728
  · exact (join_4 A _ k (by omega) (by omega)).trans (congrArg (fun d => (A (ix2 _ d) : EReal)) (hp ⟨k.val + 1600, by omega⟩ (by show placeOf k.val = k.val + 1600; unfold placeOf; split_ifs <;> first | omega | rfl)).symm)
  by_cases h5 : k.val < 1856
  · exact (join_5 A _ k (by omega) (by omega)).trans (congrArg (fun d => (A (ix2 _ d) : EReal)) (hp ⟨k.val + 1600, by omega⟩ (by show placeOf k.val = k.val + 1600; unfold placeOf; split_ifs <;> first | omega | rfl)).symm)
  by_cases h6 : k.val < 1984
  · exact (join_6 A _ k (by omega) (by omega)).trans (congrArg (fun d => (A (ix2 _ d) : EReal)) (hp ⟨k.val + 1600, by omega⟩ (by show placeOf k.val = k.val + 1600; unfold placeOf; split_ifs <;> first | omega | rfl)).symm)
  by_cases h7 : k.val < 2112
  · exact (join_7 A _ k (by omega) (by omega)).trans (congrArg (fun d => (A (ix2 _ d) : EReal)) (hp ⟨k.val + 1600, by omega⟩ (by show placeOf k.val = k.val + 1600; unfold placeOf; split_ifs <;> first | omega | rfl)).symm)
  by_cases h8 : k.val < 2240
  · exact (join_8 A _ k (by omega) (by omega)).trans (congrArg (fun d => (A (ix2 _ d) : EReal)) (hp ⟨k.val + 1600, by omega⟩ (by show placeOf k.val = k.val + 1600; unfold placeOf; split_ifs <;> first | omega | rfl)).symm)
  by_cases h9 : k.val < 2368
  · exact (join_9 A _ k (by omega) (by omega)).trans (congrArg (fun d => (A (ix2 _ d) : EReal)) (hp ⟨k.val + 1600, by omega⟩ (by show placeOf k.val = k.val + 1600; unfold placeOf; split_ifs <;> first | omega | rfl)).symm)
  by_cases h10 : k.val < 2380
  · exact (join_10 A _ k (by omega) (by omega)).trans (congrArg (fun d => (A (ix2 _ d) : EReal)) (hp ⟨k.val + 1600, by omega⟩ (by show placeOf k.val = k.val + 1600; unfold placeOf; split_ifs <;> first | omega | rfl)).symm)
  by_cases h11 : k.val < 2892
  · exact (join_11 A _ k (by omega) (by omega)).trans (congrArg (fun d => (A (ix2 _ d) : EReal)) (hp ⟨k.val - 844, by omega⟩ (by show placeOf k.val = k.val - 844; unfold placeOf; split_ifs <;> first | omega | rfl)).symm)
  by_cases h12 : k.val < 3404
  · exact (join_12 A _ k (by omega) (by omega)).trans (congrArg (fun d => (A (ix2 _ d) : EReal)) (hp ⟨k.val - 844, by omega⟩ (by show placeOf k.val = k.val - 844; unfold placeOf; split_ifs <;> first | omega | rfl)).symm)
  exact (join_13 A _ k (by omega) (by omega)).trans (congrArg (fun d => (A (ix2 _ d) : EReal)) (hp ⟨k.val - 844, by omega⟩ (by show placeOf k.val = k.val - 844; unfold placeOf; split_ifs <;> first | omega | rfl)).symm)

theorem S22 (c : Dev nD) : (W5 m ρ c (Proc.devRef .tc main_v22) : S8x2048x3916.Idx → EReal) = unpack (W4 m ρ c (Proc.devRef .tc main_v5)) := by
  show StableHlo.after hostOps3 (W4 m ρ c) (Proc.devRef .tc main_v22) = _
  simp only [hostOps3]; after_results_simp <;> rfl

/-- The entry at coordinates, from its arguments. -/
def entryOf (X : S8x2048x2048.Idx → EReal) (G B : S2048.Idx → EReal) (W : S2x2048x3916.Idx → EReal) (b : Fin 8) (p : Fin 2048) (k : Fin 3916) : EReal :=
  ∑ e : Fin 2048, Cert.Norm.normAt (fun k => X (ix3 b p k)) (G (ix1 e)) (B (ix1 e)) e * W (ix3 0 e k)

/-- THE KERNEL'S RESULT, from the arguments. -/
theorem result (c : Dev nD) (b : Fin 8) (p : Fin 2048) (k : Fin 3916) :
    (W5 m ρ c (Proc.devRef .tc main_v22) : S8x2048x3916.Idx → EReal) (ix3 b p k) = entryOf (argX m c) (argG m c) (argB m c) (argW m c) b p k := by
  rw [S22]
  refine (unpack_at _ b p k).trans ((proj_at m ρ c _ _).trans ?_)
  have hb : rowB ⟨b.val * 2048 + p.val, by omega⟩ = b := by apply Fin.ext; show (b.val * 2048 + p.val) / 2048 = b.val; omega
  have hp : rowP ⟨b.val * 2048 + p.val, by omega⟩ = p := by apply Fin.ext; show (b.val * 2048 + p.val) % 2048 = p.val; omega
  rw [hb, hp]
  unfold entryOf
  exact Finset.sum_congr (M := EReal) rfl fun e _ => congrArg (fun z : EReal => Cert.Norm.normAt (fun k => argX m c (ix3 b p k)) (argG m c (ix1 e)) (argB m c (ix1 e)) e * z) (pk_col _ _ k (col_place k))

end Cert.EntryIdeal.Hand
-- ==== Proof.EntryRef.lean ====
/-
  The entry as the reference computes it, at coordinates.
-/
module

public import proofs.«01_k».proof.Proof.EntryHost
public import proofs.«01_k».proof.Proof.Gen.EntryRefIdeal.Run

@[expose] public section

set_option maxRecDepth 16384

noncomputable section

open Idealize.ShloMosaic Idealize.ShloMosaic.TcCoe Idealize.ShloMosaic.StableHlo

namespace Cert.EntryRefIdeal.Hand

open Cert.EntryRefIdeal Cert.EntryRefIdeal.Gen
open Cert.Norm (rMean rDev rMean_at rDev_at normAt)
open Cert.EntryIdeal.Hand (entryOf)

/-- The normed rows. -/
def rN (y : FVec Ideal S8x2048x2048 .f32) (g b : FVec Ideal S2048 .f32) : FVec Ideal S8x2048x2048 .f32 :=
  addf (mulf (mulf (rDev y) (broadcastInDim S8x2048x2048 ![0, 1, 2] bcast_S8x2048x1_S8x2048x2048_0_1_2 (Host.rsqrt (addf (rMean (mulf (rDev y) (rDev y))) (broadcastInDim S8x2048x1 ![] bcast_S_S8x2048x1 (constant S_ .f32 0x3727C5AC#32))))))
    (broadcastInDim S8x2048x2048 ![0, 1, 2] bcast_S1x1x2048_S8x2048x2048_0_1_2 (broadcastInDim S1x1x2048 ![2] bcast_S2048_S1x1x2048_2 g)))
    (broadcastInDim S8x2048x2048 ![0, 1, 2] bcast_S1x1x2048_S8x2048x2048_0_1_2 (broadcastInDim S1x1x2048 ![2] bcast_S2048_S1x1x2048_2 b))

/-- Their projection. -/
def rProj (h : FVec Ideal S8x2048x2048 .f32) (w : FVec Ideal S2x2048x3916 .f32) : FVec Ideal S8x2048x3916 .f32 :=
  Host.dotGeneral (F := Ideal) dot_S8x2048x2048_S2048x3916_S8x2048x3916_2_0_01_1_n_n none h (shapeCast _ (extractStridedSlice S1x2048x3916 ![0, 0, 0] w slices_S2x2048x3916_S1x2048x3916_0_0_0) shapeCasts_S1x2048x3916_S2048x3916)

theorem rN_at (y : FVec Ideal S8x2048x2048 .f32) (g b : FVec Ideal S2048 .f32) (i : Fin 8) (p j : Fin 2048) :
    (rN y g b (ix3 i p j) : EReal) = normAt (fun k => (y (ix3 i p k) : EReal)) (g (ix1 j)) (b (ix1 j)) j := by
  have h1 := rMean_at (mulf (rDev y) (rDev y)) i p
  have h2 := fun k => rDev_at y i p k
  have h3 : (fun k => ((mulf (rDev y) (rDev y) : FVec Ideal S8x2048x2048 .f32) (ix3 i p k) : EReal)) = fun k => (rDev y (ix3 i p k) : EReal) * (rDev y (ix3 i p k) : EReal) := rfl
  rw [h3] at h1
  simp only [h2] at h1
  unfold normAt
  rw [← h1, ← h2 j]
  unfold rN
  pointwise
  try rfl

theorem rProj_at (h : FVec Ideal S8x2048x2048 .f32) (w : FVec Ideal S2x2048x3916 .f32) (i : Fin 8) (p : Fin 2048) (k : Fin 3916) :
    (rProj h w (ix3 i p k) : EReal) = ∑ e : Fin 2048, (h (ix3 i p e) : EReal) * w (ix3 0 e k) := by
  unfold rProj
  pointwise

theorem ref_at (x : FVec Ideal S8x2048x2048 .f32) (g b : FVec Ideal S2048 .f32) (w : FVec Ideal S2x2048x3916 .f32) (i : Fin 8) (p : Fin 2048) (k : Fin 3916) :
    (rProj (rN x g b) w : S8x2048x3916.Idx → EReal) (ix3 i p k) = entryOf x g b w i p k := by
  rw [rProj_at]
  unfold entryOf
  simp only [rN_at]

end Cert.EntryRefIdeal.Hand
-- ==== Proof.EntryRun.lean ====
/-
  The entry's run: it ends with its result array at the contents after the last host operation, its arguments unchanged.
-/
module

public import proofs.«01_k».proof.Proof.Gen.EntryIdeal.Frame
public import Idealize.ShloMosaic.PureOps.Ideal

@[expose] public section

set_option maxRecDepth 16384

noncomputable section

namespace Cert.EntryIdeal.Hand

open Cert.EntryIdeal Cert.EntryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run, from any memory with zero counters. -/
theorem run : θ_run defs (onTc (τ := τ) (main (F := Ideal))) ⟨m, fun _ => 0, ρ⟩ (fun r => (∀ c : Dev nD,
      r.2.mem ((c.tc : Thread nD τ).loc main_v22) = W5 m ρ c (Proc.devRef .tc main_v22) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v22 (by decide)), (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

end Cert.EntryIdeal.Hand
-- ==== Proof.EntryClaims.lean ====
/-
  The first norm and the input projection: the calls' claims.
-/
module

public import proofs.«01_k».proof.Defs
public import proofs.«01_k».proof.Proof.Gen.Entry.Frame
public import proofs.«01_k».proof.Proof.EntryRef
public import proofs.«01_k».proof.Proof.EntryRun
public import Idealize.ShloMosaic.Lib.Quiescent

@[expose] public section

set_option maxRecDepth 16384

noncomputable section

open Idealize.ShloMosaic Idealize.ShloMosaic.TcCoe Idealize.ShloMosaic.StableHlo

namespace Cert.Entered

open Idealize.SL.Sem

/-- The kernel runs, its arguments unchanged and its counters at zero. -/
theorem frameP : Cert.quiescent_Entry (hEntry := Cert.Entry.Gen.facts) := fun m g _ => Cert.Entry.Gen.frame m g

/-- So does its idealization. -/
theorem framePI : Cert.quiescent_EntryIdeal (hEntryIdeal := Cert.EntryIdeal.Gen.facts) := fun m g _ => Cert.EntryIdeal.Gen.frame m g

/-- So does the reference, which declares no counter. -/
theorem frameRI : Cert.quiescent_EntryRefIdeal (hEntryRefIdeal := Cert.EntryRefIdeal.Gen.facts) := fun m g _ =>
  (θ_run Cert.EntryRefIdeal.defs _ _).mono (fun r h => ⟨fun c => (h c).2, sem_eq_zero_of_no_sems (by decide) r.2⟩) (Cert.EntryRefIdeal.Value.run m g)

/-- THE VALUE: from equal arguments the kernel and the reference end with equal results. -/
theorem value : Cert.algebraic_EntryIdeal_EntryRefIdeal (hEntryIdeal := Cert.EntryIdeal.Gen.facts) (hEntryRefIdeal := Cert.EntryRefIdeal.Gen.facts) := by
  intro m g m' g' _ hargs
  refine ⟨fun c => Cert.EntryIdeal.Gen.W5 m g c (Proc.devRef .tc Cert.EntryIdeal.main_v22), (θ_run Cert.EntryIdeal.defs _ _).mono (fun _ h c => h.1 c) (Cert.EntryIdeal.Hand.run m g), ?_⟩
  refine (θ_run Cert.EntryRefIdeal.defs _ _).mono (fun _ h c => ⟨(h c).1.trans ?_, (h c).2⟩) (Cert.EntryRefIdeal.Value.run m' g')
  obtain ⟨a0, a1, a2, a3⟩ := hargs c
  rw [a0, a1, a2, a3]
  funext y
  obtain ⟨b, p, k, rfl⟩ := Cert.Blocks.ex3 (A := 8) (B := 2048) (C := 3916) y
  exact (Cert.EntryRefIdeal.Hand.ref_at _ _ _ _ b p k).trans (Cert.EntryIdeal.Hand.result m g c b p k).symm

end Cert.Entered
-- ==== Proof.LiftBody.lean ====
/-
  The latent projections' stores at coordinates: every head's query, key and value lanes.
-/
module

public import proofs.«01_k».proof.Proof.Gen.LiftIdeal.Frame
public import proofs.«01_k».proof.Proof.Host
public import proofs.«01_k».proof.Proof.Blocks

@[expose] public section

set_option maxRecDepth 16384

noncomputable section

open Idealize.ShloMosaic Idealize.ShloMosaic.TcCoe Idealize.ShloMosaic.StableHlo

namespace Cert.LiftIdeal.Hand

open Cert.LiftIdeal Cert.LiftIdeal.Gen

open Cert.KernelIdeal.Hand (scl)

abbrev Q := FVec Ideal S512x2048 .f32
abbrev T := FVec Ideal S512x128 .f32

/-- The root mean square norm of one row at an entry. -/
def rmsAt (x g : Fin 512 → EReal) (j : Fin 512) : EReal :=
  x j * FloatOps.rsqrt (F := Ideal) (φ := .f32) (FloatOps.divf (F := Ideal) (φ := .f32) (∑ k, x k * x k) (Ideal.ofBits .f32 0x44000000#32) + Ideal.ofBits .f32 0x358637BD#32) * g j

/-- One lane of the rotation as the kernel writes it: the lane, the lane 32 on and the lane 32 back, each times its table's entry. -/
def turn (z c s t : Fin 128 → EReal) (d : Fin 128) : EReal :=
  z d * c d + z ⟨(d.val + 32) % 128, Nat.mod_lt _ (by decide)⟩ * s d + z ⟨(d.val + 96) % 128, Nat.mod_lt _ (by decide)⟩ * t d

/-- The lane of the ones. -/
def oneL : EReal := Scalar.ofBits (F := Ideal) .bf16 0x3F80#16

theorem rot96 (x : T) (h) (i : Fin 512) (d : Fin 128) : (dynamicRotate 1 96#32 none x h : T) (ix2 i d) = x (ix2 i ⟨(d.val + 32) % 128, Nat.mod_lt _ (by decide)⟩) := by
  refine dynamicRotate_apply (a := 1) (sb := 96#32) x h (ix2 i d) _ fun b => ?_
  match b with
  | ⟨0, _⟩ => rfl
  | ⟨1, _⟩ => rfl

theorem rot32 (x : T) (h) (i : Fin 512) (d : Fin 128) : (dynamicRotate 1 32#32 none x h : T) (ix2 i d) = x (ix2 i ⟨(d.val + 96) % 128, Nat.mod_lt _ (by decide)⟩) := by
  refine dynamicRotate_apply (a := 1) (sb := 32#32) x h (ix2 i d) _ fun b => ?_
  match b with
  | ⟨0, _⟩ => rfl
  | ⟨1, _⟩ => rfl

/-- The rotation of a block of lanes. -/
def turnV (x c s t : T) : T :=
  addf (addf (mulf x c) (mulf (dynamicRotate 1 96#32 none x rotates_S512x128_d1) s)) (mulf (dynamicRotate 1 32#32 none x rotates_S512x128_d1) t)

theorem turnV_at (x c s t : T) (i : Fin 512) (d : Fin 128) :
    (turnV x c s t (ix2 i d) : EReal) = turn (fun j => x (ix2 i j)) (fun j => c (ix2 i j)) (fun j => s (ix2 i j)) (fun j => t (ix2 i j)) d := by
  show (x (ix2 i d) : EReal) * c (ix2 i d) + (dynamicRotate 1 96#32 none x rotates_S512x128_d1 : T) (ix2 i d) * s (ix2 i d) + (dynamicRotate 1 32#32 none x rotates_S512x128_d1 : T) (ix2 i d) * t (ix2 i d) = _
  rw [rot96, rot32]
  rfl

/-- A block of lanes stored as rows of one head. -/
theorem store_at (x : FVec Ideal S512x128 .bf16) (i : Fin 512) (d : Fin 128) : (shapeCast S1x1x512x128 x shapeCasts_S512x128_S1x1x512x128 (ix4 0 0 i d) : EReal) = x (ix2 i d) := by
  pointwise

/-- Some lanes of the projected rows. -/
theorem lanes_at (x : Q) (o : ℕ) (ho : o + 128 ≤ 2048) (h) (i : Fin 512) (d : Fin 128) :
    (extractStridedSlice S512x128 ![0, o] x h (ix2 i d) : EReal) = x (ix2 i ⟨o + d.val, by omega⟩) := by
  show x _ = x _
  congr 1; funext a; apply Fin.ext
  match a with
  | ⟨0, _⟩ => exact Nat.zero_add _
  | ⟨1, _⟩ => rfl

/-- The scaled lanes. -/
theorem qlo_at (x : Q) (o : ℕ) (ho : o + 128 ≤ 2048) (h) (i : Fin 512) (d : Fin 128) :
    (shapeCast S1x1x512x128 (truncf (F := Ideal) .bf16 (mulf (F := Ideal) (extractStridedSlice S512x128 ![0, o] x h) (broadcast S512x128 (Scalar.ofBits (F := Ideal) .f32 0x3D93CD3A#32))) bitsLt_bf16_f32) shapeCasts_S512x128_S1x1x512x128 (ix4 0 0 i d) : EReal)
      = x (ix2 i ⟨o + d.val, by omega⟩) * scl := by
  rw [store_at]
  exact congrArg (· * scl) (lanes_at x o ho h i d)

/-- The rotated and scaled lanes. -/
theorem qhi_at (x : Q) (c s t : T) (o : ℕ) (ho : o + 128 ≤ 2048) (h) (i : Fin 512) (d : Fin 128) :
    (shapeCast S1x1x512x128 (truncf (F := Ideal) .bf16 (mulf (F := Ideal) (turnV (extractStridedSlice S512x128 ![0, o] x h) c s t) (broadcast S512x128 (Scalar.ofBits (F := Ideal) .f32 0x3D93CD3A#32))) bitsLt_bf16_f32) shapeCasts_S512x128_S1x1x512x128 (ix4 0 0 i d) : EReal)
      = turn (fun j => x (ix2 i ⟨o + j.val, by omega⟩)) (fun j => c (ix2 i j)) (fun j => s (ix2 i j)) (fun j => t (ix2 i j)) d * scl := by
  rw [store_at]
  refine (congrArg (· * scl) (turnV_at _ c s t i d)).trans ?_
  rw [show (fun j => (extractStridedSlice S512x128 ![0, o] x h (ix2 i j) : EReal)) = fun j => x (ix2 i ⟨o + j.val, by omega⟩) from funext fun j => lanes_at x o ho h i j]

/-- The lanes as they are. -/
theorem klo_at (x : Q) (o : ℕ) (ho : o + 128 ≤ 2048) (h) (i : Fin 512) (d : Fin 128) :
    (shapeCast S1x1x512x128 (truncf (F := Ideal) .bf16 (extractStridedSlice S512x128 ![0, o] x h) bitsLt_bf16_f32) shapeCasts_S512x128_S1x1x512x128 (ix4 0 0 i d) : EReal)
      = x (ix2 i ⟨o + d.val, by omega⟩) := by
  rw [store_at]
  exact lanes_at x o ho h i d

/-- The normed rows. -/
theorem rms_at (x : Vec Ideal S512x512 .bf16) (g : Vec Ideal S1x512 .f32) (i j : Fin 512) :
    (k0_pay6 (F := Ideal) x g (ix2 i j) : EReal) = rmsAt (fun k => x (ix2 i k)) (fun k => g (ix2 0 k)) j := by
  unfold rmsAt
  pointwise [k0_pay6]

/-- The projected query rows. -/
theorem qf_at (x : Vec Ideal S512x512 .bf16) (g : Vec Ideal S1x512 .f32) (w : Vec Ideal S512x2048 .bf16) (i : Fin 512) (j : Fin 2048) :
    (k0_pay10 (F := Ideal) (k0_pay6 x g) w (ix2 i j) : EReal) = ∑ e : Fin 512, rmsAt (fun k => x (ix2 i k)) (fun k => g (ix2 0 k)) e * w (ix2 e j) := by
  have h := fun e => rms_at x g i e
  simp only [← h]
  pointwise [k0_pay10]

/-- The projected key and value rows. -/
theorem kvf_at (x : Vec Ideal S512x512 .bf16) (g : Vec Ideal S1x512 .f32) (w : Vec Ideal S512x2048 .bf16) (i : Fin 512) (j : Fin 2048) :
    (k0_pay11 (F := Ideal) (k0_pay7 x) (k0_pay8 g) (k0_pay9 x) w (ix2 i j) : EReal) = ∑ e : Fin 512, rmsAt (fun k => x (ix2 i k)) (fun k => g (ix2 0 k)) e * w (ix2 e j) := by
  refine Eq.trans ?_ (qf_at x g w i j)
  rfl

/-- The rotated key lanes. -/
theorem kr_at (c s t : T) (x : Vec Ideal S512x128 .bf16) (i : Fin 512) (d : Fin 128) :
    (k0_pay12 (F := Ideal) c s t x (ix2 i d) : EReal) = turn (fun j => x (ix2 i j)) (fun j => c (ix2 i j)) (fun j => s (ix2 i j)) (fun j => t (ix2 i j)) d := by
  refine Eq.trans ?_ (turnV_at _ c s t i d)
  have : (shapeCast S512x128 x shapeCasts_S512x128_S512x128 : Vec Ideal S512x128 .bf16) = x := by funext y; obtain ⟨i, d, rfl⟩ := Cert.Blocks.ex2 y; pointwise
  unfold k0_pay12
  rw [this]
  rfl

end Cert.LiftIdeal.Hand
-- ==== Proof.LiftStore.lean ====
/-
  The three blocks the body of the latent projections leaves, at coordinates.
-/
module

public import proofs.«01_k».proof.Proof.LiftBody

@[expose] public section

set_option maxRecDepth 16384

noncomputable section

open Idealize.ShloMosaic Idealize.ShloMosaic.TcCoe Idealize.ShloMosaic.StableHlo

namespace Cert.LiftIdeal.Hand

open Cert.LiftIdeal Cert.LiftIdeal.Gen

open Cert.KernelIdeal.Hand (scl)

theorem z2 : (![0, 0] : Fin 2 → ℕ) = fun _ => 0 := by decide

theorem same2 {A B : ℕ} {e : EltTy} (x : Vec Ideal ⟨2, ![A, B]⟩ e) (h : (⟨2, ![A, B]⟩ : Shape).ShapeCasts ⟨2, ![A, B]⟩) : shapeCast ⟨2, ![A, B]⟩ x h = x := by
  funext y; obtain ⟨i, d, rfl⟩ := Cert.Blocks.ex2 y; pointwise

/-- A stored block's index by its row and lane. -/
theorem ex4 (y : S1x1x512x128.Idx) : ∃ (i : Fin 512) (d : Fin 128), y = ix4 0 0 i d :=
  ⟨y 2, y 3, funext fun a => match a with
    | 0 => Subsingleton.elim (α := Fin 1) _ _
    | 1 => Subsingleton.elim (α := Fin 1) _ _
    | 2 => rfl
    | 3 => rfl⟩

/-- A query's 256 lanes: the projected ones, then the rotated ones, all scaled. -/
def qAt (z : Fin 2048 → EReal) (c s t : Fin 128 → EReal) (h : Fin 8) (e : Fin 256) : EReal :=
  (if he : e.val < 128 then z ⟨256 * h.val + e.val, by omega⟩ else turn (fun j => z ⟨256 * h.val + 128 + j.val, by omega⟩) c s t ⟨e.val - 128, by omega⟩) * scl

/-- A key's 256 lanes: the projected ones, then the rotated ones. -/
def kAt (z : Fin 2048 → EReal) (k : Fin 128 → EReal) (h : Fin 8) (e : Fin 256) : EReal :=
  if he : e.val < 128 then z ⟨128 * h.val + e.val, by omega⟩ else k ⟨e.val - 128, by omega⟩

/-- A value's 256 lanes: the projected ones, then ones. -/
def vAt (z : Fin 2048 → EReal) (h : Fin 8) (e : Fin 256) : EReal :=
  if he : e.val < 128 then z ⟨1024 + 128 * h.val + e.val, by omega⟩ else oneL

theorem qAt_lo (z : Fin 2048 → EReal) (c s t : Fin 128 → EReal) (h : Fin 8) (e : Fin 256) (o : ℕ) (ho : o + 128 ≤ 2048) (d : Fin 128) (hh : o = 256 * h.val) (he : e.val = d.val) :
    z ⟨o + d.val, by omega⟩ * scl = qAt z c s t h e := by
  subst hh
  unfold qAt
  rw [dif_pos (by omega)]
  simp only [he]

theorem qAt_hi (z : Fin 2048 → EReal) (c s t : Fin 128 → EReal) (h : Fin 8) (e : Fin 256) (o : ℕ) (ho : o + 128 ≤ 2048) (d : Fin 128) (hh : o = 256 * h.val + 128) (he : e.val = 128 + d.val) :
    turn (fun j => z ⟨o + j.val, by omega⟩) c s t d * scl = qAt z c s t h e := by
  subst hh
  unfold qAt
  rw [dif_neg (by omega)]
  congr 2
  apply Fin.ext
  show d.val = e.val - 128
  omega

theorem kAt_lo (z : Fin 2048 → EReal) (k : Fin 128 → EReal) (h : Fin 8) (e : Fin 256) (o : ℕ) (ho : o + 128 ≤ 2048) (d : Fin 128) (hh : o = 128 * h.val) (he : e.val = d.val) :
    z ⟨o + d.val, by omega⟩ = kAt z k h e := by
  subst hh
  unfold kAt
  rw [dif_pos (by omega)]
  simp only [he]

theorem kAt_hi (z : Fin 2048 → EReal) (k : Fin 128 → EReal) (h : Fin 8) (e : Fin 256) (d : Fin 128) (he : e.val = 128 + d.val) : k d = kAt z k h e := by
  unfold kAt
  rw [dif_neg (by omega)]
  congr 1
  apply Fin.ext
  show d.val = e.val - 128
  omega

theorem vAt_lo (z : Fin 2048 → EReal) (h : Fin 8) (e : Fin 256) (o : ℕ) (ho : o + 128 ≤ 2048) (d : Fin 128) (hh : o = 1024 + 128 * h.val) (he : e.val = d.val) :
    z ⟨o + d.val, by omega⟩ = vAt z h e := by
  subst hh
  unfold vAt
  rw [dif_pos (by omega)]
  simp only [he]

theorem vAt_hi (z : Fin 2048 → EReal) (h : Fin 8) (e : Fin 256) (d : Fin 128) (he : e.val = 128 + d.val) : oneL = vAt z h e := by
  unfold vAt
  rw [dif_neg (by omega)]

theorem pay69_eq (x0 x1 : Vec Ideal S512x512 .bf16) (x2 : Vec Ideal S512x128 .bf16) (x3 x4 : Vec Ideal S1x512 .f32) (x5 x6 : Vec Ideal S512x2048 .bf16) (x7 x8 x9 : Vec Ideal S512x128 .f32) : k0_pay69 (F := Ideal) x0 x1 x2 x3 x4 x5 x6 x7 x8 x9 = x7 := by
  unfold k0_pay69 k0_pay3
  rw [View.ld_unit_zero (S := S512x128) z2]
  exact same2 x7 _

theorem pay70_eq (x0 x1 : Vec Ideal S512x512 .bf16) (x2 : Vec Ideal S512x128 .bf16) (x3 x4 : Vec Ideal S1x512 .f32) (x5 x6 : Vec Ideal S512x2048 .bf16) (x7 x8 x9 : Vec Ideal S512x128 .f32) : k0_pay70 (F := Ideal) x0 x1 x2 x3 x4 x5 x6 x7 x8 x9 = x8 := by
  unfold k0_pay70 k0_pay4
  rw [View.ld_unit_zero (S := S512x128) z2]
  exact same2 x8 _

theorem pay71_eq (x0 x1 : Vec Ideal S512x512 .bf16) (x2 : Vec Ideal S512x128 .bf16) (x3 x4 : Vec Ideal S1x512 .f32) (x5 x6 : Vec Ideal S512x2048 .bf16) (x7 x8 x9 : Vec Ideal S512x128 .f32) : k0_pay71 (F := Ideal) x0 x1 x2 x3 x4 x5 x6 x7 x8 x9 = x9 := by
  unfold k0_pay71 k0_pay5
  rw [View.ld_unit_zero (S := S512x128) z2]
  exact same2 x9 _

theorem pay73_at (x0 x1 : Vec Ideal S512x512 .bf16) (x2 : Vec Ideal S512x128 .bf16) (x3 x4 : Vec Ideal S1x512 .f32) (x5 x6 : Vec Ideal S512x2048 .bf16) (x7 x8 x9 : Vec Ideal S512x128 .f32) (i : Fin 512) (j : Fin 2048) :
    (k0_pay73 (F := Ideal) x0 x1 x2 x3 x4 x5 x6 x7 x8 x9 (ix2 i j) : EReal) = ∑ e : Fin 512, rmsAt (fun k => x0 (ix2 i k)) (fun k => x3 (ix2 0 k)) e * x5 (ix2 e j) := by
  unfold k0_pay73 k0_pay72
  rw [View.ld_unit_zero (S := S512x512) z2, View.ld_unit_zero (S := S1x512) z2, View.ld_unit_zero (S := S512x2048) z2]
  exact qf_at x0 x3 x5 i j

theorem pay74_at (x0 x1 : Vec Ideal S512x512 .bf16) (x2 : Vec Ideal S512x128 .bf16) (x3 x4 : Vec Ideal S1x512 .f32) (x5 x6 : Vec Ideal S512x2048 .bf16) (x7 x8 x9 : Vec Ideal S512x128 .f32) (i : Fin 512) (j : Fin 2048) :
    (k0_pay74 (F := Ideal) x0 x1 x2 x3 x4 x5 x6 x7 x8 x9 (ix2 i j) : EReal) = ∑ e : Fin 512, rmsAt (fun k => x1 (ix2 i k)) (fun k => x4 (ix2 0 k)) e * x6 (ix2 e j) := by
  unfold k0_pay74
  rw [View.ld_unit_zero (S := S512x512) z2, View.ld_unit_zero (S := S1x512) z2, View.ld_unit_zero (S := S512x2048) z2]
  exact kvf_at x1 x4 x6 i j

theorem pay75_at (x0 x1 : Vec Ideal S512x512 .bf16) (x2 : Vec Ideal S512x128 .bf16) (x3 x4 : Vec Ideal S1x512 .f32) (x5 x6 : Vec Ideal S512x2048 .bf16) (x7 x8 x9 : Vec Ideal S512x128 .f32) (i : Fin 512) (d : Fin 128) :
    (k0_pay75 (F := Ideal) x0 x1 x2 x3 x4 x5 x6 x7 x8 x9 (ix2 i d) : EReal) = turn (fun j => x2 (ix2 i j)) (fun j => x7 (ix2 i j)) (fun j => x8 (ix2 i j)) (fun j => x9 (ix2 i j)) d := by
  unfold k0_pay75
  rw [pay69_eq, pay70_eq, pay71_eq, View.ld_unit_zero (S := S512x128) z2]
  exact kr_at x7 x8 x9 x2 i d

theorem q_at (x0 x1 : Vec Ideal S512x512 .bf16) (x2 : Vec Ideal S512x128 .bf16) (x3 x4 : Vec Ideal S1x512 .f32) (x5 x6 : Vec Ideal S512x2048 .bf16) (x7 x8 x9 : Vec Ideal S512x128 .f32) (h : Fin 8) (r : Fin 512) (e : Fin 256) :
    (out0_10 (F := Ideal) x0 x1 x2 x3 x4 x5 x6 x7 x8 x9 (ix4 0 h r e) : EReal) = qAt (fun j => k0_pay73 (F := Ideal) x0 x1 x2 x3 x4 x5 x6 x7 x8 x9 (ix2 r j)) (fun j => x7 (ix2 r j)) (fun j => x8 (ix2 r j)) (fun j => x9 (ix2 r j)) h e := by
  unfold out0_10
  rw [pay69_eq, pay70_eq, pay71_eq]
  canon_tiles x h
  · obtain ⟨i, d, rfl⟩ := ex4 x
    obtain rfl : r = i := Fin.ext h2
    obtain rfl : h = 7 := Fin.ext h1
    exact (qhi_at (k0_pay73 (F := Ideal) x0 x1 x2 x3 x4 x5 x6 x7 x8 x9) x7 x8 x9 1920 (by decide) slices_S512x2048_o0_1920_S512x128 r d).trans (qAt_hi (fun j => k0_pay73 (F := Ideal) x0 x1 x2 x3 x4 x5 x6 x7 x8 x9 (ix2 r j)) _ _ _ 7 e 1920 (by decide) d rfl h3)
  · obtain ⟨i, d, rfl⟩ := ex4 x
    obtain rfl : r = i := Fin.ext h2
    obtain rfl : h = 7 := Fin.ext h1
    exact (qlo_at (k0_pay73 (F := Ideal) x0 x1 x2 x3 x4 x5 x6 x7 x8 x9) 1792 (by decide) slices_S512x2048_o0_1792_S512x128 r d).trans (qAt_lo (fun j => k0_pay73 (F := Ideal) x0 x1 x2 x3 x4 x5 x6 x7 x8 x9 (ix2 r j)) _ _ _ 7 e 1792 (by decide) d rfl h3)
  · obtain ⟨i, d, rfl⟩ := ex4 x
    obtain rfl : r = i := Fin.ext h2
    obtain rfl : h = 6 := Fin.ext h1
    exact (qhi_at (k0_pay73 (F := Ideal) x0 x1 x2 x3 x4 x5 x6 x7 x8 x9) x7 x8 x9 1664 (by decide) slices_S512x2048_o0_1664_S512x128 r d).trans (qAt_hi (fun j => k0_pay73 (F := Ideal) x0 x1 x2 x3 x4 x5 x6 x7 x8 x9 (ix2 r j)) _ _ _ 6 e 1664 (by decide) d rfl h3)
  · obtain ⟨i, d, rfl⟩ := ex4 x
    obtain rfl : r = i := Fin.ext h2
    obtain rfl : h = 6 := Fin.ext h1
    exact (qlo_at (k0_pay73 (F := Ideal) x0 x1 x2 x3 x4 x5 x6 x7 x8 x9) 1536 (by decide) slices_S512x2048_o0_1536_S512x128 r d).trans (qAt_lo (fun j => k0_pay73 (F := Ideal) x0 x1 x2 x3 x4 x5 x6 x7 x8 x9 (ix2 r j)) _ _ _ 6 e 1536 (by decide) d rfl h3)
  · obtain ⟨i, d, rfl⟩ := ex4 x
    obtain rfl : r = i := Fin.ext h2
    obtain rfl : h = 5 := Fin.ext h1
    exact (qhi_at (k0_pay73 (F := Ideal) x0 x1 x2 x3 x4 x5 x6 x7 x8 x9) x7 x8 x9 1408 (by decide) slices_S512x2048_o0_1408_S512x128 r d).trans (qAt_hi (fun j => k0_pay73 (F := Ideal) x0 x1 x2 x3 x4 x5 x6 x7 x8 x9 (ix2 r j)) _ _ _ 5 e 1408 (by decide) d rfl h3)
  · obtain ⟨i, d, rfl⟩ := ex4 x
    obtain rfl : r = i := Fin.ext h2
    obtain rfl : h = 5 := Fin.ext h1
    exact (qlo_at (k0_pay73 (F := Ideal) x0 x1 x2 x3 x4 x5 x6 x7 x8 x9) 1280 (by decide) slices_S512x2048_o0_1280_S512x128 r d).trans (qAt_lo (fun j => k0_pay73 (F := Ideal) x0 x1 x2 x3 x4 x5 x6 x7 x8 x9 (ix2 r j)) _ _ _ 5 e 1280 (by decide) d rfl h3)
  · obtain ⟨i, d, rfl⟩ := ex4 x
    obtain rfl : r = i := Fin.ext h2
    obtain rfl : h = 4 := Fin.ext h1
    exact (qhi_at (k0_pay73 (F := Ideal) x0 x1 x2 x3 x4 x5 x6 x7 x8 x9) x7 x8 x9 1152 (by decide) slices_S512x2048_o0_1152_S512x128 r d).trans (qAt_hi (fun j => k0_pay73 (F := Ideal) x0 x1 x2 x3 x4 x5 x6 x7 x8 x9 (ix2 r j)) _ _ _ 4 e 1152 (by decide) d rfl h3)
  · obtain ⟨i, d, rfl⟩ := ex4 x
    obtain rfl : r = i := Fin.ext h2
    obtain rfl : h = 4 := Fin.ext h1
    exact (qlo_at (k0_pay73 (F := Ideal) x0 x1 x2 x3 x4 x5 x6 x7 x8 x9) 1024 (by decide) slices_S512x2048_o0_1024_S512x128 r d).trans (qAt_lo (fun j => k0_pay73 (F := Ideal) x0 x1 x2 x3 x4 x5 x6 x7 x8 x9 (ix2 r j)) _ _ _ 4 e 1024 (by decide) d rfl h3)
  · obtain ⟨i, d, rfl⟩ := ex4 x
    obtain rfl : r = i := Fin.ext h2
    obtain rfl : h = 3 := Fin.ext h1
    exact (qhi_at (k0_pay73 (F := Ideal) x0 x1 x2 x3 x4 x5 x6 x7 x8 x9) x7 x8 x9 896 (by decide) slices_S512x2048_o0_896_S512x128 r d).trans (qAt_hi (fun j => k0_pay73 (F := Ideal) x0 x1 x2 x3 x4 x5 x6 x7 x8 x9 (ix2 r j)) _ _ _ 3 e 896 (by decide) d rfl h3)
  · obtain ⟨i, d, rfl⟩ := ex4 x
    obtain rfl : r = i := Fin.ext h2
    obtain rfl : h = 3 := Fin.ext h1
    exact (qlo_at (k0_pay73 (F := Ideal) x0 x1 x2 x3 x4 x5 x6 x7 x8 x9) 768 (by decide) slices_S512x2048_o0_768_S512x128 r d).trans (qAt_lo (fun j => k0_pay73 (F := Ideal) x0 x1 x2 x3 x4 x5 x6 x7 x8 x9 (ix2 r j)) _ _ _ 3 e 768 (by decide) d rfl h3)
  · obtain ⟨i, d, rfl⟩ := ex4 x
    obtain rfl : r = i := Fin.ext h2
    obtain rfl : h = 2 := Fin.ext h1
    exact (qhi_at (k0_pay73 (F := Ideal) x0 x1 x2 x3 x4 x5 x6 x7 x8 x9) x7 x8 x9 640 (by decide) slices_S512x2048_o0_640_S512x128 r d).trans (qAt_hi (fun j => k0_pay73 (F := Ideal) x0 x1 x2 x3 x4 x5 x6 x7 x8 x9 (ix2 r j)) _ _ _ 2 e 640 (by decide) d rfl h3)
  · obtain ⟨i, d, rfl⟩ := ex4 x
    obtain rfl : r = i := Fin.ext h2
    obtain rfl : h = 2 := Fin.ext h1
    exact (qlo_at (k0_pay73 (F := Ideal) x0 x1 x2 x3 x4 x5 x6 x7 x8 x9) 512 (by decide) slices_S512x2048_o0_512_S512x128 r d).trans (qAt_lo (fun j => k0_pay73 (F := Ideal) x0 x1 x2 x3 x4 x5 x6 x7 x8 x9 (ix2 r j)) _ _ _ 2 e 512 (by decide) d rfl h3)
  · obtain ⟨i, d, rfl⟩ := ex4 x
    obtain rfl : r = i := Fin.ext h2
    obtain rfl : h = 1 := Fin.ext h1
    exact (qhi_at (k0_pay73 (F := Ideal) x0 x1 x2 x3 x4 x5 x6 x7 x8 x9) x7 x8 x9 384 (by decide) slices_S512x2048_o0_384_S512x128 r d).trans (qAt_hi (fun j => k0_pay73 (F := Ideal) x0 x1 x2 x3 x4 x5 x6 x7 x8 x9 (ix2 r j)) _ _ _ 1 e 384 (by decide) d rfl h3)
  · obtain ⟨i, d, rfl⟩ := ex4 x
    obtain rfl : r = i := Fin.ext h2
    obtain rfl : h = 1 := Fin.ext h1
    exact (qlo_at (k0_pay73 (F := Ideal) x0 x1 x2 x3 x4 x5 x6 x7 x8 x9) 256 (by decide) slices_S512x2048_o0_256_S512x128 r d).trans (qAt_lo (fun j => k0_pay73 (F := Ideal) x0 x1 x2 x3 x4 x5 x6 x7 x8 x9 (ix2 r j)) _ _ _ 1 e 256 (by decide) d rfl h3)
  · obtain ⟨i, d, rfl⟩ := ex4 x
    obtain rfl : r = i := Fin.ext h2
    obtain rfl : h = 0 := Fin.ext h1
    exact (qhi_at (k0_pay73 (F := Ideal) x0 x1 x2 x3 x4 x5 x6 x7 x8 x9) x7 x8 x9 128 (by decide) slices_S512x2048_o0_128_S512x128 r d).trans (qAt_hi (fun j => k0_pay73 (F := Ideal) x0 x1 x2 x3 x4 x5 x6 x7 x8 x9 (ix2 r j)) _ _ _ 0 e 128 (by decide) d rfl h3)
  · obtain ⟨i, d, rfl⟩ := ex4 x
    obtain rfl : r = i := Fin.ext h2
    obtain rfl : h = 0 := Fin.ext h1
    exact (qlo_at (k0_pay73 (F := Ideal) x0 x1 x2 x3 x4 x5 x6 x7 x8 x9) 0 (by decide) slices_S512x2048_o0_0_S512x128 r d).trans (qAt_lo (fun j => k0_pay73 (F := Ideal) x0 x1 x2 x3 x4 x5 x6 x7 x8 x9 (ix2 r j)) _ _ _ 0 e 0 (by decide) d rfl h3)

theorem k_at (x0 x1 : Vec Ideal S512x512 .bf16) (x2 : Vec Ideal S512x128 .bf16) (x3 x4 : Vec Ideal S1x512 .f32) (x5 x6 : Vec Ideal S512x2048 .bf16) (x7 x8 x9 : Vec Ideal S512x128 .f32) (h : Fin 8) (r : Fin 512) (e : Fin 256) :
    (out0_11 (F := Ideal) x0 x1 x2 x3 x4 x5 x6 x7 x8 x9 (ix4 0 h r e) : EReal) = kAt (fun j => k0_pay74 (F := Ideal) x0 x1 x2 x3 x4 x5 x6 x7 x8 x9 (ix2 r j)) (fun j => k0_pay75 (F := Ideal) x0 x1 x2 x3 x4 x5 x6 x7 x8 x9 (ix2 r j)) h e := by
  unfold out0_11
  canon_tiles x h
  · obtain ⟨i, d, rfl⟩ := ex4 x
    obtain rfl : r = i := Fin.ext h2
    obtain rfl : h = 7 := Fin.ext h1
    exact (store_at (k0_pay75 (F := Ideal) x0 x1 x2 x3 x4 x5 x6 x7 x8 x9) r d).trans (kAt_hi (fun j => k0_pay74 (F := Ideal) x0 x1 x2 x3 x4 x5 x6 x7 x8 x9 (ix2 r j)) (fun j => k0_pay75 (F := Ideal) x0 x1 x2 x3 x4 x5 x6 x7 x8 x9 (ix2 r j)) 7 e d h3)
  · obtain ⟨i, d, rfl⟩ := ex4 x
    obtain rfl : r = i := Fin.ext h2
    obtain rfl : h = 7 := Fin.ext h1
    exact (klo_at (k0_pay74 (F := Ideal) x0 x1 x2 x3 x4 x5 x6 x7 x8 x9) 896 (by decide) slices_S512x2048_o0_896_S512x128 r d).trans (kAt_lo (fun j => k0_pay74 (F := Ideal) x0 x1 x2 x3 x4 x5 x6 x7 x8 x9 (ix2 r j)) _ 7 e 896 (by decide) d rfl h3)
  · obtain ⟨i, d, rfl⟩ := ex4 x
    obtain rfl : r = i := Fin.ext h2
    obtain rfl : h = 6 := Fin.ext h1
    exact (store_at (k0_pay75 (F := Ideal) x0 x1 x2 x3 x4 x5 x6 x7 x8 x9) r d).trans (kAt_hi (fun j => k0_pay74 (F := Ideal) x0 x1 x2 x3 x4 x5 x6 x7 x8 x9 (ix2 r j)) (fun j => k0_pay75 (F := Ideal) x0 x1 x2 x3 x4 x5 x6 x7 x8 x9 (ix2 r j)) 6 e d h3)
  · obtain ⟨i, d, rfl⟩ := ex4 x
    obtain rfl : r = i := Fin.ext h2
    obtain rfl : h = 6 := Fin.ext h1
    exact (klo_at (k0_pay74 (F := Ideal) x0 x1 x2 x3 x4 x5 x6 x7 x8 x9) 768 (by decide) slices_S512x2048_o0_768_S512x128 r d).trans (kAt_lo (fun j => k0_pay74 (F := Ideal) x0 x1 x2 x3 x4 x5 x6 x7 x8 x9 (ix2 r j)) _ 6 e 768 (by decide) d rfl h3)
  · obtain ⟨i, d, rfl⟩ := ex4 x
    obtain rfl : r = i := Fin.ext h2
    obtain rfl : h = 5 := Fin.ext h1
    exact (store_at (k0_pay75 (F := Ideal) x0 x1 x2 x3 x4 x5 x6 x7 x8 x9) r d).trans (kAt_hi (fun j => k0_pay74 (F := Ideal) x0 x1 x2 x3 x4 x5 x6 x7 x8 x9 (ix2 r j)) (fun j => k0_pay75 (F := Ideal) x0 x1 x2 x3 x4 x5 x6 x7 x8 x9 (ix2 r j)) 5 e d h3)
  · obtain ⟨i, d, rfl⟩ := ex4 x
    obtain rfl : r = i := Fin.ext h2
    obtain rfl : h = 5 := Fin.ext h1
    exact (klo_at (k0_pay74 (F := Ideal) x0 x1 x2 x3 x4 x5 x6 x7 x8 x9) 640 (by decide) slices_S512x2048_o0_640_S512x128 r d).trans (kAt_lo (fun j => k0_pay74 (F := Ideal) x0 x1 x2 x3 x4 x5 x6 x7 x8 x9 (ix2 r j)) _ 5 e 640 (by decide) d rfl h3)
  · obtain ⟨i, d, rfl⟩ := ex4 x
    obtain rfl : r = i := Fin.ext h2
    obtain rfl : h = 4 := Fin.ext h1
    exact (store_at (k0_pay75 (F := Ideal) x0 x1 x2 x3 x4 x5 x6 x7 x8 x9) r d).trans (kAt_hi (fun j => k0_pay74 (F := Ideal) x0 x1 x2 x3 x4 x5 x6 x7 x8 x9 (ix2 r j)) (fun j => k0_pay75 (F := Ideal) x0 x1 x2 x3 x4 x5 x6 x7 x8 x9 (ix2 r j)) 4 e d h3)
  · obtain ⟨i, d, rfl⟩ := ex4 x
    obtain rfl : r = i := Fin.ext h2
    obtain rfl : h = 4 := Fin.ext h1
    exact (klo_at (k0_pay74 (F := Ideal) x0 x1 x2 x3 x4 x5 x6 x7 x8 x9) 512 (by decide) slices_S512x2048_o0_512_S512x128 r d).trans (kAt_lo (fun j => k0_pay74 (F := Ideal) x0 x1 x2 x3 x4 x5 x6 x7 x8 x9 (ix2 r j)) _ 4 e 512 (by decide) d rfl h3)
  · obtain ⟨i, d, rfl⟩ := ex4 x
    obtain rfl : r = i := Fin.ext h2
    obtain rfl : h = 3 := Fin.ext h1
    exact (store_at (k0_pay75 (F := Ideal) x0 x1 x2 x3 x4 x5 x6 x7 x8 x9) r d).trans (kAt_hi (fun j => k0_pay74 (F := Ideal) x0 x1 x2 x3 x4 x5 x6 x7 x8 x9 (ix2 r j)) (fun j => k0_pay75 (F := Ideal) x0 x1 x2 x3 x4 x5 x6 x7 x8 x9 (ix2 r j)) 3 e d h3)
  · obtain ⟨i, d, rfl⟩ := ex4 x
    obtain rfl : r = i := Fin.ext h2
    obtain rfl : h = 3 := Fin.ext h1
    exact (klo_at (k0_pay74 (F := Ideal) x0 x1 x2 x3 x4 x5 x6 x7 x8 x9) 384 (by decide) slices_S512x2048_o0_384_S512x128 r d).trans (kAt_lo (fun j => k0_pay74 (F := Ideal) x0 x1 x2 x3 x4 x5 x6 x7 x8 x9 (ix2 r j)) _ 3 e 384 (by decide) d rfl h3)
  · obtain ⟨i, d, rfl⟩ := ex4 x
    obtain rfl : r = i := Fin.ext h2
    obtain rfl : h = 2 := Fin.ext h1
    exact (store_at (k0_pay75 (F := Ideal) x0 x1 x2 x3 x4 x5 x6 x7 x8 x9) r d).trans (kAt_hi (fun j => k0_pay74 (F := Ideal) x0 x1 x2 x3 x4 x5 x6 x7 x8 x9 (ix2 r j)) (fun j => k0_pay75 (F := Ideal) x0 x1 x2 x3 x4 x5 x6 x7 x8 x9 (ix2 r j)) 2 e d h3)
  · obtain ⟨i, d, rfl⟩ := ex4 x
    obtain rfl : r = i := Fin.ext h2
    obtain rfl : h = 2 := Fin.ext h1
    exact (klo_at (k0_pay74 (F := Ideal) x0 x1 x2 x3 x4 x5 x6 x7 x8 x9) 256 (by decide) slices_S512x2048_o0_256_S512x128 r d).trans (kAt_lo (fun j => k0_pay74 (F := Ideal) x0 x1 x2 x3 x4 x5 x6 x7 x8 x9 (ix2 r j)) _ 2 e 256 (by decide) d rfl h3)
  · obtain ⟨i, d, rfl⟩ := ex4 x
    obtain rfl : r = i := Fin.ext h2
    obtain rfl : h = 1 := Fin.ext h1
    exact (store_at (k0_pay75 (F := Ideal) x0 x1 x2 x3 x4 x5 x6 x7 x8 x9) r d).trans (kAt_hi (fun j => k0_pay74 (F := Ideal) x0 x1 x2 x3 x4 x5 x6 x7 x8 x9 (ix2 r j)) (fun j => k0_pay75 (F := Ideal) x0 x1 x2 x3 x4 x5 x6 x7 x8 x9 (ix2 r j)) 1 e d h3)
  · obtain ⟨i, d, rfl⟩ := ex4 x
    obtain rfl : r = i := Fin.ext h2
    obtain rfl : h = 1 := Fin.ext h1
    exact (klo_at (k0_pay74 (F := Ideal) x0 x1 x2 x3 x4 x5 x6 x7 x8 x9) 128 (by decide) slices_S512x2048_o0_128_S512x128 r d).trans (kAt_lo (fun j => k0_pay74 (F := Ideal) x0 x1 x2 x3 x4 x5 x6 x7 x8 x9 (ix2 r j)) _ 1 e 128 (by decide) d rfl h3)
  · obtain ⟨i, d, rfl⟩ := ex4 x
    obtain rfl : r = i := Fin.ext h2
    obtain rfl : h = 0 := Fin.ext h1
    exact (store_at (k0_pay75 (F := Ideal) x0 x1 x2 x3 x4 x5 x6 x7 x8 x9) r d).trans (kAt_hi (fun j => k0_pay74 (F := Ideal) x0 x1 x2 x3 x4 x5 x6 x7 x8 x9 (ix2 r j)) (fun j => k0_pay75 (F := Ideal) x0 x1 x2 x3 x4 x5 x6 x7 x8 x9 (ix2 r j)) 0 e d h3)
  · obtain ⟨i, d, rfl⟩ := ex4 x
    obtain rfl : r = i := Fin.ext h2
    obtain rfl : h = 0 := Fin.ext h1
    exact (klo_at (k0_pay74 (F := Ideal) x0 x1 x2 x3 x4 x5 x6 x7 x8 x9) 0 (by decide) slices_S512x2048_o0_0_S512x128 r d).trans (kAt_lo (fun j => k0_pay74 (F := Ideal) x0 x1 x2 x3 x4 x5 x6 x7 x8 x9 (ix2 r j)) _ 0 e 0 (by decide) d rfl h3)

theorem v_at (x0 x1 : Vec Ideal S512x512 .bf16) (x2 : Vec Ideal S512x128 .bf16) (x3 x4 : Vec Ideal S1x512 .f32) (x5 x6 : Vec Ideal S512x2048 .bf16) (x7 x8 x9 : Vec Ideal S512x128 .f32) (h : Fin 8) (r : Fin 512) (e : Fin 256) :
    (out0_12 (F := Ideal) x0 x1 x2 x3 x4 x5 x6 x7 x8 x9 (ix4 0 h r e) : EReal) = vAt (fun j => k0_pay74 (F := Ideal) x0 x1 x2 x3 x4 x5 x6 x7 x8 x9 (ix2 r j)) h e := by
  unfold out0_12
  canon_tiles x h
  · obtain ⟨i, d, rfl⟩ := ex4 x
    obtain rfl : r = i := Fin.ext h2
    obtain rfl : h = 7 := Fin.ext h1
    exact vAt_hi (fun j => k0_pay74 (F := Ideal) x0 x1 x2 x3 x4 x5 x6 x7 x8 x9 (ix2 r j)) 7 e d h3
  · obtain ⟨i, d, rfl⟩ := ex4 x
    obtain rfl : r = i := Fin.ext h2
    obtain rfl : h = 7 := Fin.ext h1
    exact (klo_at (k0_pay74 (F := Ideal) x0 x1 x2 x3 x4 x5 x6 x7 x8 x9) 1920 (by decide) slices_S512x2048_o0_1920_S512x128 r d).trans (vAt_lo (fun j => k0_pay74 (F := Ideal) x0 x1 x2 x3 x4 x5 x6 x7 x8 x9 (ix2 r j)) 7 e 1920 (by decide) d rfl h3)
  · obtain ⟨i, d, rfl⟩ := ex4 x
    obtain rfl : r = i := Fin.ext h2
    obtain rfl : h = 6 := Fin.ext h1
    exact vAt_hi (fun j => k0_pay74 (F := Ideal) x0 x1 x2 x3 x4 x5 x6 x7 x8 x9 (ix2 r j)) 6 e d h3
  · obtain ⟨i, d, rfl⟩ := ex4 x
    obtain rfl : r = i := Fin.ext h2
    obtain rfl : h = 6 := Fin.ext h1
    exact (klo_at (k0_pay74 (F := Ideal) x0 x1 x2 x3 x4 x5 x6 x7 x8 x9) 1792 (by decide) slices_S512x2048_o0_1792_S512x128 r d).trans (vAt_lo (fun j => k0_pay74 (F := Ideal) x0 x1 x2 x3 x4 x5 x6 x7 x8 x9 (ix2 r j)) 6 e 1792 (by decide) d rfl h3)
  · obtain ⟨i, d, rfl⟩ := ex4 x
    obtain rfl : r = i := Fin.ext h2
    obtain rfl : h = 5 := Fin.ext h1
    exact vAt_hi (fun j => k0_pay74 (F := Ideal) x0 x1 x2 x3 x4 x5 x6 x7 x8 x9 (ix2 r j)) 5 e d h3
  · obtain ⟨i, d, rfl⟩ := ex4 x
    obtain rfl : r = i := Fin.ext h2
    obtain rfl : h = 5 := Fin.ext h1
    exact (klo_at (k0_pay74 (F := Ideal) x0 x1 x2 x3 x4 x5 x6 x7 x8 x9) 1664 (by decide) slices_S512x2048_o0_1664_S512x128 r d).trans (vAt_lo (fun j => k0_pay74 (F := Ideal) x0 x1 x2 x3 x4 x5 x6 x7 x8 x9 (ix2 r j)) 5 e 1664 (by decide) d rfl h3)
  · obtain ⟨i, d, rfl⟩ := ex4 x
    obtain rfl : r = i := Fin.ext h2
    obtain rfl : h = 4 := Fin.ext h1
    exact vAt_hi (fun j => k0_pay74 (F := Ideal) x0 x1 x2 x3 x4 x5 x6 x7 x8 x9 (ix2 r j)) 4 e d h3
  · obtain ⟨i, d, rfl⟩ := ex4 x
    obtain rfl : r = i := Fin.ext h2
    obtain rfl : h = 4 := Fin.ext h1
    exact (klo_at (k0_pay74 (F := Ideal) x0 x1 x2 x3 x4 x5 x6 x7 x8 x9) 1536 (by decide) slices_S512x2048_o0_1536_S512x128 r d).trans (vAt_lo (fun j => k0_pay74 (F := Ideal) x0 x1 x2 x3 x4 x5 x6 x7 x8 x9 (ix2 r j)) 4 e 1536 (by decide) d rfl h3)
  · obtain ⟨i, d, rfl⟩ := ex4 x
    obtain rfl : r = i := Fin.ext h2
    obtain rfl : h = 3 := Fin.ext h1
    exact vAt_hi (fun j => k0_pay74 (F := Ideal) x0 x1 x2 x3 x4 x5 x6 x7 x8 x9 (ix2 r j)) 3 e d h3
  · obtain ⟨i, d, rfl⟩ := ex4 x
    obtain rfl : r = i := Fin.ext h2
    obtain rfl : h = 3 := Fin.ext h1
    exact (klo_at (k0_pay74 (F := Ideal) x0 x1 x2 x3 x4 x5 x6 x7 x8 x9) 1408 (by decide) slices_S512x2048_o0_1408_S512x128 r d).trans (vAt_lo (fun j => k0_pay74 (F := Ideal) x0 x1 x2 x3 x4 x5 x6 x7 x8 x9 (ix2 r j)) 3 e 1408 (by decide) d rfl h3)
  · obtain ⟨i, d, rfl⟩ := ex4 x
    obtain rfl : r = i := Fin.ext h2
    obtain rfl : h = 2 := Fin.ext h1
    exact vAt_hi (fun j => k0_pay74 (F := Ideal) x0 x1 x2 x3 x4 x5 x6 x7 x8 x9 (ix2 r j)) 2 e d h3
  · obtain ⟨i, d, rfl⟩ := ex4 x
    obtain rfl : r = i := Fin.ext h2
    obtain rfl : h = 2 := Fin.ext h1
    exact (klo_at (k0_pay74 (F := Ideal) x0 x1 x2 x3 x4 x5 x6 x7 x8 x9) 1280 (by decide) slices_S512x2048_o0_1280_S512x128 r d).trans (vAt_lo (fun j => k0_pay74 (F := Ideal) x0 x1 x2 x3 x4 x5 x6 x7 x8 x9 (ix2 r j)) 2 e 1280 (by decide) d rfl h3)
  · obtain ⟨i, d, rfl⟩ := ex4 x
    obtain rfl : r = i := Fin.ext h2
    obtain rfl : h = 1 := Fin.ext h1
    exact vAt_hi (fun j => k0_pay74 (F := Ideal) x0 x1 x2 x3 x4 x5 x6 x7 x8 x9 (ix2 r j)) 1 e d h3
  · obtain ⟨i, d, rfl⟩ := ex4 x
    obtain rfl : r = i := Fin.ext h2
    obtain rfl : h = 1 := Fin.ext h1
    exact (klo_at (k0_pay74 (F := Ideal) x0 x1 x2 x3 x4 x5 x6 x7 x8 x9) 1152 (by decide) slices_S512x2048_o0_1152_S512x128 r d).trans (vAt_lo (fun j => k0_pay74 (F := Ideal) x0 x1 x2 x3 x4 x5 x6 x7 x8 x9 (ix2 r j)) 1 e 1152 (by decide) d rfl h3)
  · obtain ⟨i, d, rfl⟩ := ex4 x
    obtain rfl : r = i := Fin.ext h2
    obtain rfl : h = 0 := Fin.ext h1
    exact vAt_hi (fun j => k0_pay74 (F := Ideal) x0 x1 x2 x3 x4 x5 x6 x7 x8 x9 (ix2 r j)) 0 e d h3
  · obtain ⟨i, d, rfl⟩ := ex4 x
    obtain rfl : r = i := Fin.ext h2
    obtain rfl : h = 0 := Fin.ext h1
    exact (klo_at (k0_pay74 (F := Ideal) x0 x1 x2 x3 x4 x5 x6 x7 x8 x9) 1024 (by decide) slices_S512x2048_o0_1024_S512x128 r d).trans (vAt_lo (fun j => k0_pay74 (F := Ideal) x0 x1 x2 x3 x4 x5 x6 x7 x8 x9 (ix2 r j)) 0 e 1024 (by decide) d rfl h3)

end Cert.LiftIdeal.Hand
-- ==== Proof.LiftOut.lean ====
/-
  The three arrays the latent projections' launch leaves, over the arrays it is given.
-/
module

public import proofs.«01_k».proof.Proof.LiftStore
public import Idealize.ShloMosaic.Lib.Pipeline.ValueKit

@[expose] public section

set_option maxRecDepth 16384

noncomputable section

open Idealize.ShloMosaic Idealize.ShloMosaic.TcCoe Idealize.ShloMosaic.StableHlo

namespace Cert.LiftIdeal.Hand

open Cert.LiftIdeal Cert.LiftIdeal.Gen

variable (m : (ℓ : Loc nD τ sig) → Buf (Elt Ideal) ℓ)

theorem N32 (t : Fin cfg0.N) : t.val < 32 := lt_of_lt_of_eq t.isLt N_0

theorem idx0 : ∀ t : Fin cfg0.N, win0_0.index t = ![t.val, 0] := (by decide +kernel : ∀ t : Fin grid0.N, win0_0.index t = ![t.val, 0])
theorem idx1 : ∀ t : Fin cfg0.N, win0_1.index t = ![t.val, 1] := (by decide +kernel : ∀ t : Fin grid0.N, win0_1.index t = ![t.val, 1])
theorem idx2 : ∀ t : Fin cfg0.N, win0_2.index t = ![t.val, 24] := (by decide +kernel : ∀ t : Fin grid0.N, win0_2.index t = ![t.val, 24])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val % 4, 0] := (by decide +kernel : ∀ t : Fin grid0.N, win0_7.index t = ![t.val % 4, 0])
theorem idx8 : ∀ t : Fin cfg0.N, win0_8.index t = ![t.val % 4, 0] := (by decide +kernel : ∀ t : Fin grid0.N, win0_8.index t = ![t.val % 4, 0])
theorem idx9 : ∀ t : Fin cfg0.N, win0_9.index t = ![t.val % 4, 0] := (by decide +kernel : ∀ t : Fin grid0.N, win0_9.index t = ![t.val % 4, 0])
theorem idx10 : ∀ t : Fin cfg0.N, win0_10.index t = ![t.val / 4, 0, t.val % 4, 0] := (by decide +kernel : ∀ t : Fin grid0.N, win0_10.index t = ![t.val / 4, 0, t.val % 4, 0])
theorem idx11 : ∀ t : Fin cfg0.N, win0_11.index t = ![t.val / 4, 0, t.val % 4, 0] := (by decide +kernel : ∀ t : Fin grid0.N, win0_11.index t = ![t.val / 4, 0, t.val % 4, 0])
theorem idx12 : ∀ t : Fin cfg0.N, win0_12.index t = ![t.val / 4, 0, t.val % 4, 0] := (by decide +kernel : ∀ t : Fin grid0.N, win0_12.index t = ![t.val / 4, 0, t.val % 4, 0])

/-- The array row that a block's row is, its batch entry and its place. -/
abbrev rowT (t : Fin cfg0.N) (r : Fin 512) : Fin 16384 := ⟨512 * t.val + r.val, by have := N32 t; omega⟩
abbrev batT (t : Fin cfg0.N) : Fin 8 := ⟨t.val / 4, by have := N32 t; omega⟩
abbrev posT (t : Fin cfg0.N) (r : Fin 512) : Fin 2048 := ⟨512 * (t.val % 4) + r.val, by omega⟩
/-- The row of a batch entry's place. -/
abbrev rowR (b : Fin 8) (p : Fin 2048) : Fin 16384 := ⟨2048 * b.val + p.val, by omega⟩

theorem rowR_T (t : Fin cfg0.N) (r : Fin 512) : rowR (batT t) (posT t r) = rowT t r := by
  apply Fin.ext; show 2048 * (t.val / 4) + (512 * (t.val % 4) + r.val) = 512 * t.val + r.val; omega

/-- The columns of the latent queries, of the latent keys and of the rotated keys. -/
abbrev cq (k : Fin 512) : Fin 4096 := ⟨k.val, by omega⟩
abbrev ck (k : Fin 512) : Fin 4096 := ⟨512 + k.val, by omega⟩
abbrev cr (j : Fin 128) : Fin 4096 := ⟨3072 + j.val, by omega⟩

theorem iblk0 (c : Dev nD) (t : Fin cfg0.N) (r : Fin 512) (d : Fin 512) :
    (iblk m c 0 t : S512x512.Idx → EReal) (ix2 r d) = (V m c main_v4 : S16384x4096.Idx → EReal) (ix2 (rowT t r) (cq d)) := by
  unfold iblk; rw [View.read_apply]
  show V m c main_v4 _ = V m c main_v4 _
  congr 1; funext a; apply Fin.ext
  have hi := idx0 t
  match a with
  | ⟨0, _⟩ => show win0_0.index t 0 * 512 + 1 * r.val = 512 * t.val + r.val; rw [hi]; show (t.val) * 512 + 1 * r.val = _; omega
  | ⟨1, _⟩ => show win0_0.index t 1 * 512 + 1 * d.val = d.val; rw [hi]; show 0 * 512 + 1 * d.val = _; omega

theorem iblk1 (c : Dev nD) (t : Fin cfg0.N) (r : Fin 512) (d : Fin 512) :
    (iblk m c 1 t : S512x512.Idx → EReal) (ix2 r d) = (V m c main_v4 : S16384x4096.Idx → EReal) (ix2 (rowT t r) (ck d)) := by
  unfold iblk; rw [View.read_apply]
  show V m c main_v4 _ = V m c main_v4 _
  congr 1; funext a; apply Fin.ext
  have hi := idx1 t
  match a with
  | ⟨0, _⟩ => show win0_1.index t 0 * 512 + 1 * r.val = 512 * t.val + r.val; rw [hi]; show (t.val) * 512 + 1 * r.val = _; omega
  | ⟨1, _⟩ => show win0_1.index t 1 * 512 + 1 * d.val = 512 + d.val; rw [hi]; show 1 * 512 + 1 * d.val = _; omega

theorem iblk2 (c : Dev nD) (t : Fin cfg0.N) (r : Fin 512) (d : Fin 128) :
    (iblk m c 2 t : S512x128.Idx → EReal) (ix2 r d) = (V m c main_v4 : S16384x4096.Idx → EReal) (ix2 (rowT t r) (cr d)) := by
  unfold iblk; rw [View.read_apply]
  show V m c main_v4 _ = V m c main_v4 _
  congr 1; funext a; apply Fin.ext
  have hi := idx2 t
  match a with
  | ⟨0, _⟩ => show win0_2.index t 0 * 512 + 1 * r.val = 512 * t.val + r.val; rw [hi]; show (t.val) * 512 + 1 * r.val = _; omega
  | ⟨1, _⟩ => show win0_2.index t 1 * 128 + 1 * d.val = 3072 + d.val; rw [hi]; show 24 * 128 + 1 * d.val = _; omega

theorem iblk3 (c : Dev nD) (t : Fin cfg0.N) (r : Fin 1) (d : Fin 512) :
    (iblk m c 3 t : S1x512.Idx → EReal) (ix2 r d) = (V m c main_v39 : S1x512.Idx → EReal) (ix2 (r) (d)) := by
  unfold iblk; rw [View.read_apply]
  show V m c main_v39 _ = V m c main_v39 _
  congr 1; funext a; apply Fin.ext
  have hi := idx3 t
  match a with
  | ⟨0, _⟩ => show win0_3.index t 0 * 1 + 1 * r.val = r.val; rw [hi]; show (0) * 1 + 1 * r.val = _; omega
  | ⟨1, _⟩ => show win0_3.index t 1 * 512 + 1 * d.val = d.val; rw [hi]; show 0 * 512 + 1 * d.val = _; omega

theorem iblk4 (c : Dev nD) (t : Fin cfg0.N) (r : Fin 1) (d : Fin 512) :
    (iblk m c 4 t : S1x512.Idx → EReal) (ix2 r d) = (V m c main_v40 : S1x512.Idx → EReal) (ix2 (r) (d)) := by
  unfold iblk; rw [View.read_apply]
  show V m c main_v40 _ = V m c main_v40 _
  congr 1; funext a; apply Fin.ext
  have hi := idx4 t
  match a with
  | ⟨0, _⟩ => show win0_4.index t 0 * 1 + 1 * r.val = r.val; rw [hi]; show (0) * 1 + 1 * r.val = _; omega
  | ⟨1, _⟩ => show win0_4.index t 1 * 512 + 1 * d.val = d.val; rw [hi]; show 0 * 512 + 1 * d.val = _; omega

theorem iblk5 (c : Dev nD) (t : Fin cfg0.N) (r : Fin 512) (d : Fin 2048) :
    (iblk m c 5 t : S512x2048.Idx → EReal) (ix2 r d) = (V m c main_v8 : S512x2048.Idx → EReal) (ix2 (r) (d)) := by
  unfold iblk; rw [View.read_apply]
  show V m c main_v8 _ = V m c main_v8 _
  congr 1; funext a; apply Fin.ext
  have hi := idx5 t
  match a with
  | ⟨0, _⟩ => show win0_5.index t 0 * 512 + 1 * r.val = r.val; rw [hi]; show (0) * 512 + 1 * r.val = _; omega
  | ⟨1, _⟩ => show win0_5.index t 1 * 2048 + 1 * d.val = d.val; rw [hi]; show 0 * 2048 + 1 * d.val = _; omega

theorem iblk6 (c : Dev nD) (t : Fin cfg0.N) (r : Fin 512) (d : Fin 2048) :
    (iblk m c 6 t : S512x2048.Idx → EReal) (ix2 r d) = (V m c main_v12 : S512x2048.Idx → EReal) (ix2 (r) (d)) := by
  unfold iblk; rw [View.read_apply]
  show V m c main_v12 _ = V m c main_v12 _
  congr 1; funext a; apply Fin.ext
  have hi := idx6 t
  match a with
  | ⟨0, _⟩ => show win0_6.index t 0 * 512 + 1 * r.val = r.val; rw [hi]; show (0) * 512 + 1 * r.val = _; omega
  | ⟨1, _⟩ => show win0_6.index t 1 * 2048 + 1 * d.val = d.val; rw [hi]; show 0 * 2048 + 1 * d.val = _; omega

theorem iblk7 (c : Dev nD) (t : Fin cfg0.N) (r : Fin 512) (d : Fin 128) :
    (iblk m c 7 t : S512x128.Idx → EReal) (ix2 r d) = (V m c main_v32 : S2048x128.Idx → EReal) (ix2 (posT t r) (d)) := by
  unfold iblk; rw [View.read_apply]
  show V m c main_v32 _ = V m c main_v32 _
  congr 1; funext a; apply Fin.ext
  have hi := idx7 t
  match a with
  | ⟨0, _⟩ => show win0_7.index t 0 * 512 + 1 * r.val = 512 * (t.val % 4) + r.val; rw [hi]; show (t.val % 4) * 512 + 1 * r.val = _; omega
  | ⟨1, _⟩ => show win0_7.index t 1 * 128 + 1 * d.val = d.val; rw [hi]; show 0 * 128 + 1 * d.val = _; omega

theorem iblk8 (c : Dev nD) (t : Fin cfg0.N) (r : Fin 512) (d : Fin 128) :
    (iblk m c 8 t : S512x128.Idx → EReal) (ix2 r d) = (V m c main_v35 : S2048x128.Idx → EReal) (ix2 (posT t r) (d)) := by
  unfold iblk; rw [View.read_apply]
  show V m c main_v35 _ = V m c main_v35 _
  congr 1; funext a; apply Fin.ext
  have hi := idx8 t
  match a with
  | ⟨0, _⟩ => show win0_8.index t 0 * 512 + 1 * r.val = 512 * (t.val % 4) + r.val; rw [hi]; show (t.val % 4) * 512 + 1 * r.val = _; omega
  | ⟨1, _⟩ => show win0_8.index t 1 * 128 + 1 * d.val = d.val; rw [hi]; show 0 * 128 + 1 * d.val = _; omega

theorem iblk9 (c : Dev nD) (t : Fin cfg0.N) (r : Fin 512) (d : Fin 128) :
    (iblk m c 9 t : S512x128.Idx → EReal) (ix2 r d) = (V m c main_v38 : S2048x128.Idx → EReal) (ix2 (posT t r) (d)) := by
  unfold iblk; rw [View.read_apply]
  show V m c main_v38 _ = V m c main_v38 _
  congr 1; funext a; apply Fin.ext
  have hi := idx9 t
  match a with
  | ⟨0, _⟩ => show win0_9.index t 0 * 512 + 1 * r.val = 512 * (t.val % 4) + r.val; rw [hi]; show (t.val % 4) * 512 + 1 * r.val = _; omega
  | ⟨1, _⟩ => show win0_9.index t 1 * 128 + 1 * d.val = d.val; rw [hi]; show 0 * 128 + 1 * d.val = _; omega

/-- A row's projected columns: the normed row by the weights. -/
def projZ (x g : Fin 512 → EReal) (W : S512x2048.Idx → EReal) (j : Fin 2048) : EReal := ∑ e : Fin 512, rmsAt x g e * W (ix2 e j)

def qOfS (X : S16384x4096.Idx → EReal) (G3 G4 : S1x512.Idx → EReal) (W5 W6 : S512x2048.Idx → EReal) (C S T : S2048x128.Idx → EReal) (R : Fin 16384) (p : Fin 2048) (h : Fin 8) (e : Fin 256) : EReal :=
  qAt (projZ (fun k => X (ix2 R (cq k))) (fun k => G3 (ix2 0 k)) W5) (fun j => C (ix2 p j)) (fun j => S (ix2 p j)) (fun j => T (ix2 p j)) h e

def kOfS (X : S16384x4096.Idx → EReal) (G3 G4 : S1x512.Idx → EReal) (W5 W6 : S512x2048.Idx → EReal) (C S T : S2048x128.Idx → EReal) (R : Fin 16384) (p : Fin 2048) (h : Fin 8) (e : Fin 256) : EReal :=
  kAt (projZ (fun k => X (ix2 R (ck k))) (fun k => G4 (ix2 0 k)) W6) (turn (fun j => X (ix2 R (cr j))) (fun j => C (ix2 p j)) (fun j => S (ix2 p j)) (fun j => T (ix2 p j))) h e

def vOfS (X : S16384x4096.Idx → EReal) (G3 G4 : S1x512.Idx → EReal) (W5 W6 : S512x2048.Idx → EReal) (C S T : S2048x128.Idx → EReal) (R : Fin 16384) (p : Fin 2048) (h : Fin 8) (e : Fin 256) : EReal :=
  vAt (projZ (fun k => X (ix2 R (ck k))) (fun k => G4 (ix2 0 k)) W6) h e

theorem q_of (x0 x1 : Vec Ideal S512x512 .bf16) (x2 : Vec Ideal S512x128 .bf16) (x3 x4 : Vec Ideal S1x512 .f32) (x5 x6 : Vec Ideal S512x2048 .bf16) (x7 x8 x9 : Vec Ideal S512x128 .f32) (X : S16384x4096.Idx → EReal) (G3 G4 : S1x512.Idx → EReal) (W5 W6 : S512x2048.Idx → EReal) (C S T : S2048x128.Idx → EReal) (R : Fin 16384) (p : Fin 2048) (h : Fin 8) (r : Fin 512) (e : Fin 256)
    (h0 : ∀ k, x0 (ix2 r k) = X (ix2 R (cq k))) (h1 : ∀ k, x1 (ix2 r k) = X (ix2 R (ck k))) (h2 : ∀ k, x2 (ix2 r k) = X (ix2 R (cr k)))
    (h3 : ∀ k, x3 (ix2 0 k) = G3 (ix2 0 k)) (h4 : ∀ k, x4 (ix2 0 k) = G4 (ix2 0 k)) (h5 : ∀ e k, x5 (ix2 e k) = W5 (ix2 e k)) (h6 : ∀ e k, x6 (ix2 e k) = W6 (ix2 e k))
    (h7 : ∀ k, x7 (ix2 r k) = C (ix2 p k)) (h8 : ∀ k, x8 (ix2 r k) = S (ix2 p k)) (h9 : ∀ k, x9 (ix2 r k) = T (ix2 p k)) :
    (out0_10 (F := Ideal) x0 x1 x2 x3 x4 x5 x6 x7 x8 x9 (ix4 0 h r e) : EReal) = qOfS X G3 G4 W5 W6 C S T R p h e := by
  have hz : (fun j => k0_pay73 (F := Ideal) x0 x1 x2 x3 x4 x5 x6 x7 x8 x9 (ix2 r j)) = projZ (fun k => X (ix2 R (cq k))) (fun k => G3 (ix2 0 k)) W5 := funext fun j => by
    rw [pay73_at]; unfold projZ; simp only [h0, h3, h5]
  have e7 := funext h7
  have e8 := funext h8
  have e9 := funext h9
  rw [q_at, hz, e7, e8, e9]
  rfl

theorem k_of (x0 x1 : Vec Ideal S512x512 .bf16) (x2 : Vec Ideal S512x128 .bf16) (x3 x4 : Vec Ideal S1x512 .f32) (x5 x6 : Vec Ideal S512x2048 .bf16) (x7 x8 x9 : Vec Ideal S512x128 .f32) (X : S16384x4096.Idx → EReal) (G3 G4 : S1x512.Idx → EReal) (W5 W6 : S512x2048.Idx → EReal) (C S T : S2048x128.Idx → EReal) (R : Fin 16384) (p : Fin 2048) (h : Fin 8) (r : Fin 512) (e : Fin 256)
    (h0 : ∀ k, x0 (ix2 r k) = X (ix2 R (cq k))) (h1 : ∀ k, x1 (ix2 r k) = X (ix2 R (ck k))) (h2 : ∀ k, x2 (ix2 r k) = X (ix2 R (cr k)))
    (h3 : ∀ k, x3 (ix2 0 k) = G3 (ix2 0 k)) (h4 : ∀ k, x4 (ix2 0 k) = G4 (ix2 0 k)) (h5 : ∀ e k, x5 (ix2 e k) = W5 (ix2 e k)) (h6 : ∀ e k, x6 (ix2 e k) = W6 (ix2 e k))
    (h7 : ∀ k, x7 (ix2 r k) = C (ix2 p k)) (h8 : ∀ k, x8 (ix2 r k) = S (ix2 p k)) (h9 : ∀ k, x9 (ix2 r k) = T (ix2 p k)) :
    (out0_11 (F := Ideal) x0 x1 x2 x3 x4 x5 x6 x7 x8 x9 (ix4 0 h r e) : EReal) = kOfS X G3 G4 W5 W6 C S T R p h e := by
  have hk : (fun j => k0_pay74 (F := Ideal) x0 x1 x2 x3 x4 x5 x6 x7 x8 x9 (ix2 r j)) = projZ (fun k => X (ix2 R (ck k))) (fun k => G4 (ix2 0 k)) W6 := funext fun j => by
    rw [pay74_at]; unfold projZ; simp only [h1, h4, h6]
  have e7 := funext h7
  have e8 := funext h8
  have e9 := funext h9
  have hr : (fun j => k0_pay75 (F := Ideal) x0 x1 x2 x3 x4 x5 x6 x7 x8 x9 (ix2 r j)) = turn (fun j => X (ix2 R (cr j))) (fun j => C (ix2 p j)) (fun j => S (ix2 p j)) (fun j => T (ix2 p j)) := funext fun j => by
    rw [pay75_at, funext h2, e7, e8, e9]
  rw [k_at, hk, hr]
  rfl

theorem v_of (x0 x1 : Vec Ideal S512x512 .bf16) (x2 : Vec Ideal S512x128 .bf16) (x3 x4 : Vec Ideal S1x512 .f32) (x5 x6 : Vec Ideal S512x2048 .bf16) (x7 x8 x9 : Vec Ideal S512x128 .f32) (X : S16384x4096.Idx → EReal) (G3 G4 : S1x512.Idx → EReal) (W5 W6 : S512x2048.Idx → EReal) (C S T : S2048x128.Idx → EReal) (R : Fin 16384) (p : Fin 2048) (h : Fin 8) (r : Fin 512) (e : Fin 256)
    (h0 : ∀ k, x0 (ix2 r k) = X (ix2 R (cq k))) (h1 : ∀ k, x1 (ix2 r k) = X (ix2 R (ck k))) (h2 : ∀ k, x2 (ix2 r k) = X (ix2 R (cr k)))
    (h3 : ∀ k, x3 (ix2 0 k) = G3 (ix2 0 k)) (h4 : ∀ k, x4 (ix2 0 k) = G4 (ix2 0 k)) (h5 : ∀ e k, x5 (ix2 e k) = W5 (ix2 e k)) (h6 : ∀ e k, x6 (ix2 e k) = W6 (ix2 e k))
    (h7 : ∀ k, x7 (ix2 r k) = C (ix2 p k)) (h8 : ∀ k, x8 (ix2 r k) = S (ix2 p k)) (h9 : ∀ k, x9 (ix2 r k) = T (ix2 p k)) :
    (out0_12 (F := Ideal) x0 x1 x2 x3 x4 x5 x6 x7 x8 x9 (ix4 0 h r e) : EReal) = vOfS X G3 G4 W5 W6 C S T R p h e := by
  have hk : (fun j => k0_pay74 (F := Ideal) x0 x1 x2 x3 x4 x5 x6 x7 x8 x9 (ix2 r j)) = projZ (fun k => X (ix2 R (ck k))) (fun k => G4 (ix2 0 k)) W6 := funext fun j => by
    rw [pay74_at]; unfold projZ; simp only [h1, h4, h6]
  rw [v_at, hk]
  rfl

theorem ex4b (y : S1x8x512x256.Idx) : ∃ (h : Fin 8) (r : Fin 512) (e : Fin 256), y = ix4 0 h r e :=
  ⟨y 1, y 2, y 3, funext fun a => match a with
    | 0 => Subsingleton.elim (α := Fin 1) _ _
    | 1 => rfl
    | 2 => rfl
    | 3 => rfl⟩

theorem result_q (c : Dev nD) :
    (dats m 0 c).arrAt 10 cfg0.N = fun y : S8x8x2048x256.Idx => qOfS (V m c main_v4) (V m c main_v39) (V m c main_v40) (V m c main_v8) (V m c main_v12) (V m c main_v32) (V m c main_v35) (V m c main_v38) (rowR (y 0) (y 2)) (y 2) (y 1) (y 3) := by
  refine (dats m 0 c).arrAt_eq_of_covers 10 _ (by decide +kernel) fun t hf y => ?_
  blk_simp
  rw [after0_10]
  obtain ⟨h, r, e, rfl⟩ := ex4b y
  have hi := idx10 t
  have e0 : (win0_10.blk t).view.emb (ix4 0 h r e : S1x8x512x256.Idx) 0 = batT t := by
    apply Fin.ext; show win0_10.index t 0 * 1 + 1 * 0 = t.val / 4; rw [hi]; show (t.val / 4) * 1 + 1 * 0 = _; omega
  have e1 : (win0_10.blk t).view.emb (ix4 0 h r e : S1x8x512x256.Idx) 1 = h := by
    apply Fin.ext; show win0_10.index t 1 * 8 + 1 * h.val = h.val; rw [hi]; show 0 * 8 + 1 * h.val = _; omega
  have e2 : (win0_10.blk t).view.emb (ix4 0 h r e : S1x8x512x256.Idx) 2 = posT t r := by
    apply Fin.ext; show win0_10.index t 2 * 512 + 1 * r.val = 512 * (t.val % 4) + r.val; rw [hi]; show (t.val % 4) * 512 + 1 * r.val = _; omega
  have e3 : (win0_10.blk t).view.emb (ix4 0 h r e : S1x8x512x256.Idx) 3 = e := by
    apply Fin.ext; show win0_10.index t 3 * 256 + 1 * e.val = e.val; rw [hi]; show 0 * 256 + 1 * e.val = _; omega
  rw [e0, e1, e2, e3, rowR_T]
  exact q_of _ _ _ _ _ _ _ _ _ _ _ _ _ _ _ _ _ _ _ _ h r e (fun k => iblk0 m c t r k) (fun k => iblk1 m c t r k) (fun k => iblk2 m c t r k) (fun k => iblk3 m c t 0 k) (fun k => iblk4 m c t 0 k)
    (fun e k => iblk5 m c t e k) (fun e k => iblk6 m c t e k) (fun k => iblk7 m c t r k) (fun k => iblk8 m c t r k) (fun k => iblk9 m c t r k)

theorem result_k (c : Dev nD) :
    (dats m 0 c).arrAt 11 cfg0.N = fun y : S8x8x2048x256.Idx => kOfS (V m c main_v4) (V m c main_v39) (V m c main_v40) (V m c main_v8) (V m c main_v12) (V m c main_v32) (V m c main_v35) (V m c main_v38) (rowR (y 0) (y 2)) (y 2) (y 1) (y 3) := by
  refine (dats m 0 c).arrAt_eq_of_covers 11 _ (by decide +kernel) fun t hf y => ?_
  blk_simp
  rw [after0_11]
  obtain ⟨h, r, e, rfl⟩ := ex4b y
  have hi := idx11 t
  have e0 : (win0_11.blk t).view.emb (ix4 0 h r e : S1x8x512x256.Idx) 0 = batT t := by
    apply Fin.ext; show win0_11.index t 0 * 1 + 1 * 0 = t.val / 4; rw [hi]; show (t.val / 4) * 1 + 1 * 0 = _; omega
  have e1 : (win0_11.blk t).view.emb (ix4 0 h r e : S1x8x512x256.Idx) 1 = h := by
    apply Fin.ext; show win0_11.index t 1 * 8 + 1 * h.val = h.val; rw [hi]; show 0 * 8 + 1 * h.val = _; omega
  have e2 : (win0_11.blk t).view.emb (ix4 0 h r e : S1x8x512x256.Idx) 2 = posT t r := by
    apply Fin.ext; show win0_11.index t 2 * 512 + 1 * r.val = 512 * (t.val % 4) + r.val; rw [hi]; show (t.val % 4) * 512 + 1 * r.val = _; omega
  have e3 : (win0_11.blk t).view.emb (ix4 0 h r e : S1x8x512x256.Idx) 3 = e := by
    apply Fin.ext; show win0_11.index t 3 * 256 + 1 * e.val = e.val; rw [hi]; show 0 * 256 + 1 * e.val = _; omega
  rw [e0, e1, e2, e3, rowR_T]
  exact k_of _ _ _ _ _ _ _ _ _ _ _ _ _ _ _ _ _ _ _ _ h r e (fun k => iblk0 m c t r k) (fun k => iblk1 m c t r k) (fun k => iblk2 m c t r k) (fun k => iblk3 m c t 0 k) (fun k => iblk4 m c t 0 k)
    (fun e k => iblk5 m c t e k) (fun e k => iblk6 m c t e k) (fun k => iblk7 m c t r k) (fun k => iblk8 m c t r k) (fun k => iblk9 m c t r k)

theorem result_v (c : Dev nD) :
    (dats m 0 c).arrAt 12 cfg0.N = fun y : S8x8x2048x256.Idx => vOfS (V m c main_v4) (V m c main_v39) (V m c main_v40) (V m c main_v8) (V m c main_v12) (V m c main_v32) (V m c main_v35) (V m c main_v38) (rowR (y 0) (y 2)) (y 2) (y 1) (y 3) := by
  refine (dats m 0 c).arrAt_eq_of_covers 12 _ (by decide +kernel) fun t hf y => ?_
  blk_simp
  rw [after0_12]
  obtain ⟨h, r, e, rfl⟩ := ex4b y
  have hi := idx12 t
  have e0 : (win0_12.blk t).view.emb (ix4 0 h r e : S1x8x512x256.Idx) 0 = batT t := by
    apply Fin.ext; show win0_12.index t 0 * 1 + 1 * 0 = t.val / 4; rw [hi]; show (t.val / 4) * 1 + 1 * 0 = _; omega
  have e1 : (win0_12.blk t).view.emb (ix4 0 h r e : S1x8x512x256.Idx) 1 = h := by
    apply Fin.ext; show win0_12.index t 1 * 8 + 1 * h.val = h.val; rw [hi]; show 0 * 8 + 1 * h.val = _; omega
  have e2 : (win0_12.blk t).view.emb (ix4 0 h r e : S1x8x512x256.Idx) 2 = posT t r := by
    apply Fin.ext; show win0_12.index t 2 * 512 + 1 * r.val = 512 * (t.val % 4) + r.val; rw [hi]; show (t.val % 4) * 512 + 1 * r.val = _; omega
  have e3 : (win0_12.blk t).view.emb (ix4 0 h r e : S1x8x512x256.Idx) 3 = e := by
    apply Fin.ext; show win0_12.index t 3 * 256 + 1 * e.val = e.val; rw [hi]; show 0 * 256 + 1 * e.val = _; omega
  rw [e0, e1, e2, e3, rowR_T]
  exact v_of _ _ _ _ _ _ _ _ _ _ _ _ _ _ _ _ _ _ _ _ h r e (fun k => iblk0 m c t r k) (fun k => iblk1 m c t r k) (fun k => iblk2 m c t r k) (fun k => iblk3 m c t 0 k) (fun k => iblk4 m c t 0 k)
    (fun e k => iblk5 m c t e k) (fun e k => iblk6 m c t e k) (fun k => iblk7 m c t r k) (fun k => iblk8 m c t r k) (fun k => iblk9 m c t r k)

end Cert.LiftIdeal.Hand
-- ==== Proof.LiftHost.lean ====
/-
  The arrays the latent projections' launch is given, from the arguments, at coordinates.
-/
module

public import proofs.«01_k».proof.Proof.LiftOut

@[expose] public section

set_option maxRecDepth 16384

noncomputable section

open Idealize.ShloMosaic Idealize.ShloMosaic.TcCoe Idealize.ShloMosaic.StableHlo

namespace Cert.LiftIdeal.Hand

open Cert.LiftIdeal Cert.LiftIdeal.Gen

variable (m : (ℓ : Loc nD τ sig) → Buf (Elt Ideal) ℓ)

abbrev argQ (c : Dev nD) : S8x2048x512.Idx → EReal := m ((c : Thread nD τ).loc main_arg0)
abbrev argK (c : Dev nD) : S8x2048x512.Idx → EReal := m ((c : Thread nD τ).loc main_arg1)
abbrev argR (c : Dev nD) : S8x2048x64.Idx → EReal := m ((c : Thread nD τ).loc main_arg2)
abbrev argGq (c : Dev nD) : S512.Idx → EReal := m ((c : Thread nD τ).loc main_arg3)
abbrev argGk (c : Dev nD) : S512.Idx → EReal := m ((c : Thread nD τ).loc main_arg4)
abbrev argWq (c : Dev nD) : S512x1536.Idx → EReal := m ((c : Thread nD τ).loc main_arg5)
abbrev argWk (c : Dev nD) : S512x2048.Idx → EReal := m ((c : Thread nD τ).loc main_arg6)

/-- The angles of the rotation. -/
def ang : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1 (Host.powf (broadcastInDim S32 ![] bcast_S_S32 (constant S_ .f32 0x48F42400#32))
      (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- Their cosines and sines. -/
def cosT : FVec Ideal S2048x32 .f32 := Host.cos ang
def sinT : FVec Ideal S2048x32 .f32 := Host.sin ang

theorem V4 (c : Dev nD) : (V m c main_v4 : S16384x4096.Idx → EReal) = truncf (F := Ideal) .bf16 (shapeCast S16384x4096 (concatenate S8x2048x4096 2 [⟨S8x2048x512, argQ m c⟩, ⟨S8x2048x512, argK m c⟩,
      ⟨S8x2048x2048, (broadcastInDim S8x2048x2048 ![] bcast_S_S8x2048x2048 (constant (F := Ideal) S_ .f32 0x00000000#32) : S8x2048x2048.Idx → EReal)⟩, ⟨S8x2048x64, argR m c⟩,
      ⟨S8x2048x960, (broadcastInDim S8x2048x960 ![] bcast_S_S8x2048x960 (constant (F := Ideal) S_ .f32 0x00000000#32) : S8x2048x960.Idx → EReal)⟩] concatenates_S8x2048x512_S8x2048x512_S8x2048x2048_S8x2048x64_S8x2048x960_S8x2048x4096_d2) shapeCasts_S8x2048x4096_S16384x4096) bitsLt_bf16_f32 := by
  unfold V V0
  simp only [hostOps0, hostOps0_1, hostOps0_2, List.flatten_cons, List.flatten_nil, List.append_nil, List.cons_append, List.nil_append, TRef.ternary, TRef.binary, TRef.unary, TRef.toBuf, TRef.ofBuf, cast_eq]
  after_results_simp <;> rfl

theorem V8 (c : Dev nD) : (V m c main_v8 : S512x2048.Idx → EReal) = truncf (F := Ideal) .bf16 (shapeCast S512x2048 (pad S512x8x256 ![0, 0, 0] ![0, 0, 64] ![0, 0, 0] (shapeCast S512x8x192 (argWq m c) shapeCasts_S512x1536_S512x8x192)
      (sitofp (F := Ideal) .f32 (constantI S_ 32 0#32)) pads_S512x8x192_S512x8x256_000_000_0640 h_S_) shapeCasts_S512x8x256_S512x2048) bitsLt_bf16_f32 := by
  unfold V V0
  simp only [hostOps0, hostOps0_1, hostOps0_2, List.flatten_cons, List.flatten_nil, List.append_nil, List.cons_append, List.nil_append, TRef.ternary, TRef.binary, TRef.unary, TRef.toBuf, TRef.ofBuf, cast_eq]
  after_results_simp <;> rfl

theorem V12 (c : Dev nD) : (V m c main_v12 : S512x2048.Idx → EReal) = truncf (F := Ideal) .bf16 (shapeCast S512x2048 (transpose S512x2x8x128 [0, 2, 1, 3] (shapeCast S512x8x2x128 (argWk m c) shapeCasts_S512x2048_S512x8x2x128) transposes_S512x8x2x128_S512x2x8x128_0_2_1_3) shapeCasts_S512x2x8x128_S512x2048) bitsLt_bf16_f32 := by
  unfold V V0
  simp only [hostOps0, hostOps0_1, hostOps0_2, List.flatten_cons, List.flatten_nil, List.append_nil, List.cons_append, List.nil_append, TRef.ternary, TRef.binary, TRef.unary, TRef.toBuf, TRef.ofBuf, cast_eq]
  after_results_simp <;> rfl

theorem V32 (c : Dev nD) : (V m c main_v32 : S2048x128.Idx → EReal) = concatenate S2048x128 1 [⟨S2048x32, (cosT : S2048x32.Idx → EReal)⟩, ⟨S2048x32, (cosT : S2048x32.Idx → EReal)⟩, ⟨S2048x64, (broadcastInDim S2048x64 ![] bcast_S_S2048x64 (constant (F := Ideal) S_ .f32 0x3F800000#32) : S2048x64.Idx → EReal)⟩] concatenates_S2048x32_S2048x32_S2048x64_S2048x128_d1 := by
  unfold V V0
  simp only [hostOps0, hostOps0_1, hostOps0_2, List.flatten_cons, List.flatten_nil, List.append_nil, List.cons_append, List.nil_append, TRef.ternary, TRef.binary, TRef.unary, TRef.toBuf, TRef.ofBuf, cast_eq]
  after_results_simp <;> rfl

theorem V35 (c : Dev nD) : (V m c main_v35 : S2048x128.Idx → EReal) = concatenate S2048x128 1 [⟨S2048x32, (Host.negf sinT : S2048x32.Idx → EReal)⟩, ⟨S2048x96, (broadcastInDim S2048x96 ![] bcast_S_S2048x96 (constant (F := Ideal) S_ .f32 0x00000000#32) : S2048x96.Idx → EReal)⟩] concatenates_S2048x32_S2048x96_S2048x128_d1 := by
  unfold V V0
  simp only [hostOps0, hostOps0_1, hostOps0_2, List.flatten_cons, List.flatten_nil, List.append_nil, List.cons_append, List.nil_append, TRef.ternary, TRef.binary, TRef.unary, TRef.toBuf, TRef.ofBuf, cast_eq]
  after_results_simp <;> rfl

theorem V38 (c : Dev nD) : (V m c main_v38 : S2048x128.Idx → EReal) = concatenate S2048x128 1 [⟨S2048x32, (broadcastInDim S2048x32 ![] bcast_S_S2048x32 (constant (F := Ideal) S_ .f32 0x00000000#32) : S2048x32.Idx → EReal)⟩, ⟨S2048x32, (sinT : S2048x32.Idx → EReal)⟩, ⟨S2048x64, (broadcastInDim S2048x64 ![] bcast_S_S2048x64 (constant (F := Ideal) S_ .f32 0x00000000#32) : S2048x64.Idx → EReal)⟩] concatenates_S2048x32_S2048x32_S2048x64_S2048x128_d1 := by
  unfold V V0
  simp only [hostOps0, hostOps0_1, hostOps0_2, List.flatten_cons, List.flatten_nil, List.append_nil, List.cons_append, List.nil_append, TRef.ternary, TRef.binary, TRef.unary, TRef.toBuf, TRef.ofBuf, cast_eq]
  after_results_simp <;> rfl

theorem V39 (c : Dev nD) : (V m c main_v39 : S1x512.Idx → EReal) = shapeCast S1x512 (argGq m c) shapeCasts_S512_S1x512 := by
  unfold V V0
  simp only [hostOps0, hostOps0_1, hostOps0_2, List.flatten_cons, List.flatten_nil, List.append_nil, List.cons_append, List.nil_append, TRef.ternary, TRef.binary, TRef.unary, TRef.toBuf, TRef.ofBuf, cast_eq]
  after_results_simp <;> rfl

theorem V40 (c : Dev nD) : (V m c main_v40 : S1x512.Idx → EReal) = shapeCast S1x512 (argGk m c) shapeCasts_S512_S1x512 := by
  unfold V V0
  simp only [hostOps0, hostOps0_1, hostOps0_2, List.flatten_cons, List.flatten_nil, List.append_nil, List.cons_append, List.nil_append, TRef.ternary, TRef.binary, TRef.unary, TRef.toBuf, TRef.ofBuf, cast_eq]
  after_results_simp <;> rfl

theorem v4_q (c : Dev nD) (b : Fin 8) (p : Fin 2048) (k : Fin 512) : (V m c main_v4 : S16384x4096.Idx → EReal) (ix2 (rowR b p) (cq k)) = argQ m c (ix3 b p k) := by
  rw [V4]
  pointwise
  have eb : (⟨(2048 * b.val + p.val) / 2048, by omega⟩ : Fin 8) = b := Fin.ext (by show (2048 * b.val + p.val) / 2048 = b.val; omega)
  have ep : (⟨(2048 * b.val + p.val) % 2048, by omega⟩ : Fin 2048) = p := Fin.ext (by show (2048 * b.val + p.val) % 2048 = p.val; omega)
  rw [eb, ep]

theorem v4_k (c : Dev nD) (b : Fin 8) (p : Fin 2048) (k : Fin 512) : (V m c main_v4 : S16384x4096.Idx → EReal) (ix2 (rowR b p) (ck k)) = argK m c (ix3 b p k) := by
  rw [V4]
  pointwise
  have eb : (⟨(2048 * b.val + p.val) / 2048, by omega⟩ : Fin 8) = b := Fin.ext (by show (2048 * b.val + p.val) / 2048 = b.val; omega)
  have ep : (⟨(2048 * b.val + p.val) % 2048, by omega⟩ : Fin 2048) = p := Fin.ext (by show (2048 * b.val + p.val) % 2048 = p.val; omega)
  rw [eb, ep]

theorem v4_r (c : Dev nD) (b : Fin 8) (p : Fin 2048) (j : Fin 128) (h : j.val < 64) : (V m c main_v4 : S16384x4096.Idx → EReal) (ix2 (rowR b p) (cr j)) = argR m c (ix3 b p ⟨j.val, h⟩) := by
  rw [V4]
  pointwise
  have eb : (⟨(2048 * b.val + p.val) / 2048, by omega⟩ : Fin 8) = b := Fin.ext (by show (2048 * b.val + p.val) / 2048 = b.val; omega)
  have ep : (⟨(2048 * b.val + p.val) % 2048, by omega⟩ : Fin 2048) = p := Fin.ext (by show (2048 * b.val + p.val) % 2048 = p.val; omega)
  rw [dif_neg (by omega), dif_neg (by omega), dif_neg (by omega), dif_pos (by omega), eb, ep]
  congr 2
  apply Fin.ext; show 3072 + j.val - 512 - 512 - 2048 = j.val; omega

theorem v8_at (c : Dev nD) (e : Fin 512) (h : Fin 8) (d : Fin 192) : (V m c main_v8 : S512x2048.Idx → EReal) (ix2 e ⟨256 * h.val + d.val, by omega⟩) = argWq m c (ix2 e ⟨192 * h.val + d.val, by omega⟩) := by
  rw [V8]
  pointwise
  rw [dif_pos (by omega)]
  congr 2
  apply Fin.ext; show h.val * 192 + (256 * h.val + d.val) % 256 = 192 * h.val + d.val; omega

theorem v12_k (c : Dev nD) (e : Fin 512) (h : Fin 8) (d : Fin 128) : (V m c main_v12 : S512x2048.Idx → EReal) (ix2 e ⟨128 * h.val + d.val, by omega⟩) = argWk m c (ix2 e ⟨256 * h.val + d.val, by omega⟩) := by
  rw [V12]
  pointwise
  congr 2
  apply Fin.ext; show h.val * 256 + (128 * h.val + d.val) / 1024 * 128 + d.val = 256 * h.val + d.val; omega

theorem v12_v (c : Dev nD) (e : Fin 512) (h : Fin 8) (d : Fin 128) : (V m c main_v12 : S512x2048.Idx → EReal) (ix2 e ⟨1024 + 128 * h.val + d.val, by omega⟩) = argWk m c (ix2 e ⟨256 * h.val + 128 + d.val, by omega⟩) := by
  rw [V12]
  pointwise
  congr 2
  apply Fin.ext; show h.val * 256 + (1024 + 128 * h.val + d.val) / 1024 * 128 + d.val = 256 * h.val + 128 + d.val; omega

theorem v32_at (c : Dev nD) (p : Fin 2048) (d : Fin 128) : (V m c main_v32 : S2048x128.Idx → EReal) (ix2 p d) = if h : d.val < 32 then cosT (ix2 p ⟨d.val, h⟩) else if h : d.val < 64 then cosT (ix2 p ⟨d.val - 32, by omega⟩) else 1 := by
  rw [V32]
  pointwise
  split
  · rfl
  · by_cases h : d.val < 64
    · rw [dif_pos h, dif_pos (by omega)]
    · rw [dif_neg h, dif_neg (by omega)]

theorem v35_at (c : Dev nD) (p : Fin 2048) (d : Fin 128) : (V m c main_v35 : S2048x128.Idx → EReal) (ix2 p d) = if h : d.val < 32 then -(sinT (ix2 p ⟨d.val, h⟩) : EReal) else 0 := by
  rw [V35]
  pointwise

theorem v38_at (c : Dev nD) (p : Fin 2048) (d : Fin 128) : (V m c main_v38 : S2048x128.Idx → EReal) (ix2 p d) = if h : d.val < 32 then 0 else if h : d.val < 64 then (sinT (ix2 p ⟨d.val - 32, by omega⟩) : EReal) else 0 := by
  rw [V38]
  pointwise
  split
  · rfl
  · by_cases h : d.val < 64
    · rw [dif_pos h, dif_pos (by omega)]
    · rw [dif_neg h, dif_neg (by omega)]

theorem v39_at (c : Dev nD) (k : Fin 512) : (V m c main_v39 : S1x512.Idx → EReal) (ix2 0 k) = argGq m c (ix1 k) := by
  rw [V39]; pointwise

theorem v40_at (c : Dev nD) (k : Fin 512) : (V m c main_v40 : S1x512.Idx → EReal) (ix2 0 k) = argGk m c (ix1 k) := by
  rw [V40]; pointwise

end Cert.LiftIdeal.Hand
-- ==== Proof.LiftFin.lean ====
/-
  The latent projections' queries, keys and values from the arguments: the padded lanes and the tables' zero entries drop out.
-/
module

public import proofs.«01_k».proof.Proof.LiftHost

@[expose] public section

set_option maxRecDepth 16384

noncomputable section

open Idealize.ShloMosaic Idealize.ShloMosaic.TcCoe Idealize.ShloMosaic.StableHlo

namespace Cert.LiftIdeal.Hand

open Cert.LiftIdeal Cert.LiftIdeal.Gen

open Cert.KernelIdeal.Hand (scl)

variable (m : (ℓ : Loc nD τ sig) → Buf (Elt Ideal) ℓ)

/-- One lane of the rotation, as the problem states it: halves of 32 lanes, turned by the angles' cosines and sines. -/
def rot (z : Fin 64 → EReal) (c s : Fin 32 → EReal) (i : Fin 64) : EReal :=
  if h : i.val < 32 then z i * c ⟨i.val, h⟩ - z ⟨32 + i.val, by omega⟩ * s ⟨i.val, h⟩
  else z i * c ⟨i.val - 32, by omega⟩ + z ⟨i.val - 32, by omega⟩ * s ⟨i.val - 32, by omega⟩

/-- One projected entry: the normed row by a column of the weights. -/
def prj (x g w : Fin 512 → EReal) : EReal := ∑ e : Fin 512, rmsAt x g e * w e

/-- The problem's query, key and value at a batch entry, a place, a head and a lane. -/
def qFin (x : S8x2048x512.Idx → EReal) (g : S512.Idx → EReal) (w : S512x1536.Idx → EReal) (b : Fin 8) (p : Fin 2048) (h : Fin 8) (e : Fin 192) : EReal :=
  if he : e.val < 128 then prj (fun k => x (ix3 b p k)) (fun k => g (ix1 k)) (fun k => w (ix2 k ⟨192 * h.val + e.val, by omega⟩))
  else rot (fun i => prj (fun k => x (ix3 b p k)) (fun k => g (ix1 k)) (fun k => w (ix2 k ⟨192 * h.val + (128 + i.val), by omega⟩))) (fun i => cosT (ix2 p i)) (fun i => sinT (ix2 p i)) ⟨e.val - 128, by omega⟩

def kFin (x : S8x2048x512.Idx → EReal) (y : S8x2048x64.Idx → EReal) (g : S512.Idx → EReal) (w : S512x2048.Idx → EReal) (b : Fin 8) (p : Fin 2048) (h : Fin 8) (e : Fin 192) : EReal :=
  if he : e.val < 128 then prj (fun k => x (ix3 b p k)) (fun k => g (ix1 k)) (fun k => w (ix2 k ⟨256 * h.val + e.val, by omega⟩))
  else rot (fun i => y (ix3 b p i)) (fun i => cosT (ix2 p i)) (fun i => sinT (ix2 p i)) ⟨e.val - 128, by omega⟩

def vFin (x : S8x2048x512.Idx → EReal) (g : S512.Idx → EReal) (w : S512x2048.Idx → EReal) (b : Fin 8) (p : Fin 2048) (h : Fin 8) (d : Fin 128) : EReal :=
  prj (fun k => x (ix3 b p k)) (fun k => g (ix1 k)) (fun k => w (ix2 k ⟨256 * h.val + 128 + d.val, by omega⟩))

/-- The kernel's lane is the problem's on the 64 lanes that are kept. -/
theorem turn_rot (Z C S T : Fin 128 → EReal) (z : Fin 64 → EReal) (c s : Fin 32 → EReal)
    (hz : ∀ (j : Fin 128) (h : j.val < 64), Z j = z ⟨j.val, h⟩)
    (hC : ∀ j : Fin 128, C j = if h : j.val < 32 then c ⟨j.val, h⟩ else if h : j.val < 64 then c ⟨j.val - 32, by omega⟩ else 1)
    (hS : ∀ j : Fin 128, S j = if h : j.val < 32 then -(s ⟨j.val, h⟩) else 0)
    (hT : ∀ j : Fin 128, T j = if h : j.val < 32 then 0 else if h : j.val < 64 then s ⟨j.val - 32, by omega⟩ else 0)
    (d : Fin 128) (hd : d.val < 64) : turn Z C S T d = rot z c s ⟨d.val, hd⟩ := by
  unfold turn rot
  rw [hC, hS, hT, hz d hd]
  by_cases h : d.val < 32
  · rw [dif_pos h, dif_pos h, dif_pos h, dif_pos h, mul_zero, add_zero, hz _ (by show (d.val + 32) % 128 < 64; omega), mul_neg, sub_eq_add_neg]
    congr 4
    apply Fin.ext; show (d.val + 32) % 128 = 32 + d.val; omega
  · rw [dif_neg h, dif_neg h, dif_neg h, dif_neg h, dif_pos hd, dif_pos hd, mul_zero, add_zero, hz _ (by show (d.val + 96) % 128 < 64; omega)]
    congr 3
    apply Fin.ext; show (d.val + 96) % 128 = d.val - 32; omega

theorem projZ_prj (x g : Fin 512 → EReal) (W : S512x2048.Idx → EReal) (j : Fin 2048) (w : Fin 512 → EReal) (h : ∀ e, W (ix2 e j) = w e) : projZ x g W j = prj x g w := by
  unfold projZ prj; simp only [h]

/-- The scale divided out of a scaled entry. -/
theorem scl_inv : ∃ r : ℝ, r ≠ 0 ∧ scl = (r : EReal) := by
  unfold scl
  simp [Ideal.ofBits, Ideal.ieee, -EReal.coe_mul]

theorem unscale (x : EReal) : FloatOps.hostDivf (F := Ideal) (φ := .f32) (x * scl) scl = x := by
  obtain ⟨r, h0, hr⟩ := scl_inv
  show Ideal.div (x * scl) scl = x
  rw [hr, Ideal.div_coe h0, mul_assoc, ← EReal.coe_mul, mul_one_div_cancel h0, EReal.coe_one, mul_one]

/-- Lanes and columns by their numbers. -/
abbrev lane (e : Fin 192) : Fin 256 := ⟨e.val, by omega⟩
abbrev laneV (d : Fin 128) : Fin 256 := ⟨d.val, by omega⟩
abbrev back (d : Fin 128) (h : d.val < 64) : Fin 64 := ⟨d.val, h⟩
abbrev low (d : Fin 128) (h : d.val < 32) : Fin 32 := ⟨d.val, h⟩
abbrev high (d : Fin 128) (h : d.val < 64) : Fin 32 := ⟨d.val - 32, by omega⟩
abbrev packQ (h : Fin 8) (d : Fin 192) : Fin 2048 := ⟨256 * h.val + d.val, by omega⟩
abbrev wantQ (h : Fin 8) (d : Fin 192) : Fin 1536 := ⟨192 * h.val + d.val, by omega⟩
abbrev packK (h : Fin 8) (d : Fin 128) : Fin 2048 := ⟨128 * h.val + d.val, by omega⟩
abbrev wantK (h : Fin 8) (d : Fin 128) : Fin 2048 := ⟨256 * h.val + d.val, by omega⟩
abbrev packV (h : Fin 8) (d : Fin 128) : Fin 2048 := ⟨1024 + 128 * h.val + d.val, by omega⟩
abbrev wantV (h : Fin 8) (d : Fin 128) : Fin 2048 := ⟨256 * h.val + 128 + d.val, by omega⟩

section Abstract

variable (X : S16384x4096.Idx → EReal) (G3 G4 : S1x512.Idx → EReal) (W5 W6 : S512x2048.Idx → EReal) (C S T : S2048x128.Idx → EReal)
  (aQ aK : S8x2048x512.Idx → EReal) (aR : S8x2048x64.Idx → EReal) (gQ gK : S512.Idx → EReal) (wQ : S512x1536.Idx → EReal) (wK : S512x2048.Idx → EReal)
  (hq : ∀ (b : Fin 8) (p : Fin 2048) (k : Fin 512), X (ix2 (rowR b p) (cq k)) = aQ (ix3 b p k))
  (hk : ∀ (b : Fin 8) (p : Fin 2048) (k : Fin 512), X (ix2 (rowR b p) (ck k)) = aK (ix3 b p k))
  (hr : ∀ (b : Fin 8) (p : Fin 2048) (j : Fin 128) (h : j.val < 64), X (ix2 (rowR b p) (cr j)) = aR (ix3 b p (back j h)))
  (h3 : ∀ k : Fin 512, G3 (ix2 0 k) = gQ (ix1 k)) (h4 : ∀ k : Fin 512, G4 (ix2 0 k) = gK (ix1 k))
  (h5 : ∀ (e : Fin 512) (h : Fin 8) (d : Fin 192), W5 (ix2 e (packQ h d)) = wQ (ix2 e (wantQ h d)))
  (h6 : ∀ (e : Fin 512) (h : Fin 8) (d : Fin 128), W6 (ix2 e (packK h d)) = wK (ix2 e (wantK h d)))
  (h6v : ∀ (e : Fin 512) (h : Fin 8) (d : Fin 128), W6 (ix2 e (packV h d)) = wK (ix2 e (wantV h d)))
  (hC : ∀ (p : Fin 2048) (d : Fin 128), C (ix2 p d) = if h : d.val < 32 then cosT (ix2 p (low d h)) else if h : d.val < 64 then cosT (ix2 p (high d h)) else 1)
  (hS : ∀ (p : Fin 2048) (d : Fin 128), S (ix2 p d) = if h : d.val < 32 then -(sinT (ix2 p (low d h)) : EReal) else 0)
  (hT : ∀ (p : Fin 2048) (d : Fin 128), T (ix2 p d) = if h : d.val < 32 then 0 else if h : d.val < 64 then (sinT (ix2 p (high d h)) : EReal) else 0)

include hq h3 h5 hC hS hT in
theorem q_fin (b : Fin 8) (p : Fin 2048) (h : Fin 8) (e : Fin 192) :
    qOfS X G3 G4 W5 W6 C S T (rowR b p) p h (lane e) = qFin aQ gQ wQ b p h e * scl := by
  unfold qOfS qAt qFin
  congr 1
  rw [funext (hq b p), funext h3]
  by_cases he : e.val < 128
  · rw [dif_pos (show (⟨e.val, by omega⟩ : Fin 256).val < 128 from he), dif_pos he]
    exact projZ_prj _ _ _ _ _ fun k => h5 k h e
  · rw [dif_neg (show ¬ (⟨e.val, by omega⟩ : Fin 256).val < 128 from he), dif_neg he]
    exact turn_rot _ _ _ _ _ _ _ (fun j hj => projZ_prj _ _ _ _ _ fun k => (congrArg (fun n => W5 (ix2 k n)) (Fin.ext (Nat.add_assoc _ _ _))).trans (h5 k h ⟨128 + j.val, by omega⟩)) (hC p) (hS p) (hT p) ⟨e.val - 128, by omega⟩ (by show e.val - 128 < 64; omega)

include hk hr h4 h6 hC hS hT in
theorem k_fin (b : Fin 8) (p : Fin 2048) (h : Fin 8) (e : Fin 192) :
    kOfS X G3 G4 W5 W6 C S T (rowR b p) p h (lane e) = kFin aK aR gK wK b p h e := by
  unfold kOfS kAt kFin
  rw [funext (hk b p), funext h4]
  by_cases he : e.val < 128
  · rw [dif_pos (show (⟨e.val, by omega⟩ : Fin 256).val < 128 from he), dif_pos he]
    exact projZ_prj _ _ _ _ _ fun k => h6 k h ⟨e.val, he⟩
  · rw [dif_neg (show ¬ (⟨e.val, by omega⟩ : Fin 256).val < 128 from he), dif_neg he]
    exact turn_rot _ _ _ _ _ _ _ (fun j hj => hr b p j hj) (hC p) (hS p) (hT p) ⟨e.val - 128, by omega⟩ (by show e.val - 128 < 64; omega)

include hk h4 h6v in
theorem v_fin (b : Fin 8) (p : Fin 2048) (h : Fin 8) (d : Fin 128) :
    vOfS X G3 G4 W5 W6 C S T (rowR b p) p h (laneV d) = vFin aK gK wK b p h d := by
  unfold vOfS vAt vFin
  rw [funext (hk b p), funext h4, dif_pos (show (⟨d.val, by omega⟩ : Fin 256).val < 128 from d.isLt)]
  exact projZ_prj _ _ _ _ _ fun k => h6v k h d

end Abstract

end Cert.LiftIdeal.Hand
-- ==== Proof.LiftRef.lean ====
/-
  The latent projections as the reference computes them, at coordinates.
-/
module

public import proofs.«01_k».proof.Proof.LiftFin
public import proofs.«01_k».proof.Proof.Gen.LiftRefIdeal.Run

@[expose] public section

set_option maxRecDepth 16384

noncomputable section

open Idealize.ShloMosaic Idealize.ShloMosaic.TcCoe Idealize.ShloMosaic.StableHlo

namespace Cert.LiftRefIdeal.Hand

open Cert.LiftRefIdeal Cert.LiftRefIdeal.Gen

open Cert.LiftIdeal.Hand (rmsAt prj rot qFin kFin vFin cosT sinT)

/-- The normed rows. -/
def rRms (x : FVec Ideal S8x2048x512 .f32) (g : FVec Ideal S512 .f32) : FVec Ideal S8x2048x512 .f32 :=
  mulf (mulf x (broadcastInDim S8x2048x512 ![0, 1, 2] bcast_S8x2048x1_S8x2048x512_0_1_2 (Host.rsqrt (addf (Host.divf (broadcastInDim S8x2048x1 ![0, 1] bcast_S8x2048_S8x2048x1_0_1 (Host.reduceAdd (mulf x x) (constant S_ .f32 0x00000000#32) reducesTo_S8x2048x512_S8x2048_d2 h_S_)) (broadcastInDim S8x2048x1 ![] bcast_S_S8x2048x1 (constant S_ .f32 0x44000000#32))) (broadcastInDim S8x2048x1 ![] bcast_S_S8x2048x1 (constant S_ .f32 0x358637BD#32))))))
    (broadcastInDim S8x2048x512 ![0, 1, 2] bcast_S1x1x512_S8x2048x512_0_1_2 (broadcastInDim S1x1x512 ![2] bcast_S512_S1x1x512_2 g))

/-- The projected queries, and the projected keys and values. -/
def rQ (x : FVec Ideal S8x2048x512 .f32) (g : FVec Ideal S512 .f32) (w : FVec Ideal S512x1536 .f32) : FVec Ideal S8x2048x8x192 .f32 :=
  shapeCast _ (Host.dotGeneral (F := Ideal) dot_S8x2048x512_S512x1536_S8x2048x1536_2_0_01_1_n_n none (rRms x g) w) shapeCasts_S8x2048x1536_S8x2048x8x192
def rKV (x : FVec Ideal S8x2048x512 .f32) (g : FVec Ideal S512 .f32) (w : FVec Ideal S512x2048 .f32) : FVec Ideal S8x2048x8x256 .f32 :=
  shapeCast _ (Host.dotGeneral (F := Ideal) dot_S8x2048x512_S512x2048_S8x2048x2048_2_0_01_1_n_n none (rRms x g) w) shapeCasts_S8x2048x2048_S8x2048x8x256

/-- The angles, their cosines and sines. -/
def rAng : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1 (Host.powf (broadcastInDim S32 ![] bcast_S_S32 (constant S_ .f32 0x48F42400#32))
      (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
def rCos : FVec Ideal S2048x32 .f32 := Host.cos rAng
def rSin : FVec Ideal S2048x32 .f32 := Host.sin rAng

theorem rCos_eq : (rCos : S2048x32.Idx → EReal) = cosT := rfl
theorem rSin_eq : (rSin : S2048x32.Idx → EReal) = sinT := rfl

/-- The rotation of 64 lanes of the eight heads, and of the shared key's. -/
def rRot8 (z : FVec Ideal S8x2048x8x64 .f32) (c s : FVec Ideal S2048x32 .f32) : FVec Ideal S8x2048x8x64 .f32 :=
  concatenate S8x2048x8x64 3 [
    ⟨S8x2048x8x32, (subf (mulf (extractStridedSlice S8x2048x8x32 ![0, 0, 0, 0] z slices_S8x2048x8x64_S8x2048x8x32_0_0_0_0) (broadcastInDim S8x2048x8x32 ![0, 1, 2, 3] bcast_S1x2048x1x32_S8x2048x8x32_0_1_2_3 (broadcastInDim S1x2048x1x32 ![1, 3] bcast_S2048x32_S1x2048x1x32_1_3 c)))
      (mulf (extractStridedSlice S8x2048x8x32 ![0, 0, 0, 32] z slices_S8x2048x8x64_S8x2048x8x32_0_0_0_32) (broadcastInDim S8x2048x8x32 ![0, 1, 2, 3] bcast_S1x2048x1x32_S8x2048x8x32_0_1_2_3 (broadcastInDim S1x2048x1x32 ![1, 3] bcast_S2048x32_S1x2048x1x32_1_3 s))))⟩,
    ⟨S8x2048x8x32, (addf (mulf (extractStridedSlice S8x2048x8x32 ![0, 0, 0, 32] z slices_S8x2048x8x64_S8x2048x8x32_0_0_0_32) (broadcastInDim S8x2048x8x32 ![0, 1, 2, 3] bcast_S1x2048x1x32_S8x2048x8x32_0_1_2_3 (broadcastInDim S1x2048x1x32 ![1, 3] bcast_S2048x32_S1x2048x1x32_1_3 c)))
      (mulf (extractStridedSlice S8x2048x8x32 ![0, 0, 0, 0] z slices_S8x2048x8x64_S8x2048x8x32_0_0_0_0) (broadcastInDim S8x2048x8x32 ![0, 1, 2, 3] bcast_S1x2048x1x32_S8x2048x8x32_0_1_2_3 (broadcastInDim S1x2048x1x32 ![1, 3] bcast_S2048x32_S1x2048x1x32_1_3 s))))⟩] concatenates_S8x2048x8x32_S8x2048x8x32_S8x2048x8x64_d3
def rRot1 (y : FVec Ideal S8x2048x64 .f32) (c s : FVec Ideal S2048x32 .f32) : FVec Ideal S8x2048x1x64 .f32 :=
  concatenate S8x2048x1x64 3 [
    ⟨S8x2048x1x32, (subf (mulf (extractStridedSlice S8x2048x1x32 ![0, 0, 0, 0] (broadcastInDim S8x2048x1x64 ![0, 1, 3] bcast_S8x2048x64_S8x2048x1x64_0_1_3 y) slices_S8x2048x1x64_S8x2048x1x32_0_0_0_0) (broadcastInDim S8x2048x1x32 ![0, 1, 2, 3] bcast_S1x2048x1x32_S8x2048x1x32_0_1_2_3 (broadcastInDim S1x2048x1x32 ![1, 3] bcast_S2048x32_S1x2048x1x32_1_3 c)))
      (mulf (extractStridedSlice S8x2048x1x32 ![0, 0, 0, 32] (broadcastInDim S8x2048x1x64 ![0, 1, 3] bcast_S8x2048x64_S8x2048x1x64_0_1_3 y) slices_S8x2048x1x64_S8x2048x1x32_0_0_0_32) (broadcastInDim S8x2048x1x32 ![0, 1, 2, 3] bcast_S1x2048x1x32_S8x2048x1x32_0_1_2_3 (broadcastInDim S1x2048x1x32 ![1, 3] bcast_S2048x32_S1x2048x1x32_1_3 s))))⟩,
    ⟨S8x2048x1x32, (addf (mulf (extractStridedSlice S8x2048x1x32 ![0, 0, 0, 32] (broadcastInDim S8x2048x1x64 ![0, 1, 3] bcast_S8x2048x64_S8x2048x1x64_0_1_3 y) slices_S8x2048x1x64_S8x2048x1x32_0_0_0_32) (broadcastInDim S8x2048x1x32 ![0, 1, 2, 3] bcast_S1x2048x1x32_S8x2048x1x32_0_1_2_3 (broadcastInDim S1x2048x1x32 ![1, 3] bcast_S2048x32_S1x2048x1x32_1_3 c)))
      (mulf (extractStridedSlice S8x2048x1x32 ![0, 0, 0, 0] (broadcastInDim S8x2048x1x64 ![0, 1, 3] bcast_S8x2048x64_S8x2048x1x64_0_1_3 y) slices_S8x2048x1x64_S8x2048x1x32_0_0_0_0) (broadcastInDim S8x2048x1x32 ![0, 1, 2, 3] bcast_S1x2048x1x32_S8x2048x1x32_0_1_2_3 (broadcastInDim S1x2048x1x32 ![1, 3] bcast_S2048x32_S1x2048x1x32_1_3 s))))⟩] concatenates_S8x2048x1x32_S8x2048x1x32_S8x2048x1x64_d3

/-- The queries, the keys and the values. -/
def resQ (z : FVec Ideal S8x2048x8x192 .f32) (c s : FVec Ideal S2048x32 .f32) : FVec Ideal S8x2048x8x192 .f32 :=
  concatenate S8x2048x8x192 3 [⟨S8x2048x8x128, extractStridedSlice S8x2048x8x128 ![0, 0, 0, 0] z slices_S8x2048x8x192_S8x2048x8x128_0_0_0_0⟩,
    ⟨S8x2048x8x64, rRot8 (extractStridedSlice S8x2048x8x64 ![0, 0, 0, 128] z slices_S8x2048x8x192_S8x2048x8x64_0_0_0_128) c s⟩] concatenates_S8x2048x8x128_S8x2048x8x64_S8x2048x8x192_d3
def resK (z : FVec Ideal S8x2048x8x256 .f32) (y : FVec Ideal S8x2048x64 .f32) (c s : FVec Ideal S2048x32 .f32) : FVec Ideal S8x2048x8x192 .f32 :=
  concatenate S8x2048x8x192 3 [⟨S8x2048x8x128, extractStridedSlice S8x2048x8x128 ![0, 0, 0, 0] z slices_S8x2048x8x256_S8x2048x8x128_0_0_0_0⟩,
    ⟨S8x2048x8x64, broadcastInDim S8x2048x8x64 ![0, 1, 2, 3] bcast_S8x2048x1x64_S8x2048x8x64_0_1_2_3 (rRot1 y c s)⟩] concatenates_S8x2048x8x128_S8x2048x8x64_S8x2048x8x192_d3
def resV (z : FVec Ideal S8x2048x8x256 .f32) : FVec Ideal S8x2048x8x128 .f32 :=
  extractStridedSlice S8x2048x8x128 ![0, 0, 0, 128] z slices_S8x2048x8x256_S8x2048x8x128_0_0_0_128

theorem rRms_at (x : FVec Ideal S8x2048x512 .f32) (g : FVec Ideal S512 .f32) (b : Fin 8) (p : Fin 2048) (j : Fin 512) :
    (rRms x g (ix3 b p j) : EReal) = rmsAt (fun k => x (ix3 b p k)) (fun k => g (ix1 k)) j := by
  unfold rRms rmsAt
  pointwise

theorem rQ_at (x : FVec Ideal S8x2048x512 .f32) (g : FVec Ideal S512 .f32) (w : FVec Ideal S512x1536 .f32) (b : Fin 8) (p : Fin 2048) (h : Fin 8) (e : Fin 192) :
    (rQ x g w (ix4 b p h e) : EReal) = prj (fun k => x (ix3 b p k)) (fun k => g (ix1 k)) (fun k => w (ix2 k ⟨192 * h.val + e.val, by omega⟩)) := by
  unfold prj
  simp only [← rRms_at]
  unfold rQ
  pointwise
  refine Finset.sum_congr rfl fun k _ => ?_
  congr 3
  apply Fin.ext; show h.val * 192 + e.val = 192 * h.val + e.val; omega

theorem rKV_at (x : FVec Ideal S8x2048x512 .f32) (g : FVec Ideal S512 .f32) (w : FVec Ideal S512x2048 .f32) (b : Fin 8) (p : Fin 2048) (h : Fin 8) (e : Fin 256) :
    (rKV x g w (ix4 b p h e) : EReal) = prj (fun k => x (ix3 b p k)) (fun k => g (ix1 k)) (fun k => w (ix2 k ⟨256 * h.val + e.val, by omega⟩)) := by
  unfold prj
  simp only [← rRms_at]
  unfold rKV
  pointwise
  refine Finset.sum_congr rfl fun k _ => ?_
  congr 3
  apply Fin.ext; show h.val * 256 + e.val = 256 * h.val + e.val; omega

theorem rRot8_at (z : FVec Ideal S8x2048x8x64 .f32) (c s : FVec Ideal S2048x32 .f32) (b : Fin 8) (p : Fin 2048) (h : Fin 8) (i : Fin 64) :
    (rRot8 z c s (ix4 b p h i) : EReal) = rot (fun j => z (ix4 b p h j)) (fun j => c (ix2 p j)) (fun j => s (ix2 p j)) i := by
  unfold rRot8 rot
  pointwise
  split
  · rfl
  · rename_i hi
    have e1 : (⟨32 + (i.val - 32), by omega⟩ : Fin 64) = i := Fin.ext (by show 32 + (i.val - 32) = i.val; omega)
    rw [e1]

theorem rRot1_at (y : FVec Ideal S8x2048x64 .f32) (c s : FVec Ideal S2048x32 .f32) (b : Fin 8) (p : Fin 2048) (i : Fin 64) :
    (rRot1 y c s (ix4 b p 0 i) : EReal) = rot (fun j => y (ix3 b p j)) (fun j => c (ix2 p j)) (fun j => s (ix2 p j)) i := by
  unfold rRot1 rot
  pointwise
  split
  · rfl
  · rename_i hi
    have e1 : (⟨32 + (i.val - 32), by omega⟩ : Fin 64) = i := Fin.ext (by show 32 + (i.val - 32) = i.val; omega)
    rw [e1]

theorem resQ_at (z : FVec Ideal S8x2048x8x192 .f32) (c s : FVec Ideal S2048x32 .f32) (b : Fin 8) (p : Fin 2048) (h : Fin 8) (e : Fin 192) :
    (resQ z c s (ix4 b p h e) : EReal) = if he : e.val < 128 then z (ix4 b p h e) else rot (fun i => z (ix4 b p h ⟨128 + i.val, by omega⟩)) (fun j => c (ix2 p j)) (fun j => s (ix2 p j)) ⟨e.val - 128, by omega⟩ := by
  unfold resQ
  pointwise
  split
  · rfl
  · rw [rRot8_at]
    congr 1
    funext j
    pointwise

theorem resK_at (z : FVec Ideal S8x2048x8x256 .f32) (y : FVec Ideal S8x2048x64 .f32) (c s : FVec Ideal S2048x32 .f32) (b : Fin 8) (p : Fin 2048) (h : Fin 8) (e : Fin 192) :
    (resK z y c s (ix4 b p h e) : EReal) = if he : e.val < 128 then z (ix4 b p h ⟨e.val, by omega⟩) else rot (fun i => y (ix3 b p i)) (fun j => c (ix2 p j)) (fun j => s (ix2 p j)) ⟨e.val - 128, by omega⟩ := by
  unfold resK
  pointwise
  split
  · rfl
  · rw [rRot1_at]

theorem resV_at (z : FVec Ideal S8x2048x8x256 .f32) (b : Fin 8) (p : Fin 2048) (h : Fin 8) (d : Fin 128) :
    (resV z (ix4 b p h d) : EReal) = z (ix4 b p h ⟨128 + d.val, by omega⟩) := by
  unfold resV
  pointwise

variable (m : (ℓ : Loc nD τ sig) → Buf (Elt Ideal) ℓ)

theorem resQ_eq (c : Dev nD) : Value.res_main_v50 (F := Ideal) m c = resQ (rQ (m ((c.tc : Thread nD τ).loc main_arg0)) (m ((c.tc : Thread nD τ).loc main_arg3)) (m ((c.tc : Thread nD τ).loc main_arg5))) rCos rSin := by
  unfold Value.res_main_v50; rfl

theorem resK_eq (c : Dev nD) : Value.res_main_v84 (F := Ideal) m c = resK (rKV (m ((c.tc : Thread nD τ).loc main_arg1)) (m ((c.tc : Thread nD τ).loc main_arg4)) (m ((c.tc : Thread nD τ).loc main_arg6))) (m ((c.tc : Thread nD τ).loc main_arg2)) rCos rSin := by
  unfold Value.res_main_v84; rfl

end Cert.LiftRefIdeal.Hand
-- ==== Proof.LiftRun.lean ====
/-
  The run of the latent projections: the three results after the lines that shape them.
-/
module

public import proofs.«01_k».proof.Proof.LiftFin

@[expose] public section

set_option maxRecDepth 16384

noncomputable section

open Idealize.ShloMosaic Idealize.ShloMosaic.TcCoe Idealize.ShloMosaic.StableHlo

namespace Cert.LiftIdeal.Hand

open Cert.LiftIdeal Cert.LiftIdeal.Gen

open Cert.KernelIdeal.Hand (scl)

variable (m : (ℓ : Loc nD τ sig) → Buf (Elt Ideal) ℓ) (ρ : Dev nD → PrngReg)

/-- What the launch leaves in an array, as the lines after it find it. -/
theorem left (c : Dev nD) (w : Fin cfg0.W) :
    Pipeline.withArrays cfg0.spec c (V0 m c) (fun w => (dats m 0 c).arrAt w cfg0.N) (Proc.devRef .tc (Pipeline.arrRef cfg0.spec w)) = (dats m 0 c).arrAt w cfg0.N :=
  (dats m 0 c).withArrays_arrAt launch₀0.sharedIn (V0 m c) (A_eq m c) w

/-- The lines that shape the results. -/
def tailQ (A : S8x8x2048x256.Idx → EReal) : S8x2048x8x192.Idx → EReal :=
  Host.divf (F := Ideal) (φ := .f32) (transpose S8x2048x8x192 [0, 2, 1, 3] (extf (F := Ideal) .f32 (extractStridedSlice S8x8x2048x192 ![0, 0, 0, 0] A slices_S8x8x2048x256_S8x8x2048x192_0_0_0_0) bitsLt_bf16_f32) transposes_S8x8x2048x192_S8x2048x8x192_0_2_1_3)
    (broadcastInDim S8x2048x8x192 ![] bcast_S_S8x2048x8x192 (constant (F := Ideal) S_ .f32 0x3D93CD3A#32))
def tailK (A : S8x8x2048x256.Idx → EReal) : S8x2048x8x192.Idx → EReal :=
  transpose S8x2048x8x192 [0, 2, 1, 3] (extf (F := Ideal) .f32 (extractStridedSlice S8x8x2048x192 ![0, 0, 0, 0] A slices_S8x8x2048x256_S8x8x2048x192_0_0_0_0) bitsLt_bf16_f32) transposes_S8x8x2048x192_S8x2048x8x192_0_2_1_3
def tailV (A : S8x8x2048x256.Idx → EReal) : S8x2048x8x128.Idx → EReal :=
  transpose S8x2048x8x128 [0, 2, 1, 3] (extf (F := Ideal) .f32 (extractStridedSlice S8x8x2048x128 ![0, 0, 0, 0] A slices_S8x8x2048x256_S8x8x2048x128_0_0_0_0) bitsLt_bf16_f32) transposes_S8x8x2048x128_S8x2048x8x128_0_2_1_3

theorem tailQ_at (A : S8x8x2048x256.Idx → EReal) (b : Fin 8) (p : Fin 2048) (h : Fin 8) (e : Fin 192) :
    tailQ A (ix4 b p h e) = FloatOps.hostDivf (F := Ideal) (φ := .f32) (A (ix4 b h p (lane e))) scl := by
  unfold tailQ scl
  pointwise
theorem tailK_at (A : S8x8x2048x256.Idx → EReal) (b : Fin 8) (p : Fin 2048) (h : Fin 8) (e : Fin 192) :
    tailK A (ix4 b p h e) = A (ix4 b h p (lane e)) := by
  unfold tailK
  pointwise
theorem tailV_at (A : S8x8x2048x256.Idx → EReal) (b : Fin 8) (p : Fin 2048) (h : Fin 8) (e : Fin 128) :
    tailV A (ix4 b p h e) = A (ix4 b h p (laneV e)) := by
  unfold tailV
  pointwise

theorem afterQ (c : Dev nD) : (Pipeline.afterTail₀ cfgs (dats m) 0 (V0 m) [hostOps1] c main_v46 : S8x2048x8x192.Idx → EReal) = tailQ ((dats m 0 c).arrAt 10 cfg0.N) := by
  refine Eq.trans ?_ (congrArg tailQ (left m c 10))
  unfold Pipeline.afterTail₀
  simp only [hostOps1, List.flatten_cons, List.flatten_nil, List.append_nil, List.cons_append, List.nil_append]
  after_results_simp <;> rfl

theorem afterK (c : Dev nD) : (Pipeline.afterTail₀ cfgs (dats m) 0 (V0 m) [hostOps1] c main_v49 : S8x2048x8x192.Idx → EReal) = tailK ((dats m 0 c).arrAt 11 cfg0.N) := by
  refine Eq.trans ?_ (congrArg tailK (left m c 11))
  unfold Pipeline.afterTail₀
  simp only [hostOps1, List.flatten_cons, List.flatten_nil, List.append_nil, List.cons_append, List.nil_append]
  after_results_simp <;> rfl

theorem afterV (c : Dev nD) : (Pipeline.afterTail₀ cfgs (dats m) 0 (V0 m) [hostOps1] c main_v52 : S8x2048x8x128.Idx → EReal) = tailV ((dats m 0 c).arrAt 12 cfg0.N) := by
  refine Eq.trans ?_ (congrArg tailV (left m c 12))
  unfold Pipeline.afterTail₀
  simp only [hostOps1, List.flatten_cons, List.flatten_nil, List.append_nil, List.cons_append, List.nil_append]
  after_results_simp <;> rfl

theorem finalQ (c : Dev nD) : (tailQ ((dats m 0 c).arrAt 10 cfg0.N) : S8x2048x8x192.Idx → EReal) = fun y => qFin (argQ m c) (argGq m c) (argWq m c) (y 0) (y 1) (y 2) (y 3) := by
  funext y
  obtain ⟨b, p, h, e, rfl⟩ : ∃ (b : Fin 8) (p : Fin 2048) (h : Fin 8) (e : Fin 192), y = ix4 b p h e := ⟨y 0, y 1, y 2, y 3, (ix4_eta y).symm⟩
  rw [tailQ_at, result_q]
  exact (congrArg (fun z => FloatOps.hostDivf (F := Ideal) (φ := .f32) z scl) (q_fin _ _ _ _ _ _ _ _ _ _ _ (v4_q m c) (v39_at m c) (v8_at m c) (v32_at m c) (v35_at m c) (v38_at m c) b p h e)).trans (unscale _)

theorem finalK (c : Dev nD) : (tailK ((dats m 0 c).arrAt 11 cfg0.N) : S8x2048x8x192.Idx → EReal) = fun y => kFin (argK m c) (argR m c) (argGk m c) (argWk m c) (y 0) (y 1) (y 2) (y 3) := by
  funext y
  obtain ⟨b, p, h, e, rfl⟩ : ∃ (b : Fin 8) (p : Fin 2048) (h : Fin 8) (e : Fin 192), y = ix4 b p h e := ⟨y 0, y 1, y 2, y 3, (ix4_eta y).symm⟩
  rw [tailK_at, result_k]
  exact k_fin _ _ _ _ _ _ _ _ _ _ _ _ (v4_k m c) (v4_r m c) (v40_at m c) (v12_k m c) (v32_at m c) (v35_at m c) (v38_at m c) b p h e

theorem finalV (c : Dev nD) : (tailV ((dats m 0 c).arrAt 12 cfg0.N) : S8x2048x8x128.Idx → EReal) = fun y => vFin (argK m c) (argGk m c) (argWk m c) (y 0) (y 1) (y 2) (y 3) := by
  funext y
  obtain ⟨b, p, h, e, rfl⟩ : ∃ (b : Fin 8) (p : Fin 2048) (h : Fin 8) (e : Fin 128), y = ix4 b p h e := ⟨y 0, y 1, y 2, y 3, (ix4_eta y).symm⟩
  rw [tailV_at, result_v]
  exact v_fin _ _ _ _ _ _ _ _ _ _ _ (v4_k m c) (v40_at m c) (v12_v m c) b p h e

/-- THE RUN: the three results from the arguments, which end as they were. -/
theorem run : θ_run defs (onTc (τ := τ) (main (F := Ideal))) ⟨m, fun _ => 0, ρ⟩ (fun r => ∀ c : Dev nD,
      (r.2.mem ((c.tc : Thread nD τ).loc main_v46) : S8x2048x8x192.Idx → EReal) = (fun y => qFin (argQ m c) (argGq m c) (argWq m c) (y 0) (y 1) (y 2) (y 3))
      ∧ (r.2.mem ((c.tc : Thread nD τ).loc main_v49) : S8x2048x8x192.Idx → EReal) = (fun y => kFin (argK m c) (argR m c) (argGk m c) (argWk m c) (y 0) (y 1) (y 2) (y 3))
      ∧ (r.2.mem ((c.tc : Thread nD τ).loc main_v52) : S8x2048x8x128.Idx → EReal) = (fun y => vFin (argK m c) (argGk m c) (argWk m c) (y 0) (y 1) (y 2) (y 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v46 (Pipeline.mem_restRefs_of main_v46 (by decide) (by decide))).trans ((afterQ m c).trans (finalQ m c)),
      ((h c).2 main_v49 (Pipeline.mem_restRefs_of main_v49 (by decide) (by decide))).trans ((afterK m c).trans (finalK m c)),
      ((h c).2 main_v52 (Pipeline.mem_restRefs_of main_v52 (by decide) (by decide))).trans ((afterV m c).trans (finalV m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.LiftIdeal.Hand
-- ==== Proof.LiftClaims.lean ====
/-
  The latent projections: the calls' claims.
-/
module

public import proofs.«01_k».proof.Defs
public import proofs.«01_k».proof.Proof.Gen.Lift.Frame
public import proofs.«01_k».proof.Proof.LiftRef
public import proofs.«01_k».proof.Proof.LiftRun
public import Idealize.ShloMosaic.Lib.Quiescent

@[expose] public section

set_option maxRecDepth 16384

noncomputable section

open Idealize.ShloMosaic Idealize.ShloMosaic.TcCoe Idealize.ShloMosaic.StableHlo

namespace Cert.LiftRefIdeal.Hand

open Cert.LiftRefIdeal
open Cert.LiftIdeal.Hand (prj rot qFin kFin vFin cosT sinT)

/-- The reference's queries at coordinates. -/
theorem q_at (x : FVec Ideal S8x2048x512 .f32) (g : FVec Ideal S512 .f32) (w : FVec Ideal S512x1536 .f32) (b : Fin 8) (p : Fin 2048) (h : Fin 8) (e : Fin 192) :
    (resQ (rQ x g w) rCos rSin (ix4 b p h e) : EReal) = qFin x g w b p h e := by
  rw [resQ_at]
  unfold qFin
  simp only [rQ_at, rCos_eq, rSin_eq]

/-- The reference's keys at coordinates. -/
theorem k_at (x : FVec Ideal S8x2048x512 .f32) (y : FVec Ideal S8x2048x64 .f32) (g : FVec Ideal S512 .f32) (w : FVec Ideal S512x2048 .f32) (b : Fin 8) (p : Fin 2048) (h : Fin 8) (e : Fin 192) :
    (resK (rKV x g w) y rCos rSin (ix4 b p h e) : EReal) = kFin x y g w b p h e := by
  rw [resK_at]
  unfold kFin
  simp only [rKV_at, rCos_eq, rSin_eq]

/-- The reference's values at coordinates. -/
theorem v_at (x : FVec Ideal S8x2048x512 .f32) (g : FVec Ideal S512 .f32) (w : FVec Ideal S512x2048 .f32) (b : Fin 8) (p : Fin 2048) (h : Fin 8) (d : Fin 128) :
    (resV (rKV x g w) (ix4 b p h d) : EReal) = vFin x g w b p h d := by
  rw [resV_at, rKV_at]
  unfold vFin
  simp only [Nat.add_assoc]

end Cert.LiftRefIdeal.Hand

namespace Cert.Lifted

open Idealize.SL.Sem

/-- The kernel runs, its arguments unchanged and its counters at zero. -/
theorem frameP : Cert.quiescent_Lift (hLift := Cert.Lift.Gen.facts) := fun m g _ => Cert.Lift.Gen.frame m g

/-- So does its idealization. -/
theorem framePI : Cert.quiescent_LiftIdeal (hLiftIdeal := Cert.LiftIdeal.Gen.facts) := fun m g _ => Cert.LiftIdeal.Gen.frame m g

/-- So does the reference, which declares no counter. -/
theorem frameRI : Cert.quiescent_LiftRefIdeal (hLiftRefIdeal := Cert.LiftRefIdeal.Gen.facts) := fun m g _ =>
  (θ_run Cert.LiftRefIdeal.defs _ _).mono (fun r h => ⟨fun c => (h c).2.2.2, sem_eq_zero_of_no_sems (by decide) r.2⟩) (Cert.LiftRefIdeal.Value.run m g)

/-- THE VALUE: from equal arguments the kernel and the reference end with equal queries, keys and values. -/
theorem value : Cert.algebraic_LiftIdeal_LiftRefIdeal (hLiftIdeal := Cert.LiftIdeal.Gen.facts) (hLiftRefIdeal := Cert.LiftRefIdeal.Gen.facts) := by
  intro m g m' g' _ hargs
  refine ⟨_, _, _, Cert.LiftIdeal.Hand.run m g, ?_⟩
  refine (θ_run Cert.LiftRefIdeal.defs _ _).mono (fun _ h c => ⟨(h c).1.trans ?_, (h c).2.1.trans ?_, (h c).2.2.1.trans ?_, (h c).2.2.2⟩) (Cert.LiftRefIdeal.Value.run m' g')
  · obtain ⟨a0, a1, a2, a3, a4, a5, a6⟩ := hargs c
    rw [Cert.LiftRefIdeal.Hand.resQ_eq, a0, a3, a5]
    funext y
    exact (congrArg _ (ix4_eta y).symm).trans (Cert.LiftRefIdeal.Hand.q_at _ _ _ (y 0) (y 1) (y 2) (y 3))
  · obtain ⟨a0, a1, a2, a3, a4, a5, a6⟩ := hargs c
    rw [Cert.LiftRefIdeal.Hand.resK_eq, a1, a2, a4, a6]
    funext y
    exact (congrArg _ (ix4_eta y).symm).trans (Cert.LiftRefIdeal.Hand.k_at _ _ _ _ (y 0) (y 1) (y 2) (y 3))
  · obtain ⟨a0, a1, a2, a3, a4, a5, a6⟩ := hargs c
    rw [a1, a4, a6]
    funext y
    exact (congrArg _ (ix4_eta y).symm).trans (Cert.LiftRefIdeal.Hand.v_at _ _ _ (y 0) (y 1) (y 2) (y 3))

end Cert.Lifted
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal
public import proofs.«01_k».proof.Proof.Gen.MemoryRefIdeal.Run
public import proofs.«01_k».proof.Proof.Gen.Entry
public import proofs.«01_k».proof.Proof.Gen.Entry.Skeleton
public import proofs.«01_k».proof.Proof.Gen.Entry.Launch
public import proofs.«01_k».proof.Proof.Gen.Entry.Points
public import proofs.«01_k».proof.Proof.Gen.Entry.Frame
public import proofs.«01_k».proof.Proof.Gen.EntryIdeal
public import proofs.«01_k».proof.Proof.Gen.EntryIdeal.Skeleton
public import proofs.«01_k».proof.Proof.Gen.EntryIdeal.Launch
public import proofs.«01_k».proof.Proof.Gen.EntryIdeal.Points
public import proofs.«01_k».proof.Proof.Gen.EntryIdeal.Frame
public import proofs.«01_k».proof.Proof.Gen.EntryRefIdeal
public import proofs.«01_k».proof.Proof.Gen.EntryRefIdeal.Run
public import proofs.«01_k».proof.Proof.Gen.Lift
public import proofs.«01_k».proof.Proof.Gen.Lift.Skeleton
public import proofs.«01_k».proof.Proof.Gen.Lift.Launch
public import proofs.«01_k».proof.Proof.Gen.Lift.Points
public import proofs.«01_k».proof.Proof.Gen.Lift.Frame
public import proofs.«01_k».proof.Proof.Gen.LiftIdeal
public import proofs.«01_k».proof.Proof.Gen.LiftIdeal.Skeleton
public import proofs.«01_k».proof.Proof.Gen.LiftIdeal.Launch
public import proofs.«01_k».proof.Proof.Gen.LiftIdeal.Points
public import proofs.«01_k».proof.Proof.Gen.LiftIdeal.Frame
public import proofs.«01_k».proof.Proof.Gen.LiftRefIdeal
public import proofs.«01_k».proof.Proof.Gen.LiftRefIdeal.Run
public import proofs.«01_k».proof.Proof.Attention
public import proofs.«01_k».proof.Proof.MlpClaims
public import proofs.«01_k».proof.Proof.MemClaims
public import proofs.«01_k».proof.Proof.MixClaims
public import proofs.«01_k».proof.Proof.EntryClaims
public import proofs.«01_k».proof.Proof.LiftClaims

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mlp.Gen.facts, Cert.MlpIdeal.Gen.facts, Cert.MlpRefIdeal.Gen.facts,
  Cert.Memory.Gen.facts, Cert.MemoryIdeal.Gen.facts, Cert.MemoryRefIdeal.Gen.facts,
  Cert.Mix.Gen.facts, Cert.MixIdeal.Gen.facts, Cert.MixRefIdeal.Gen.facts,
  Cert.Entry.Gen.facts, Cert.EntryIdeal.Gen.facts, Cert.EntryRefIdeal.Gen.facts, Cert.Lift.Gen.facts, Cert.LiftIdeal.Gen.facts, Cert.LiftRefIdeal.Gen.facts, Cert.Attention.preFacts,
  Cert.Attention.frameP, Cert.Attention.framePI, fun m g _ => Cert.Attention.framePI m g trivial,
  Cert.Attention.frameRI, fun m g _ => Cert.Attention.frameRI m g trivial,
  Cert.FeedForward.frameP, Cert.FeedForward.framePI, Cert.FeedForward.frameRI,
  Cert.Recalled.frameP, Cert.Recalled.framePI, Cert.Recalled.frameRI,
  Cert.Mixed.frameP, Cert.Mixed.framePI, Cert.Mixed.frameRI,
  Cert.Entered.frameP, Cert.Entered.framePI, Cert.Entered.frameRI, Cert.Lifted.frameP, Cert.Lifted.framePI, Cert.Lifted.frameRI,
  Cert.Attention.preserved, Cert.Attention.value, trivial, Cert.FeedForward.value,
  trivial, Cert.Recalled.value, trivial, Cert.Mixed.value,
  trivial, Cert.Entered.value, trivial, Cert.Lifted.value⟩

end Cert.Proof

end
